-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16x4096 : Shape := ⟨2, ![16, 4096]⟩
abbrev S16 : Shape := ⟨1, ![16]⟩
abbrev S200019x1000 : Shape := ⟨2, ![200019, 1000]⟩
abbrev S1000 : Shape := ⟨1, ![1000]⟩
abbrev S1000x1 : Shape := ⟨2, ![1000, 1]⟩
abbrev S1 : Shape := ⟨1, ![1]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : IVec S16x4096 32) (main_arg1 : IVec S16 32) (main_arg2 : FVec F S200019x1000 .f32) (main_arg3 : FVec F S1000 .f32) (main_arg4 : FVec F S1000 .f32) (main_arg5 : FVec F S1000x1 .f32) (main_arg6 : FVec F S1 .f32) : IVec S_ 1 :=
  let main_c : IVec S_ 32 := constantI S_ 32 0#32
  let main_v0 : IVec S16x4096 32 := broadcastInDim S16x4096 ![] bcast_S_S16x4096 main_c
  let main_v1 : IVec S16x4096 1 := cmpi .sge main_arg0 main_v0
  let main_c_0 : IVec S_ 32 := constantI S_ 32 200019#32
  let main_v2 : IVec S16x4096 32 := broadcastInDim S16x4096 ![] bcast_S_S16x4096 main_c_0
  let main_v3 : IVec S16x4096 1 := cmpi .slt main_arg0 main_v2
  let main_v4 : IVec S16x4096 1 := andi main_v1 main_v3
  let main_c_1 : IVec S_ 1 := constantI S_ 1 1#1
  let main_v5 : IVec S_ 1 := (fun x v => Host.reduce IntOp.andi x v reducesTo_S16x4096_S_d0_1 h_S_) main_v4 main_c_1
  let main_c_2 : IVec S_ 32 := constantI S_ 32 1#32
  let main_v6 : IVec S16 32 := broadcastInDim S16 ![] bcast_S_S16 main_c_2
  let main_v7 : IVec S16 1 := cmpi .sge main_arg1 main_v6
  let main_c_3 : IVec S_ 32 := constantI S_ 32 4096#32
  let main_v8 : IVec S16 32 := broadcastInDim S16 ![] bcast_S_S16 main_c_3
  let main_v9 : IVec S16 1 := cmpi .sle main_arg1 main_v8
  let main_v10 : IVec S16 1 := andi main_v7 main_v9
  let main_c_4 : IVec S_ 1 := constantI S_ 1 1#1
  let main_v11 : IVec S_ 1 := (fun x v => Host.reduce IntOp.andi x v reducesTo_S16_S_d0 h_S_) main_v10 main_c_4
  let main_v12 : IVec S_ 1 := andi main_v5 main_v11
  main_v12
-- ==== Kernel.lean ====
abbrev S16x4096 : Shape := ⟨2, ![16, 4096]⟩
abbrev S16 : Shape := ⟨1, ![16]⟩
abbrev S200019x1000 : Shape := ⟨2, ![200019, 1000]⟩
abbrev S1000 : Shape := ⟨1, ![1000]⟩
abbrev S1000x1 : Shape := ⟨2, ![1000, 1]⟩
abbrev S1 : Shape := ⟨1, ![1]⟩
abbrev S16x200704 : Shape := ⟨2, ![16, 200704]⟩
abbrev S4096 : Shape := ⟨1, ![4096]⟩
abbrev S16x6272 : Shape := ⟨2, ![16, 6272]⟩
abbrev S_ : Shape := ⟨0, ![]⟩
abbrev S1x16 : Shape := ⟨2, ![1, 16]⟩
abbrev S1x4096 : Shape := ⟨2, ![1, 4096]⟩
abbrev S1000x200019 : Shape := ⟨2, ![1000, 200019]⟩
abbrev S16x2048 : Shape := ⟨2, ![16, 2048]⟩
abbrev S1000x2048 : Shape := ⟨2, ![1000, 2048]⟩
abbrev S16x1000 : Shape := ⟨2, ![16, 1000]⟩
abbrev S16x1 : Shape := ⟨2, ![16, 1]⟩
abbrev S1x1000 : Shape := ⟨2, ![1, 1000]⟩
abbrev S1x1 : Shape := ⟨2, ![1, 1]⟩

abbrev nBuf : Table → Nat
  | .hbm => 10
  | .local .tc .vmem => 11
  | .local .scVector .vmem => 4
  | _ => 0

abbrev bufTy : (tb : Table) → Fin (nBuf tb) → BufTy
  | .hbm, ⟨0, _⟩ => ⟨S16x4096, .i32⟩
  | .hbm, ⟨1, _⟩ => ⟨S16, .i32⟩
  | .hbm, ⟨2, _⟩ => ⟨S200019x1000, .f32⟩
  | .hbm, ⟨3, _⟩ => ⟨S1000, .f32⟩
  | .hbm, ⟨4, _⟩ => ⟨S1000, .f32⟩
  | .hbm, ⟨5, _⟩ => ⟨S1000x1, .f32⟩
  | .hbm, ⟨6, _⟩ => ⟨S1, .f32⟩
  | .hbm, ⟨7, _⟩ => ⟨S16x200704, .f32⟩
  | .hbm, ⟨8, _⟩ => ⟨S1000x200019, .f32⟩
  | .hbm, ⟨9, _⟩ => ⟨S16, .f32⟩
  | .local .tc .vmem, ⟨0, _⟩ => ⟨S16x2048, .f32⟩
  | .local .tc .vmem, ⟨1, _⟩ => ⟨S16x2048, .f32⟩
  | .local .tc .vmem, ⟨2, _⟩ => ⟨S1000x2048, .f32⟩
  | .local .tc .vmem, ⟨3, _⟩ => ⟨S1000x2048, .f32⟩
  | .local .tc .vmem, ⟨4, _⟩ => ⟨S16, .i32⟩
  | .local .tc .vmem, ⟨5, _⟩ => ⟨S1000, .f32⟩
  | .local .tc .vmem, ⟨6, _⟩ => ⟨S1000, .f32⟩
  | .local .tc .vmem, ⟨7, _⟩ => ⟨S1000x1, .f32⟩
  | .local .tc .vmem, ⟨8, _⟩ => ⟨S1, .f32⟩
  | .local .tc .vmem, ⟨9, _⟩ => ⟨S16, .f32⟩
  | .local .tc .vmem, ⟨10, _⟩ => ⟨S16x1000, .f32⟩
  | .local .scVector .vmem, ⟨0, _⟩ => ⟨S16, .i32⟩
  | .local .scVector .vmem, ⟨1, _⟩ => ⟨S4096, .i32⟩
  | .local .scVector .vmem, ⟨2, _⟩ => ⟨S4096, .i32⟩
  | .local .scVector .vmem, ⟨3, _⟩ => ⟨S16x6272, .f32⟩
  | _, _ => ⟨S16x4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_arg0_scv : Ref sig .scVector := ⟨.hbm, 0, rfl⟩
abbrev main_arg1_scv : Ref sig .scVector := ⟨.hbm, 1, rfl⟩
abbrev main_v0_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_scratch0 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c49_i32 : BitVec 32 := 49#32
  let v6 : BitVec 32 := Scalar.addi c0_i32_1 c49_i32
  let c1_i32 : BitVec 32 := 1#32
  ⟨c0_i32_1, v6, c1_i32⟩
def k0_off1 (k0_t1 : Fin k0_t1_loop.trips) (c0_i32_414 : BitVec 32) : Fin 2 → Nat :=
  let c0_i32_415 : BitVec 32 := 0#32
  let v681 : Index := Scalar.indexCast c0_i32_415
  let c0_i32_1 : BitVec 32 := 0#32
  let c1_i32 : BitVec 32 := 1#32
  let arg10 : BitVec 32 := Scf.iv c0_i32_1 c1_i32 k0_t1
  let c128_i32 : BitVec 32 := 128#32
  let v679 : BitVec 32 := Scalar.muli arg10 c128_i32
  let v680 : BitVec 32 := Scalar.addi v679 c0_i32_414
  let v682 : Index := Scalar.indexCast v680
  ![0, v682.toNat]
@[reducible] def k0_t2_loop : Scf.Loop 32 :=
  let c0_i32_4 : BitVec 32 := 0#32
  let c49_i32_5 : BitVec 32 := 49#32
  let v8 : BitVec 32 := Scalar.addi c0_i32_4 c49_i32_5
  let c1_i32_6 : BitVec 32 := 1#32
  ⟨c0_i32_4, v8, c1_i32_6⟩
def k0_off2 (k0_t2 : Fin k0_t2_loop.trips) (c0_i32_414 : BitVec 32) : Fin 2 → Nat :=
  let c1_i32_415 : BitVec 32 := 1#32
  let v681 : Index := Scalar.indexCast c1_i32_415
  let c0_i32_4 : BitVec 32 := 0#32
  let c1_i32_6 : BitVec 32 := 1#32
  let arg10 : BitVec 32 := Scf.iv c0_i32_4 c1_i32_6 k0_t2
  let c128_i32 : BitVec 32 := 128#32
  let v679 : BitVec 32 := Scalar.muli arg10 c128_i32
  let v680 : BitVec 32 := Scalar.addi v679 c0_i32_414
  let v682 : Index := Scalar.indexCast v680
  ![1, v682.toNat]
@[reducible] def k0_t3_loop : Scf.Loop 32 :=
  let c0_i32_9 : BitVec 32 := 0#32
  let c49_i32_10 : BitVec 32 := 49#32
  let v10 : BitVec 32 := Scalar.addi c0_i32_9 c49_i32_10
  let c1_i32_11 : BitVec 32 := 1#32
  ⟨c0_i32_9, v10, c1_i32_11⟩
def k0_off3 (k0_t3 : Fin k0_t3_loop.trips) (c0_i32_414 : BitVec 32) : Fin 2 → Nat :=
  let c2_i32_415 : BitVec 32 := 2#32
  let v681 : Index := Scalar.indexCast c2_i32_415
  let c0_i32_9 : BitVec 32 := 0#32
  let c1_i32_11 : BitVec 32 := 1#32
  let arg10 : BitVec 32 := Scf.iv c0_i32_9 c1_i32_11 k0_t3
  let c128_i32 : BitVec 32 := 128#32
  let v679 : BitVec 32 := Scalar.muli arg10 c128_i32
  let v680 : BitVec 32 := Scalar.addi v679 c0_i32_414
  let v682 : Index := Scalar.indexCast v680
  ![2, v682.toNat]
@[reducible] def k0_t4_loop : Scf.Loop 32 :=
  let c0_i32_14 : BitVec 32 := 0#32
  let c49_i32_15 : BitVec 32 := 49#32
  let v12 : BitVec 32 := Scalar.addi c0_i32_14 c49_i32_15
  let c1_i32_16 : BitVec 32 := 1#32
  ⟨c0_i32_14, v12, c1_i32_16⟩
def k0_off4 (k0_t4 : Fin k0_t4_loop.trips) (c0_i32_414 : BitVec 32) : Fin 2 → Nat :=
  let c3_i32_415 : BitVec 32 := 3#32
  let v681 : Index := Scalar.indexCast c3_i32_415
  let c0_i32_14 : BitVec 32 := 0#32
  let c1_i32_16 : BitVec 32 := 1#32
  let arg10 : BitVec 32 := Scf.iv c0_i32_14 c1_i32_16 k0_t4
  let c128_i32 : BitVec 32 := 128#32
  let v679 : BitVec 32 := Scalar.muli arg10 c128_i32
  let v680 : BitVec 32 := Scalar.addi v679 c0_i32_414
  let v682 : Index := Scalar.indexCast v680
  ![3, v682.toNat]
@[reducible] def k0_t5_loop : Scf.Loop 32 :=
  let c0_i32_19 : BitVec 32 := 0#32
  let c49_i32_20 : BitVec 32 := 49#32
  let v14 : BitVec 32 := Scalar.addi c0_i32_19 c49_i32_20
  let c1_i32_21 : BitVec 32 := 1#32
  ⟨c0_i32_19, v14, c1_i32_21⟩
def k0_off5 (k0_t5 : Fin k0_t5_loop.trips) (c0_i32_414 : BitVec 32) : Fin 2 → Nat :=
  let c4_i32_415 : BitVec 32 := 4#32
  let v681 : Index := Scalar.indexCast c4_i32_415
  let c0_i32_19 : BitVec 32 := 0#32
  let c1_i32_21 : BitVec 32 := 1#32
  let arg10 : BitVec 32 := Scf.iv c0_i32_19 c1_i32_21 k0_t5
  let c128_i32 : BitVec 32 := 128#32
  let v679 : BitVec 32 := Scalar.muli arg10 c128_i32
  let v680 : BitVec 32 := Scalar.addi v679 c0_i32_414
  let v682 : Index := Scalar.indexCast v680
  ![4, v682.toNat]
@[reducible] def k0_t6_loop : Scf.Loop 32 :=
  let c0_i32_24 : BitVec 32 := 0#32
  let c49_i32_25 : BitVec 32 := 49#32
  let v16 : BitVec 32 := Scalar.addi c0_i32_24 c49_i32_25
  let c1_i32_26 : BitVec 32 := 1#32
  ⟨c0_i32_24, v16, c1_i32_26⟩
def k0_off6 (k0_t6 : Fin k0_t6_loop.trips) (c0_i32_414 : BitVec 32) : Fin 2 → Nat :=
  let c5_i32_415 : BitVec 32 := 5#32
  let v681 : Index := Scalar.indexCast c5_i32_415
  let c0_i32_24 : BitVec 32 := 0#32
  let c1_i32_26 : BitVec 32 := 1#32
  let arg10 : BitVec 32 := Scf.iv c0_i32_24 c1_i32_26 k0_t6
  let c128_i32 : BitVec 32 := 128#32
  let v679 : BitVec 32 := Scalar.muli arg10 c128_i32
  let v680 : BitVec 32 := Scalar.addi v679 c0_i32_414
  let v682 : Index := Scalar.indexCast v680
  ![5, v682.toNat]
@[reducible] def k0_t7_loop : Scf.Loop 32 :=
  let c0_i32_29 : BitVec 32 := 0#32
  let c49_i32_30 : BitVec 32 := 49#32
  let v18 : BitVec 32 := Scalar.addi c0_i32_29 c49_i32_30
  let c1_i32_31 : BitVec 32 := 1#32
  ⟨c0_i32_29, v18, c1_i32_31⟩
def k0_off7 (k0_t7 : Fin k0_t7_loop.trips) (c0_i32_414 : BitVec 32) : Fin 2 → Nat :=
  let c6_i32_415 : BitVec 32 := 6#32
  let v681 : Index := Scalar.indexCast c6_i32_415
  let c0_i32_29 : BitVec 32 := 0#32
  let c1_i32_31 : BitVec 32 := 1#32
  let arg10 : BitVec 32 := Scf.iv c0_i32_29 c1_i32_31 k0_t7
  let c128_i32 : BitVec 32 := 128#32
  let v679 : BitVec 32 := Scalar.muli arg10 c128_i32
  let v680 : BitVec 32 := Scalar.addi v679 c0_i32_414
  let v682 : Index := Scalar.indexCast v680
  ![6, v682.toNat]
@[reducible] def k0_t8_loop : Scf.Loop 32 :=
  let c0_i32_34 : BitVec 32 := 0#32
  let c49_i32_35 : BitVec 32 := 49#32
  let v20 : BitVec 32 := Scalar.addi c0_i32_34 c49_i32_35
  let c1_i32_36 : BitVec 32 := 1#32
  ⟨c0_i32_34, v20, c1_i32_36⟩
def k0_off8 (k0_t8 : Fin k0_t8_loop.trips) (c0_i32_414 : BitVec 32) : Fin 2 → Nat :=
  let c7_i32_415 : BitVec 32 := 7#32
  let v681 : Index := Scalar.indexCast c7_i32_415
  let c0_i32_34 : BitVec 32 := 0#32
  let c1_i32_36 : BitVec 32 := 1#32
  let arg10 : BitVec 32 := Scf.iv c0_i32_34 c1_i32_36 k0_t8
  let c128_i32 : BitVec 32 := 128#32
  let v679 : BitVec 32 := Scalar.muli arg10 c128_i32
  let v680 : BitVec 32 := Scalar.addi v679 c0_i32_414
  let v682 : Index := Scalar.indexCast v680
  ![7, v682.toNat]
@[reducible] def k0_t9_loop : Scf.Loop 32 :=
  let c0_i32_39 : BitVec 32 := 0#32
  let c49_i32_40 : BitVec 32 := 49#32
  let v22 : BitVec 32 := Scalar.addi c0_i32_39 c49_i32_40
  let c1_i32_41 : BitVec 32 := 1#32
  ⟨c0_i32_39, v22, c1_i32_41⟩
def k0_off9 (k0_t9 : Fin k0_t9_loop.trips) (c0_i32_414 : BitVec 32) : Fin 2 → Nat :=
  let c8_i32_415 : BitVec 32 := 8#32
  let v681 : Index := Scalar.indexCast c8_i32_415
  let c0_i32_39 : BitVec 32 := 0#32
  let c1_i32_41 : BitVec 32 := 1#32
  let arg10 : BitVec 32 := Scf.iv c0_i32_39 c1_i32_41 k0_t9
  let c128_i32 : BitVec 32 := 128#32
  let v679 : BitVec 32 := Scalar.muli arg10 c128_i32
  let v680 : BitVec 32 := Scalar.addi v679 c0_i32_414
  let v682 : Index := Scalar.indexCast v680
  ![8, v682.toNat]
@[reducible] def k0_t10_loop : Scf.Loop 32 :=
  let c0_i32_44 : BitVec 32 := 0#32
  let c49_i32_45 : BitVec 32 := 49#32
  let v24 : BitVec 32 := Scalar.addi c0_i32_44 c49_i32_45
  let c1_i32_46 : BitVec 32 := 1#32
  ⟨c0_i32_44, v24, c1_i32_46⟩
def k0_off10 (k0_t10 : Fin k0_t10_loop.trips) (c0_i32_414 : BitVec 32) : Fin 2 → Nat :=
  let c9_i32_415 : BitVec 32 := 9#32
  let v681 : Index := Scalar.indexCast c9_i32_415
  let c0_i32_44 : BitVec 32 := 0#32
  let c1_i32_46 : BitVec 32 := 1#32
  let arg10 : BitVec 32 := Scf.iv c0_i32_44 c1_i32_46 k0_t10
  let c128_i32 : BitVec 32 := 128#32
  let v679 : BitVec 32 := Scalar.muli arg10 c128_i32
  let v680 : BitVec 32 := Scalar.addi v679 c0_i32_414
  let v682 : Index := Scalar.indexCast v680
  ![9, v682.toNat]
@[reducible] def k0_t11_loop : Scf.Loop 32 :=
  let c0_i32_49 : BitVec 32 := 0#32
  let c49_i32_50 : BitVec 32 := 49#32
  let v26 : BitVec 32 := Scalar.addi c0_i32_49 c49_i32_50
  let c1_i32_51 : BitVec 32 := 1#32
  ⟨c0_i32_49, v26, c1_i32_51⟩
def k0_off11 (k0_t11 : Fin k0_t11_loop.trips) (c0_i32_414 : BitVec 32) : Fin 2 → Nat :=
  let c10_i32_415 : BitVec 32 := 10#32
  let v681 : Index := Scalar.indexCast c10_i32_415
  let c0_i32_49 : BitVec 32 := 0#32
  let c1_i32_51 : BitVec 32 := 1#32
  let arg10 : BitVec 32 := Scf.iv c0_i32_49 c1_i32_51 k0_t11
  let c128_i32 : BitVec 32 := 128#32
  let v679 : BitVec 32 := Scalar.muli arg10 c128_i32
  let v680 : BitVec 32 := Scalar.addi v679 c0_i32_414
  let v682 : Index := Scalar.indexCast v680
  ![10, v682.toNat]
@[reducible] def k0_t12_loop : Scf.Loop 32 :=
  let c0_i32_54 : BitVec 32 := 0#32
  let c49_i32_55 : BitVec 32 := 49#32
  let v28 : BitVec 32 := Scalar.addi c0_i32_54 c49_i32_55
  let c1_i32_56 : BitVec 32 := 1#32
  ⟨c0_i32_54, v28, c1_i32_56⟩
def k0_off12 (k0_t12 : Fin k0_t12_loop.trips) (c0_i32_414 : BitVec 32) : Fin 2 → Nat :=
  let c11_i32_415 : BitVec 32 := 11#32
  let v681 : Index := Scalar.indexCast c11_i32_415
  let c0_i32_54 : BitVec 32 := 0#32
  let c1_i32_56 : BitVec 32 := 1#32
  let arg10 : BitVec 32 := Scf.iv c0_i32_54 c1_i32_56 k0_t12
  let c128_i32 : BitVec 32 := 128#32
  let v679 : BitVec 32 := Scalar.muli arg10 c128_i32
  let v680 : BitVec 32 := Scalar.addi v679 c0_i32_414
  let v682 : Index := Scalar.indexCast v680
  ![11, v682.toNat]
@[reducible] def k0_t13_loop : Scf.Loop 32 :=
  let c0_i32_59 : BitVec 32 := 0#32
  let c49_i32_60 : BitVec 32 := 49#32
  let v30 : BitVec 32 := Scalar.addi c0_i32_59 c49_i32_60
  let c1_i32_61 : BitVec 32 := 1#32
  ⟨c0_i32_59, v30, c1_i32_61⟩
def k0_off13 (k0_t13 : Fin k0_t13_loop.trips) (c0_i32_414 : BitVec 32) : Fin 2 → Nat :=
  let c12_i32_415 : BitVec 32 := 12#32
  let v681 : Index := Scalar.indexCast c12_i32_415
  let c0_i32_59 : BitVec 32 := 0#32
  let c1_i32_61 : BitVec 32 := 1#32
  let arg10 : BitVec 32 := Scf.iv c0_i32_59 c1_i32_61 k0_t13
  let c128_i32 : BitVec 32 := 128#32
  let v679 : BitVec 32 := Scalar.muli arg10 c128_i32
  let v680 : BitVec 32 := Scalar.addi v679 c0_i32_414
  let v682 : Index := Scalar.indexCast v680
  ![12, v682.toNat]
@[reducible] def k0_t14_loop : Scf.Loop 32 :=
  let c0_i32_64 : BitVec 32 := 0#32
  let c49_i32_65 : BitVec 32 := 49#32
  let v32 : BitVec 32 := Scalar.addi c0_i32_64 c49_i32_65
  let c1_i32_66 : BitVec 32 := 1#32
  ⟨c0_i32_64, v32, c1_i32_66⟩
def k0_off14 (k0_t14 : Fin k0_t14_loop.trips) (c0_i32_414 : BitVec 32) : Fin 2 → Nat :=
  let c13_i32_415 : BitVec 32 := 13#32
  let v681 : Index := Scalar.indexCast c13_i32_415
  let c0_i32_64 : BitVec 32 := 0#32
  let c1_i32_66 : BitVec 32 := 1#32
  let arg10 : BitVec 32 := Scf.iv c0_i32_64 c1_i32_66 k0_t14
  let c128_i32 : BitVec 32 := 128#32
  let v679 : BitVec 32 := Scalar.muli arg10 c128_i32
  let v680 : BitVec 32 := Scalar.addi v679 c0_i32_414
  let v682 : Index := Scalar.indexCast v680
  ![13, v682.toNat]
@[reducible] def k0_t15_loop : Scf.Loop 32 :=
  let c0_i32_69 : BitVec 32 := 0#32
  let c49_i32_70 : BitVec 32 := 49#32
  let v34 : BitVec 32 := Scalar.addi c0_i32_69 c49_i32_70
  let c1_i32_71 : BitVec 32 := 1#32
  ⟨c0_i32_69, v34, c1_i32_71⟩
def k0_off15 (k0_t15 : Fin k0_t15_loop.trips) (c0_i32_414 : BitVec 32) : Fin 2 → Nat :=
  let c14_i32_415 : BitVec 32 := 14#32
  let v681 : Index := Scalar.indexCast c14_i32_415
  let c0_i32_69 : BitVec 32 := 0#32
  let c1_i32_71 : BitVec 32 := 1#32
  let arg10 : BitVec 32 := Scf.iv c0_i32_69 c1_i32_71 k0_t15
  let c128_i32 : BitVec 32 := 128#32
  let v679 : BitVec 32 := Scalar.muli arg10 c128_i32
  let v680 : BitVec 32 := Scalar.addi v679 c0_i32_414
  let v682 : Index := Scalar.indexCast v680
  ![14, v682.toNat]
@[reducible] def k0_t16_loop : Scf.Loop 32 :=
  let c0_i32_74 : BitVec 32 := 0#32
  let c49_i32_75 : BitVec 32 := 49#32
  let v36 : BitVec 32 := Scalar.addi c0_i32_74 c49_i32_75
  let c1_i32_76 : BitVec 32 := 1#32
  ⟨c0_i32_74, v36, c1_i32_76⟩
def k0_off16 (k0_t16 : Fin k0_t16_loop.trips) (c0_i32_414 : BitVec 32) : Fin 2 → Nat :=
  let c15_i32_415 : BitVec 32 := 15#32
  let v681 : Index := Scalar.indexCast c15_i32_415
  let c0_i32_74 : BitVec 32 := 0#32
  let c1_i32_76 : BitVec 32 := 1#32
  let arg10 : BitVec 32 := Scf.iv c0_i32_74 c1_i32_76 k0_t16
  let c128_i32 : BitVec 32 := 128#32
  let v679 : BitVec 32 := Scalar.muli arg10 c128_i32
  let v680 : BitVec 32 := Scalar.addi v679 c0_i32_414
  let v682 : Index := Scalar.indexCast v680
  ![15, v682.toNat]
@[reducible] def k0_t17_loop (v49 : BitVec 32) : Scf.Loop 32 :=
  let c0_i32_95 : BitVec 32 := 0#32
  let c63_i32 : BitVec 32 := 63#32
  let v58 : BitVec 32 := Scalar.addi v49 c63_i32
  let c0_i32_89 : BitVec 32 := 0#32
  let v60 : BitVec 1 := Scalar.cmpi .sgt v58 c0_i32_89
  let v61 : BitVec 32 := Scalar.extui v60
  let c0_i32_90 : BitVec 32 := 0#32
  let v62 : BitVec 1 := Scalar.cmpi .slt v58 c0_i32_90
  let v63 : BitVec 32 := Scalar.extui v62
  let v64 : BitVec 32 := Scalar.subi v61 v63
  let c64_i32 : BitVec 32 := 64#32
  let c0_i32_91 : BitVec 32 := 0#32
  let v65 : BitVec 1 := Scalar.cmpi .sgt c64_i32 c0_i32_91
  let v66 : BitVec 32 := Scalar.extui v65
  let c0_i32_92 : BitVec 32 := 0#32
  let v67 : BitVec 1 := Scalar.cmpi .slt c64_i32 c0_i32_92
  let v68 : BitVec 32 := Scalar.extui v67
  let v69 : BitVec 32 := Scalar.subi v66 v68
  let v70 : BitVec 1 := Scalar.cmpi .ne v64 v69
  let v71 : BitVec 32 := Scalar.remsi v58 c64_i32
  let c0_i32_93 : BitVec 32 := 0#32
  let v72 : BitVec 1 := Scalar.cmpi .ne v71 c0_i32_93
  let v73 : BitVec 1 := Scalar.andi v70 v72
  let v59 : BitVec 32 := Scalar.divsi v58 c64_i32
  let c1_i32_94 : BitVec 32 := 1#32
  let v74 : BitVec 32 := Scalar.subi v59 c1_i32_94
  let v75 : BitVec 32 := Scalar.select v73 v74 v59
  let v76 : BitVec 32 := Scalar.subi v75 c0_i32_95
  let c1_i32_97 : BitVec 32 := 1#32
  let v78 : BitVec 32 := Scalar.divsi v76 c1_i32_97
  let v79 : BitVec 32 := Scalar.muli v78 c1_i32_97
  let v80 : BitVec 32 := Scalar.addi c0_i32_95 v79
  let c1_i32_98 : BitVec 32 := 1#32
  ⟨c0_i32_95, v80, c1_i32_98⟩

def k0_off17 (v49 : BitVec 32) (k0_t17 : Fin (k0_t17_loop v49).trips) : Fin 1 → Nat :=
  let c0_i32_95 : BitVec 32 := 0#32
  let c1_i32_98 : BitVec 32 := 1#32
  let arg10 : BitVec 32 := Scf.iv c0_i32_95 c1_i32_98 k0_t17
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk2 (v679 : IVec S16 32) (v699 : IVec S16 32) : Prop :=
  (∀ a x, ((![v679, v699] : Fin 2 → IVec S16 32) a x).toNat < S16x6272.size a)
theorem k0_idx1_inb : ∀ (v679 : IVec S16 32) (v699 : IVec S16 32) (k0_hw2 : k0_chk2 v679 v699), ∀ a x, ((![v679, v699] : Fin 2 → IVec S16 32) a x).toNat < S16x6272.size a := fun v679 v699 k0_hw2 => k0_hw2
def k0_off18 (v49 : BitVec 32) (k0_t17 : Fin (k0_t17_loop v49).trips) : Fin 1 → Nat :=
  let c0_i32_95 : BitVec 32 := 0#32
  let c1_i32_98 : BitVec 32 := 1#32
  let arg10 : BitVec 32 := Scf.iv c0_i32_95 c1_i32_98 k0_t17
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk3 (v679 : IVec S16 32) (v719 : IVec S16 32) : Prop :=
  (∀ a x, ((![v679, v719] : Fin 2 → IVec S16 32) a x).toNat < S16x6272.size a)
theorem k0_idx2_inb : ∀ (v679 : IVec S16 32) (v719 : IVec S16 32) (k0_hw3 : k0_chk3 v679 v719), ∀ a x, ((![v679, v719] : Fin 2 → IVec S16 32) a x).toNat < S16x6272.size a := fun v679 v719 k0_hw3 => k0_hw3
def k0_off19 (v49 : BitVec 32) (k0_t17 : Fin (k0_t17_loop v49).trips) : Fin 1 → Nat :=
  let c0_i32_95 : BitVec 32 := 0#32
  let c1_i32_98 : BitVec 32 := 1#32
  let arg10 : BitVec 32 := Scf.iv c0_i32_95 c1_i32_98 k0_t17
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk4 (v679 : IVec S16 32) (v739 : IVec S16 32) : Prop :=
  (∀ a x, ((![v679, v739] : Fin 2 → IVec S16 32) a x).toNat < S16x6272.size a)
theorem k0_idx3_inb : ∀ (v679 : IVec S16 32) (v739 : IVec S16 32) (k0_hw4 : k0_chk4 v679 v739), ∀ a x, ((![v679, v739] : Fin 2 → IVec S16 32) a x).toNat < S16x6272.size a := fun v679 v739 k0_hw4 => k0_hw4
def k0_off20 (v49 : BitVec 32) (k0_t17 : Fin (k0_t17_loop v49).trips) : Fin 1 → Nat :=
  let c0_i32_95 : BitVec 32 := 0#32
  let c1_i32_98 : BitVec 32 := 1#32
  let arg10 : BitVec 32 := Scf.iv c0_i32_95 c1_i32_98 k0_t17
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk5 (v679 : IVec S16 32) (v759 : IVec S16 32) : Prop :=
  (∀ a x, ((![v679, v759] : Fin 2 → IVec S16 32) a x).toNat < S16x6272.size a)
theorem k0_idx4_inb : ∀ (v679 : IVec S16 32) (v759 : IVec S16 32) (k0_hw5 : k0_chk5 v679 v759), ∀ a x, ((![v679, v759] : Fin 2 → IVec S16 32) a x).toNat < S16x6272.size a := fun v679 v759 k0_hw5 => k0_hw5
@[reducible] def k0_t18_loop (v49 : BitVec 32) : Scf.Loop 32 :=
  let c0_i32_95 : BitVec 32 := 0#32
  let c63_i32 : BitVec 32 := 63#32
  let v58 : BitVec 32 := Scalar.addi v49 c63_i32
  let c0_i32_89 : BitVec 32 := 0#32
  let v60 : BitVec 1 := Scalar.cmpi .sgt v58 c0_i32_89
  let v61 : BitVec 32 := Scalar.extui v60
  let c0_i32_90 : BitVec 32 := 0#32
  let v62 : BitVec 1 := Scalar.cmpi .slt v58 c0_i32_90
  let v63 : BitVec 32 := Scalar.extui v62
  let v64 : BitVec 32 := Scalar.subi v61 v63
  let c64_i32 : BitVec 32 := 64#32
  let c0_i32_91 : BitVec 32 := 0#32
  let v65 : BitVec 1 := Scalar.cmpi .sgt c64_i32 c0_i32_91
  let v66 : BitVec 32 := Scalar.extui v65
  let c0_i32_92 : BitVec 32 := 0#32
  let v67 : BitVec 1 := Scalar.cmpi .slt c64_i32 c0_i32_92
  let v68 : BitVec 32 := Scalar.extui v67
  let v69 : BitVec 32 := Scalar.subi v66 v68
  let v70 : BitVec 1 := Scalar.cmpi .ne v64 v69
  let v71 : BitVec 32 := Scalar.remsi v58 c64_i32
  let c0_i32_93 : BitVec 32 := 0#32
  let v72 : BitVec 1 := Scalar.cmpi .ne v71 c0_i32_93
  let v73 : BitVec 1 := Scalar.andi v70 v72
  let v59 : BitVec 32 := Scalar.divsi v58 c64_i32
  let c1_i32_94 : BitVec 32 := 1#32
  let v74 : BitVec 32 := Scalar.subi v59 c1_i32_94
  let v75 : BitVec 32 := Scalar.select v73 v74 v59
  let v76 : BitVec 32 := Scalar.subi v75 c0_i32_95
  let c1_i32_97 : BitVec 32 := 1#32
  let v78 : BitVec 32 := Scalar.divsi v76 c1_i32_97
  let v79 : BitVec 32 := Scalar.muli v78 c1_i32_97
  let v80 : BitVec 32 := Scalar.addi c0_i32_95 v79
  let v77 : BitVec 32 := Scalar.addi c0_i32_95 v76
  let c1_i32_99 : BitVec 32 := 1#32
  ⟨v80, v77, c1_i32_99⟩
def k0_off21 (v49 : BitVec 32) (k0_t18 : Fin (k0_t18_loop v49).trips) : Fin 1 → Nat :=
  let c0_i32_95 : BitVec 32 := 0#32
  let c63_i32 : BitVec 32 := 63#32
  let v58 : BitVec 32 := Scalar.addi v49 c63_i32
  let c0_i32_89 : BitVec 32 := 0#32
  let v60 : BitVec 1 := Scalar.cmpi .sgt v58 c0_i32_89
  let v61 : BitVec 32 := Scalar.extui v60
  let c0_i32_90 : BitVec 32 := 0#32
  let v62 : BitVec 1 := Scalar.cmpi .slt v58 c0_i32_90
  let v63 : BitVec 32 := Scalar.extui v62
  let v64 : BitVec 32 := Scalar.subi v61 v63
  let c64_i32 : BitVec 32 := 64#32
  let c0_i32_91 : BitVec 32 := 0#32
  let v65 : BitVec 1 := Scalar.cmpi .sgt c64_i32 c0_i32_91
  let v66 : BitVec 32 := Scalar.extui v65
  let c0_i32_92 : BitVec 32 := 0#32
  let v67 : BitVec 1 := Scalar.cmpi .slt c64_i32 c0_i32_92
  let v68 : BitVec 32 := Scalar.extui v67
  let v69 : BitVec 32 := Scalar.subi v66 v68
  let v70 : BitVec 1 := Scalar.cmpi .ne v64 v69
  let v71 : BitVec 32 := Scalar.remsi v58 c64_i32
  let c0_i32_93 : BitVec 32 := 0#32
  let v72 : BitVec 1 := Scalar.cmpi .ne v71 c0_i32_93
  let v73 : BitVec 1 := Scalar.andi v70 v72
  let v59 : BitVec 32 := Scalar.divsi v58 c64_i32
  let c1_i32_94 : BitVec 32 := 1#32
  let v74 : BitVec 32 := Scalar.subi v59 c1_i32_94
  let v75 : BitVec 32 := Scalar.select v73 v74 v59
  let v76 : BitVec 32 := Scalar.subi v75 c0_i32_95
  let c1_i32_97 : BitVec 32 := 1#32
  let v78 : BitVec 32 := Scalar.divsi v76 c1_i32_97
  let v79 : BitVec 32 := Scalar.muli v78 c1_i32_97
  let v80 : BitVec 32 := Scalar.addi c0_i32_95 v79
  let c1_i32_99 : BitVec 32 := 1#32
  let arg10 : BitVec 32 := Scf.iv v80 c1_i32_99 k0_t18
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk6 (v679 : IVec S16 32) (v699 : IVec S16 32) : Prop :=
  (∀ a x, ((![v679, v699] : Fin 2 → IVec S16 32) a x).toNat < S16x6272.size a)
theorem k0_idx5_inb : ∀ (v679 : IVec S16 32) (v699 : IVec S16 32) (k0_hw6 : k0_chk6 v679 v699), ∀ a x, ((![v679, v699] : Fin 2 → IVec S16 32) a x).toNat < S16x6272.size a := fun v679 v699 k0_hw6 => k0_hw6
def k0_off22 (v49 : BitVec 32) (k0_t18 : Fin (k0_t18_loop v49).trips) : Fin 1 → Nat :=
  let c0_i32_95 : BitVec 32 := 0#32
  let c63_i32 : BitVec 32 := 63#32
  let v58 : BitVec 32 := Scalar.addi v49 c63_i32
  let c0_i32_89 : BitVec 32 := 0#32
  let v60 : BitVec 1 := Scalar.cmpi .sgt v58 c0_i32_89
  let v61 : BitVec 32 := Scalar.extui v60
  let c0_i32_90 : BitVec 32 := 0#32
  let v62 : BitVec 1 := Scalar.cmpi .slt v58 c0_i32_90
  let v63 : BitVec 32 := Scalar.extui v62
  let v64 : BitVec 32 := Scalar.subi v61 v63
  let c64_i32 : BitVec 32 := 64#32
  let c0_i32_91 : BitVec 32 := 0#32
  let v65 : BitVec 1 := Scalar.cmpi .sgt c64_i32 c0_i32_91
  let v66 : BitVec 32 := Scalar.extui v65
  let c0_i32_92 : BitVec 32 := 0#32
  let v67 : BitVec 1 := Scalar.cmpi .slt c64_i32 c0_i32_92
  let v68 : BitVec 32 := Scalar.extui v67
  let v69 : BitVec 32 := Scalar.subi v66 v68
  let v70 : BitVec 1 := Scalar.cmpi .ne v64 v69
  let v71 : BitVec 32 := Scalar.remsi v58 c64_i32
  let c0_i32_93 : BitVec 32 := 0#32
  let v72 : BitVec 1 := Scalar.cmpi .ne v71 c0_i32_93
  let v73 : BitVec 1 := Scalar.andi v70 v72
  let v59 : BitVec 32 := Scalar.divsi v58 c64_i32
  let c1_i32_94 : BitVec 32 := 1#32
  let v74 : BitVec 32 := Scalar.subi v59 c1_i32_94
  let v75 : BitVec 32 := Scalar.select v73 v74 v59
  let v76 : BitVec 32 := Scalar.subi v75 c0_i32_95
  let c1_i32_97 : BitVec 32 := 1#32
  let v78 : BitVec 32 := Scalar.divsi v76 c1_i32_97
  let v79 : BitVec 32 := Scalar.muli v78 c1_i32_97
  let v80 : BitVec 32 := Scalar.addi c0_i32_95 v79
  let c1_i32_99 : BitVec 32 := 1#32
  let arg10 : BitVec 32 := Scf.iv v80 c1_i32_99 k0_t18
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk7 (v679 : IVec S16 32) (v719 : IVec S16 32) : Prop :=
  (∀ a x, ((![v679, v719] : Fin 2 → IVec S16 32) a x).toNat < S16x6272.size a)
theorem k0_idx6_inb : ∀ (v679 : IVec S16 32) (v719 : IVec S16 32) (k0_hw7 : k0_chk7 v679 v719), ∀ a x, ((![v679, v719] : Fin 2 → IVec S16 32) a x).toNat < S16x6272.size a := fun v679 v719 k0_hw7 => k0_hw7
def k0_off23 (v49 : BitVec 32) (k0_t18 : Fin (k0_t18_loop v49).trips) : Fin 1 → Nat :=
  let c0_i32_95 : BitVec 32 := 0#32
  let c63_i32 : BitVec 32 := 63#32
  let v58 : BitVec 32 := Scalar.addi v49 c63_i32
  let c0_i32_89 : BitVec 32 := 0#32
  let v60 : BitVec 1 := Scalar.cmpi .sgt v58 c0_i32_89
  let v61 : BitVec 32 := Scalar.extui v60
  let c0_i32_90 : BitVec 32 := 0#32
  let v62 : BitVec 1 := Scalar.cmpi .slt v58 c0_i32_90
  let v63 : BitVec 32 := Scalar.extui v62
  let v64 : BitVec 32 := Scalar.subi v61 v63
  let c64_i32 : BitVec 32 := 64#32
  let c0_i32_91 : BitVec 32 := 0#32
  let v65 : BitVec 1 := Scalar.cmpi .sgt c64_i32 c0_i32_91
  let v66 : BitVec 32 := Scalar.extui v65
  let c0_i32_92 : BitVec 32 := 0#32
  let v67 : BitVec 1 := Scalar.cmpi .slt c64_i32 c0_i32_92
  let v68 : BitVec 32 := Scalar.extui v67
  let v69 : BitVec 32 := Scalar.subi v66 v68
  let v70 : BitVec 1 := Scalar.cmpi .ne v64 v69
  let v71 : BitVec 32 := Scalar.remsi v58 c64_i32
  let c0_i32_93 : BitVec 32 := 0#32
  let v72 : BitVec 1 := Scalar.cmpi .ne v71 c0_i32_93
  let v73 : BitVec 1 := Scalar.andi v70 v72
  let v59 : BitVec 32 := Scalar.divsi v58 c64_i32
  let c1_i32_94 : BitVec 32 := 1#32
  let v74 : BitVec 32 := Scalar.subi v59 c1_i32_94
  let v75 : BitVec 32 := Scalar.select v73 v74 v59
  let v76 : BitVec 32 := Scalar.subi v75 c0_i32_95
  let c1_i32_97 : BitVec 32 := 1#32
  let v78 : BitVec 32 := Scalar.divsi v76 c1_i32_97
  let v79 : BitVec 32 := Scalar.muli v78 c1_i32_97
  let v80 : BitVec 32 := Scalar.addi c0_i32_95 v79
  let c1_i32_99 : BitVec 32 := 1#32
  let arg10 : BitVec 32 := Scf.iv v80 c1_i32_99 k0_t18
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk8 (v679 : IVec S16 32) (v739 : IVec S16 32) : Prop :=
  (∀ a x, ((![v679, v739] : Fin 2 → IVec S16 32) a x).toNat < S16x6272.size a)
theorem k0_idx7_inb : ∀ (v679 : IVec S16 32) (v739 : IVec S16 32) (k0_hw8 : k0_chk8 v679 v739), ∀ a x, ((![v679, v739] : Fin 2 → IVec S16 32) a x).toNat < S16x6272.size a := fun v679 v739 k0_hw8 => k0_hw8
def k0_off24 (v49 : BitVec 32) (k0_t18 : Fin (k0_t18_loop v49).trips) : Fin 1 → Nat :=
  let c0_i32_95 : BitVec 32 := 0#32
  let c63_i32 : BitVec 32 := 63#32
  let v58 : BitVec 32 := Scalar.addi v49 c63_i32
  let c0_i32_89 : BitVec 32 := 0#32
  let v60 : BitVec 1 := Scalar.cmpi .sgt v58 c0_i32_89
  let v61 : BitVec 32 := Scalar.extui v60
  let c0_i32_90 : BitVec 32 := 0#32
  let v62 : BitVec 1 := Scalar.cmpi .slt v58 c0_i32_90
  let v63 : BitVec 32 := Scalar.extui v62
  let v64 : BitVec 32 := Scalar.subi v61 v63
  let c64_i32 : BitVec 32 := 64#32
  let c0_i32_91 : BitVec 32 := 0#32
  let v65 : BitVec 1 := Scalar.cmpi .sgt c64_i32 c0_i32_91
  let v66 : BitVec 32 := Scalar.extui v65
  let c0_i32_92 : BitVec 32 := 0#32
  let v67 : BitVec 1 := Scalar.cmpi .slt c64_i32 c0_i32_92
  let v68 : BitVec 32 := Scalar.extui v67
  let v69 : BitVec 32 := Scalar.subi v66 v68
  let v70 : BitVec 1 := Scalar.cmpi .ne v64 v69
  let v71 : BitVec 32 := Scalar.remsi v58 c64_i32
  let c0_i32_93 : BitVec 32 := 0#32
  let v72 : BitVec 1 := Scalar.cmpi .ne v71 c0_i32_93
  let v73 : BitVec 1 := Scalar.andi v70 v72
  let v59 : BitVec 32 := Scalar.divsi v58 c64_i32
  let c1_i32_94 : BitVec 32 := 1#32
  let v74 : BitVec 32 := Scalar.subi v59 c1_i32_94
  let v75 : BitVec 32 := Scalar.select v73 v74 v59
  let v76 : BitVec 32 := Scalar.subi v75 c0_i32_95
  let c1_i32_97 : BitVec 32 := 1#32
  let v78 : BitVec 32 := Scalar.divsi v76 c1_i32_97
  let v79 : BitVec 32 := Scalar.muli v78 c1_i32_97
  let v80 : BitVec 32 := Scalar.addi c0_i32_95 v79
  let c1_i32_99 : BitVec 32 := 1#32
  let arg10 : BitVec 32 := Scf.iv v80 c1_i32_99 k0_t18
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk1 (v49 : BitVec 32) : Prop :=
  ((k0_t17_loop v49).OK) ∧
  (∀ k0_t17 : Fin (k0_t17_loop v49).trips, ∀ a, (k0_off17 v49 k0_t17) a + S16.size a ≤ S4096.size a) ∧
  (∀ k0_t17 : Fin (k0_t17_loop v49).trips, ∀ a, (k0_off18 v49 k0_t17) a + S16.size a ≤ S4096.size a) ∧
  (∀ k0_t17 : Fin (k0_t17_loop v49).trips, ∀ a, (k0_off19 v49 k0_t17) a + S16.size a ≤ S4096.size a) ∧
  (∀ k0_t17 : Fin (k0_t17_loop v49).trips, ∀ a, (k0_off20 v49 k0_t17) a + S16.size a ≤ S4096.size a) ∧
  ((k0_t18_loop v49).OK) ∧
  (∀ k0_t18 : Fin (k0_t18_loop v49).trips, ∀ a, (k0_off21 v49 k0_t18) a + S16.size a ≤ S4096.size a) ∧
  (∀ k0_t18 : Fin (k0_t18_loop v49).trips, ∀ a, (k0_off22 v49 k0_t18) a + S16.size a ≤ S4096.size a) ∧
  (∀ k0_t18 : Fin (k0_t18_loop v49).trips, ∀ a, (k0_off23 v49 k0_t18) a + S16.size a ≤ S4096.size a) ∧
  (∀ k0_t18 : Fin (k0_t18_loop v49).trips, ∀ a, (k0_off24 v49 k0_t18) a + S16.size a ≤ S4096.size a)
theorem k0_t17_ok : ∀ (v49 : BitVec 32) (k0_hw1 : k0_chk1 v49), (k0_t17_loop v49).OK := fun v49 k0_hw1 => k0_hw1.1
theorem k0_off17_inb : ∀ (v49 : BitVec 32) (k0_hw1 : k0_chk1 v49) (k0_t17 : Fin (k0_t17_loop v49).trips), ∀ a, (k0_off17 v49 k0_t17) a + S16.size a ≤ S4096.size a := fun v49 k0_hw1 k0_t17 => k0_hw1.2.1 k0_t17
theorem k0_off18_inb : ∀ (v49 : BitVec 32) (k0_hw1 : k0_chk1 v49) (k0_t17 : Fin (k0_t17_loop v49).trips), ∀ a, (k0_off18 v49 k0_t17) a + S16.size a ≤ S4096.size a := fun v49 k0_hw1 k0_t17 => k0_hw1.2.2.1 k0_t17
theorem k0_off19_inb : ∀ (v49 : BitVec 32) (k0_hw1 : k0_chk1 v49) (k0_t17 : Fin (k0_t17_loop v49).trips), ∀ a, (k0_off19 v49 k0_t17) a + S16.size a ≤ S4096.size a := fun v49 k0_hw1 k0_t17 => k0_hw1.2.2.2.1 k0_t17
theorem k0_off20_inb : ∀ (v49 : BitVec 32) (k0_hw1 : k0_chk1 v49) (k0_t17 : Fin (k0_t17_loop v49).trips), ∀ a, (k0_off20 v49 k0_t17) a + S16.size a ≤ S4096.size a := fun v49 k0_hw1 k0_t17 => k0_hw1.2.2.2.2.1 k0_t17
theorem k0_t18_ok : ∀ (v49 : BitVec 32) (k0_hw1 : k0_chk1 v49), (k0_t18_loop v49).OK := fun v49 k0_hw1 => k0_hw1.2.2.2.2.2.1
theorem k0_off21_inb : ∀ (v49 : BitVec 32) (k0_hw1 : k0_chk1 v49) (k0_t18 : Fin (k0_t18_loop v49).trips), ∀ a, (k0_off21 v49 k0_t18) a + S16.size a ≤ S4096.size a := fun v49 k0_hw1 k0_t18 => k0_hw1.2.2.2.2.2.2.1 k0_t18
theorem k0_off22_inb : ∀ (v49 : BitVec 32) (k0_hw1 : k0_chk1 v49) (k0_t18 : Fin (k0_t18_loop v49).trips), ∀ a, (k0_off22 v49 k0_t18) a + S16.size a ≤ S4096.size a := fun v49 k0_hw1 k0_t18 => k0_hw1.2.2.2.2.2.2.2.1 k0_t18
theorem k0_off23_inb : ∀ (v49 : BitVec 32) (k0_hw1 : k0_chk1 v49) (k0_t18 : Fin (k0_t18_loop v49).trips), ∀ a, (k0_off23 v49 k0_t18) a + S16.size a ≤ S4096.size a := fun v49 k0_hw1 k0_t18 => k0_hw1.2.2.2.2.2.2.2.2.1 k0_t18
theorem k0_off24_inb : ∀ (v49 : BitVec 32) (k0_hw1 : k0_chk1 v49) (k0_t18 : Fin (k0_t18_loop v49).trips), ∀ a, (k0_off24 v49 k0_t18) a + S16.size a ≤ S4096.size a := fun v49 k0_hw1 k0_t18 => k0_hw1.2.2.2.2.2.2.2.2.2 k0_t18

def k0_chk9 (v679 : IVec S16 32) (v759 : IVec S16 32) : Prop :=
  (∀ a x, ((![v679, v759] : Fin 2 → IVec S16 32) a x).toNat < S16x6272.size a)
theorem k0_idx8_inb : ∀ (v679 : IVec S16 32) (v759 : IVec S16 32) (k0_hw9 : k0_chk9 v679 v759), ∀ a x, ((![v679, v759] : Fin 2 → IVec S16 32) a x).toNat < S16x6272.size a := fun v679 v759 k0_hw9 => k0_hw9
@[reducible] def k0_t19_loop (v89 : BitVec 32) : Scf.Loop 32 :=
  let c0_i32_117 : BitVec 32 := 0#32
  let c63_i32_109 : BitVec 32 := 63#32
  let v98 : BitVec 32 := Scalar.addi v89 c63_i32_109
  let c0_i32_111 : BitVec 32 := 0#32
  let v100 : BitVec 1 := Scalar.cmpi .sgt v98 c0_i32_111
  let v101 : BitVec 32 := Scalar.extui v100
  let c0_i32_112 : BitVec 32 := 0#32
  let v102 : BitVec 1 := Scalar.cmpi .slt v98 c0_i32_112
  let v103 : BitVec 32 := Scalar.extui v102
  let v104 : BitVec 32 := Scalar.subi v101 v103
  let c64_i32_110 : BitVec 32 := 64#32
  let c0_i32_113 : BitVec 32 := 0#32
  let v105 : BitVec 1 := Scalar.cmpi .sgt c64_i32_110 c0_i32_113
  let v106 : BitVec 32 := Scalar.extui v105
  let c0_i32_114 : BitVec 32 := 0#32
  let v107 : BitVec 1 := Scalar.cmpi .slt c64_i32_110 c0_i32_114
  let v108 : BitVec 32 := Scalar.extui v107
  let v109 : BitVec 32 := Scalar.subi v106 v108
  let v110 : BitVec 1 := Scalar.cmpi .ne v104 v109
  let v111 : BitVec 32 := Scalar.remsi v98 c64_i32_110
  let c0_i32_115 : BitVec 32 := 0#32
  let v112 : BitVec 1 := Scalar.cmpi .ne v111 c0_i32_115
  let v113 : BitVec 1 := Scalar.andi v110 v112
  let v99 : BitVec 32 := Scalar.divsi v98 c64_i32_110
  let c1_i32_116 : BitVec 32 := 1#32
  let v114 : BitVec 32 := Scalar.subi v99 c1_i32_116
  let v115 : BitVec 32 := Scalar.select v113 v114 v99
  let v116 : BitVec 32 := Scalar.subi v115 c0_i32_117
  let c1_i32_119 : BitVec 32 := 1#32
  let v118 : BitVec 32 := Scalar.divsi v116 c1_i32_119
  let v119 : BitVec 32 := Scalar.muli v118 c1_i32_119
  let v120 : BitVec 32 := Scalar.addi c0_i32_117 v119
  let c1_i32_120 : BitVec 32 := 1#32
  ⟨c0_i32_117, v120, c1_i32_120⟩

def k0_off25 (v89 : BitVec 32) (k0_t19 : Fin (k0_t19_loop v89).trips) : Fin 1 → Nat :=
  let c0_i32_117 : BitVec 32 := 0#32
  let c1_i32_120 : BitVec 32 := 1#32
  let arg10 : BitVec 32 := Scf.iv c0_i32_117 c1_i32_120 k0_t19
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk11 (v679 : IVec S16 32) (v699 : IVec S16 32) : Prop :=
  (∀ a x, ((![v679, v699] : Fin 2 → IVec S16 32) a x).toNat < S16x6272.size a)
theorem k0_idx9_inb : ∀ (v679 : IVec S16 32) (v699 : IVec S16 32) (k0_hw11 : k0_chk11 v679 v699), ∀ a x, ((![v679, v699] : Fin 2 → IVec S16 32) a x).toNat < S16x6272.size a := fun v679 v699 k0_hw11 => k0_hw11
def k0_off26 (v89 : BitVec 32) (k0_t19 : Fin (k0_t19_loop v89).trips) : Fin 1 → Nat :=
  let c0_i32_117 : BitVec 32 := 0#32
  let c1_i32_120 : BitVec 32 := 1#32
  let arg10 : BitVec 32 := Scf.iv c0_i32_117 c1_i32_120 k0_t19
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk12 (v679 : IVec S16 32) (v719 : IVec S16 32) : Prop :=
  (∀ a x, ((![v679, v719] : Fin 2 → IVec S16 32) a x).toNat < S16x6272.size a)
theorem k0_idx10_inb : ∀ (v679 : IVec S16 32) (v719 : IVec S16 32) (k0_hw12 : k0_chk12 v679 v719), ∀ a x, ((![v679, v719] : Fin 2 → IVec S16 32) a x).toNat < S16x6272.size a := fun v679 v719 k0_hw12 => k0_hw12
def k0_off27 (v89 : BitVec 32) (k0_t19 : Fin (k0_t19_loop v89).trips) : Fin 1 → Nat :=
  let c0_i32_117 : BitVec 32 := 0#32
  let c1_i32_120 : BitVec 32 := 1#32
  let arg10 : BitVec 32 := Scf.iv c0_i32_117 c1_i32_120 k0_t19
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk13 (v679 : IVec S16 32) (v739 : IVec S16 32) : Prop :=
  (∀ a x, ((![v679, v739] : Fin 2 → IVec S16 32) a x).toNat < S16x6272.size a)
theorem k0_idx11_inb : ∀ (v679 : IVec S16 32) (v739 : IVec S16 32) (k0_hw13 : k0_chk13 v679 v739), ∀ a x, ((![v679, v739] : Fin 2 → IVec S16 32) a x).toNat < S16x6272.size a := fun v679 v739 k0_hw13 => k0_hw13
def k0_off28 (v89 : BitVec 32) (k0_t19 : Fin (k0_t19_loop v89).trips) : Fin 1 → Nat :=
  let c0_i32_117 : BitVec 32 := 0#32
  let c1_i32_120 : BitVec 32 := 1#32
  let arg10 : BitVec 32 := Scf.iv c0_i32_117 c1_i32_120 k0_t19
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk14 (v679 : IVec S16 32) (v759 : IVec S16 32) : Prop :=
  (∀ a x, ((![v679, v759] : Fin 2 → IVec S16 32) a x).toNat < S16x6272.size a)
theorem k0_idx12_inb : ∀ (v679 : IVec S16 32) (v759 : IVec S16 32) (k0_hw14 : k0_chk14 v679 v759), ∀ a x, ((![v679, v759] : Fin 2 → IVec S16 32) a x).toNat < S16x6272.size a := fun v679 v759 k0_hw14 => k0_hw14
@[reducible] def k0_t20_loop (v89 : BitVec 32) : Scf.Loop 32 :=
  let c0_i32_117 : BitVec 32 := 0#32
  let c63_i32_109 : BitVec 32 := 63#32
  let v98 : BitVec 32 := Scalar.addi v89 c63_i32_109
  let c0_i32_111 : BitVec 32 := 0#32
  let v100 : BitVec 1 := Scalar.cmpi .sgt v98 c0_i32_111
  let v101 : BitVec 32 := Scalar.extui v100
  let c0_i32_112 : BitVec 32 := 0#32
  let v102 : BitVec 1 := Scalar.cmpi .slt v98 c0_i32_112
  let v103 : BitVec 32 := Scalar.extui v102
  let v104 : BitVec 32 := Scalar.subi v101 v103
  let c64_i32_110 : BitVec 32 := 64#32
  let c0_i32_113 : BitVec 32 := 0#32
  let v105 : BitVec 1 := Scalar.cmpi .sgt c64_i32_110 c0_i32_113
  let v106 : BitVec 32 := Scalar.extui v105
  let c0_i32_114 : BitVec 32 := 0#32
  let v107 : BitVec 1 := Scalar.cmpi .slt c64_i32_110 c0_i32_114
  let v108 : BitVec 32 := Scalar.extui v107
  let v109 : BitVec 32 := Scalar.subi v106 v108
  let v110 : BitVec 1 := Scalar.cmpi .ne v104 v109
  let v111 : BitVec 32 := Scalar.remsi v98 c64_i32_110
  let c0_i32_115 : BitVec 32 := 0#32
  let v112 : BitVec 1 := Scalar.cmpi .ne v111 c0_i32_115
  let v113 : BitVec 1 := Scalar.andi v110 v112
  let v99 : BitVec 32 := Scalar.divsi v98 c64_i32_110
  let c1_i32_116 : BitVec 32 := 1#32
  let v114 : BitVec 32 := Scalar.subi v99 c1_i32_116
  let v115 : BitVec 32 := Scalar.select v113 v114 v99
  let v116 : BitVec 32 := Scalar.subi v115 c0_i32_117
  let c1_i32_119 : BitVec 32 := 1#32
  let v118 : BitVec 32 := Scalar.divsi v116 c1_i32_119
  let v119 : BitVec 32 := Scalar.muli v118 c1_i32_119
  let v120 : BitVec 32 := Scalar.addi c0_i32_117 v119
  let v117 : BitVec 32 := Scalar.addi c0_i32_117 v116
  let c1_i32_121 : BitVec 32 := 1#32
  ⟨v120, v117, c1_i32_121⟩
def k0_off29 (v89 : BitVec 32) (k0_t20 : Fin (k0_t20_loop v89).trips) : Fin 1 → Nat :=
  let c0_i32_117 : BitVec 32 := 0#32
  let c63_i32_109 : BitVec 32 := 63#32
  let v98 : BitVec 32 := Scalar.addi v89 c63_i32_109
  let c0_i32_111 : BitVec 32 := 0#32
  let v100 : BitVec 1 := Scalar.cmpi .sgt v98 c0_i32_111
  let v101 : BitVec 32 := Scalar.extui v100
  let c0_i32_112 : BitVec 32 := 0#32
  let v102 : BitVec 1 := Scalar.cmpi .slt v98 c0_i32_112
  let v103 : BitVec 32 := Scalar.extui v102
  let v104 : BitVec 32 := Scalar.subi v101 v103
  let c64_i32_110 : BitVec 32 := 64#32
  let c0_i32_113 : BitVec 32 := 0#32
  let v105 : BitVec 1 := Scalar.cmpi .sgt c64_i32_110 c0_i32_113
  let v106 : BitVec 32 := Scalar.extui v105
  let c0_i32_114 : BitVec 32 := 0#32
  let v107 : BitVec 1 := Scalar.cmpi .slt c64_i32_110 c0_i32_114
  let v108 : BitVec 32 := Scalar.extui v107
  let v109 : BitVec 32 := Scalar.subi v106 v108
  let v110 : BitVec 1 := Scalar.cmpi .ne v104 v109
  let v111 : BitVec 32 := Scalar.remsi v98 c64_i32_110
  let c0_i32_115 : BitVec 32 := 0#32
  let v112 : BitVec 1 := Scalar.cmpi .ne v111 c0_i32_115
  let v113 : BitVec 1 := Scalar.andi v110 v112
  let v99 : BitVec 32 := Scalar.divsi v98 c64_i32_110
  let c1_i32_116 : BitVec 32 := 1#32
  let v114 : BitVec 32 := Scalar.subi v99 c1_i32_116
  let v115 : BitVec 32 := Scalar.select v113 v114 v99
  let v116 : BitVec 32 := Scalar.subi v115 c0_i32_117
  let c1_i32_119 : BitVec 32 := 1#32
  let v118 : BitVec 32 := Scalar.divsi v116 c1_i32_119
  let v119 : BitVec 32 := Scalar.muli v118 c1_i32_119
  let v120 : BitVec 32 := Scalar.addi c0_i32_117 v119
  let c1_i32_121 : BitVec 32 := 1#32
  let arg10 : BitVec 32 := Scf.iv v120 c1_i32_121 k0_t20
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk15 (v679 : IVec S16 32) (v699 : IVec S16 32) : Prop :=
  (∀ a x, ((![v679, v699] : Fin 2 → IVec S16 32) a x).toNat < S16x6272.size a)
theorem k0_idx13_inb : ∀ (v679 : IVec S16 32) (v699 : IVec S16 32) (k0_hw15 : k0_chk15 v679 v699), ∀ a x, ((![v679, v699] : Fin 2 → IVec S16 32) a x).toNat < S16x6272.size a := fun v679 v699 k0_hw15 => k0_hw15
def k0_off30 (v89 : BitVec 32) (k0_t20 : Fin (k0_t20_loop v89).trips) : Fin 1 → Nat :=
  let c0_i32_117 : BitVec 32 := 0#32
  let c63_i32_109 : BitVec 32 := 63#32
  let v98 : BitVec 32 := Scalar.addi v89 c63_i32_109
  let c0_i32_111 : BitVec 32 := 0#32
  let v100 : BitVec 1 := Scalar.cmpi .sgt v98 c0_i32_111
  let v101 : BitVec 32 := Scalar.extui v100
  let c0_i32_112 : BitVec 32 := 0#32
  let v102 : BitVec 1 := Scalar.cmpi .slt v98 c0_i32_112
  let v103 : BitVec 32 := Scalar.extui v102
  let v104 : BitVec 32 := Scalar.subi v101 v103
  let c64_i32_110 : BitVec 32 := 64#32
  let c0_i32_113 : BitVec 32 := 0#32
  let v105 : BitVec 1 := Scalar.cmpi .sgt c64_i32_110 c0_i32_113
  let v106 : BitVec 32 := Scalar.extui v105
  let c0_i32_114 : BitVec 32 := 0#32
  let v107 : BitVec 1 := Scalar.cmpi .slt c64_i32_110 c0_i32_114
  let v108 : BitVec 32 := Scalar.extui v107
  let v109 : BitVec 32 := Scalar.subi v106 v108
  let v110 : BitVec 1 := Scalar.cmpi .ne v104 v109
  let v111 : BitVec 32 := Scalar.remsi v98 c64_i32_110
  let c0_i32_115 : BitVec 32 := 0#32
  let v112 : BitVec 1 := Scalar.cmpi .ne v111 c0_i32_115
  let v113 : BitVec 1 := Scalar.andi v110 v112
  let v99 : BitVec 32 := Scalar.divsi v98 c64_i32_110
  let c1_i32_116 : BitVec 32 := 1#32
  let v114 : BitVec 32 := Scalar.subi v99 c1_i32_116
  let v115 : BitVec 32 := Scalar.select v113 v114 v99
  let v116 : BitVec 32 := Scalar.subi v115 c0_i32_117
  let c1_i32_119 : BitVec 32 := 1#32
  let v118 : BitVec 32 := Scalar.divsi v116 c1_i32_119
  let v119 : BitVec 32 := Scalar.muli v118 c1_i32_119
  let v120 : BitVec 32 := Scalar.addi c0_i32_117 v119
  let c1_i32_121 : BitVec 32 := 1#32
  let arg10 : BitVec 32 := Scf.iv v120 c1_i32_121 k0_t20
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk16 (v679 : IVec S16 32) (v719 : IVec S16 32) : Prop :=
  (∀ a x, ((![v679, v719] : Fin 2 → IVec S16 32) a x).toNat < S16x6272.size a)
theorem k0_idx14_inb : ∀ (v679 : IVec S16 32) (v719 : IVec S16 32) (k0_hw16 : k0_chk16 v679 v719), ∀ a x, ((![v679, v719] : Fin 2 → IVec S16 32) a x).toNat < S16x6272.size a := fun v679 v719 k0_hw16 => k0_hw16
def k0_off31 (v89 : BitVec 32) (k0_t20 : Fin (k0_t20_loop v89).trips) : Fin 1 → Nat :=
  let c0_i32_117 : BitVec 32 := 0#32
  let c63_i32_109 : BitVec 32 := 63#32
  let v98 : BitVec 32 := Scalar.addi v89 c63_i32_109
  let c0_i32_111 : BitVec 32 := 0#32
  let v100 : BitVec 1 := Scalar.cmpi .sgt v98 c0_i32_111
  let v101 : BitVec 32 := Scalar.extui v100
  let c0_i32_112 : BitVec 32 := 0#32
  let v102 : BitVec 1 := Scalar.cmpi .slt v98 c0_i32_112
  let v103 : BitVec 32 := Scalar.extui v102
  let v104 : BitVec 32 := Scalar.subi v101 v103
  let c64_i32_110 : BitVec 32 := 64#32
  let c0_i32_113 : BitVec 32 := 0#32
  let v105 : BitVec 1 := Scalar.cmpi .sgt c64_i32_110 c0_i32_113
  let v106 : BitVec 32 := Scalar.extui v105
  let c0_i32_114 : BitVec 32 := 0#32
  let v107 : BitVec 1 := Scalar.cmpi .slt c64_i32_110 c0_i32_114
  let v108 : BitVec 32 := Scalar.extui v107
  let v109 : BitVec 32 := Scalar.subi v106 v108
  let v110 : BitVec 1 := Scalar.cmpi .ne v104 v109
  let v111 : BitVec 32 := Scalar.remsi v98 c64_i32_110
  let c0_i32_115 : BitVec 32 := 0#32
  let v112 : BitVec 1 := Scalar.cmpi .ne v111 c0_i32_115
  let v113 : BitVec 1 := Scalar.andi v110 v112
  let v99 : BitVec 32 := Scalar.divsi v98 c64_i32_110
  let c1_i32_116 : BitVec 32 := 1#32
  let v114 : BitVec 32 := Scalar.subi v99 c1_i32_116
  let v115 : BitVec 32 := Scalar.select v113 v114 v99
  let v116 : BitVec 32 := Scalar.subi v115 c0_i32_117
  let c1_i32_119 : BitVec 32 := 1#32
  let v118 : BitVec 32 := Scalar.divsi v116 c1_i32_119
  let v119 : BitVec 32 := Scalar.muli v118 c1_i32_119
  let v120 : BitVec 32 := Scalar.addi c0_i32_117 v119
  let c1_i32_121 : BitVec 32 := 1#32
  let arg10 : BitVec 32 := Scf.iv v120 c1_i32_121 k0_t20
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk17 (v679 : IVec S16 32) (v739 : IVec S16 32) : Prop :=
  (∀ a x, ((![v679, v739] : Fin 2 → IVec S16 32) a x).toNat < S16x6272.size a)
theorem k0_idx15_inb : ∀ (v679 : IVec S16 32) (v739 : IVec S16 32) (k0_hw17 : k0_chk17 v679 v739), ∀ a x, ((![v679, v739] : Fin 2 → IVec S16 32) a x).toNat < S16x6272.size a := fun v679 v739 k0_hw17 => k0_hw17
def k0_off32 (v89 : BitVec 32) (k0_t20 : Fin (k0_t20_loop v89).trips) : Fin 1 → Nat :=
  let c0_i32_117 : BitVec 32 := 0#32
  let c63_i32_109 : BitVec 32 := 63#32
  let v98 : BitVec 32 := Scalar.addi v89 c63_i32_109
  let c0_i32_111 : BitVec 32 := 0#32
  let v100 : BitVec 1 := Scalar.cmpi .sgt v98 c0_i32_111
  let v101 : BitVec 32 := Scalar.extui v100
  let c0_i32_112 : BitVec 32 := 0#32
  let v102 : BitVec 1 := Scalar.cmpi .slt v98 c0_i32_112
  let v103 : BitVec 32 := Scalar.extui v102
  let v104 : BitVec 32 := Scalar.subi v101 v103
  let c64_i32_110 : BitVec 32 := 64#32
  let c0_i32_113 : BitVec 32 := 0#32
  let v105 : BitVec 1 := Scalar.cmpi .sgt c64_i32_110 c0_i32_113
  let v106 : BitVec 32 := Scalar.extui v105
  let c0_i32_114 : BitVec 32 := 0#32
  let v107 : BitVec 1 := Scalar.cmpi .slt c64_i32_110 c0_i32_114
  let v108 : BitVec 32 := Scalar.extui v107
  let v109 : BitVec 32 := Scalar.subi v106 v108
  let v110 : BitVec 1 := Scalar.cmpi .ne v104 v109
  let v111 : BitVec 32 := Scalar.remsi v98 c64_i32_110
  let c0_i32_115 : BitVec 32 := 0#32
  let v112 : BitVec 1 := Scalar.cmpi .ne v111 c0_i32_115
  let v113 : BitVec 1 := Scalar.andi v110 v112
  let v99 : BitVec 32 := Scalar.divsi v98 c64_i32_110
  let c1_i32_116 : BitVec 32 := 1#32
  let v114 : BitVec 32 := Scalar.subi v99 c1_i32_116
  let v115 : BitVec 32 := Scalar.select v113 v114 v99
  let v116 : BitVec 32 := Scalar.subi v115 c0_i32_117
  let c1_i32_119 : BitVec 32 := 1#32
  let v118 : BitVec 32 := Scalar.divsi v116 c1_i32_119
  let v119 : BitVec 32 := Scalar.muli v118 c1_i32_119
  let v120 : BitVec 32 := Scalar.addi c0_i32_117 v119
  let c1_i32_121 : BitVec 32 := 1#32
  let arg10 : BitVec 32 := Scf.iv v120 c1_i32_121 k0_t20
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk10 (v89 : BitVec 32) : Prop :=
  ((k0_t19_loop v89).OK) ∧
  (∀ k0_t19 : Fin (k0_t19_loop v89).trips, ∀ a, (k0_off25 v89 k0_t19) a + S16.size a ≤ S4096.size a) ∧
  (∀ k0_t19 : Fin (k0_t19_loop v89).trips, ∀ a, (k0_off26 v89 k0_t19) a + S16.size a ≤ S4096.size a) ∧
  (∀ k0_t19 : Fin (k0_t19_loop v89).trips, ∀ a, (k0_off27 v89 k0_t19) a + S16.size a ≤ S4096.size a) ∧
  (∀ k0_t19 : Fin (k0_t19_loop v89).trips, ∀ a, (k0_off28 v89 k0_t19) a + S16.size a ≤ S4096.size a) ∧
  ((k0_t20_loop v89).OK) ∧
  (∀ k0_t20 : Fin (k0_t20_loop v89).trips, ∀ a, (k0_off29 v89 k0_t20) a + S16.size a ≤ S4096.size a) ∧
  (∀ k0_t20 : Fin (k0_t20_loop v89).trips, ∀ a, (k0_off30 v89 k0_t20) a + S16.size a ≤ S4096.size a) ∧
  (∀ k0_t20 : Fin (k0_t20_loop v89).trips, ∀ a, (k0_off31 v89 k0_t20) a + S16.size a ≤ S4096.size a) ∧
  (∀ k0_t20 : Fin (k0_t20_loop v89).trips, ∀ a, (k0_off32 v89 k0_t20) a + S16.size a ≤ S4096.size a)
theorem k0_t19_ok : ∀ (v89 : BitVec 32) (k0_hw10 : k0_chk10 v89), (k0_t19_loop v89).OK := fun v89 k0_hw10 => k0_hw10.1
theorem k0_off25_inb : ∀ (v89 : BitVec 32) (k0_hw10 : k0_chk10 v89) (k0_t19 : Fin (k0_t19_loop v89).trips), ∀ a, (k0_off25 v89 k0_t19) a + S16.size a ≤ S4096.size a := fun v89 k0_hw10 k0_t19 => k0_hw10.2.1 k0_t19
theorem k0_off26_inb : ∀ (v89 : BitVec 32) (k0_hw10 : k0_chk10 v89) (k0_t19 : Fin (k0_t19_loop v89).trips), ∀ a, (k0_off26 v89 k0_t19) a + S16.size a ≤ S4096.size a := fun v89 k0_hw10 k0_t19 => k0_hw10.2.2.1 k0_t19
theorem k0_off27_inb : ∀ (v89 : BitVec 32) (k0_hw10 : k0_chk10 v89) (k0_t19 : Fin (k0_t19_loop v89).trips), ∀ a, (k0_off27 v89 k0_t19) a + S16.size a ≤ S4096.size a := fun v89 k0_hw10 k0_t19 => k0_hw10.2.2.2.1 k0_t19
theorem k0_off28_inb : ∀ (v89 : BitVec 32) (k0_hw10 : k0_chk10 v89) (k0_t19 : Fin (k0_t19_loop v89).trips), ∀ a, (k0_off28 v89 k0_t19) a + S16.size a ≤ S4096.size a := fun v89 k0_hw10 k0_t19 => k0_hw10.2.2.2.2.1 k0_t19
theorem k0_t20_ok : ∀ (v89 : BitVec 32) (k0_hw10 : k0_chk10 v89), (k0_t20_loop v89).OK := fun v89 k0_hw10 => k0_hw10.2.2.2.2.2.1
theorem k0_off29_inb : ∀ (v89 : BitVec 32) (k0_hw10 : k0_chk10 v89) (k0_t20 : Fin (k0_t20_loop v89).trips), ∀ a, (k0_off29 v89 k0_t20) a + S16.size a ≤ S4096.size a := fun v89 k0_hw10 k0_t20 => k0_hw10.2.2.2.2.2.2.1 k0_t20
theorem k0_off30_inb : ∀ (v89 : BitVec 32) (k0_hw10 : k0_chk10 v89) (k0_t20 : Fin (k0_t20_loop v89).trips), ∀ a, (k0_off30 v89 k0_t20) a + S16.size a ≤ S4096.size a := fun v89 k0_hw10 k0_t20 => k0_hw10.2.2.2.2.2.2.2.1 k0_t20
theorem k0_off31_inb : ∀ (v89 : BitVec 32) (k0_hw10 : k0_chk10 v89) (k0_t20 : Fin (k0_t20_loop v89).trips), ∀ a, (k0_off31 v89 k0_t20) a + S16.size a ≤ S4096.size a := fun v89 k0_hw10 k0_t20 => k0_hw10.2.2.2.2.2.2.2.2.1 k0_t20
theorem k0_off32_inb : ∀ (v89 : BitVec 32) (k0_hw10 : k0_chk10 v89) (k0_t20 : Fin (k0_t20_loop v89).trips), ∀ a, (k0_off32 v89 k0_t20) a + S16.size a ≤ S4096.size a := fun v89 k0_hw10 k0_t20 => k0_hw10.2.2.2.2.2.2.2.2.2 k0_t20

def k0_chk18 (v679 : IVec S16 32) (v759 : IVec S16 32) : Prop :=
  (∀ a x, ((![v679, v759] : Fin 2 → IVec S16 32) a x).toNat < S16x6272.size a)
theorem k0_idx16_inb : ∀ (v679 : IVec S16 32) (v759 : IVec S16 32) (k0_hw18 : k0_chk18 v679 v759), ∀ a x, ((![v679, v759] : Fin 2 → IVec S16 32) a x).toNat < S16x6272.size a := fun v679 v759 k0_hw18 => k0_hw18
@[reducible] def k0_t21_loop (v129 : BitVec 32) : Scf.Loop 32 :=
  let c0_i32_138 : BitVec 32 := 0#32
  let c63_i32_130 : BitVec 32 := 63#32
  let v138 : BitVec 32 := Scalar.addi v129 c63_i32_130
  let c0_i32_132 : BitVec 32 := 0#32
  let v140 : BitVec 1 := Scalar.cmpi .sgt v138 c0_i32_132
  let v141 : BitVec 32 := Scalar.extui v140
  let c0_i32_133 : BitVec 32 := 0#32
  let v142 : BitVec 1 := Scalar.cmpi .slt v138 c0_i32_133
  let v143 : BitVec 32 := Scalar.extui v142
  let v144 : BitVec 32 := Scalar.subi v141 v143
  let c64_i32_131 : BitVec 32 := 64#32
  let c0_i32_134 : BitVec 32 := 0#32
  let v145 : BitVec 1 := Scalar.cmpi .sgt c64_i32_131 c0_i32_134
  let v146 : BitVec 32 := Scalar.extui v145
  let c0_i32_135 : BitVec 32 := 0#32
  let v147 : BitVec 1 := Scalar.cmpi .slt c64_i32_131 c0_i32_135
  let v148 : BitVec 32 := Scalar.extui v147
  let v149 : BitVec 32 := Scalar.subi v146 v148
  let v150 : BitVec 1 := Scalar.cmpi .ne v144 v149
  let v151 : BitVec 32 := Scalar.remsi v138 c64_i32_131
  let c0_i32_136 : BitVec 32 := 0#32
  let v152 : BitVec 1 := Scalar.cmpi .ne v151 c0_i32_136
  let v153 : BitVec 1 := Scalar.andi v150 v152
  let v139 : BitVec 32 := Scalar.divsi v138 c64_i32_131
  let c1_i32_137 : BitVec 32 := 1#32
  let v154 : BitVec 32 := Scalar.subi v139 c1_i32_137
  let v155 : BitVec 32 := Scalar.select v153 v154 v139
  let v156 : BitVec 32 := Scalar.subi v155 c0_i32_138
  let c1_i32_140 : BitVec 32 := 1#32
  let v158 : BitVec 32 := Scalar.divsi v156 c1_i32_140
  let v159 : BitVec 32 := Scalar.muli v158 c1_i32_140
  let v160 : BitVec 32 := Scalar.addi c0_i32_138 v159
  let c1_i32_141 : BitVec 32 := 1#32
  ⟨c0_i32_138, v160, c1_i32_141⟩

def k0_off33 (v129 : BitVec 32) (k0_t21 : Fin (k0_t21_loop v129).trips) : Fin 1 → Nat :=
  let c0_i32_138 : BitVec 32 := 0#32
  let c1_i32_141 : BitVec 32 := 1#32
  let arg10 : BitVec 32 := Scf.iv c0_i32_138 c1_i32_141 k0_t21
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk20 (v679 : IVec S16 32) (v699 : IVec S16 32) : Prop :=
  (∀ a x, ((![v679, v699] : Fin 2 → IVec S16 32) a x).toNat < S16x6272.size a)
theorem k0_idx17_inb : ∀ (v679 : IVec S16 32) (v699 : IVec S16 32) (k0_hw20 : k0_chk20 v679 v699), ∀ a x, ((![v679, v699] : Fin 2 → IVec S16 32) a x).toNat < S16x6272.size a := fun v679 v699 k0_hw20 => k0_hw20
def k0_off34 (v129 : BitVec 32) (k0_t21 : Fin (k0_t21_loop v129).trips) : Fin 1 → Nat :=
  let c0_i32_138 : BitVec 32 := 0#32
  let c1_i32_141 : BitVec 32 := 1#32
  let arg10 : BitVec 32 := Scf.iv c0_i32_138 c1_i32_141 k0_t21
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk21 (v679 : IVec S16 32) (v719 : IVec S16 32) : Prop :=
  (∀ a x, ((![v679, v719] : Fin 2 → IVec S16 32) a x).toNat < S16x6272.size a)
theorem k0_idx18_inb : ∀ (v679 : IVec S16 32) (v719 : IVec S16 32) (k0_hw21 : k0_chk21 v679 v719), ∀ a x, ((![v679, v719] : Fin 2 → IVec S16 32) a x).toNat < S16x6272.size a := fun v679 v719 k0_hw21 => k0_hw21
def k0_off35 (v129 : BitVec 32) (k0_t21 : Fin (k0_t21_loop v129).trips) : Fin 1 → Nat :=
  let c0_i32_138 : BitVec 32 := 0#32
  let c1_i32_141 : BitVec 32 := 1#32
  let arg10 : BitVec 32 := Scf.iv c0_i32_138 c1_i32_141 k0_t21
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk22 (v679 : IVec S16 32) (v739 : IVec S16 32) : Prop :=
  (∀ a x, ((![v679, v739] : Fin 2 → IVec S16 32) a x).toNat < S16x6272.size a)
theorem k0_idx19_inb : ∀ (v679 : IVec S16 32) (v739 : IVec S16 32) (k0_hw22 : k0_chk22 v679 v739), ∀ a x, ((![v679, v739] : Fin 2 → IVec S16 32) a x).toNat < S16x6272.size a := fun v679 v739 k0_hw22 => k0_hw22
def k0_off36 (v129 : BitVec 32) (k0_t21 : Fin (k0_t21_loop v129).trips) : Fin 1 → Nat :=
  let c0_i32_138 : BitVec 32 := 0#32
  let c1_i32_141 : BitVec 32 := 1#32
  let arg10 : BitVec 32 := Scf.iv c0_i32_138 c1_i32_141 k0_t21
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk23 (v679 : IVec S16 32) (v759 : IVec S16 32) : Prop :=
  (∀ a x, ((![v679, v759] : Fin 2 → IVec S16 32) a x).toNat < S16x6272.size a)
theorem k0_idx20_inb : ∀ (v679 : IVec S16 32) (v759 : IVec S16 32) (k0_hw23 : k0_chk23 v679 v759), ∀ a x, ((![v679, v759] : Fin 2 → IVec S16 32) a x).toNat < S16x6272.size a := fun v679 v759 k0_hw23 => k0_hw23
@[reducible] def k0_t22_loop (v129 : BitVec 32) : Scf.Loop 32 :=
  let c0_i32_138 : BitVec 32 := 0#32
  let c63_i32_130 : BitVec 32 := 63#32
  let v138 : BitVec 32 := Scalar.addi v129 c63_i32_130
  let c0_i32_132 : BitVec 32 := 0#32
  let v140 : BitVec 1 := Scalar.cmpi .sgt v138 c0_i32_132
  let v141 : BitVec 32 := Scalar.extui v140
  let c0_i32_133 : BitVec 32 := 0#32
  let v142 : BitVec 1 := Scalar.cmpi .slt v138 c0_i32_133
  let v143 : BitVec 32 := Scalar.extui v142
  let v144 : BitVec 32 := Scalar.subi v141 v143
  let c64_i32_131 : BitVec 32 := 64#32
  let c0_i32_134 : BitVec 32 := 0#32
  let v145 : BitVec 1 := Scalar.cmpi .sgt c64_i32_131 c0_i32_134
  let v146 : BitVec 32 := Scalar.extui v145
  let c0_i32_135 : BitVec 32 := 0#32
  let v147 : BitVec 1 := Scalar.cmpi .slt c64_i32_131 c0_i32_135
  let v148 : BitVec 32 := Scalar.extui v147
  let v149 : BitVec 32 := Scalar.subi v146 v148
  let v150 : BitVec 1 := Scalar.cmpi .ne v144 v149
  let v151 : BitVec 32 := Scalar.remsi v138 c64_i32_131
  let c0_i32_136 : BitVec 32 := 0#32
  let v152 : BitVec 1 := Scalar.cmpi .ne v151 c0_i32_136
  let v153 : BitVec 1 := Scalar.andi v150 v152
  let v139 : BitVec 32 := Scalar.divsi v138 c64_i32_131
  let c1_i32_137 : BitVec 32 := 1#32
  let v154 : BitVec 32 := Scalar.subi v139 c1_i32_137
  let v155 : BitVec 32 := Scalar.select v153 v154 v139
  let v156 : BitVec 32 := Scalar.subi v155 c0_i32_138
  let c1_i32_140 : BitVec 32 := 1#32
  let v158 : BitVec 32 := Scalar.divsi v156 c1_i32_140
  let v159 : BitVec 32 := Scalar.muli v158 c1_i32_140
  let v160 : BitVec 32 := Scalar.addi c0_i32_138 v159
  let v157 : BitVec 32 := Scalar.addi c0_i32_138 v156
  let c1_i32_142 : BitVec 32 := 1#32
  ⟨v160, v157, c1_i32_142⟩
def k0_off37 (v129 : BitVec 32) (k0_t22 : Fin (k0_t22_loop v129).trips) : Fin 1 → Nat :=
  let c0_i32_138 : BitVec 32 := 0#32
  let c63_i32_130 : BitVec 32 := 63#32
  let v138 : BitVec 32 := Scalar.addi v129 c63_i32_130
  let c0_i32_132 : BitVec 32 := 0#32
  let v140 : BitVec 1 := Scalar.cmpi .sgt v138 c0_i32_132
  let v141 : BitVec 32 := Scalar.extui v140
  let c0_i32_133 : BitVec 32 := 0#32
  let v142 : BitVec 1 := Scalar.cmpi .slt v138 c0_i32_133
  let v143 : BitVec 32 := Scalar.extui v142
  let v144 : BitVec 32 := Scalar.subi v141 v143
  let c64_i32_131 : BitVec 32 := 64#32
  let c0_i32_134 : BitVec 32 := 0#32
  let v145 : BitVec 1 := Scalar.cmpi .sgt c64_i32_131 c0_i32_134
  let v146 : BitVec 32 := Scalar.extui v145
  let c0_i32_135 : BitVec 32 := 0#32
  let v147 : BitVec 1 := Scalar.cmpi .slt c64_i32_131 c0_i32_135
  let v148 : BitVec 32 := Scalar.extui v147
  let v149 : BitVec 32 := Scalar.subi v146 v148
  let v150 : BitVec 1 := Scalar.cmpi .ne v144 v149
  let v151 : BitVec 32 := Scalar.remsi v138 c64_i32_131
  let c0_i32_136 : BitVec 32 := 0#32
  let v152 : BitVec 1 := Scalar.cmpi .ne v151 c0_i32_136
  let v153 : BitVec 1 := Scalar.andi v150 v152
  let v139 : BitVec 32 := Scalar.divsi v138 c64_i32_131
  let c1_i32_137 : BitVec 32 := 1#32
  let v154 : BitVec 32 := Scalar.subi v139 c1_i32_137
  let v155 : BitVec 32 := Scalar.select v153 v154 v139
  let v156 : BitVec 32 := Scalar.subi v155 c0_i32_138
  let c1_i32_140 : BitVec 32 := 1#32
  let v158 : BitVec 32 := Scalar.divsi v156 c1_i32_140
  let v159 : BitVec 32 := Scalar.muli v158 c1_i32_140
  let v160 : BitVec 32 := Scalar.addi c0_i32_138 v159
  let c1_i32_142 : BitVec 32 := 1#32
  let arg10 : BitVec 32 := Scf.iv v160 c1_i32_142 k0_t22
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk24 (v679 : IVec S16 32) (v699 : IVec S16 32) : Prop :=
  (∀ a x, ((![v679, v699] : Fin 2 → IVec S16 32) a x).toNat < S16x6272.size a)
theorem k0_idx21_inb : ∀ (v679 : IVec S16 32) (v699 : IVec S16 32) (k0_hw24 : k0_chk24 v679 v699), ∀ a x, ((![v679, v699] : Fin 2 → IVec S16 32) a x).toNat < S16x6272.size a := fun v679 v699 k0_hw24 => k0_hw24
def k0_off38 (v129 : BitVec 32) (k0_t22 : Fin (k0_t22_loop v129).trips) : Fin 1 → Nat :=
  let c0_i32_138 : BitVec 32 := 0#32
  let c63_i32_130 : BitVec 32 := 63#32
  let v138 : BitVec 32 := Scalar.addi v129 c63_i32_130
  let c0_i32_132 : BitVec 32 := 0#32
  let v140 : BitVec 1 := Scalar.cmpi .sgt v138 c0_i32_132
  let v141 : BitVec 32 := Scalar.extui v140
  let c0_i32_133 : BitVec 32 := 0#32
  let v142 : BitVec 1 := Scalar.cmpi .slt v138 c0_i32_133
  let v143 : BitVec 32 := Scalar.extui v142
  let v144 : BitVec 32 := Scalar.subi v141 v143
  let c64_i32_131 : BitVec 32 := 64#32
  let c0_i32_134 : BitVec 32 := 0#32
  let v145 : BitVec 1 := Scalar.cmpi .sgt c64_i32_131 c0_i32_134
  let v146 : BitVec 32 := Scalar.extui v145
  let c0_i32_135 : BitVec 32 := 0#32
  let v147 : BitVec 1 := Scalar.cmpi .slt c64_i32_131 c0_i32_135
  let v148 : BitVec 32 := Scalar.extui v147
  let v149 : BitVec 32 := Scalar.subi v146 v148
  let v150 : BitVec 1 := Scalar.cmpi .ne v144 v149
  let v151 : BitVec 32 := Scalar.remsi v138 c64_i32_131
  let c0_i32_136 : BitVec 32 := 0#32
  let v152 : BitVec 1 := Scalar.cmpi .ne v151 c0_i32_136
  let v153 : BitVec 1 := Scalar.andi v150 v152
  let v139 : BitVec 32 := Scalar.divsi v138 c64_i32_131
  let c1_i32_137 : BitVec 32 := 1#32
  let v154 : BitVec 32 := Scalar.subi v139 c1_i32_137
  let v155 : BitVec 32 := Scalar.select v153 v154 v139
  let v156 : BitVec 32 := Scalar.subi v155 c0_i32_138
  let c1_i32_140 : BitVec 32 := 1#32
  let v158 : BitVec 32 := Scalar.divsi v156 c1_i32_140
  let v159 : BitVec 32 := Scalar.muli v158 c1_i32_140
  let v160 : BitVec 32 := Scalar.addi c0_i32_138 v159
  let c1_i32_142 : BitVec 32 := 1#32
  let arg10 : BitVec 32 := Scf.iv v160 c1_i32_142 k0_t22
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk25 (v679 : IVec S16 32) (v719 : IVec S16 32) : Prop :=
  (∀ a x, ((![v679, v719] : Fin 2 → IVec S16 32) a x).toNat < S16x6272.size a)
theorem k0_idx22_inb : ∀ (v679 : IVec S16 32) (v719 : IVec S16 32) (k0_hw25 : k0_chk25 v679 v719), ∀ a x, ((![v679, v719] : Fin 2 → IVec S16 32) a x).toNat < S16x6272.size a := fun v679 v719 k0_hw25 => k0_hw25
def k0_off39 (v129 : BitVec 32) (k0_t22 : Fin (k0_t22_loop v129).trips) : Fin 1 → Nat :=
  let c0_i32_138 : BitVec 32 := 0#32
  let c63_i32_130 : BitVec 32 := 63#32
  let v138 : BitVec 32 := Scalar.addi v129 c63_i32_130
  let c0_i32_132 : BitVec 32 := 0#32
  let v140 : BitVec 1 := Scalar.cmpi .sgt v138 c0_i32_132
  let v141 : BitVec 32 := Scalar.extui v140
  let c0_i32_133 : BitVec 32 := 0#32
  let v142 : BitVec 1 := Scalar.cmpi .slt v138 c0_i32_133
  let v143 : BitVec 32 := Scalar.extui v142
  let v144 : BitVec 32 := Scalar.subi v141 v143
  let c64_i32_131 : BitVec 32 := 64#32
  let c0_i32_134 : BitVec 32 := 0#32
  let v145 : BitVec 1 := Scalar.cmpi .sgt c64_i32_131 c0_i32_134
  let v146 : BitVec 32 := Scalar.extui v145
  let c0_i32_135 : BitVec 32 := 0#32
  let v147 : BitVec 1 := Scalar.cmpi .slt c64_i32_131 c0_i32_135
  let v148 : BitVec 32 := Scalar.extui v147
  let v149 : BitVec 32 := Scalar.subi v146 v148
  let v150 : BitVec 1 := Scalar.cmpi .ne v144 v149
  let v151 : BitVec 32 := Scalar.remsi v138 c64_i32_131
  let c0_i32_136 : BitVec 32 := 0#32
  let v152 : BitVec 1 := Scalar.cmpi .ne v151 c0_i32_136
  let v153 : BitVec 1 := Scalar.andi v150 v152
  let v139 : BitVec 32 := Scalar.divsi v138 c64_i32_131
  let c1_i32_137 : BitVec 32 := 1#32
  let v154 : BitVec 32 := Scalar.subi v139 c1_i32_137
  let v155 : BitVec 32 := Scalar.select v153 v154 v139
  let v156 : BitVec 32 := Scalar.subi v155 c0_i32_138
  let c1_i32_140 : BitVec 32 := 1#32
  let v158 : BitVec 32 := Scalar.divsi v156 c1_i32_140
  let v159 : BitVec 32 := Scalar.muli v158 c1_i32_140
  let v160 : BitVec 32 := Scalar.addi c0_i32_138 v159
  let c1_i32_142 : BitVec 32 := 1#32
  let arg10 : BitVec 32 := Scf.iv v160 c1_i32_142 k0_t22
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk26 (v679 : IVec S16 32) (v739 : IVec S16 32) : Prop :=
  (∀ a x, ((![v679, v739] : Fin 2 → IVec S16 32) a x).toNat < S16x6272.size a)
theorem k0_idx23_inb : ∀ (v679 : IVec S16 32) (v739 : IVec S16 32) (k0_hw26 : k0_chk26 v679 v739), ∀ a x, ((![v679, v739] : Fin 2 → IVec S16 32) a x).toNat < S16x6272.size a := fun v679 v739 k0_hw26 => k0_hw26
def k0_off40 (v129 : BitVec 32) (k0_t22 : Fin (k0_t22_loop v129).trips) : Fin 1 → Nat :=
  let c0_i32_138 : BitVec 32 := 0#32
  let c63_i32_130 : BitVec 32 := 63#32
  let v138 : BitVec 32 := Scalar.addi v129 c63_i32_130
  let c0_i32_132 : BitVec 32 := 0#32
  let v140 : BitVec 1 := Scalar.cmpi .sgt v138 c0_i32_132
  let v141 : BitVec 32 := Scalar.extui v140
  let c0_i32_133 : BitVec 32 := 0#32
  let v142 : BitVec 1 := Scalar.cmpi .slt v138 c0_i32_133
  let v143 : BitVec 32 := Scalar.extui v142
  let v144 : BitVec 32 := Scalar.subi v141 v143
  let c64_i32_131 : BitVec 32 := 64#32
  let c0_i32_134 : BitVec 32 := 0#32
  let v145 : BitVec 1 := Scalar.cmpi .sgt c64_i32_131 c0_i32_134
  let v146 : BitVec 32 := Scalar.extui v145
  let c0_i32_135 : BitVec 32 := 0#32
  let v147 : BitVec 1 := Scalar.cmpi .slt c64_i32_131 c0_i32_135
  let v148 : BitVec 32 := Scalar.extui v147
  let v149 : BitVec 32 := Scalar.subi v146 v148
  let v150 : BitVec 1 := Scalar.cmpi .ne v144 v149
  let v151 : BitVec 32 := Scalar.remsi v138 c64_i32_131
  let c0_i32_136 : BitVec 32 := 0#32
  let v152 : BitVec 1 := Scalar.cmpi .ne v151 c0_i32_136
  let v153 : BitVec 1 := Scalar.andi v150 v152
  let v139 : BitVec 32 := Scalar.divsi v138 c64_i32_131
  let c1_i32_137 : BitVec 32 := 1#32
  let v154 : BitVec 32 := Scalar.subi v139 c1_i32_137
  let v155 : BitVec 32 := Scalar.select v153 v154 v139
  let v156 : BitVec 32 := Scalar.subi v155 c0_i32_138
  let c1_i32_140 : BitVec 32 := 1#32
  let v158 : BitVec 32 := Scalar.divsi v156 c1_i32_140
  let v159 : BitVec 32 := Scalar.muli v158 c1_i32_140
  let v160 : BitVec 32 := Scalar.addi c0_i32_138 v159
  let c1_i32_142 : BitVec 32 := 1#32
  let arg10 : BitVec 32 := Scf.iv v160 c1_i32_142 k0_t22
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk19 (v129 : BitVec 32) : Prop :=
  ((k0_t21_loop v129).OK) ∧
  (∀ k0_t21 : Fin (k0_t21_loop v129).trips, ∀ a, (k0_off33 v129 k0_t21) a + S16.size a ≤ S4096.size a) ∧
  (∀ k0_t21 : Fin (k0_t21_loop v129).trips, ∀ a, (k0_off34 v129 k0_t21) a + S16.size a ≤ S4096.size a) ∧
  (∀ k0_t21 : Fin (k0_t21_loop v129).trips, ∀ a, (k0_off35 v129 k0_t21) a + S16.size a ≤ S4096.size a) ∧
  (∀ k0_t21 : Fin (k0_t21_loop v129).trips, ∀ a, (k0_off36 v129 k0_t21) a + S16.size a ≤ S4096.size a) ∧
  ((k0_t22_loop v129).OK) ∧
  (∀ k0_t22 : Fin (k0_t22_loop v129).trips, ∀ a, (k0_off37 v129 k0_t22) a + S16.size a ≤ S4096.size a) ∧
  (∀ k0_t22 : Fin (k0_t22_loop v129).trips, ∀ a, (k0_off38 v129 k0_t22) a + S16.size a ≤ S4096.size a) ∧
  (∀ k0_t22 : Fin (k0_t22_loop v129).trips, ∀ a, (k0_off39 v129 k0_t22) a + S16.size a ≤ S4096.size a) ∧
  (∀ k0_t22 : Fin (k0_t22_loop v129).trips, ∀ a, (k0_off40 v129 k0_t22) a + S16.size a ≤ S4096.size a)
theorem k0_t21_ok : ∀ (v129 : BitVec 32) (k0_hw19 : k0_chk19 v129), (k0_t21_loop v129).OK := fun v129 k0_hw19 => k0_hw19.1
theorem k0_off33_inb : ∀ (v129 : BitVec 32) (k0_hw19 : k0_chk19 v129) (k0_t21 : Fin (k0_t21_loop v129).trips), ∀ a, (k0_off33 v129 k0_t21) a + S16.size a ≤ S4096.size a := fun v129 k0_hw19 k0_t21 => k0_hw19.2.1 k0_t21
theorem k0_off34_inb : ∀ (v129 : BitVec 32) (k0_hw19 : k0_chk19 v129) (k0_t21 : Fin (k0_t21_loop v129).trips), ∀ a, (k0_off34 v129 k0_t21) a + S16.size a ≤ S4096.size a := fun v129 k0_hw19 k0_t21 => k0_hw19.2.2.1 k0_t21
theorem k0_off35_inb : ∀ (v129 : BitVec 32) (k0_hw19 : k0_chk19 v129) (k0_t21 : Fin (k0_t21_loop v129).trips), ∀ a, (k0_off35 v129 k0_t21) a + S16.size a ≤ S4096.size a := fun v129 k0_hw19 k0_t21 => k0_hw19.2.2.2.1 k0_t21
theorem k0_off36_inb : ∀ (v129 : BitVec 32) (k0_hw19 : k0_chk19 v129) (k0_t21 : Fin (k0_t21_loop v129).trips), ∀ a, (k0_off36 v129 k0_t21) a + S16.size a ≤ S4096.size a := fun v129 k0_hw19 k0_t21 => k0_hw19.2.2.2.2.1 k0_t21
theorem k0_t22_ok : ∀ (v129 : BitVec 32) (k0_hw19 : k0_chk19 v129), (k0_t22_loop v129).OK := fun v129 k0_hw19 => k0_hw19.2.2.2.2.2.1
theorem k0_off37_inb : ∀ (v129 : BitVec 32) (k0_hw19 : k0_chk19 v129) (k0_t22 : Fin (k0_t22_loop v129).trips), ∀ a, (k0_off37 v129 k0_t22) a + S16.size a ≤ S4096.size a := fun v129 k0_hw19 k0_t22 => k0_hw19.2.2.2.2.2.2.1 k0_t22
theorem k0_off38_inb : ∀ (v129 : BitVec 32) (k0_hw19 : k0_chk19 v129) (k0_t22 : Fin (k0_t22_loop v129).trips), ∀ a, (k0_off38 v129 k0_t22) a + S16.size a ≤ S4096.size a := fun v129 k0_hw19 k0_t22 => k0_hw19.2.2.2.2.2.2.2.1 k0_t22
theorem k0_off39_inb : ∀ (v129 : BitVec 32) (k0_hw19 : k0_chk19 v129) (k0_t22 : Fin (k0_t22_loop v129).trips), ∀ a, (k0_off39 v129 k0_t22) a + S16.size a ≤ S4096.size a := fun v129 k0_hw19 k0_t22 => k0_hw19.2.2.2.2.2.2.2.2.1 k0_t22
theorem k0_off40_inb : ∀ (v129 : BitVec 32) (k0_hw19 : k0_chk19 v129) (k0_t22 : Fin (k0_t22_loop v129).trips), ∀ a, (k0_off40 v129 k0_t22) a + S16.size a ≤ S4096.size a := fun v129 k0_hw19 k0_t22 => k0_hw19.2.2.2.2.2.2.2.2.2 k0_t22

def k0_chk27 (v679 : IVec S16 32) (v759 : IVec S16 32) : Prop :=
  (∀ a x, ((![v679, v759] : Fin 2 → IVec S16 32) a x).toNat < S16x6272.size a)
theorem k0_idx24_inb : ∀ (v679 : IVec S16 32) (v759 : IVec S16 32) (k0_hw27 : k0_chk27 v679 v759), ∀ a x, ((![v679, v759] : Fin 2 → IVec S16 32) a x).toNat < S16x6272.size a := fun v679 v759 k0_hw27 => k0_hw27
@[reducible] def k0_t23_loop (v169 : BitVec 32) : Scf.Loop 32 :=
  let c0_i32_159 : BitVec 32 := 0#32
  let c63_i32_151 : BitVec 32 := 63#32
  let v178 : BitVec 32 := Scalar.addi v169 c63_i32_151
  let c0_i32_153 : BitVec 32 := 0#32
  let v180 : BitVec 1 := Scalar.cmpi .sgt v178 c0_i32_153
  let v181 : BitVec 32 := Scalar.extui v180
  let c0_i32_154 : BitVec 32 := 0#32
  let v182 : BitVec 1 := Scalar.cmpi .slt v178 c0_i32_154
  let v183 : BitVec 32 := Scalar.extui v182
  let v184 : BitVec 32 := Scalar.subi v181 v183
  let c64_i32_152 : BitVec 32 := 64#32
  let c0_i32_155 : BitVec 32 := 0#32
  let v185 : BitVec 1 := Scalar.cmpi .sgt c64_i32_152 c0_i32_155
  let v186 : BitVec 32 := Scalar.extui v185
  let c0_i32_156 : BitVec 32 := 0#32
  let v187 : BitVec 1 := Scalar.cmpi .slt c64_i32_152 c0_i32_156
  let v188 : BitVec 32 := Scalar.extui v187
  let v189 : BitVec 32 := Scalar.subi v186 v188
  let v190 : BitVec 1 := Scalar.cmpi .ne v184 v189
  let v191 : BitVec 32 := Scalar.remsi v178 c64_i32_152
  let c0_i32_157 : BitVec 32 := 0#32
  let v192 : BitVec 1 := Scalar.cmpi .ne v191 c0_i32_157
  let v193 : BitVec 1 := Scalar.andi v190 v192
  let v179 : BitVec 32 := Scalar.divsi v178 c64_i32_152
  let c1_i32_158 : BitVec 32 := 1#32
  let v194 : BitVec 32 := Scalar.subi v179 c1_i32_158
  let v195 : BitVec 32 := Scalar.select v193 v194 v179
  let v196 : BitVec 32 := Scalar.subi v195 c0_i32_159
  let c1_i32_161 : BitVec 32 := 1#32
  let v198 : BitVec 32 := Scalar.divsi v196 c1_i32_161
  let v199 : BitVec 32 := Scalar.muli v198 c1_i32_161
  let v200 : BitVec 32 := Scalar.addi c0_i32_159 v199
  let c1_i32_162 : BitVec 32 := 1#32
  ⟨c0_i32_159, v200, c1_i32_162⟩

def k0_off41 (v169 : BitVec 32) (k0_t23 : Fin (k0_t23_loop v169).trips) : Fin 1 → Nat :=
  let c0_i32_159 : BitVec 32 := 0#32
  let c1_i32_162 : BitVec 32 := 1#32
  let arg10 : BitVec 32 := Scf.iv c0_i32_159 c1_i32_162 k0_t23
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk29 (v679 : IVec S16 32) (v699 : IVec S16 32) : Prop :=
  (∀ a x, ((![v679, v699] : Fin 2 → IVec S16 32) a x).toNat < S16x6272.size a)
theorem k0_idx25_inb : ∀ (v679 : IVec S16 32) (v699 : IVec S16 32) (k0_hw29 : k0_chk29 v679 v699), ∀ a x, ((![v679, v699] : Fin 2 → IVec S16 32) a x).toNat < S16x6272.size a := fun v679 v699 k0_hw29 => k0_hw29
def k0_off42 (v169 : BitVec 32) (k0_t23 : Fin (k0_t23_loop v169).trips) : Fin 1 → Nat :=
  let c0_i32_159 : BitVec 32 := 0#32
  let c1_i32_162 : BitVec 32 := 1#32
  let arg10 : BitVec 32 := Scf.iv c0_i32_159 c1_i32_162 k0_t23
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk30 (v679 : IVec S16 32) (v719 : IVec S16 32) : Prop :=
  (∀ a x, ((![v679, v719] : Fin 2 → IVec S16 32) a x).toNat < S16x6272.size a)
theorem k0_idx26_inb : ∀ (v679 : IVec S16 32) (v719 : IVec S16 32) (k0_hw30 : k0_chk30 v679 v719), ∀ a x, ((![v679, v719] : Fin 2 → IVec S16 32) a x).toNat < S16x6272.size a := fun v679 v719 k0_hw30 => k0_hw30
def k0_off43 (v169 : BitVec 32) (k0_t23 : Fin (k0_t23_loop v169).trips) : Fin 1 → Nat :=
  let c0_i32_159 : BitVec 32 := 0#32
  let c1_i32_162 : BitVec 32 := 1#32
  let arg10 : BitVec 32 := Scf.iv c0_i32_159 c1_i32_162 k0_t23
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk31 (v679 : IVec S16 32) (v739 : IVec S16 32) : Prop :=
  (∀ a x, ((![v679, v739] : Fin 2 → IVec S16 32) a x).toNat < S16x6272.size a)
theorem k0_idx27_inb : ∀ (v679 : IVec S16 32) (v739 : IVec S16 32) (k0_hw31 : k0_chk31 v679 v739), ∀ a x, ((![v679, v739] : Fin 2 → IVec S16 32) a x).toNat < S16x6272.size a := fun v679 v739 k0_hw31 => k0_hw31
def k0_off44 (v169 : BitVec 32) (k0_t23 : Fin (k0_t23_loop v169).trips) : Fin 1 → Nat :=
  let c0_i32_159 : BitVec 32 := 0#32
  let c1_i32_162 : BitVec 32 := 1#32
  let arg10 : BitVec 32 := Scf.iv c0_i32_159 c1_i32_162 k0_t23
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk32 (v679 : IVec S16 32) (v759 : IVec S16 32) : Prop :=
  (∀ a x, ((![v679, v759] : Fin 2 → IVec S16 32) a x).toNat < S16x6272.size a)
theorem k0_idx28_inb : ∀ (v679 : IVec S16 32) (v759 : IVec S16 32) (k0_hw32 : k0_chk32 v679 v759), ∀ a x, ((![v679, v759] : Fin 2 → IVec S16 32) a x).toNat < S16x6272.size a := fun v679 v759 k0_hw32 => k0_hw32
@[reducible] def k0_t24_loop (v169 : BitVec 32) : Scf.Loop 32 :=
  let c0_i32_159 : BitVec 32 := 0#32
  let c63_i32_151 : BitVec 32 := 63#32
  let v178 : BitVec 32 := Scalar.addi v169 c63_i32_151
  let c0_i32_153 : BitVec 32 := 0#32
  let v180 : BitVec 1 := Scalar.cmpi .sgt v178 c0_i32_153
  let v181 : BitVec 32 := Scalar.extui v180
  let c0_i32_154 : BitVec 32 := 0#32
  let v182 : BitVec 1 := Scalar.cmpi .slt v178 c0_i32_154
  let v183 : BitVec 32 := Scalar.extui v182
  let v184 : BitVec 32 := Scalar.subi v181 v183
  let c64_i32_152 : BitVec 32 := 64#32
  let c0_i32_155 : BitVec 32 := 0#32
  let v185 : BitVec 1 := Scalar.cmpi .sgt c64_i32_152 c0_i32_155
  let v186 : BitVec 32 := Scalar.extui v185
  let c0_i32_156 : BitVec 32 := 0#32
  let v187 : BitVec 1 := Scalar.cmpi .slt c64_i32_152 c0_i32_156
  let v188 : BitVec 32 := Scalar.extui v187
  let v189 : BitVec 32 := Scalar.subi v186 v188
  let v190 : BitVec 1 := Scalar.cmpi .ne v184 v189
  let v191 : BitVec 32 := Scalar.remsi v178 c64_i32_152
  let c0_i32_157 : BitVec 32 := 0#32
  let v192 : BitVec 1 := Scalar.cmpi .ne v191 c0_i32_157
  let v193 : BitVec 1 := Scalar.andi v190 v192
  let v179 : BitVec 32 := Scalar.divsi v178 c64_i32_152
  let c1_i32_158 : BitVec 32 := 1#32
  let v194 : BitVec 32 := Scalar.subi v179 c1_i32_158
  let v195 : BitVec 32 := Scalar.select v193 v194 v179
  let v196 : BitVec 32 := Scalar.subi v195 c0_i32_159
  let c1_i32_161 : BitVec 32 := 1#32
  let v198 : BitVec 32 := Scalar.divsi v196 c1_i32_161
  let v199 : BitVec 32 := Scalar.muli v198 c1_i32_161
  let v200 : BitVec 32 := Scalar.addi c0_i32_159 v199
  let v197 : BitVec 32 := Scalar.addi c0_i32_159 v196
  let c1_i32_163 : BitVec 32 := 1#32
  ⟨v200, v197, c1_i32_163⟩
def k0_off45 (v169 : BitVec 32) (k0_t24 : Fin (k0_t24_loop v169).trips) : Fin 1 → Nat :=
  let c0_i32_159 : BitVec 32 := 0#32
  let c63_i32_151 : BitVec 32 := 63#32
  let v178 : BitVec 32 := Scalar.addi v169 c63_i32_151
  let c0_i32_153 : BitVec 32 := 0#32
  let v180 : BitVec 1 := Scalar.cmpi .sgt v178 c0_i32_153
  let v181 : BitVec 32 := Scalar.extui v180
  let c0_i32_154 : BitVec 32 := 0#32
  let v182 : BitVec 1 := Scalar.cmpi .slt v178 c0_i32_154
  let v183 : BitVec 32 := Scalar.extui v182
  let v184 : BitVec 32 := Scalar.subi v181 v183
  let c64_i32_152 : BitVec 32 := 64#32
  let c0_i32_155 : BitVec 32 := 0#32
  let v185 : BitVec 1 := Scalar.cmpi .sgt c64_i32_152 c0_i32_155
  let v186 : BitVec 32 := Scalar.extui v185
  let c0_i32_156 : BitVec 32 := 0#32
  let v187 : BitVec 1 := Scalar.cmpi .slt c64_i32_152 c0_i32_156
  let v188 : BitVec 32 := Scalar.extui v187
  let v189 : BitVec 32 := Scalar.subi v186 v188
  let v190 : BitVec 1 := Scalar.cmpi .ne v184 v189
  let v191 : BitVec 32 := Scalar.remsi v178 c64_i32_152
  let c0_i32_157 : BitVec 32 := 0#32
  let v192 : BitVec 1 := Scalar.cmpi .ne v191 c0_i32_157
  let v193 : BitVec 1 := Scalar.andi v190 v192
  let v179 : BitVec 32 := Scalar.divsi v178 c64_i32_152
  let c1_i32_158 : BitVec 32 := 1#32
  let v194 : BitVec 32 := Scalar.subi v179 c1_i32_158
  let v195 : BitVec 32 := Scalar.select v193 v194 v179
  let v196 : BitVec 32 := Scalar.subi v195 c0_i32_159
  let c1_i32_161 : BitVec 32 := 1#32
  let v198 : BitVec 32 := Scalar.divsi v196 c1_i32_161
  let v199 : BitVec 32 := Scalar.muli v198 c1_i32_161
  let v200 : BitVec 32 := Scalar.addi c0_i32_159 v199
  let c1_i32_163 : BitVec 32 := 1#32
  let arg10 : BitVec 32 := Scf.iv v200 c1_i32_163 k0_t24
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk33 (v679 : IVec S16 32) (v699 : IVec S16 32) : Prop :=
  (∀ a x, ((![v679, v699] : Fin 2 → IVec S16 32) a x).toNat < S16x6272.size a)
theorem k0_idx29_inb : ∀ (v679 : IVec S16 32) (v699 : IVec S16 32) (k0_hw33 : k0_chk33 v679 v699), ∀ a x, ((![v679, v699] : Fin 2 → IVec S16 32) a x).toNat < S16x6272.size a := fun v679 v699 k0_hw33 => k0_hw33
def k0_off46 (v169 : BitVec 32) (k0_t24 : Fin (k0_t24_loop v169).trips) : Fin 1 → Nat :=
  let c0_i32_159 : BitVec 32 := 0#32
  let c63_i32_151 : BitVec 32 := 63#32
  let v178 : BitVec 32 := Scalar.addi v169 c63_i32_151
  let c0_i32_153 : BitVec 32 := 0#32
  let v180 : BitVec 1 := Scalar.cmpi .sgt v178 c0_i32_153
  let v181 : BitVec 32 := Scalar.extui v180
  let c0_i32_154 : BitVec 32 := 0#32
  let v182 : BitVec 1 := Scalar.cmpi .slt v178 c0_i32_154
  let v183 : BitVec 32 := Scalar.extui v182
  let v184 : BitVec 32 := Scalar.subi v181 v183
  let c64_i32_152 : BitVec 32 := 64#32
  let c0_i32_155 : BitVec 32 := 0#32
  let v185 : BitVec 1 := Scalar.cmpi .sgt c64_i32_152 c0_i32_155
  let v186 : BitVec 32 := Scalar.extui v185
  let c0_i32_156 : BitVec 32 := 0#32
  let v187 : BitVec 1 := Scalar.cmpi .slt c64_i32_152 c0_i32_156
  let v188 : BitVec 32 := Scalar.extui v187
  let v189 : BitVec 32 := Scalar.subi v186 v188
  let v190 : BitVec 1 := Scalar.cmpi .ne v184 v189
  let v191 : BitVec 32 := Scalar.remsi v178 c64_i32_152
  let c0_i32_157 : BitVec 32 := 0#32
  let v192 : BitVec 1 := Scalar.cmpi .ne v191 c0_i32_157
  let v193 : BitVec 1 := Scalar.andi v190 v192
  let v179 : BitVec 32 := Scalar.divsi v178 c64_i32_152
  let c1_i32_158 : BitVec 32 := 1#32
  let v194 : BitVec 32 := Scalar.subi v179 c1_i32_158
  let v195 : BitVec 32 := Scalar.select v193 v194 v179
  let v196 : BitVec 32 := Scalar.subi v195 c0_i32_159
  let c1_i32_161 : BitVec 32 := 1#32
  let v198 : BitVec 32 := Scalar.divsi v196 c1_i32_161
  let v199 : BitVec 32 := Scalar.muli v198 c1_i32_161
  let v200 : BitVec 32 := Scalar.addi c0_i32_159 v199
  let c1_i32_163 : BitVec 32 := 1#32
  let arg10 : BitVec 32 := Scf.iv v200 c1_i32_163 k0_t24
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk34 (v679 : IVec S16 32) (v719 : IVec S16 32) : Prop :=
  (∀ a x, ((![v679, v719] : Fin 2 → IVec S16 32) a x).toNat < S16x6272.size a)
theorem k0_idx30_inb : ∀ (v679 : IVec S16 32) (v719 : IVec S16 32) (k0_hw34 : k0_chk34 v679 v719), ∀ a x, ((![v679, v719] : Fin 2 → IVec S16 32) a x).toNat < S16x6272.size a := fun v679 v719 k0_hw34 => k0_hw34
def k0_off47 (v169 : BitVec 32) (k0_t24 : Fin (k0_t24_loop v169).trips) : Fin 1 → Nat :=
  let c0_i32_159 : BitVec 32 := 0#32
  let c63_i32_151 : BitVec 32 := 63#32
  let v178 : BitVec 32 := Scalar.addi v169 c63_i32_151
  let c0_i32_153 : BitVec 32 := 0#32
  let v180 : BitVec 1 := Scalar.cmpi .sgt v178 c0_i32_153
  let v181 : BitVec 32 := Scalar.extui v180
  let c0_i32_154 : BitVec 32 := 0#32
  let v182 : BitVec 1 := Scalar.cmpi .slt v178 c0_i32_154
  let v183 : BitVec 32 := Scalar.extui v182
  let v184 : BitVec 32 := Scalar.subi v181 v183
  let c64_i32_152 : BitVec 32 := 64#32
  let c0_i32_155 : BitVec 32 := 0#32
  let v185 : BitVec 1 := Scalar.cmpi .sgt c64_i32_152 c0_i32_155
  let v186 : BitVec 32 := Scalar.extui v185
  let c0_i32_156 : BitVec 32 := 0#32
  let v187 : BitVec 1 := Scalar.cmpi .slt c64_i32_152 c0_i32_156
  let v188 : BitVec 32 := Scalar.extui v187
  let v189 : BitVec 32 := Scalar.subi v186 v188
  let v190 : BitVec 1 := Scalar.cmpi .ne v184 v189
  let v191 : BitVec 32 := Scalar.remsi v178 c64_i32_152
  let c0_i32_157 : BitVec 32 := 0#32
  let v192 : BitVec 1 := Scalar.cmpi .ne v191 c0_i32_157
  let v193 : BitVec 1 := Scalar.andi v190 v192
  let v179 : BitVec 32 := Scalar.divsi v178 c64_i32_152
  let c1_i32_158 : BitVec 32 := 1#32
  let v194 : BitVec 32 := Scalar.subi v179 c1_i32_158
  let v195 : BitVec 32 := Scalar.select v193 v194 v179
  let v196 : BitVec 32 := Scalar.subi v195 c0_i32_159
  let c1_i32_161 : BitVec 32 := 1#32
  let v198 : BitVec 32 := Scalar.divsi v196 c1_i32_161
  let v199 : BitVec 32 := Scalar.muli v198 c1_i32_161
  let v200 : BitVec 32 := Scalar.addi c0_i32_159 v199
  let c1_i32_163 : BitVec 32 := 1#32
  let arg10 : BitVec 32 := Scf.iv v200 c1_i32_163 k0_t24
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk35 (v679 : IVec S16 32) (v739 : IVec S16 32) : Prop :=
  (∀ a x, ((![v679, v739] : Fin 2 → IVec S16 32) a x).toNat < S16x6272.size a)
theorem k0_idx31_inb : ∀ (v679 : IVec S16 32) (v739 : IVec S16 32) (k0_hw35 : k0_chk35 v679 v739), ∀ a x, ((![v679, v739] : Fin 2 → IVec S16 32) a x).toNat < S16x6272.size a := fun v679 v739 k0_hw35 => k0_hw35
def k0_off48 (v169 : BitVec 32) (k0_t24 : Fin (k0_t24_loop v169).trips) : Fin 1 → Nat :=
  let c0_i32_159 : BitVec 32 := 0#32
  let c63_i32_151 : BitVec 32 := 63#32
  let v178 : BitVec 32 := Scalar.addi v169 c63_i32_151
  let c0_i32_153 : BitVec 32 := 0#32
  let v180 : BitVec 1 := Scalar.cmpi .sgt v178 c0_i32_153
  let v181 : BitVec 32 := Scalar.extui v180
  let c0_i32_154 : BitVec 32 := 0#32
  let v182 : BitVec 1 := Scalar.cmpi .slt v178 c0_i32_154
  let v183 : BitVec 32 := Scalar.extui v182
  let v184 : BitVec 32 := Scalar.subi v181 v183
  let c64_i32_152 : BitVec 32 := 64#32
  let c0_i32_155 : BitVec 32 := 0#32
  let v185 : BitVec 1 := Scalar.cmpi .sgt c64_i32_152 c0_i32_155
  let v186 : BitVec 32 := Scalar.extui v185
  let c0_i32_156 : BitVec 32 := 0#32
  let v187 : BitVec 1 := Scalar.cmpi .slt c64_i32_152 c0_i32_156
  let v188 : BitVec 32 := Scalar.extui v187
  let v189 : BitVec 32 := Scalar.subi v186 v188
  let v190 : BitVec 1 := Scalar.cmpi .ne v184 v189
  let v191 : BitVec 32 := Scalar.remsi v178 c64_i32_152
  let c0_i32_157 : BitVec 32 := 0#32
  let v192 : BitVec 1 := Scalar.cmpi .ne v191 c0_i32_157
  let v193 : BitVec 1 := Scalar.andi v190 v192
  let v179 : BitVec 32 := Scalar.divsi v178 c64_i32_152
  let c1_i32_158 : BitVec 32 := 1#32
  let v194 : BitVec 32 := Scalar.subi v179 c1_i32_158
  let v195 : BitVec 32 := Scalar.select v193 v194 v179
  let v196 : BitVec 32 := Scalar.subi v195 c0_i32_159
  let c1_i32_161 : BitVec 32 := 1#32
  let v198 : BitVec 32 := Scalar.divsi v196 c1_i32_161
  let v199 : BitVec 32 := Scalar.muli v198 c1_i32_161
  let v200 : BitVec 32 := Scalar.addi c0_i32_159 v199
  let c1_i32_163 : BitVec 32 := 1#32
  let arg10 : BitVec 32 := Scf.iv v200 c1_i32_163 k0_t24
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk28 (v169 : BitVec 32) : Prop :=
  ((k0_t23_loop v169).OK) ∧
  (∀ k0_t23 : Fin (k0_t23_loop v169).trips, ∀ a, (k0_off41 v169 k0_t23) a + S16.size a ≤ S4096.size a) ∧
  (∀ k0_t23 : Fin (k0_t23_loop v169).trips, ∀ a, (k0_off42 v169 k0_t23) a + S16.size a ≤ S4096.size a) ∧
  (∀ k0_t23 : Fin (k0_t23_loop v169).trips, ∀ a, (k0_off43 v169 k0_t23) a + S16.size a ≤ S4096.size a) ∧
  (∀ k0_t23 : Fin (k0_t23_loop v169).trips, ∀ a, (k0_off44 v169 k0_t23) a + S16.size a ≤ S4096.size a) ∧
  ((k0_t24_loop v169).OK) ∧
  (∀ k0_t24 : Fin (k0_t24_loop v169).trips, ∀ a, (k0_off45 v169 k0_t24) a + S16.size a ≤ S4096.size a) ∧
  (∀ k0_t24 : Fin (k0_t24_loop v169).trips, ∀ a, (k0_off46 v169 k0_t24) a + S16.size a ≤ S4096.size a) ∧
  (∀ k0_t24 : Fin (k0_t24_loop v169).trips, ∀ a, (k0_off47 v169 k0_t24) a + S16.size a ≤ S4096.size a) ∧
  (∀ k0_t24 : Fin (k0_t24_loop v169).trips, ∀ a, (k0_off48 v169 k0_t24) a + S16.size a ≤ S4096.size a)
theorem k0_t23_ok : ∀ (v169 : BitVec 32) (k0_hw28 : k0_chk28 v169), (k0_t23_loop v169).OK := fun v169 k0_hw28 => k0_hw28.1
theorem k0_off41_inb : ∀ (v169 : BitVec 32) (k0_hw28 : k0_chk28 v169) (k0_t23 : Fin (k0_t23_loop v169).trips), ∀ a, (k0_off41 v169 k0_t23) a + S16.size a ≤ S4096.size a := fun v169 k0_hw28 k0_t23 => k0_hw28.2.1 k0_t23
theorem k0_off42_inb : ∀ (v169 : BitVec 32) (k0_hw28 : k0_chk28 v169) (k0_t23 : Fin (k0_t23_loop v169).trips), ∀ a, (k0_off42 v169 k0_t23) a + S16.size a ≤ S4096.size a := fun v169 k0_hw28 k0_t23 => k0_hw28.2.2.1 k0_t23
theorem k0_off43_inb : ∀ (v169 : BitVec 32) (k0_hw28 : k0_chk28 v169) (k0_t23 : Fin (k0_t23_loop v169).trips), ∀ a, (k0_off43 v169 k0_t23) a + S16.size a ≤ S4096.size a := fun v169 k0_hw28 k0_t23 => k0_hw28.2.2.2.1 k0_t23
theorem k0_off44_inb : ∀ (v169 : BitVec 32) (k0_hw28 : k0_chk28 v169) (k0_t23 : Fin (k0_t23_loop v169).trips), ∀ a, (k0_off44 v169 k0_t23) a + S16.size a ≤ S4096.size a := fun v169 k0_hw28 k0_t23 => k0_hw28.2.2.2.2.1 k0_t23
theorem k0_t24_ok : ∀ (v169 : BitVec 32) (k0_hw28 : k0_chk28 v169), (k0_t24_loop v169).OK := fun v169 k0_hw28 => k0_hw28.2.2.2.2.2.1
theorem k0_off45_inb : ∀ (v169 : BitVec 32) (k0_hw28 : k0_chk28 v169) (k0_t24 : Fin (k0_t24_loop v169).trips), ∀ a, (k0_off45 v169 k0_t24) a + S16.size a ≤ S4096.size a := fun v169 k0_hw28 k0_t24 => k0_hw28.2.2.2.2.2.2.1 k0_t24
theorem k0_off46_inb : ∀ (v169 : BitVec 32) (k0_hw28 : k0_chk28 v169) (k0_t24 : Fin (k0_t24_loop v169).trips), ∀ a, (k0_off46 v169 k0_t24) a + S16.size a ≤ S4096.size a := fun v169 k0_hw28 k0_t24 => k0_hw28.2.2.2.2.2.2.2.1 k0_t24
theorem k0_off47_inb : ∀ (v169 : BitVec 32) (k0_hw28 : k0_chk28 v169) (k0_t24 : Fin (k0_t24_loop v169).trips), ∀ a, (k0_off47 v169 k0_t24) a + S16.size a ≤ S4096.size a := fun v169 k0_hw28 k0_t24 => k0_hw28.2.2.2.2.2.2.2.2.1 k0_t24
theorem k0_off48_inb : ∀ (v169 : BitVec 32) (k0_hw28 : k0_chk28 v169) (k0_t24 : Fin (k0_t24_loop v169).trips), ∀ a, (k0_off48 v169 k0_t24) a + S16.size a ≤ S4096.size a := fun v169 k0_hw28 k0_t24 => k0_hw28.2.2.2.2.2.2.2.2.2 k0_t24

def k0_chk36 (v679 : IVec S16 32) (v759 : IVec S16 32) : Prop :=
  (∀ a x, ((![v679, v759] : Fin 2 → IVec S16 32) a x).toNat < S16x6272.size a)
theorem k0_idx32_inb : ∀ (v679 : IVec S16 32) (v759 : IVec S16 32) (k0_hw36 : k0_chk36 v679 v759), ∀ a x, ((![v679, v759] : Fin 2 → IVec S16 32) a x).toNat < S16x6272.size a := fun v679 v759 k0_hw36 => k0_hw36
@[reducible] def k0_t25_loop (v209 : BitVec 32) : Scf.Loop 32 :=
  let c0_i32_180 : BitVec 32 := 0#32
  let c63_i32_172 : BitVec 32 := 63#32
  let v218 : BitVec 32 := Scalar.addi v209 c63_i32_172
  let c0_i32_174 : BitVec 32 := 0#32
  let v220 : BitVec 1 := Scalar.cmpi .sgt v218 c0_i32_174
  let v221 : BitVec 32 := Scalar.extui v220
  let c0_i32_175 : BitVec 32 := 0#32
  let v222 : BitVec 1 := Scalar.cmpi .slt v218 c0_i32_175
  let v223 : BitVec 32 := Scalar.extui v222
  let v224 : BitVec 32 := Scalar.subi v221 v223
  let c64_i32_173 : BitVec 32 := 64#32
  let c0_i32_176 : BitVec 32 := 0#32
  let v225 : BitVec 1 := Scalar.cmpi .sgt c64_i32_173 c0_i32_176
  let v226 : BitVec 32 := Scalar.extui v225
  let c0_i32_177 : BitVec 32 := 0#32
  let v227 : BitVec 1 := Scalar.cmpi .slt c64_i32_173 c0_i32_177
  let v228 : BitVec 32 := Scalar.extui v227
  let v229 : BitVec 32 := Scalar.subi v226 v228
  let v230 : BitVec 1 := Scalar.cmpi .ne v224 v229
  let v231 : BitVec 32 := Scalar.remsi v218 c64_i32_173
  let c0_i32_178 : BitVec 32 := 0#32
  let v232 : BitVec 1 := Scalar.cmpi .ne v231 c0_i32_178
  let v233 : BitVec 1 := Scalar.andi v230 v232
  let v219 : BitVec 32 := Scalar.divsi v218 c64_i32_173
  let c1_i32_179 : BitVec 32 := 1#32
  let v234 : BitVec 32 := Scalar.subi v219 c1_i32_179
  let v235 : BitVec 32 := Scalar.select v233 v234 v219
  let v236 : BitVec 32 := Scalar.subi v235 c0_i32_180
  let c1_i32_182 : BitVec 32 := 1#32
  let v238 : BitVec 32 := Scalar.divsi v236 c1_i32_182
  let v239 : BitVec 32 := Scalar.muli v238 c1_i32_182
  let v240 : BitVec 32 := Scalar.addi c0_i32_180 v239
  let c1_i32_183 : BitVec 32 := 1#32
  ⟨c0_i32_180, v240, c1_i32_183⟩

def k0_off49 (v209 : BitVec 32) (k0_t25 : Fin (k0_t25_loop v209).trips) : Fin 1 → Nat :=
  let c0_i32_180 : BitVec 32 := 0#32
  let c1_i32_183 : BitVec 32 := 1#32
  let arg10 : BitVec 32 := Scf.iv c0_i32_180 c1_i32_183 k0_t25
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk38 (v679 : IVec S16 32) (v699 : IVec S16 32) : Prop :=
  (∀ a x, ((![v679, v699] : Fin 2 → IVec S16 32) a x).toNat < S16x6272.size a)
theorem k0_idx33_inb : ∀ (v679 : IVec S16 32) (v699 : IVec S16 32) (k0_hw38 : k0_chk38 v679 v699), ∀ a x, ((![v679, v699] : Fin 2 → IVec S16 32) a x).toNat < S16x6272.size a := fun v679 v699 k0_hw38 => k0_hw38
def k0_off50 (v209 : BitVec 32) (k0_t25 : Fin (k0_t25_loop v209).trips) : Fin 1 → Nat :=
  let c0_i32_180 : BitVec 32 := 0#32
  let c1_i32_183 : BitVec 32 := 1#32
  let arg10 : BitVec 32 := Scf.iv c0_i32_180 c1_i32_183 k0_t25
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk39 (v679 : IVec S16 32) (v719 : IVec S16 32) : Prop :=
  (∀ a x, ((![v679, v719] : Fin 2 → IVec S16 32) a x).toNat < S16x6272.size a)
theorem k0_idx34_inb : ∀ (v679 : IVec S16 32) (v719 : IVec S16 32) (k0_hw39 : k0_chk39 v679 v719), ∀ a x, ((![v679, v719] : Fin 2 → IVec S16 32) a x).toNat < S16x6272.size a := fun v679 v719 k0_hw39 => k0_hw39
def k0_off51 (v209 : BitVec 32) (k0_t25 : Fin (k0_t25_loop v209).trips) : Fin 1 → Nat :=
  let c0_i32_180 : BitVec 32 := 0#32
  let c1_i32_183 : BitVec 32 := 1#32
  let arg10 : BitVec 32 := Scf.iv c0_i32_180 c1_i32_183 k0_t25
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk40 (v679 : IVec S16 32) (v739 : IVec S16 32) : Prop :=
  (∀ a x, ((![v679, v739] : Fin 2 → IVec S16 32) a x).toNat < S16x6272.size a)
theorem k0_idx35_inb : ∀ (v679 : IVec S16 32) (v739 : IVec S16 32) (k0_hw40 : k0_chk40 v679 v739), ∀ a x, ((![v679, v739] : Fin 2 → IVec S16 32) a x).toNat < S16x6272.size a := fun v679 v739 k0_hw40 => k0_hw40
def k0_off52 (v209 : BitVec 32) (k0_t25 : Fin (k0_t25_loop v209).trips) : Fin 1 → Nat :=
  let c0_i32_180 : BitVec 32 := 0#32
  let c1_i32_183 : BitVec 32 := 1#32
  let arg10 : BitVec 32 := Scf.iv c0_i32_180 c1_i32_183 k0_t25
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk41 (v679 : IVec S16 32) (v759 : IVec S16 32) : Prop :=
  (∀ a x, ((![v679, v759] : Fin 2 → IVec S16 32) a x).toNat < S16x6272.size a)
theorem k0_idx36_inb : ∀ (v679 : IVec S16 32) (v759 : IVec S16 32) (k0_hw41 : k0_chk41 v679 v759), ∀ a x, ((![v679, v759] : Fin 2 → IVec S16 32) a x).toNat < S16x6272.size a := fun v679 v759 k0_hw41 => k0_hw41
@[reducible] def k0_t26_loop (v209 : BitVec 32) : Scf.Loop 32 :=
  let c0_i32_180 : BitVec 32 := 0#32
  let c63_i32_172 : BitVec 32 := 63#32
  let v218 : BitVec 32 := Scalar.addi v209 c63_i32_172
  let c0_i32_174 : BitVec 32 := 0#32
  let v220 : BitVec 1 := Scalar.cmpi .sgt v218 c0_i32_174
  let v221 : BitVec 32 := Scalar.extui v220
  let c0_i32_175 : BitVec 32 := 0#32
  let v222 : BitVec 1 := Scalar.cmpi .slt v218 c0_i32_175
  let v223 : BitVec 32 := Scalar.extui v222
  let v224 : BitVec 32 := Scalar.subi v221 v223
  let c64_i32_173 : BitVec 32 := 64#32
  let c0_i32_176 : BitVec 32 := 0#32
  let v225 : BitVec 1 := Scalar.cmpi .sgt c64_i32_173 c0_i32_176
  let v226 : BitVec 32 := Scalar.extui v225
  let c0_i32_177 : BitVec 32 := 0#32
  let v227 : BitVec 1 := Scalar.cmpi .slt c64_i32_173 c0_i32_177
  let v228 : BitVec 32 := Scalar.extui v227
  let v229 : BitVec 32 := Scalar.subi v226 v228
  let v230 : BitVec 1 := Scalar.cmpi .ne v224 v229
  let v231 : BitVec 32 := Scalar.remsi v218 c64_i32_173
  let c0_i32_178 : BitVec 32 := 0#32
  let v232 : BitVec 1 := Scalar.cmpi .ne v231 c0_i32_178
  let v233 : BitVec 1 := Scalar.andi v230 v232
  let v219 : BitVec 32 := Scalar.divsi v218 c64_i32_173
  let c1_i32_179 : BitVec 32 := 1#32
  let v234 : BitVec 32 := Scalar.subi v219 c1_i32_179
  let v235 : BitVec 32 := Scalar.select v233 v234 v219
  let v236 : BitVec 32 := Scalar.subi v235 c0_i32_180
  let c1_i32_182 : BitVec 32 := 1#32
  let v238 : BitVec 32 := Scalar.divsi v236 c1_i32_182
  let v239 : BitVec 32 := Scalar.muli v238 c1_i32_182
  let v240 : BitVec 32 := Scalar.addi c0_i32_180 v239
  let v237 : BitVec 32 := Scalar.addi c0_i32_180 v236
  let c1_i32_184 : BitVec 32 := 1#32
  ⟨v240, v237, c1_i32_184⟩
def k0_off53 (v209 : BitVec 32) (k0_t26 : Fin (k0_t26_loop v209).trips) : Fin 1 → Nat :=
  let c0_i32_180 : BitVec 32 := 0#32
  let c63_i32_172 : BitVec 32 := 63#32
  let v218 : BitVec 32 := Scalar.addi v209 c63_i32_172
  let c0_i32_174 : BitVec 32 := 0#32
  let v220 : BitVec 1 := Scalar.cmpi .sgt v218 c0_i32_174
  let v221 : BitVec 32 := Scalar.extui v220
  let c0_i32_175 : BitVec 32 := 0#32
  let v222 : BitVec 1 := Scalar.cmpi .slt v218 c0_i32_175
  let v223 : BitVec 32 := Scalar.extui v222
  let v224 : BitVec 32 := Scalar.subi v221 v223
  let c64_i32_173 : BitVec 32 := 64#32
  let c0_i32_176 : BitVec 32 := 0#32
  let v225 : BitVec 1 := Scalar.cmpi .sgt c64_i32_173 c0_i32_176
  let v226 : BitVec 32 := Scalar.extui v225
  let c0_i32_177 : BitVec 32 := 0#32
  let v227 : BitVec 1 := Scalar.cmpi .slt c64_i32_173 c0_i32_177
  let v228 : BitVec 32 := Scalar.extui v227
  let v229 : BitVec 32 := Scalar.subi v226 v228
  let v230 : BitVec 1 := Scalar.cmpi .ne v224 v229
  let v231 : BitVec 32 := Scalar.remsi v218 c64_i32_173
  let c0_i32_178 : BitVec 32 := 0#32
  let v232 : BitVec 1 := Scalar.cmpi .ne v231 c0_i32_178
  let v233 : BitVec 1 := Scalar.andi v230 v232
  let v219 : BitVec 32 := Scalar.divsi v218 c64_i32_173
  let c1_i32_179 : BitVec 32 := 1#32
  let v234 : BitVec 32 := Scalar.subi v219 c1_i32_179
  let v235 : BitVec 32 := Scalar.select v233 v234 v219
  let v236 : BitVec 32 := Scalar.subi v235 c0_i32_180
  let c1_i32_182 : BitVec 32 := 1#32
  let v238 : BitVec 32 := Scalar.divsi v236 c1_i32_182
  let v239 : BitVec 32 := Scalar.muli v238 c1_i32_182
  let v240 : BitVec 32 := Scalar.addi c0_i32_180 v239
  let c1_i32_184 : BitVec 32 := 1#32
  let arg10 : BitVec 32 := Scf.iv v240 c1_i32_184 k0_t26
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk42 (v679 : IVec S16 32) (v699 : IVec S16 32) : Prop :=
  (∀ a x, ((![v679, v699] : Fin 2 → IVec S16 32) a x).toNat < S16x6272.size a)
theorem k0_idx37_inb : ∀ (v679 : IVec S16 32) (v699 : IVec S16 32) (k0_hw42 : k0_chk42 v679 v699), ∀ a x, ((![v679, v699] : Fin 2 → IVec S16 32) a x).toNat < S16x6272.size a := fun v679 v699 k0_hw42 => k0_hw42
def k0_off54 (v209 : BitVec 32) (k0_t26 : Fin (k0_t26_loop v209).trips) : Fin 1 → Nat :=
  let c0_i32_180 : BitVec 32 := 0#32
  let c63_i32_172 : BitVec 32 := 63#32
  let v218 : BitVec 32 := Scalar.addi v209 c63_i32_172
  let c0_i32_174 : BitVec 32 := 0#32
  let v220 : BitVec 1 := Scalar.cmpi .sgt v218 c0_i32_174
  let v221 : BitVec 32 := Scalar.extui v220
  let c0_i32_175 : BitVec 32 := 0#32
  let v222 : BitVec 1 := Scalar.cmpi .slt v218 c0_i32_175
  let v223 : BitVec 32 := Scalar.extui v222
  let v224 : BitVec 32 := Scalar.subi v221 v223
  let c64_i32_173 : BitVec 32 := 64#32
  let c0_i32_176 : BitVec 32 := 0#32
  let v225 : BitVec 1 := Scalar.cmpi .sgt c64_i32_173 c0_i32_176
  let v226 : BitVec 32 := Scalar.extui v225
  let c0_i32_177 : BitVec 32 := 0#32
  let v227 : BitVec 1 := Scalar.cmpi .slt c64_i32_173 c0_i32_177
  let v228 : BitVec 32 := Scalar.extui v227
  let v229 : BitVec 32 := Scalar.subi v226 v228
  let v230 : BitVec 1 := Scalar.cmpi .ne v224 v229
  let v231 : BitVec 32 := Scalar.remsi v218 c64_i32_173
  let c0_i32_178 : BitVec 32 := 0#32
  let v232 : BitVec 1 := Scalar.cmpi .ne v231 c0_i32_178
  let v233 : BitVec 1 := Scalar.andi v230 v232
  let v219 : BitVec 32 := Scalar.divsi v218 c64_i32_173
  let c1_i32_179 : BitVec 32 := 1#32
  let v234 : BitVec 32 := Scalar.subi v219 c1_i32_179
  let v235 : BitVec 32 := Scalar.select v233 v234 v219
  let v236 : BitVec 32 := Scalar.subi v235 c0_i32_180
  let c1_i32_182 : BitVec 32 := 1#32
  let v238 : BitVec 32 := Scalar.divsi v236 c1_i32_182
  let v239 : BitVec 32 := Scalar.muli v238 c1_i32_182
  let v240 : BitVec 32 := Scalar.addi c0_i32_180 v239
  let c1_i32_184 : BitVec 32 := 1#32
  let arg10 : BitVec 32 := Scf.iv v240 c1_i32_184 k0_t26
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk43 (v679 : IVec S16 32) (v719 : IVec S16 32) : Prop :=
  (∀ a x, ((![v679, v719] : Fin 2 → IVec S16 32) a x).toNat < S16x6272.size a)
theorem k0_idx38_inb : ∀ (v679 : IVec S16 32) (v719 : IVec S16 32) (k0_hw43 : k0_chk43 v679 v719), ∀ a x, ((![v679, v719] : Fin 2 → IVec S16 32) a x).toNat < S16x6272.size a := fun v679 v719 k0_hw43 => k0_hw43
def k0_off55 (v209 : BitVec 32) (k0_t26 : Fin (k0_t26_loop v209).trips) : Fin 1 → Nat :=
  let c0_i32_180 : BitVec 32 := 0#32
  let c63_i32_172 : BitVec 32 := 63#32
  let v218 : BitVec 32 := Scalar.addi v209 c63_i32_172
  let c0_i32_174 : BitVec 32 := 0#32
  let v220 : BitVec 1 := Scalar.cmpi .sgt v218 c0_i32_174
  let v221 : BitVec 32 := Scalar.extui v220
  let c0_i32_175 : BitVec 32 := 0#32
  let v222 : BitVec 1 := Scalar.cmpi .slt v218 c0_i32_175
  let v223 : BitVec 32 := Scalar.extui v222
  let v224 : BitVec 32 := Scalar.subi v221 v223
  let c64_i32_173 : BitVec 32 := 64#32
  let c0_i32_176 : BitVec 32 := 0#32
  let v225 : BitVec 1 := Scalar.cmpi .sgt c64_i32_173 c0_i32_176
  let v226 : BitVec 32 := Scalar.extui v225
  let c0_i32_177 : BitVec 32 := 0#32
  let v227 : BitVec 1 := Scalar.cmpi .slt c64_i32_173 c0_i32_177
  let v228 : BitVec 32 := Scalar.extui v227
  let v229 : BitVec 32 := Scalar.subi v226 v228
  let v230 : BitVec 1 := Scalar.cmpi .ne v224 v229
  let v231 : BitVec 32 := Scalar.remsi v218 c64_i32_173
  let c0_i32_178 : BitVec 32 := 0#32
  let v232 : BitVec 1 := Scalar.cmpi .ne v231 c0_i32_178
  let v233 : BitVec 1 := Scalar.andi v230 v232
  let v219 : BitVec 32 := Scalar.divsi v218 c64_i32_173
  let c1_i32_179 : BitVec 32 := 1#32
  let v234 : BitVec 32 := Scalar.subi v219 c1_i32_179
  let v235 : BitVec 32 := Scalar.select v233 v234 v219
  let v236 : BitVec 32 := Scalar.subi v235 c0_i32_180
  let c1_i32_182 : BitVec 32 := 1#32
  let v238 : BitVec 32 := Scalar.divsi v236 c1_i32_182
  let v239 : BitVec 32 := Scalar.muli v238 c1_i32_182
  let v240 : BitVec 32 := Scalar.addi c0_i32_180 v239
  let c1_i32_184 : BitVec 32 := 1#32
  let arg10 : BitVec 32 := Scf.iv v240 c1_i32_184 k0_t26
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk44 (v679 : IVec S16 32) (v739 : IVec S16 32) : Prop :=
  (∀ a x, ((![v679, v739] : Fin 2 → IVec S16 32) a x).toNat < S16x6272.size a)
theorem k0_idx39_inb : ∀ (v679 : IVec S16 32) (v739 : IVec S16 32) (k0_hw44 : k0_chk44 v679 v739), ∀ a x, ((![v679, v739] : Fin 2 → IVec S16 32) a x).toNat < S16x6272.size a := fun v679 v739 k0_hw44 => k0_hw44
def k0_off56 (v209 : BitVec 32) (k0_t26 : Fin (k0_t26_loop v209).trips) : Fin 1 → Nat :=
  let c0_i32_180 : BitVec 32 := 0#32
  let c63_i32_172 : BitVec 32 := 63#32
  let v218 : BitVec 32 := Scalar.addi v209 c63_i32_172
  let c0_i32_174 : BitVec 32 := 0#32
  let v220 : BitVec 1 := Scalar.cmpi .sgt v218 c0_i32_174
  let v221 : BitVec 32 := Scalar.extui v220
  let c0_i32_175 : BitVec 32 := 0#32
  let v222 : BitVec 1 := Scalar.cmpi .slt v218 c0_i32_175
  let v223 : BitVec 32 := Scalar.extui v222
  let v224 : BitVec 32 := Scalar.subi v221 v223
  let c64_i32_173 : BitVec 32 := 64#32
  let c0_i32_176 : BitVec 32 := 0#32
  let v225 : BitVec 1 := Scalar.cmpi .sgt c64_i32_173 c0_i32_176
  let v226 : BitVec 32 := Scalar.extui v225
  let c0_i32_177 : BitVec 32 := 0#32
  let v227 : BitVec 1 := Scalar.cmpi .slt c64_i32_173 c0_i32_177
  let v228 : BitVec 32 := Scalar.extui v227
  let v229 : BitVec 32 := Scalar.subi v226 v228
  let v230 : BitVec 1 := Scalar.cmpi .ne v224 v229
  let v231 : BitVec 32 := Scalar.remsi v218 c64_i32_173
  let c0_i32_178 : BitVec 32 := 0#32
  let v232 : BitVec 1 := Scalar.cmpi .ne v231 c0_i32_178
  let v233 : BitVec 1 := Scalar.andi v230 v232
  let v219 : BitVec 32 := Scalar.divsi v218 c64_i32_173
  let c1_i32_179 : BitVec 32 := 1#32
  let v234 : BitVec 32 := Scalar.subi v219 c1_i32_179
  let v235 : BitVec 32 := Scalar.select v233 v234 v219
  let v236 : BitVec 32 := Scalar.subi v235 c0_i32_180
  let c1_i32_182 : BitVec 32 := 1#32
  let v238 : BitVec 32 := Scalar.divsi v236 c1_i32_182
  let v239 : BitVec 32 := Scalar.muli v238 c1_i32_182
  let v240 : BitVec 32 := Scalar.addi c0_i32_180 v239
  let c1_i32_184 : BitVec 32 := 1#32
  let arg10 : BitVec 32 := Scf.iv v240 c1_i32_184 k0_t26
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk37 (v209 : BitVec 32) : Prop :=
  ((k0_t25_loop v209).OK) ∧
  (∀ k0_t25 : Fin (k0_t25_loop v209).trips, ∀ a, (k0_off49 v209 k0_t25) a + S16.size a ≤ S4096.size a) ∧
  (∀ k0_t25 : Fin (k0_t25_loop v209).trips, ∀ a, (k0_off50 v209 k0_t25) a + S16.size a ≤ S4096.size a) ∧
  (∀ k0_t25 : Fin (k0_t25_loop v209).trips, ∀ a, (k0_off51 v209 k0_t25) a + S16.size a ≤ S4096.size a) ∧
  (∀ k0_t25 : Fin (k0_t25_loop v209).trips, ∀ a, (k0_off52 v209 k0_t25) a + S16.size a ≤ S4096.size a) ∧
  ((k0_t26_loop v209).OK) ∧
  (∀ k0_t26 : Fin (k0_t26_loop v209).trips, ∀ a, (k0_off53 v209 k0_t26) a + S16.size a ≤ S4096.size a) ∧
  (∀ k0_t26 : Fin (k0_t26_loop v209).trips, ∀ a, (k0_off54 v209 k0_t26) a + S16.size a ≤ S4096.size a) ∧
  (∀ k0_t26 : Fin (k0_t26_loop v209).trips, ∀ a, (k0_off55 v209 k0_t26) a + S16.size a ≤ S4096.size a) ∧
  (∀ k0_t26 : Fin (k0_t26_loop v209).trips, ∀ a, (k0_off56 v209 k0_t26) a + S16.size a ≤ S4096.size a)
theorem k0_t25_ok : ∀ (v209 : BitVec 32) (k0_hw37 : k0_chk37 v209), (k0_t25_loop v209).OK := fun v209 k0_hw37 => k0_hw37.1
theorem k0_off49_inb : ∀ (v209 : BitVec 32) (k0_hw37 : k0_chk37 v209) (k0_t25 : Fin (k0_t25_loop v209).trips), ∀ a, (k0_off49 v209 k0_t25) a + S16.size a ≤ S4096.size a := fun v209 k0_hw37 k0_t25 => k0_hw37.2.1 k0_t25
theorem k0_off50_inb : ∀ (v209 : BitVec 32) (k0_hw37 : k0_chk37 v209) (k0_t25 : Fin (k0_t25_loop v209).trips), ∀ a, (k0_off50 v209 k0_t25) a + S16.size a ≤ S4096.size a := fun v209 k0_hw37 k0_t25 => k0_hw37.2.2.1 k0_t25
theorem k0_off51_inb : ∀ (v209 : BitVec 32) (k0_hw37 : k0_chk37 v209) (k0_t25 : Fin (k0_t25_loop v209).trips), ∀ a, (k0_off51 v209 k0_t25) a + S16.size a ≤ S4096.size a := fun v209 k0_hw37 k0_t25 => k0_hw37.2.2.2.1 k0_t25
theorem k0_off52_inb : ∀ (v209 : BitVec 32) (k0_hw37 : k0_chk37 v209) (k0_t25 : Fin (k0_t25_loop v209).trips), ∀ a, (k0_off52 v209 k0_t25) a + S16.size a ≤ S4096.size a := fun v209 k0_hw37 k0_t25 => k0_hw37.2.2.2.2.1 k0_t25
theorem k0_t26_ok : ∀ (v209 : BitVec 32) (k0_hw37 : k0_chk37 v209), (k0_t26_loop v209).OK := fun v209 k0_hw37 => k0_hw37.2.2.2.2.2.1
theorem k0_off53_inb : ∀ (v209 : BitVec 32) (k0_hw37 : k0_chk37 v209) (k0_t26 : Fin (k0_t26_loop v209).trips), ∀ a, (k0_off53 v209 k0_t26) a + S16.size a ≤ S4096.size a := fun v209 k0_hw37 k0_t26 => k0_hw37.2.2.2.2.2.2.1 k0_t26
theorem k0_off54_inb : ∀ (v209 : BitVec 32) (k0_hw37 : k0_chk37 v209) (k0_t26 : Fin (k0_t26_loop v209).trips), ∀ a, (k0_off54 v209 k0_t26) a + S16.size a ≤ S4096.size a := fun v209 k0_hw37 k0_t26 => k0_hw37.2.2.2.2.2.2.2.1 k0_t26
theorem k0_off55_inb : ∀ (v209 : BitVec 32) (k0_hw37 : k0_chk37 v209) (k0_t26 : Fin (k0_t26_loop v209).trips), ∀ a, (k0_off55 v209 k0_t26) a + S16.size a ≤ S4096.size a := fun v209 k0_hw37 k0_t26 => k0_hw37.2.2.2.2.2.2.2.2.1 k0_t26
theorem k0_off56_inb : ∀ (v209 : BitVec 32) (k0_hw37 : k0_chk37 v209) (k0_t26 : Fin (k0_t26_loop v209).trips), ∀ a, (k0_off56 v209 k0_t26) a + S16.size a ≤ S4096.size a := fun v209 k0_hw37 k0_t26 => k0_hw37.2.2.2.2.2.2.2.2.2 k0_t26

def k0_chk45 (v679 : IVec S16 32) (v759 : IVec S16 32) : Prop :=
  (∀ a x, ((![v679, v759] : Fin 2 → IVec S16 32) a x).toNat < S16x6272.size a)
theorem k0_idx40_inb : ∀ (v679 : IVec S16 32) (v759 : IVec S16 32) (k0_hw45 : k0_chk45 v679 v759), ∀ a x, ((![v679, v759] : Fin 2 → IVec S16 32) a x).toNat < S16x6272.size a := fun v679 v759 k0_hw45 => k0_hw45
@[reducible] def k0_t27_loop (v249 : BitVec 32) : Scf.Loop 32 :=
  let c0_i32_201 : BitVec 32 := 0#32
  let c63_i32_193 : BitVec 32 := 63#32
  let v258 : BitVec 32 := Scalar.addi v249 c63_i32_193
  let c0_i32_195 : BitVec 32 := 0#32
  let v260 : BitVec 1 := Scalar.cmpi .sgt v258 c0_i32_195
  let v261 : BitVec 32 := Scalar.extui v260
  let c0_i32_196 : BitVec 32 := 0#32
  let v262 : BitVec 1 := Scalar.cmpi .slt v258 c0_i32_196
  let v263 : BitVec 32 := Scalar.extui v262
  let v264 : BitVec 32 := Scalar.subi v261 v263
  let c64_i32_194 : BitVec 32 := 64#32
  let c0_i32_197 : BitVec 32 := 0#32
  let v265 : BitVec 1 := Scalar.cmpi .sgt c64_i32_194 c0_i32_197
  let v266 : BitVec 32 := Scalar.extui v265
  let c0_i32_198 : BitVec 32 := 0#32
  let v267 : BitVec 1 := Scalar.cmpi .slt c64_i32_194 c0_i32_198
  let v268 : BitVec 32 := Scalar.extui v267
  let v269 : BitVec 32 := Scalar.subi v266 v268
  let v270 : BitVec 1 := Scalar.cmpi .ne v264 v269
  let v271 : BitVec 32 := Scalar.remsi v258 c64_i32_194
  let c0_i32_199 : BitVec 32 := 0#32
  let v272 : BitVec 1 := Scalar.cmpi .ne v271 c0_i32_199
  let v273 : BitVec 1 := Scalar.andi v270 v272
  let v259 : BitVec 32 := Scalar.divsi v258 c64_i32_194
  let c1_i32_200 : BitVec 32 := 1#32
  let v274 : BitVec 32 := Scalar.subi v259 c1_i32_200
  let v275 : BitVec 32 := Scalar.select v273 v274 v259
  let v276 : BitVec 32 := Scalar.subi v275 c0_i32_201
  let c1_i32_203 : BitVec 32 := 1#32
  let v278 : BitVec 32 := Scalar.divsi v276 c1_i32_203
  let v279 : BitVec 32 := Scalar.muli v278 c1_i32_203
  let v280 : BitVec 32 := Scalar.addi c0_i32_201 v279
  let c1_i32_204 : BitVec 32 := 1#32
  ⟨c0_i32_201, v280, c1_i32_204⟩

def k0_off57 (v249 : BitVec 32) (k0_t27 : Fin (k0_t27_loop v249).trips) : Fin 1 → Nat :=
  let c0_i32_201 : BitVec 32 := 0#32
  let c1_i32_204 : BitVec 32 := 1#32
  let arg10 : BitVec 32 := Scf.iv c0_i32_201 c1_i32_204 k0_t27
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk47 (v679 : IVec S16 32) (v699 : IVec S16 32) : Prop :=
  (∀ a x, ((![v679, v699] : Fin 2 → IVec S16 32) a x).toNat < S16x6272.size a)
theorem k0_idx41_inb : ∀ (v679 : IVec S16 32) (v699 : IVec S16 32) (k0_hw47 : k0_chk47 v679 v699), ∀ a x, ((![v679, v699] : Fin 2 → IVec S16 32) a x).toNat < S16x6272.size a := fun v679 v699 k0_hw47 => k0_hw47
def k0_off58 (v249 : BitVec 32) (k0_t27 : Fin (k0_t27_loop v249).trips) : Fin 1 → Nat :=
  let c0_i32_201 : BitVec 32 := 0#32
  let c1_i32_204 : BitVec 32 := 1#32
  let arg10 : BitVec 32 := Scf.iv c0_i32_201 c1_i32_204 k0_t27
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk48 (v679 : IVec S16 32) (v719 : IVec S16 32) : Prop :=
  (∀ a x, ((![v679, v719] : Fin 2 → IVec S16 32) a x).toNat < S16x6272.size a)
theorem k0_idx42_inb : ∀ (v679 : IVec S16 32) (v719 : IVec S16 32) (k0_hw48 : k0_chk48 v679 v719), ∀ a x, ((![v679, v719] : Fin 2 → IVec S16 32) a x).toNat < S16x6272.size a := fun v679 v719 k0_hw48 => k0_hw48
def k0_off59 (v249 : BitVec 32) (k0_t27 : Fin (k0_t27_loop v249).trips) : Fin 1 → Nat :=
  let c0_i32_201 : BitVec 32 := 0#32
  let c1_i32_204 : BitVec 32 := 1#32
  let arg10 : BitVec 32 := Scf.iv c0_i32_201 c1_i32_204 k0_t27
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk49 (v679 : IVec S16 32) (v739 : IVec S16 32) : Prop :=
  (∀ a x, ((![v679, v739] : Fin 2 → IVec S16 32) a x).toNat < S16x6272.size a)
theorem k0_idx43_inb : ∀ (v679 : IVec S16 32) (v739 : IVec S16 32) (k0_hw49 : k0_chk49 v679 v739), ∀ a x, ((![v679, v739] : Fin 2 → IVec S16 32) a x).toNat < S16x6272.size a := fun v679 v739 k0_hw49 => k0_hw49
def k0_off60 (v249 : BitVec 32) (k0_t27 : Fin (k0_t27_loop v249).trips) : Fin 1 → Nat :=
  let c0_i32_201 : BitVec 32 := 0#32
  let c1_i32_204 : BitVec 32 := 1#32
  let arg10 : BitVec 32 := Scf.iv c0_i32_201 c1_i32_204 k0_t27
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk50 (v679 : IVec S16 32) (v759 : IVec S16 32) : Prop :=
  (∀ a x, ((![v679, v759] : Fin 2 → IVec S16 32) a x).toNat < S16x6272.size a)
theorem k0_idx44_inb : ∀ (v679 : IVec S16 32) (v759 : IVec S16 32) (k0_hw50 : k0_chk50 v679 v759), ∀ a x, ((![v679, v759] : Fin 2 → IVec S16 32) a x).toNat < S16x6272.size a := fun v679 v759 k0_hw50 => k0_hw50
@[reducible] def k0_t28_loop (v249 : BitVec 32) : Scf.Loop 32 :=
  let c0_i32_201 : BitVec 32 := 0#32
  let c63_i32_193 : BitVec 32 := 63#32
  let v258 : BitVec 32 := Scalar.addi v249 c63_i32_193
  let c0_i32_195 : BitVec 32 := 0#32
  let v260 : BitVec 1 := Scalar.cmpi .sgt v258 c0_i32_195
  let v261 : BitVec 32 := Scalar.extui v260
  let c0_i32_196 : BitVec 32 := 0#32
  let v262 : BitVec 1 := Scalar.cmpi .slt v258 c0_i32_196
  let v263 : BitVec 32 := Scalar.extui v262
  let v264 : BitVec 32 := Scalar.subi v261 v263
  let c64_i32_194 : BitVec 32 := 64#32
  let c0_i32_197 : BitVec 32 := 0#32
  let v265 : BitVec 1 := Scalar.cmpi .sgt c64_i32_194 c0_i32_197
  let v266 : BitVec 32 := Scalar.extui v265
  let c0_i32_198 : BitVec 32 := 0#32
  let v267 : BitVec 1 := Scalar.cmpi .slt c64_i32_194 c0_i32_198
  let v268 : BitVec 32 := Scalar.extui v267
  let v269 : BitVec 32 := Scalar.subi v266 v268
  let v270 : BitVec 1 := Scalar.cmpi .ne v264 v269
  let v271 : BitVec 32 := Scalar.remsi v258 c64_i32_194
  let c0_i32_199 : BitVec 32 := 0#32
  let v272 : BitVec 1 := Scalar.cmpi .ne v271 c0_i32_199
  let v273 : BitVec 1 := Scalar.andi v270 v272
  let v259 : BitVec 32 := Scalar.divsi v258 c64_i32_194
  let c1_i32_200 : BitVec 32 := 1#32
  let v274 : BitVec 32 := Scalar.subi v259 c1_i32_200
  let v275 : BitVec 32 := Scalar.select v273 v274 v259
  let v276 : BitVec 32 := Scalar.subi v275 c0_i32_201
  let c1_i32_203 : BitVec 32 := 1#32
  let v278 : BitVec 32 := Scalar.divsi v276 c1_i32_203
  let v279 : BitVec 32 := Scalar.muli v278 c1_i32_203
  let v280 : BitVec 32 := Scalar.addi c0_i32_201 v279
  let v277 : BitVec 32 := Scalar.addi c0_i32_201 v276
  let c1_i32_205 : BitVec 32 := 1#32
  ⟨v280, v277, c1_i32_205⟩
def k0_off61 (v249 : BitVec 32) (k0_t28 : Fin (k0_t28_loop v249).trips) : Fin 1 → Nat :=
  let c0_i32_201 : BitVec 32 := 0#32
  let c63_i32_193 : BitVec 32 := 63#32
  let v258 : BitVec 32 := Scalar.addi v249 c63_i32_193
  let c0_i32_195 : BitVec 32 := 0#32
  let v260 : BitVec 1 := Scalar.cmpi .sgt v258 c0_i32_195
  let v261 : BitVec 32 := Scalar.extui v260
  let c0_i32_196 : BitVec 32 := 0#32
  let v262 : BitVec 1 := Scalar.cmpi .slt v258 c0_i32_196
  let v263 : BitVec 32 := Scalar.extui v262
  let v264 : BitVec 32 := Scalar.subi v261 v263
  let c64_i32_194 : BitVec 32 := 64#32
  let c0_i32_197 : BitVec 32 := 0#32
  let v265 : BitVec 1 := Scalar.cmpi .sgt c64_i32_194 c0_i32_197
  let v266 : BitVec 32 := Scalar.extui v265
  let c0_i32_198 : BitVec 32 := 0#32
  let v267 : BitVec 1 := Scalar.cmpi .slt c64_i32_194 c0_i32_198
  let v268 : BitVec 32 := Scalar.extui v267
  let v269 : BitVec 32 := Scalar.subi v266 v268
  let v270 : BitVec 1 := Scalar.cmpi .ne v264 v269
  let v271 : BitVec 32 := Scalar.remsi v258 c64_i32_194
  let c0_i32_199 : BitVec 32 := 0#32
  let v272 : BitVec 1 := Scalar.cmpi .ne v271 c0_i32_199
  let v273 : BitVec 1 := Scalar.andi v270 v272
  let v259 : BitVec 32 := Scalar.divsi v258 c64_i32_194
  let c1_i32_200 : BitVec 32 := 1#32
  let v274 : BitVec 32 := Scalar.subi v259 c1_i32_200
  let v275 : BitVec 32 := Scalar.select v273 v274 v259
  let v276 : BitVec 32 := Scalar.subi v275 c0_i32_201
  let c1_i32_203 : BitVec 32 := 1#32
  let v278 : BitVec 32 := Scalar.divsi v276 c1_i32_203
  let v279 : BitVec 32 := Scalar.muli v278 c1_i32_203
  let v280 : BitVec 32 := Scalar.addi c0_i32_201 v279
  let c1_i32_205 : BitVec 32 := 1#32
  let arg10 : BitVec 32 := Scf.iv v280 c1_i32_205 k0_t28
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk51 (v679 : IVec S16 32) (v699 : IVec S16 32) : Prop :=
  (∀ a x, ((![v679, v699] : Fin 2 → IVec S16 32) a x).toNat < S16x6272.size a)
theorem k0_idx45_inb : ∀ (v679 : IVec S16 32) (v699 : IVec S16 32) (k0_hw51 : k0_chk51 v679 v699), ∀ a x, ((![v679, v699] : Fin 2 → IVec S16 32) a x).toNat < S16x6272.size a := fun v679 v699 k0_hw51 => k0_hw51
def k0_off62 (v249 : BitVec 32) (k0_t28 : Fin (k0_t28_loop v249).trips) : Fin 1 → Nat :=
  let c0_i32_201 : BitVec 32 := 0#32
  let c63_i32_193 : BitVec 32 := 63#32
  let v258 : BitVec 32 := Scalar.addi v249 c63_i32_193
  let c0_i32_195 : BitVec 32 := 0#32
  let v260 : BitVec 1 := Scalar.cmpi .sgt v258 c0_i32_195
  let v261 : BitVec 32 := Scalar.extui v260
  let c0_i32_196 : BitVec 32 := 0#32
  let v262 : BitVec 1 := Scalar.cmpi .slt v258 c0_i32_196
  let v263 : BitVec 32 := Scalar.extui v262
  let v264 : BitVec 32 := Scalar.subi v261 v263
  let c64_i32_194 : BitVec 32 := 64#32
  let c0_i32_197 : BitVec 32 := 0#32
  let v265 : BitVec 1 := Scalar.cmpi .sgt c64_i32_194 c0_i32_197
  let v266 : BitVec 32 := Scalar.extui v265
  let c0_i32_198 : BitVec 32 := 0#32
  let v267 : BitVec 1 := Scalar.cmpi .slt c64_i32_194 c0_i32_198
  let v268 : BitVec 32 := Scalar.extui v267
  let v269 : BitVec 32 := Scalar.subi v266 v268
  let v270 : BitVec 1 := Scalar.cmpi .ne v264 v269
  let v271 : BitVec 32 := Scalar.remsi v258 c64_i32_194
  let c0_i32_199 : BitVec 32 := 0#32
  let v272 : BitVec 1 := Scalar.cmpi .ne v271 c0_i32_199
  let v273 : BitVec 1 := Scalar.andi v270 v272
  let v259 : BitVec 32 := Scalar.divsi v258 c64_i32_194
  let c1_i32_200 : BitVec 32 := 1#32
  let v274 : BitVec 32 := Scalar.subi v259 c1_i32_200
  let v275 : BitVec 32 := Scalar.select v273 v274 v259
  let v276 : BitVec 32 := Scalar.subi v275 c0_i32_201
  let c1_i32_203 : BitVec 32 := 1#32
  let v278 : BitVec 32 := Scalar.divsi v276 c1_i32_203
  let v279 : BitVec 32 := Scalar.muli v278 c1_i32_203
  let v280 : BitVec 32 := Scalar.addi c0_i32_201 v279
  let c1_i32_205 : BitVec 32 := 1#32
  let arg10 : BitVec 32 := Scf.iv v280 c1_i32_205 k0_t28
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk52 (v679 : IVec S16 32) (v719 : IVec S16 32) : Prop :=
  (∀ a x, ((![v679, v719] : Fin 2 → IVec S16 32) a x).toNat < S16x6272.size a)
theorem k0_idx46_inb : ∀ (v679 : IVec S16 32) (v719 : IVec S16 32) (k0_hw52 : k0_chk52 v679 v719), ∀ a x, ((![v679, v719] : Fin 2 → IVec S16 32) a x).toNat < S16x6272.size a := fun v679 v719 k0_hw52 => k0_hw52
def k0_off63 (v249 : BitVec 32) (k0_t28 : Fin (k0_t28_loop v249).trips) : Fin 1 → Nat :=
  let c0_i32_201 : BitVec 32 := 0#32
  let c63_i32_193 : BitVec 32 := 63#32
  let v258 : BitVec 32 := Scalar.addi v249 c63_i32_193
  let c0_i32_195 : BitVec 32 := 0#32
  let v260 : BitVec 1 := Scalar.cmpi .sgt v258 c0_i32_195
  let v261 : BitVec 32 := Scalar.extui v260
  let c0_i32_196 : BitVec 32 := 0#32
  let v262 : BitVec 1 := Scalar.cmpi .slt v258 c0_i32_196
  let v263 : BitVec 32 := Scalar.extui v262
  let v264 : BitVec 32 := Scalar.subi v261 v263
  let c64_i32_194 : BitVec 32 := 64#32
  let c0_i32_197 : BitVec 32 := 0#32
  let v265 : BitVec 1 := Scalar.cmpi .sgt c64_i32_194 c0_i32_197
  let v266 : BitVec 32 := Scalar.extui v265
  let c0_i32_198 : BitVec 32 := 0#32
  let v267 : BitVec 1 := Scalar.cmpi .slt c64_i32_194 c0_i32_198
  let v268 : BitVec 32 := Scalar.extui v267
  let v269 : BitVec 32 := Scalar.subi v266 v268
  let v270 : BitVec 1 := Scalar.cmpi .ne v264 v269
  let v271 : BitVec 32 := Scalar.remsi v258 c64_i32_194
  let c0_i32_199 : BitVec 32 := 0#32
  let v272 : BitVec 1 := Scalar.cmpi .ne v271 c0_i32_199
  let v273 : BitVec 1 := Scalar.andi v270 v272
  let v259 : BitVec 32 := Scalar.divsi v258 c64_i32_194
  let c1_i32_200 : BitVec 32 := 1#32
  let v274 : BitVec 32 := Scalar.subi v259 c1_i32_200
  let v275 : BitVec 32 := Scalar.select v273 v274 v259
  let v276 : BitVec 32 := Scalar.subi v275 c0_i32_201
  let c1_i32_203 : BitVec 32 := 1#32
  let v278 : BitVec 32 := Scalar.divsi v276 c1_i32_203
  let v279 : BitVec 32 := Scalar.muli v278 c1_i32_203
  let v280 : BitVec 32 := Scalar.addi c0_i32_201 v279
  let c1_i32_205 : BitVec 32 := 1#32
  let arg10 : BitVec 32 := Scf.iv v280 c1_i32_205 k0_t28
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk53 (v679 : IVec S16 32) (v739 : IVec S16 32) : Prop :=
  (∀ a x, ((![v679, v739] : Fin 2 → IVec S16 32) a x).toNat < S16x6272.size a)
theorem k0_idx47_inb : ∀ (v679 : IVec S16 32) (v739 : IVec S16 32) (k0_hw53 : k0_chk53 v679 v739), ∀ a x, ((![v679, v739] : Fin 2 → IVec S16 32) a x).toNat < S16x6272.size a := fun v679 v739 k0_hw53 => k0_hw53
def k0_off64 (v249 : BitVec 32) (k0_t28 : Fin (k0_t28_loop v249).trips) : Fin 1 → Nat :=
  let c0_i32_201 : BitVec 32 := 0#32
  let c63_i32_193 : BitVec 32 := 63#32
  let v258 : BitVec 32 := Scalar.addi v249 c63_i32_193
  let c0_i32_195 : BitVec 32 := 0#32
  let v260 : BitVec 1 := Scalar.cmpi .sgt v258 c0_i32_195
  let v261 : BitVec 32 := Scalar.extui v260
  let c0_i32_196 : BitVec 32 := 0#32
  let v262 : BitVec 1 := Scalar.cmpi .slt v258 c0_i32_196
  let v263 : BitVec 32 := Scalar.extui v262
  let v264 : BitVec 32 := Scalar.subi v261 v263
  let c64_i32_194 : BitVec 32 := 64#32
  let c0_i32_197 : BitVec 32 := 0#32
  let v265 : BitVec 1 := Scalar.cmpi .sgt c64_i32_194 c0_i32_197
  let v266 : BitVec 32 := Scalar.extui v265
  let c0_i32_198 : BitVec 32 := 0#32
  let v267 : BitVec 1 := Scalar.cmpi .slt c64_i32_194 c0_i32_198
  let v268 : BitVec 32 := Scalar.extui v267
  let v269 : BitVec 32 := Scalar.subi v266 v268
  let v270 : BitVec 1 := Scalar.cmpi .ne v264 v269
  let v271 : BitVec 32 := Scalar.remsi v258 c64_i32_194
  let c0_i32_199 : BitVec 32 := 0#32
  let v272 : BitVec 1 := Scalar.cmpi .ne v271 c0_i32_199
  let v273 : BitVec 1 := Scalar.andi v270 v272
  let v259 : BitVec 32 := Scalar.divsi v258 c64_i32_194
  let c1_i32_200 : BitVec 32 := 1#32
  let v274 : BitVec 32 := Scalar.subi v259 c1_i32_200
  let v275 : BitVec 32 := Scalar.select v273 v274 v259
  let v276 : BitVec 32 := Scalar.subi v275 c0_i32_201
  let c1_i32_203 : BitVec 32 := 1#32
  let v278 : BitVec 32 := Scalar.divsi v276 c1_i32_203
  let v279 : BitVec 32 := Scalar.muli v278 c1_i32_203
  let v280 : BitVec 32 := Scalar.addi c0_i32_201 v279
  let c1_i32_205 : BitVec 32 := 1#32
  let arg10 : BitVec 32 := Scf.iv v280 c1_i32_205 k0_t28
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk46 (v249 : BitVec 32) : Prop :=
  ((k0_t27_loop v249).OK) ∧
  (∀ k0_t27 : Fin (k0_t27_loop v249).trips, ∀ a, (k0_off57 v249 k0_t27) a + S16.size a ≤ S4096.size a) ∧
  (∀ k0_t27 : Fin (k0_t27_loop v249).trips, ∀ a, (k0_off58 v249 k0_t27) a + S16.size a ≤ S4096.size a) ∧
  (∀ k0_t27 : Fin (k0_t27_loop v249).trips, ∀ a, (k0_off59 v249 k0_t27) a + S16.size a ≤ S4096.size a) ∧
  (∀ k0_t27 : Fin (k0_t27_loop v249).trips, ∀ a, (k0_off60 v249 k0_t27) a + S16.size a ≤ S4096.size a) ∧
  ((k0_t28_loop v249).OK) ∧
  (∀ k0_t28 : Fin (k0_t28_loop v249).trips, ∀ a, (k0_off61 v249 k0_t28) a + S16.size a ≤ S4096.size a) ∧
  (∀ k0_t28 : Fin (k0_t28_loop v249).trips, ∀ a, (k0_off62 v249 k0_t28) a + S16.size a ≤ S4096.size a) ∧
  (∀ k0_t28 : Fin (k0_t28_loop v249).trips, ∀ a, (k0_off63 v249 k0_t28) a + S16.size a ≤ S4096.size a) ∧
  (∀ k0_t28 : Fin (k0_t28_loop v249).trips, ∀ a, (k0_off64 v249 k0_t28) a + S16.size a ≤ S4096.size a)
theorem k0_t27_ok : ∀ (v249 : BitVec 32) (k0_hw46 : k0_chk46 v249), (k0_t27_loop v249).OK := fun v249 k0_hw46 => k0_hw46.1
theorem k0_off57_inb : ∀ (v249 : BitVec 32) (k0_hw46 : k0_chk46 v249) (k0_t27 : Fin (k0_t27_loop v249).trips), ∀ a, (k0_off57 v249 k0_t27) a + S16.size a ≤ S4096.size a := fun v249 k0_hw46 k0_t27 => k0_hw46.2.1 k0_t27
theorem k0_off58_inb : ∀ (v249 : BitVec 32) (k0_hw46 : k0_chk46 v249) (k0_t27 : Fin (k0_t27_loop v249).trips), ∀ a, (k0_off58 v249 k0_t27) a + S16.size a ≤ S4096.size a := fun v249 k0_hw46 k0_t27 => k0_hw46.2.2.1 k0_t27
theorem k0_off59_inb : ∀ (v249 : BitVec 32) (k0_hw46 : k0_chk46 v249) (k0_t27 : Fin (k0_t27_loop v249).trips), ∀ a, (k0_off59 v249 k0_t27) a + S16.size a ≤ S4096.size a := fun v249 k0_hw46 k0_t27 => k0_hw46.2.2.2.1 k0_t27
theorem k0_off60_inb : ∀ (v249 : BitVec 32) (k0_hw46 : k0_chk46 v249) (k0_t27 : Fin (k0_t27_loop v249).trips), ∀ a, (k0_off60 v249 k0_t27) a + S16.size a ≤ S4096.size a := fun v249 k0_hw46 k0_t27 => k0_hw46.2.2.2.2.1 k0_t27
theorem k0_t28_ok : ∀ (v249 : BitVec 32) (k0_hw46 : k0_chk46 v249), (k0_t28_loop v249).OK := fun v249 k0_hw46 => k0_hw46.2.2.2.2.2.1
theorem k0_off61_inb : ∀ (v249 : BitVec 32) (k0_hw46 : k0_chk46 v249) (k0_t28 : Fin (k0_t28_loop v249).trips), ∀ a, (k0_off61 v249 k0_t28) a + S16.size a ≤ S4096.size a := fun v249 k0_hw46 k0_t28 => k0_hw46.2.2.2.2.2.2.1 k0_t28
theorem k0_off62_inb : ∀ (v249 : BitVec 32) (k0_hw46 : k0_chk46 v249) (k0_t28 : Fin (k0_t28_loop v249).trips), ∀ a, (k0_off62 v249 k0_t28) a + S16.size a ≤ S4096.size a := fun v249 k0_hw46 k0_t28 => k0_hw46.2.2.2.2.2.2.2.1 k0_t28
theorem k0_off63_inb : ∀ (v249 : BitVec 32) (k0_hw46 : k0_chk46 v249) (k0_t28 : Fin (k0_t28_loop v249).trips), ∀ a, (k0_off63 v249 k0_t28) a + S16.size a ≤ S4096.size a := fun v249 k0_hw46 k0_t28 => k0_hw46.2.2.2.2.2.2.2.2.1 k0_t28
theorem k0_off64_inb : ∀ (v249 : BitVec 32) (k0_hw46 : k0_chk46 v249) (k0_t28 : Fin (k0_t28_loop v249).trips), ∀ a, (k0_off64 v249 k0_t28) a + S16.size a ≤ S4096.size a := fun v249 k0_hw46 k0_t28 => k0_hw46.2.2.2.2.2.2.2.2.2 k0_t28

def k0_chk54 (v679 : IVec S16 32) (v759 : IVec S16 32) : Prop :=
  (∀ a x, ((![v679, v759] : Fin 2 → IVec S16 32) a x).toNat < S16x6272.size a)
theorem k0_idx48_inb : ∀ (v679 : IVec S16 32) (v759 : IVec S16 32) (k0_hw54 : k0_chk54 v679 v759), ∀ a x, ((![v679, v759] : Fin 2 → IVec S16 32) a x).toNat < S16x6272.size a := fun v679 v759 k0_hw54 => k0_hw54
@[reducible] def k0_t29_loop (v289 : BitVec 32) : Scf.Loop 32 :=
  let c0_i32_222 : BitVec 32 := 0#32
  let c63_i32_214 : BitVec 32 := 63#32
  let v298 : BitVec 32 := Scalar.addi v289 c63_i32_214
  let c0_i32_216 : BitVec 32 := 0#32
  let v300 : BitVec 1 := Scalar.cmpi .sgt v298 c0_i32_216
  let v301 : BitVec 32 := Scalar.extui v300
  let c0_i32_217 : BitVec 32 := 0#32
  let v302 : BitVec 1 := Scalar.cmpi .slt v298 c0_i32_217
  let v303 : BitVec 32 := Scalar.extui v302
  let v304 : BitVec 32 := Scalar.subi v301 v303
  let c64_i32_215 : BitVec 32 := 64#32
  let c0_i32_218 : BitVec 32 := 0#32
  let v305 : BitVec 1 := Scalar.cmpi .sgt c64_i32_215 c0_i32_218
  let v306 : BitVec 32 := Scalar.extui v305
  let c0_i32_219 : BitVec 32 := 0#32
  let v307 : BitVec 1 := Scalar.cmpi .slt c64_i32_215 c0_i32_219
  let v308 : BitVec 32 := Scalar.extui v307
  let v309 : BitVec 32 := Scalar.subi v306 v308
  let v310 : BitVec 1 := Scalar.cmpi .ne v304 v309
  let v311 : BitVec 32 := Scalar.remsi v298 c64_i32_215
  let c0_i32_220 : BitVec 32 := 0#32
  let v312 : BitVec 1 := Scalar.cmpi .ne v311 c0_i32_220
  let v313 : BitVec 1 := Scalar.andi v310 v312
  let v299 : BitVec 32 := Scalar.divsi v298 c64_i32_215
  let c1_i32_221 : BitVec 32 := 1#32
  let v314 : BitVec 32 := Scalar.subi v299 c1_i32_221
  let v315 : BitVec 32 := Scalar.select v313 v314 v299
  let v316 : BitVec 32 := Scalar.subi v315 c0_i32_222
  let c1_i32_224 : BitVec 32 := 1#32
  let v318 : BitVec 32 := Scalar.divsi v316 c1_i32_224
  let v319 : BitVec 32 := Scalar.muli v318 c1_i32_224
  let v320 : BitVec 32 := Scalar.addi c0_i32_222 v319
  let c1_i32_225 : BitVec 32 := 1#32
  ⟨c0_i32_222, v320, c1_i32_225⟩

def k0_off65 (v289 : BitVec 32) (k0_t29 : Fin (k0_t29_loop v289).trips) : Fin 1 → Nat :=
  let c0_i32_222 : BitVec 32 := 0#32
  let c1_i32_225 : BitVec 32 := 1#32
  let arg10 : BitVec 32 := Scf.iv c0_i32_222 c1_i32_225 k0_t29
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk56 (v679 : IVec S16 32) (v699 : IVec S16 32) : Prop :=
  (∀ a x, ((![v679, v699] : Fin 2 → IVec S16 32) a x).toNat < S16x6272.size a)
theorem k0_idx49_inb : ∀ (v679 : IVec S16 32) (v699 : IVec S16 32) (k0_hw56 : k0_chk56 v679 v699), ∀ a x, ((![v679, v699] : Fin 2 → IVec S16 32) a x).toNat < S16x6272.size a := fun v679 v699 k0_hw56 => k0_hw56
def k0_off66 (v289 : BitVec 32) (k0_t29 : Fin (k0_t29_loop v289).trips) : Fin 1 → Nat :=
  let c0_i32_222 : BitVec 32 := 0#32
  let c1_i32_225 : BitVec 32 := 1#32
  let arg10 : BitVec 32 := Scf.iv c0_i32_222 c1_i32_225 k0_t29
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk57 (v679 : IVec S16 32) (v719 : IVec S16 32) : Prop :=
  (∀ a x, ((![v679, v719] : Fin 2 → IVec S16 32) a x).toNat < S16x6272.size a)
theorem k0_idx50_inb : ∀ (v679 : IVec S16 32) (v719 : IVec S16 32) (k0_hw57 : k0_chk57 v679 v719), ∀ a x, ((![v679, v719] : Fin 2 → IVec S16 32) a x).toNat < S16x6272.size a := fun v679 v719 k0_hw57 => k0_hw57
def k0_off67 (v289 : BitVec 32) (k0_t29 : Fin (k0_t29_loop v289).trips) : Fin 1 → Nat :=
  let c0_i32_222 : BitVec 32 := 0#32
  let c1_i32_225 : BitVec 32 := 1#32
  let arg10 : BitVec 32 := Scf.iv c0_i32_222 c1_i32_225 k0_t29
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk58 (v679 : IVec S16 32) (v739 : IVec S16 32) : Prop :=
  (∀ a x, ((![v679, v739] : Fin 2 → IVec S16 32) a x).toNat < S16x6272.size a)
theorem k0_idx51_inb : ∀ (v679 : IVec S16 32) (v739 : IVec S16 32) (k0_hw58 : k0_chk58 v679 v739), ∀ a x, ((![v679, v739] : Fin 2 → IVec S16 32) a x).toNat < S16x6272.size a := fun v679 v739 k0_hw58 => k0_hw58
def k0_off68 (v289 : BitVec 32) (k0_t29 : Fin (k0_t29_loop v289).trips) : Fin 1 → Nat :=
  let c0_i32_222 : BitVec 32 := 0#32
  let c1_i32_225 : BitVec 32 := 1#32
  let arg10 : BitVec 32 := Scf.iv c0_i32_222 c1_i32_225 k0_t29
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk59 (v679 : IVec S16 32) (v759 : IVec S16 32) : Prop :=
  (∀ a x, ((![v679, v759] : Fin 2 → IVec S16 32) a x).toNat < S16x6272.size a)
theorem k0_idx52_inb : ∀ (v679 : IVec S16 32) (v759 : IVec S16 32) (k0_hw59 : k0_chk59 v679 v759), ∀ a x, ((![v679, v759] : Fin 2 → IVec S16 32) a x).toNat < S16x6272.size a := fun v679 v759 k0_hw59 => k0_hw59
@[reducible] def k0_t30_loop (v289 : BitVec 32) : Scf.Loop 32 :=
  let c0_i32_222 : BitVec 32 := 0#32
  let c63_i32_214 : BitVec 32 := 63#32
  let v298 : BitVec 32 := Scalar.addi v289 c63_i32_214
  let c0_i32_216 : BitVec 32 := 0#32
  let v300 : BitVec 1 := Scalar.cmpi .sgt v298 c0_i32_216
  let v301 : BitVec 32 := Scalar.extui v300
  let c0_i32_217 : BitVec 32 := 0#32
  let v302 : BitVec 1 := Scalar.cmpi .slt v298 c0_i32_217
  let v303 : BitVec 32 := Scalar.extui v302
  let v304 : BitVec 32 := Scalar.subi v301 v303
  let c64_i32_215 : BitVec 32 := 64#32
  let c0_i32_218 : BitVec 32 := 0#32
  let v305 : BitVec 1 := Scalar.cmpi .sgt c64_i32_215 c0_i32_218
  let v306 : BitVec 32 := Scalar.extui v305
  let c0_i32_219 : BitVec 32 := 0#32
  let v307 : BitVec 1 := Scalar.cmpi .slt c64_i32_215 c0_i32_219
  let v308 : BitVec 32 := Scalar.extui v307
  let v309 : BitVec 32 := Scalar.subi v306 v308
  let v310 : BitVec 1 := Scalar.cmpi .ne v304 v309
  let v311 : BitVec 32 := Scalar.remsi v298 c64_i32_215
  let c0_i32_220 : BitVec 32 := 0#32
  let v312 : BitVec 1 := Scalar.cmpi .ne v311 c0_i32_220
  let v313 : BitVec 1 := Scalar.andi v310 v312
  let v299 : BitVec 32 := Scalar.divsi v298 c64_i32_215
  let c1_i32_221 : BitVec 32 := 1#32
  let v314 : BitVec 32 := Scalar.subi v299 c1_i32_221
  let v315 : BitVec 32 := Scalar.select v313 v314 v299
  let v316 : BitVec 32 := Scalar.subi v315 c0_i32_222
  let c1_i32_224 : BitVec 32 := 1#32
  let v318 : BitVec 32 := Scalar.divsi v316 c1_i32_224
  let v319 : BitVec 32 := Scalar.muli v318 c1_i32_224
  let v320 : BitVec 32 := Scalar.addi c0_i32_222 v319
  let v317 : BitVec 32 := Scalar.addi c0_i32_222 v316
  let c1_i32_226 : BitVec 32 := 1#32
  ⟨v320, v317, c1_i32_226⟩
def k0_off69 (v289 : BitVec 32) (k0_t30 : Fin (k0_t30_loop v289).trips) : Fin 1 → Nat :=
  let c0_i32_222 : BitVec 32 := 0#32
  let c63_i32_214 : BitVec 32 := 63#32
  let v298 : BitVec 32 := Scalar.addi v289 c63_i32_214
  let c0_i32_216 : BitVec 32 := 0#32
  let v300 : BitVec 1 := Scalar.cmpi .sgt v298 c0_i32_216
  let v301 : BitVec 32 := Scalar.extui v300
  let c0_i32_217 : BitVec 32 := 0#32
  let v302 : BitVec 1 := Scalar.cmpi .slt v298 c0_i32_217
  let v303 : BitVec 32 := Scalar.extui v302
  let v304 : BitVec 32 := Scalar.subi v301 v303
  let c64_i32_215 : BitVec 32 := 64#32
  let c0_i32_218 : BitVec 32 := 0#32
  let v305 : BitVec 1 := Scalar.cmpi .sgt c64_i32_215 c0_i32_218
  let v306 : BitVec 32 := Scalar.extui v305
  let c0_i32_219 : BitVec 32 := 0#32
  let v307 : BitVec 1 := Scalar.cmpi .slt c64_i32_215 c0_i32_219
  let v308 : BitVec 32 := Scalar.extui v307
  let v309 : BitVec 32 := Scalar.subi v306 v308
  let v310 : BitVec 1 := Scalar.cmpi .ne v304 v309
  let v311 : BitVec 32 := Scalar.remsi v298 c64_i32_215
  let c0_i32_220 : BitVec 32 := 0#32
  let v312 : BitVec 1 := Scalar.cmpi .ne v311 c0_i32_220
  let v313 : BitVec 1 := Scalar.andi v310 v312
  let v299 : BitVec 32 := Scalar.divsi v298 c64_i32_215
  let c1_i32_221 : BitVec 32 := 1#32
  let v314 : BitVec 32 := Scalar.subi v299 c1_i32_221
  let v315 : BitVec 32 := Scalar.select v313 v314 v299
  let v316 : BitVec 32 := Scalar.subi v315 c0_i32_222
  let c1_i32_224 : BitVec 32 := 1#32
  let v318 : BitVec 32 := Scalar.divsi v316 c1_i32_224
  let v319 : BitVec 32 := Scalar.muli v318 c1_i32_224
  let v320 : BitVec 32 := Scalar.addi c0_i32_222 v319
  let c1_i32_226 : BitVec 32 := 1#32
  let arg10 : BitVec 32 := Scf.iv v320 c1_i32_226 k0_t30
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk60 (v679 : IVec S16 32) (v699 : IVec S16 32) : Prop :=
  (∀ a x, ((![v679, v699] : Fin 2 → IVec S16 32) a x).toNat < S16x6272.size a)
theorem k0_idx53_inb : ∀ (v679 : IVec S16 32) (v699 : IVec S16 32) (k0_hw60 : k0_chk60 v679 v699), ∀ a x, ((![v679, v699] : Fin 2 → IVec S16 32) a x).toNat < S16x6272.size a := fun v679 v699 k0_hw60 => k0_hw60
def k0_off70 (v289 : BitVec 32) (k0_t30 : Fin (k0_t30_loop v289).trips) : Fin 1 → Nat :=
  let c0_i32_222 : BitVec 32 := 0#32
  let c63_i32_214 : BitVec 32 := 63#32
  let v298 : BitVec 32 := Scalar.addi v289 c63_i32_214
  let c0_i32_216 : BitVec 32 := 0#32
  let v300 : BitVec 1 := Scalar.cmpi .sgt v298 c0_i32_216
  let v301 : BitVec 32 := Scalar.extui v300
  let c0_i32_217 : BitVec 32 := 0#32
  let v302 : BitVec 1 := Scalar.cmpi .slt v298 c0_i32_217
  let v303 : BitVec 32 := Scalar.extui v302
  let v304 : BitVec 32 := Scalar.subi v301 v303
  let c64_i32_215 : BitVec 32 := 64#32
  let c0_i32_218 : BitVec 32 := 0#32
  let v305 : BitVec 1 := Scalar.cmpi .sgt c64_i32_215 c0_i32_218
  let v306 : BitVec 32 := Scalar.extui v305
  let c0_i32_219 : BitVec 32 := 0#32
  let v307 : BitVec 1 := Scalar.cmpi .slt c64_i32_215 c0_i32_219
  let v308 : BitVec 32 := Scalar.extui v307
  let v309 : BitVec 32 := Scalar.subi v306 v308
  let v310 : BitVec 1 := Scalar.cmpi .ne v304 v309
  let v311 : BitVec 32 := Scalar.remsi v298 c64_i32_215
  let c0_i32_220 : BitVec 32 := 0#32
  let v312 : BitVec 1 := Scalar.cmpi .ne v311 c0_i32_220
  let v313 : BitVec 1 := Scalar.andi v310 v312
  let v299 : BitVec 32 := Scalar.divsi v298 c64_i32_215
  let c1_i32_221 : BitVec 32 := 1#32
  let v314 : BitVec 32 := Scalar.subi v299 c1_i32_221
  let v315 : BitVec 32 := Scalar.select v313 v314 v299
  let v316 : BitVec 32 := Scalar.subi v315 c0_i32_222
  let c1_i32_224 : BitVec 32 := 1#32
  let v318 : BitVec 32 := Scalar.divsi v316 c1_i32_224
  let v319 : BitVec 32 := Scalar.muli v318 c1_i32_224
  let v320 : BitVec 32 := Scalar.addi c0_i32_222 v319
  let c1_i32_226 : BitVec 32 := 1#32
  let arg10 : BitVec 32 := Scf.iv v320 c1_i32_226 k0_t30
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk61 (v679 : IVec S16 32) (v719 : IVec S16 32) : Prop :=
  (∀ a x, ((![v679, v719] : Fin 2 → IVec S16 32) a x).toNat < S16x6272.size a)
theorem k0_idx54_inb : ∀ (v679 : IVec S16 32) (v719 : IVec S16 32) (k0_hw61 : k0_chk61 v679 v719), ∀ a x, ((![v679, v719] : Fin 2 → IVec S16 32) a x).toNat < S16x6272.size a := fun v679 v719 k0_hw61 => k0_hw61
def k0_off71 (v289 : BitVec 32) (k0_t30 : Fin (k0_t30_loop v289).trips) : Fin 1 → Nat :=
  let c0_i32_222 : BitVec 32 := 0#32
  let c63_i32_214 : BitVec 32 := 63#32
  let v298 : BitVec 32 := Scalar.addi v289 c63_i32_214
  let c0_i32_216 : BitVec 32 := 0#32
  let v300 : BitVec 1 := Scalar.cmpi .sgt v298 c0_i32_216
  let v301 : BitVec 32 := Scalar.extui v300
  let c0_i32_217 : BitVec 32 := 0#32
  let v302 : BitVec 1 := Scalar.cmpi .slt v298 c0_i32_217
  let v303 : BitVec 32 := Scalar.extui v302
  let v304 : BitVec 32 := Scalar.subi v301 v303
  let c64_i32_215 : BitVec 32 := 64#32
  let c0_i32_218 : BitVec 32 := 0#32
  let v305 : BitVec 1 := Scalar.cmpi .sgt c64_i32_215 c0_i32_218
  let v306 : BitVec 32 := Scalar.extui v305
  let c0_i32_219 : BitVec 32 := 0#32
  let v307 : BitVec 1 := Scalar.cmpi .slt c64_i32_215 c0_i32_219
  let v308 : BitVec 32 := Scalar.extui v307
  let v309 : BitVec 32 := Scalar.subi v306 v308
  let v310 : BitVec 1 := Scalar.cmpi .ne v304 v309
  let v311 : BitVec 32 := Scalar.remsi v298 c64_i32_215
  let c0_i32_220 : BitVec 32 := 0#32
  let v312 : BitVec 1 := Scalar.cmpi .ne v311 c0_i32_220
  let v313 : BitVec 1 := Scalar.andi v310 v312
  let v299 : BitVec 32 := Scalar.divsi v298 c64_i32_215
  let c1_i32_221 : BitVec 32 := 1#32
  let v314 : BitVec 32 := Scalar.subi v299 c1_i32_221
  let v315 : BitVec 32 := Scalar.select v313 v314 v299
  let v316 : BitVec 32 := Scalar.subi v315 c0_i32_222
  let c1_i32_224 : BitVec 32 := 1#32
  let v318 : BitVec 32 := Scalar.divsi v316 c1_i32_224
  let v319 : BitVec 32 := Scalar.muli v318 c1_i32_224
  let v320 : BitVec 32 := Scalar.addi c0_i32_222 v319
  let c1_i32_226 : BitVec 32 := 1#32
  let arg10 : BitVec 32 := Scf.iv v320 c1_i32_226 k0_t30
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk62 (v679 : IVec S16 32) (v739 : IVec S16 32) : Prop :=
  (∀ a x, ((![v679, v739] : Fin 2 → IVec S16 32) a x).toNat < S16x6272.size a)
theorem k0_idx55_inb : ∀ (v679 : IVec S16 32) (v739 : IVec S16 32) (k0_hw62 : k0_chk62 v679 v739), ∀ a x, ((![v679, v739] : Fin 2 → IVec S16 32) a x).toNat < S16x6272.size a := fun v679 v739 k0_hw62 => k0_hw62
def k0_off72 (v289 : BitVec 32) (k0_t30 : Fin (k0_t30_loop v289).trips) : Fin 1 → Nat :=
  let c0_i32_222 : BitVec 32 := 0#32
  let c63_i32_214 : BitVec 32 := 63#32
  let v298 : BitVec 32 := Scalar.addi v289 c63_i32_214
  let c0_i32_216 : BitVec 32 := 0#32
  let v300 : BitVec 1 := Scalar.cmpi .sgt v298 c0_i32_216
  let v301 : BitVec 32 := Scalar.extui v300
  let c0_i32_217 : BitVec 32 := 0#32
  let v302 : BitVec 1 := Scalar.cmpi .slt v298 c0_i32_217
  let v303 : BitVec 32 := Scalar.extui v302
  let v304 : BitVec 32 := Scalar.subi v301 v303
  let c64_i32_215 : BitVec 32 := 64#32
  let c0_i32_218 : BitVec 32 := 0#32
  let v305 : BitVec 1 := Scalar.cmpi .sgt c64_i32_215 c0_i32_218
  let v306 : BitVec 32 := Scalar.extui v305
  let c0_i32_219 : BitVec 32 := 0#32
  let v307 : BitVec 1 := Scalar.cmpi .slt c64_i32_215 c0_i32_219
  let v308 : BitVec 32 := Scalar.extui v307
  let v309 : BitVec 32 := Scalar.subi v306 v308
  let v310 : BitVec 1 := Scalar.cmpi .ne v304 v309
  let v311 : BitVec 32 := Scalar.remsi v298 c64_i32_215
  let c0_i32_220 : BitVec 32 := 0#32
  let v312 : BitVec 1 := Scalar.cmpi .ne v311 c0_i32_220
  let v313 : BitVec 1 := Scalar.andi v310 v312
  let v299 : BitVec 32 := Scalar.divsi v298 c64_i32_215
  let c1_i32_221 : BitVec 32 := 1#32
  let v314 : BitVec 32 := Scalar.subi v299 c1_i32_221
  let v315 : BitVec 32 := Scalar.select v313 v314 v299
  let v316 : BitVec 32 := Scalar.subi v315 c0_i32_222
  let c1_i32_224 : BitVec 32 := 1#32
  let v318 : BitVec 32 := Scalar.divsi v316 c1_i32_224
  let v319 : BitVec 32 := Scalar.muli v318 c1_i32_224
  let v320 : BitVec 32 := Scalar.addi c0_i32_222 v319
  let c1_i32_226 : BitVec 32 := 1#32
  let arg10 : BitVec 32 := Scf.iv v320 c1_i32_226 k0_t30
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk55 (v289 : BitVec 32) : Prop :=
  ((k0_t29_loop v289).OK) ∧
  (∀ k0_t29 : Fin (k0_t29_loop v289).trips, ∀ a, (k0_off65 v289 k0_t29) a + S16.size a ≤ S4096.size a) ∧
  (∀ k0_t29 : Fin (k0_t29_loop v289).trips, ∀ a, (k0_off66 v289 k0_t29) a + S16.size a ≤ S4096.size a) ∧
  (∀ k0_t29 : Fin (k0_t29_loop v289).trips, ∀ a, (k0_off67 v289 k0_t29) a + S16.size a ≤ S4096.size a) ∧
  (∀ k0_t29 : Fin (k0_t29_loop v289).trips, ∀ a, (k0_off68 v289 k0_t29) a + S16.size a ≤ S4096.size a) ∧
  ((k0_t30_loop v289).OK) ∧
  (∀ k0_t30 : Fin (k0_t30_loop v289).trips, ∀ a, (k0_off69 v289 k0_t30) a + S16.size a ≤ S4096.size a) ∧
  (∀ k0_t30 : Fin (k0_t30_loop v289).trips, ∀ a, (k0_off70 v289 k0_t30) a + S16.size a ≤ S4096.size a) ∧
  (∀ k0_t30 : Fin (k0_t30_loop v289).trips, ∀ a, (k0_off71 v289 k0_t30) a + S16.size a ≤ S4096.size a) ∧
  (∀ k0_t30 : Fin (k0_t30_loop v289).trips, ∀ a, (k0_off72 v289 k0_t30) a + S16.size a ≤ S4096.size a)
theorem k0_t29_ok : ∀ (v289 : BitVec 32) (k0_hw55 : k0_chk55 v289), (k0_t29_loop v289).OK := fun v289 k0_hw55 => k0_hw55.1
theorem k0_off65_inb : ∀ (v289 : BitVec 32) (k0_hw55 : k0_chk55 v289) (k0_t29 : Fin (k0_t29_loop v289).trips), ∀ a, (k0_off65 v289 k0_t29) a + S16.size a ≤ S4096.size a := fun v289 k0_hw55 k0_t29 => k0_hw55.2.1 k0_t29
theorem k0_off66_inb : ∀ (v289 : BitVec 32) (k0_hw55 : k0_chk55 v289) (k0_t29 : Fin (k0_t29_loop v289).trips), ∀ a, (k0_off66 v289 k0_t29) a + S16.size a ≤ S4096.size a := fun v289 k0_hw55 k0_t29 => k0_hw55.2.2.1 k0_t29
theorem k0_off67_inb : ∀ (v289 : BitVec 32) (k0_hw55 : k0_chk55 v289) (k0_t29 : Fin (k0_t29_loop v289).trips), ∀ a, (k0_off67 v289 k0_t29) a + S16.size a ≤ S4096.size a := fun v289 k0_hw55 k0_t29 => k0_hw55.2.2.2.1 k0_t29
theorem k0_off68_inb : ∀ (v289 : BitVec 32) (k0_hw55 : k0_chk55 v289) (k0_t29 : Fin (k0_t29_loop v289).trips), ∀ a, (k0_off68 v289 k0_t29) a + S16.size a ≤ S4096.size a := fun v289 k0_hw55 k0_t29 => k0_hw55.2.2.2.2.1 k0_t29
theorem k0_t30_ok : ∀ (v289 : BitVec 32) (k0_hw55 : k0_chk55 v289), (k0_t30_loop v289).OK := fun v289 k0_hw55 => k0_hw55.2.2.2.2.2.1
theorem k0_off69_inb : ∀ (v289 : BitVec 32) (k0_hw55 : k0_chk55 v289) (k0_t30 : Fin (k0_t30_loop v289).trips), ∀ a, (k0_off69 v289 k0_t30) a + S16.size a ≤ S4096.size a := fun v289 k0_hw55 k0_t30 => k0_hw55.2.2.2.2.2.2.1 k0_t30
theorem k0_off70_inb : ∀ (v289 : BitVec 32) (k0_hw55 : k0_chk55 v289) (k0_t30 : Fin (k0_t30_loop v289).trips), ∀ a, (k0_off70 v289 k0_t30) a + S16.size a ≤ S4096.size a := fun v289 k0_hw55 k0_t30 => k0_hw55.2.2.2.2.2.2.2.1 k0_t30
theorem k0_off71_inb : ∀ (v289 : BitVec 32) (k0_hw55 : k0_chk55 v289) (k0_t30 : Fin (k0_t30_loop v289).trips), ∀ a, (k0_off71 v289 k0_t30) a + S16.size a ≤ S4096.size a := fun v289 k0_hw55 k0_t30 => k0_hw55.2.2.2.2.2.2.2.2.1 k0_t30
theorem k0_off72_inb : ∀ (v289 : BitVec 32) (k0_hw55 : k0_chk55 v289) (k0_t30 : Fin (k0_t30_loop v289).trips), ∀ a, (k0_off72 v289 k0_t30) a + S16.size a ≤ S4096.size a := fun v289 k0_hw55 k0_t30 => k0_hw55.2.2.2.2.2.2.2.2.2 k0_t30

def k0_chk63 (v679 : IVec S16 32) (v759 : IVec S16 32) : Prop :=
  (∀ a x, ((![v679, v759] : Fin 2 → IVec S16 32) a x).toNat < S16x6272.size a)
theorem k0_idx56_inb : ∀ (v679 : IVec S16 32) (v759 : IVec S16 32) (k0_hw63 : k0_chk63 v679 v759), ∀ a x, ((![v679, v759] : Fin 2 → IVec S16 32) a x).toNat < S16x6272.size a := fun v679 v759 k0_hw63 => k0_hw63
@[reducible] def k0_t31_loop (v329 : BitVec 32) : Scf.Loop 32 :=
  let c0_i32_243 : BitVec 32 := 0#32
  let c63_i32_235 : BitVec 32 := 63#32
  let v338 : BitVec 32 := Scalar.addi v329 c63_i32_235
  let c0_i32_237 : BitVec 32 := 0#32
  let v340 : BitVec 1 := Scalar.cmpi .sgt v338 c0_i32_237
  let v341 : BitVec 32 := Scalar.extui v340
  let c0_i32_238 : BitVec 32 := 0#32
  let v342 : BitVec 1 := Scalar.cmpi .slt v338 c0_i32_238
  let v343 : BitVec 32 := Scalar.extui v342
  let v344 : BitVec 32 := Scalar.subi v341 v343
  let c64_i32_236 : BitVec 32 := 64#32
  let c0_i32_239 : BitVec 32 := 0#32
  let v345 : BitVec 1 := Scalar.cmpi .sgt c64_i32_236 c0_i32_239
  let v346 : BitVec 32 := Scalar.extui v345
  let c0_i32_240 : BitVec 32 := 0#32
  let v347 : BitVec 1 := Scalar.cmpi .slt c64_i32_236 c0_i32_240
  let v348 : BitVec 32 := Scalar.extui v347
  let v349 : BitVec 32 := Scalar.subi v346 v348
  let v350 : BitVec 1 := Scalar.cmpi .ne v344 v349
  let v351 : BitVec 32 := Scalar.remsi v338 c64_i32_236
  let c0_i32_241 : BitVec 32 := 0#32
  let v352 : BitVec 1 := Scalar.cmpi .ne v351 c0_i32_241
  let v353 : BitVec 1 := Scalar.andi v350 v352
  let v339 : BitVec 32 := Scalar.divsi v338 c64_i32_236
  let c1_i32_242 : BitVec 32 := 1#32
  let v354 : BitVec 32 := Scalar.subi v339 c1_i32_242
  let v355 : BitVec 32 := Scalar.select v353 v354 v339
  let v356 : BitVec 32 := Scalar.subi v355 c0_i32_243
  let c1_i32_245 : BitVec 32 := 1#32
  let v358 : BitVec 32 := Scalar.divsi v356 c1_i32_245
  let v359 : BitVec 32 := Scalar.muli v358 c1_i32_245
  let v360 : BitVec 32 := Scalar.addi c0_i32_243 v359
  let c1_i32_246 : BitVec 32 := 1#32
  ⟨c0_i32_243, v360, c1_i32_246⟩

def k0_off73 (v329 : BitVec 32) (k0_t31 : Fin (k0_t31_loop v329).trips) : Fin 1 → Nat :=
  let c0_i32_243 : BitVec 32 := 0#32
  let c1_i32_246 : BitVec 32 := 1#32
  let arg10 : BitVec 32 := Scf.iv c0_i32_243 c1_i32_246 k0_t31
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk65 (v679 : IVec S16 32) (v699 : IVec S16 32) : Prop :=
  (∀ a x, ((![v679, v699] : Fin 2 → IVec S16 32) a x).toNat < S16x6272.size a)
theorem k0_idx57_inb : ∀ (v679 : IVec S16 32) (v699 : IVec S16 32) (k0_hw65 : k0_chk65 v679 v699), ∀ a x, ((![v679, v699] : Fin 2 → IVec S16 32) a x).toNat < S16x6272.size a := fun v679 v699 k0_hw65 => k0_hw65
def k0_off74 (v329 : BitVec 32) (k0_t31 : Fin (k0_t31_loop v329).trips) : Fin 1 → Nat :=
  let c0_i32_243 : BitVec 32 := 0#32
  let c1_i32_246 : BitVec 32 := 1#32
  let arg10 : BitVec 32 := Scf.iv c0_i32_243 c1_i32_246 k0_t31
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk66 (v679 : IVec S16 32) (v719 : IVec S16 32) : Prop :=
  (∀ a x, ((![v679, v719] : Fin 2 → IVec S16 32) a x).toNat < S16x6272.size a)
theorem k0_idx58_inb : ∀ (v679 : IVec S16 32) (v719 : IVec S16 32) (k0_hw66 : k0_chk66 v679 v719), ∀ a x, ((![v679, v719] : Fin 2 → IVec S16 32) a x).toNat < S16x6272.size a := fun v679 v719 k0_hw66 => k0_hw66
def k0_off75 (v329 : BitVec 32) (k0_t31 : Fin (k0_t31_loop v329).trips) : Fin 1 → Nat :=
  let c0_i32_243 : BitVec 32 := 0#32
  let c1_i32_246 : BitVec 32 := 1#32
  let arg10 : BitVec 32 := Scf.iv c0_i32_243 c1_i32_246 k0_t31
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk67 (v679 : IVec S16 32) (v739 : IVec S16 32) : Prop :=
  (∀ a x, ((![v679, v739] : Fin 2 → IVec S16 32) a x).toNat < S16x6272.size a)
theorem k0_idx59_inb : ∀ (v679 : IVec S16 32) (v739 : IVec S16 32) (k0_hw67 : k0_chk67 v679 v739), ∀ a x, ((![v679, v739] : Fin 2 → IVec S16 32) a x).toNat < S16x6272.size a := fun v679 v739 k0_hw67 => k0_hw67
def k0_off76 (v329 : BitVec 32) (k0_t31 : Fin (k0_t31_loop v329).trips) : Fin 1 → Nat :=
  let c0_i32_243 : BitVec 32 := 0#32
  let c1_i32_246 : BitVec 32 := 1#32
  let arg10 : BitVec 32 := Scf.iv c0_i32_243 c1_i32_246 k0_t31
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk68 (v679 : IVec S16 32) (v759 : IVec S16 32) : Prop :=
  (∀ a x, ((![v679, v759] : Fin 2 → IVec S16 32) a x).toNat < S16x6272.size a)
theorem k0_idx60_inb : ∀ (v679 : IVec S16 32) (v759 : IVec S16 32) (k0_hw68 : k0_chk68 v679 v759), ∀ a x, ((![v679, v759] : Fin 2 → IVec S16 32) a x).toNat < S16x6272.size a := fun v679 v759 k0_hw68 => k0_hw68
@[reducible] def k0_t32_loop (v329 : BitVec 32) : Scf.Loop 32 :=
  let c0_i32_243 : BitVec 32 := 0#32
  let c63_i32_235 : BitVec 32 := 63#32
  let v338 : BitVec 32 := Scalar.addi v329 c63_i32_235
  let c0_i32_237 : BitVec 32 := 0#32
  let v340 : BitVec 1 := Scalar.cmpi .sgt v338 c0_i32_237
  let v341 : BitVec 32 := Scalar.extui v340
  let c0_i32_238 : BitVec 32 := 0#32
  let v342 : BitVec 1 := Scalar.cmpi .slt v338 c0_i32_238
  let v343 : BitVec 32 := Scalar.extui v342
  let v344 : BitVec 32 := Scalar.subi v341 v343
  let c64_i32_236 : BitVec 32 := 64#32
  let c0_i32_239 : BitVec 32 := 0#32
  let v345 : BitVec 1 := Scalar.cmpi .sgt c64_i32_236 c0_i32_239
  let v346 : BitVec 32 := Scalar.extui v345
  let c0_i32_240 : BitVec 32 := 0#32
  let v347 : BitVec 1 := Scalar.cmpi .slt c64_i32_236 c0_i32_240
  let v348 : BitVec 32 := Scalar.extui v347
  let v349 : BitVec 32 := Scalar.subi v346 v348
  let v350 : BitVec 1 := Scalar.cmpi .ne v344 v349
  let v351 : BitVec 32 := Scalar.remsi v338 c64_i32_236
  let c0_i32_241 : BitVec 32 := 0#32
  let v352 : BitVec 1 := Scalar.cmpi .ne v351 c0_i32_241
  let v353 : BitVec 1 := Scalar.andi v350 v352
  let v339 : BitVec 32 := Scalar.divsi v338 c64_i32_236
  let c1_i32_242 : BitVec 32 := 1#32
  let v354 : BitVec 32 := Scalar.subi v339 c1_i32_242
  let v355 : BitVec 32 := Scalar.select v353 v354 v339
  let v356 : BitVec 32 := Scalar.subi v355 c0_i32_243
  let c1_i32_245 : BitVec 32 := 1#32
  let v358 : BitVec 32 := Scalar.divsi v356 c1_i32_245
  let v359 : BitVec 32 := Scalar.muli v358 c1_i32_245
  let v360 : BitVec 32 := Scalar.addi c0_i32_243 v359
  let v357 : BitVec 32 := Scalar.addi c0_i32_243 v356
  let c1_i32_247 : BitVec 32 := 1#32
  ⟨v360, v357, c1_i32_247⟩
def k0_off77 (v329 : BitVec 32) (k0_t32 : Fin (k0_t32_loop v329).trips) : Fin 1 → Nat :=
  let c0_i32_243 : BitVec 32 := 0#32
  let c63_i32_235 : BitVec 32 := 63#32
  let v338 : BitVec 32 := Scalar.addi v329 c63_i32_235
  let c0_i32_237 : BitVec 32 := 0#32
  let v340 : BitVec 1 := Scalar.cmpi .sgt v338 c0_i32_237
  let v341 : BitVec 32 := Scalar.extui v340
  let c0_i32_238 : BitVec 32 := 0#32
  let v342 : BitVec 1 := Scalar.cmpi .slt v338 c0_i32_238
  let v343 : BitVec 32 := Scalar.extui v342
  let v344 : BitVec 32 := Scalar.subi v341 v343
  let c64_i32_236 : BitVec 32 := 64#32
  let c0_i32_239 : BitVec 32 := 0#32
  let v345 : BitVec 1 := Scalar.cmpi .sgt c64_i32_236 c0_i32_239
  let v346 : BitVec 32 := Scalar.extui v345
  let c0_i32_240 : BitVec 32 := 0#32
  let v347 : BitVec 1 := Scalar.cmpi .slt c64_i32_236 c0_i32_240
  let v348 : BitVec 32 := Scalar.extui v347
  let v349 : BitVec 32 := Scalar.subi v346 v348
  let v350 : BitVec 1 := Scalar.cmpi .ne v344 v349
  let v351 : BitVec 32 := Scalar.remsi v338 c64_i32_236
  let c0_i32_241 : BitVec 32 := 0#32
  let v352 : BitVec 1 := Scalar.cmpi .ne v351 c0_i32_241
  let v353 : BitVec 1 := Scalar.andi v350 v352
  let v339 : BitVec 32 := Scalar.divsi v338 c64_i32_236
  let c1_i32_242 : BitVec 32 := 1#32
  let v354 : BitVec 32 := Scalar.subi v339 c1_i32_242
  let v355 : BitVec 32 := Scalar.select v353 v354 v339
  let v356 : BitVec 32 := Scalar.subi v355 c0_i32_243
  let c1_i32_245 : BitVec 32 := 1#32
  let v358 : BitVec 32 := Scalar.divsi v356 c1_i32_245
  let v359 : BitVec 32 := Scalar.muli v358 c1_i32_245
  let v360 : BitVec 32 := Scalar.addi c0_i32_243 v359
  let c1_i32_247 : BitVec 32 := 1#32
  let arg10 : BitVec 32 := Scf.iv v360 c1_i32_247 k0_t32
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk69 (v679 : IVec S16 32) (v699 : IVec S16 32) : Prop :=
  (∀ a x, ((![v679, v699] : Fin 2 → IVec S16 32) a x).toNat < S16x6272.size a)
theorem k0_idx61_inb : ∀ (v679 : IVec S16 32) (v699 : IVec S16 32) (k0_hw69 : k0_chk69 v679 v699), ∀ a x, ((![v679, v699] : Fin 2 → IVec S16 32) a x).toNat < S16x6272.size a := fun v679 v699 k0_hw69 => k0_hw69
def k0_off78 (v329 : BitVec 32) (k0_t32 : Fin (k0_t32_loop v329).trips) : Fin 1 → Nat :=
  let c0_i32_243 : BitVec 32 := 0#32
  let c63_i32_235 : BitVec 32 := 63#32
  let v338 : BitVec 32 := Scalar.addi v329 c63_i32_235
  let c0_i32_237 : BitVec 32 := 0#32
  let v340 : BitVec 1 := Scalar.cmpi .sgt v338 c0_i32_237
  let v341 : BitVec 32 := Scalar.extui v340
  let c0_i32_238 : BitVec 32 := 0#32
  let v342 : BitVec 1 := Scalar.cmpi .slt v338 c0_i32_238
  let v343 : BitVec 32 := Scalar.extui v342
  let v344 : BitVec 32 := Scalar.subi v341 v343
  let c64_i32_236 : BitVec 32 := 64#32
  let c0_i32_239 : BitVec 32 := 0#32
  let v345 : BitVec 1 := Scalar.cmpi .sgt c64_i32_236 c0_i32_239
  let v346 : BitVec 32 := Scalar.extui v345
  let c0_i32_240 : BitVec 32 := 0#32
  let v347 : BitVec 1 := Scalar.cmpi .slt c64_i32_236 c0_i32_240
  let v348 : BitVec 32 := Scalar.extui v347
  let v349 : BitVec 32 := Scalar.subi v346 v348
  let v350 : BitVec 1 := Scalar.cmpi .ne v344 v349
  let v351 : BitVec 32 := Scalar.remsi v338 c64_i32_236
  let c0_i32_241 : BitVec 32 := 0#32
  let v352 : BitVec 1 := Scalar.cmpi .ne v351 c0_i32_241
  let v353 : BitVec 1 := Scalar.andi v350 v352
  let v339 : BitVec 32 := Scalar.divsi v338 c64_i32_236
  let c1_i32_242 : BitVec 32 := 1#32
  let v354 : BitVec 32 := Scalar.subi v339 c1_i32_242
  let v355 : BitVec 32 := Scalar.select v353 v354 v339
  let v356 : BitVec 32 := Scalar.subi v355 c0_i32_243
  let c1_i32_245 : BitVec 32 := 1#32
  let v358 : BitVec 32 := Scalar.divsi v356 c1_i32_245
  let v359 : BitVec 32 := Scalar.muli v358 c1_i32_245
  let v360 : BitVec 32 := Scalar.addi c0_i32_243 v359
  let c1_i32_247 : BitVec 32 := 1#32
  let arg10 : BitVec 32 := Scf.iv v360 c1_i32_247 k0_t32
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk70 (v679 : IVec S16 32) (v719 : IVec S16 32) : Prop :=
  (∀ a x, ((![v679, v719] : Fin 2 → IVec S16 32) a x).toNat < S16x6272.size a)
theorem k0_idx62_inb : ∀ (v679 : IVec S16 32) (v719 : IVec S16 32) (k0_hw70 : k0_chk70 v679 v719), ∀ a x, ((![v679, v719] : Fin 2 → IVec S16 32) a x).toNat < S16x6272.size a := fun v679 v719 k0_hw70 => k0_hw70
def k0_off79 (v329 : BitVec 32) (k0_t32 : Fin (k0_t32_loop v329).trips) : Fin 1 → Nat :=
  let c0_i32_243 : BitVec 32 := 0#32
  let c63_i32_235 : BitVec 32 := 63#32
  let v338 : BitVec 32 := Scalar.addi v329 c63_i32_235
  let c0_i32_237 : BitVec 32 := 0#32
  let v340 : BitVec 1 := Scalar.cmpi .sgt v338 c0_i32_237
  let v341 : BitVec 32 := Scalar.extui v340
  let c0_i32_238 : BitVec 32 := 0#32
  let v342 : BitVec 1 := Scalar.cmpi .slt v338 c0_i32_238
  let v343 : BitVec 32 := Scalar.extui v342
  let v344 : BitVec 32 := Scalar.subi v341 v343
  let c64_i32_236 : BitVec 32 := 64#32
  let c0_i32_239 : BitVec 32 := 0#32
  let v345 : BitVec 1 := Scalar.cmpi .sgt c64_i32_236 c0_i32_239
  let v346 : BitVec 32 := Scalar.extui v345
  let c0_i32_240 : BitVec 32 := 0#32
  let v347 : BitVec 1 := Scalar.cmpi .slt c64_i32_236 c0_i32_240
  let v348 : BitVec 32 := Scalar.extui v347
  let v349 : BitVec 32 := Scalar.subi v346 v348
  let v350 : BitVec 1 := Scalar.cmpi .ne v344 v349
  let v351 : BitVec 32 := Scalar.remsi v338 c64_i32_236
  let c0_i32_241 : BitVec 32 := 0#32
  let v352 : BitVec 1 := Scalar.cmpi .ne v351 c0_i32_241
  let v353 : BitVec 1 := Scalar.andi v350 v352
  let v339 : BitVec 32 := Scalar.divsi v338 c64_i32_236
  let c1_i32_242 : BitVec 32 := 1#32
  let v354 : BitVec 32 := Scalar.subi v339 c1_i32_242
  let v355 : BitVec 32 := Scalar.select v353 v354 v339
  let v356 : BitVec 32 := Scalar.subi v355 c0_i32_243
  let c1_i32_245 : BitVec 32 := 1#32
  let v358 : BitVec 32 := Scalar.divsi v356 c1_i32_245
  let v359 : BitVec 32 := Scalar.muli v358 c1_i32_245
  let v360 : BitVec 32 := Scalar.addi c0_i32_243 v359
  let c1_i32_247 : BitVec 32 := 1#32
  let arg10 : BitVec 32 := Scf.iv v360 c1_i32_247 k0_t32
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk71 (v679 : IVec S16 32) (v739 : IVec S16 32) : Prop :=
  (∀ a x, ((![v679, v739] : Fin 2 → IVec S16 32) a x).toNat < S16x6272.size a)
theorem k0_idx63_inb : ∀ (v679 : IVec S16 32) (v739 : IVec S16 32) (k0_hw71 : k0_chk71 v679 v739), ∀ a x, ((![v679, v739] : Fin 2 → IVec S16 32) a x).toNat < S16x6272.size a := fun v679 v739 k0_hw71 => k0_hw71
def k0_off80 (v329 : BitVec 32) (k0_t32 : Fin (k0_t32_loop v329).trips) : Fin 1 → Nat :=
  let c0_i32_243 : BitVec 32 := 0#32
  let c63_i32_235 : BitVec 32 := 63#32
  let v338 : BitVec 32 := Scalar.addi v329 c63_i32_235
  let c0_i32_237 : BitVec 32 := 0#32
  let v340 : BitVec 1 := Scalar.cmpi .sgt v338 c0_i32_237
  let v341 : BitVec 32 := Scalar.extui v340
  let c0_i32_238 : BitVec 32 := 0#32
  let v342 : BitVec 1 := Scalar.cmpi .slt v338 c0_i32_238
  let v343 : BitVec 32 := Scalar.extui v342
  let v344 : BitVec 32 := Scalar.subi v341 v343
  let c64_i32_236 : BitVec 32 := 64#32
  let c0_i32_239 : BitVec 32 := 0#32
  let v345 : BitVec 1 := Scalar.cmpi .sgt c64_i32_236 c0_i32_239
  let v346 : BitVec 32 := Scalar.extui v345
  let c0_i32_240 : BitVec 32 := 0#32
  let v347 : BitVec 1 := Scalar.cmpi .slt c64_i32_236 c0_i32_240
  let v348 : BitVec 32 := Scalar.extui v347
  let v349 : BitVec 32 := Scalar.subi v346 v348
  let v350 : BitVec 1 := Scalar.cmpi .ne v344 v349
  let v351 : BitVec 32 := Scalar.remsi v338 c64_i32_236
  let c0_i32_241 : BitVec 32 := 0#32
  let v352 : BitVec 1 := Scalar.cmpi .ne v351 c0_i32_241
  let v353 : BitVec 1 := Scalar.andi v350 v352
  let v339 : BitVec 32 := Scalar.divsi v338 c64_i32_236
  let c1_i32_242 : BitVec 32 := 1#32
  let v354 : BitVec 32 := Scalar.subi v339 c1_i32_242
  let v355 : BitVec 32 := Scalar.select v353 v354 v339
  let v356 : BitVec 32 := Scalar.subi v355 c0_i32_243
  let c1_i32_245 : BitVec 32 := 1#32
  let v358 : BitVec 32 := Scalar.divsi v356 c1_i32_245
  let v359 : BitVec 32 := Scalar.muli v358 c1_i32_245
  let v360 : BitVec 32 := Scalar.addi c0_i32_243 v359
  let c1_i32_247 : BitVec 32 := 1#32
  let arg10 : BitVec 32 := Scf.iv v360 c1_i32_247 k0_t32
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk64 (v329 : BitVec 32) : Prop :=
  ((k0_t31_loop v329).OK) ∧
  (∀ k0_t31 : Fin (k0_t31_loop v329).trips, ∀ a, (k0_off73 v329 k0_t31) a + S16.size a ≤ S4096.size a) ∧
  (∀ k0_t31 : Fin (k0_t31_loop v329).trips, ∀ a, (k0_off74 v329 k0_t31) a + S16.size a ≤ S4096.size a) ∧
  (∀ k0_t31 : Fin (k0_t31_loop v329).trips, ∀ a, (k0_off75 v329 k0_t31) a + S16.size a ≤ S4096.size a) ∧
  (∀ k0_t31 : Fin (k0_t31_loop v329).trips, ∀ a, (k0_off76 v329 k0_t31) a + S16.size a ≤ S4096.size a) ∧
  ((k0_t32_loop v329).OK) ∧
  (∀ k0_t32 : Fin (k0_t32_loop v329).trips, ∀ a, (k0_off77 v329 k0_t32) a + S16.size a ≤ S4096.size a) ∧
  (∀ k0_t32 : Fin (k0_t32_loop v329).trips, ∀ a, (k0_off78 v329 k0_t32) a + S16.size a ≤ S4096.size a) ∧
  (∀ k0_t32 : Fin (k0_t32_loop v329).trips, ∀ a, (k0_off79 v329 k0_t32) a + S16.size a ≤ S4096.size a) ∧
  (∀ k0_t32 : Fin (k0_t32_loop v329).trips, ∀ a, (k0_off80 v329 k0_t32) a + S16.size a ≤ S4096.size a)
theorem k0_t31_ok : ∀ (v329 : BitVec 32) (k0_hw64 : k0_chk64 v329), (k0_t31_loop v329).OK := fun v329 k0_hw64 => k0_hw64.1
theorem k0_off73_inb : ∀ (v329 : BitVec 32) (k0_hw64 : k0_chk64 v329) (k0_t31 : Fin (k0_t31_loop v329).trips), ∀ a, (k0_off73 v329 k0_t31) a + S16.size a ≤ S4096.size a := fun v329 k0_hw64 k0_t31 => k0_hw64.2.1 k0_t31
theorem k0_off74_inb : ∀ (v329 : BitVec 32) (k0_hw64 : k0_chk64 v329) (k0_t31 : Fin (k0_t31_loop v329).trips), ∀ a, (k0_off74 v329 k0_t31) a + S16.size a ≤ S4096.size a := fun v329 k0_hw64 k0_t31 => k0_hw64.2.2.1 k0_t31
theorem k0_off75_inb : ∀ (v329 : BitVec 32) (k0_hw64 : k0_chk64 v329) (k0_t31 : Fin (k0_t31_loop v329).trips), ∀ a, (k0_off75 v329 k0_t31) a + S16.size a ≤ S4096.size a := fun v329 k0_hw64 k0_t31 => k0_hw64.2.2.2.1 k0_t31
theorem k0_off76_inb : ∀ (v329 : BitVec 32) (k0_hw64 : k0_chk64 v329) (k0_t31 : Fin (k0_t31_loop v329).trips), ∀ a, (k0_off76 v329 k0_t31) a + S16.size a ≤ S4096.size a := fun v329 k0_hw64 k0_t31 => k0_hw64.2.2.2.2.1 k0_t31
theorem k0_t32_ok : ∀ (v329 : BitVec 32) (k0_hw64 : k0_chk64 v329), (k0_t32_loop v329).OK := fun v329 k0_hw64 => k0_hw64.2.2.2.2.2.1
theorem k0_off77_inb : ∀ (v329 : BitVec 32) (k0_hw64 : k0_chk64 v329) (k0_t32 : Fin (k0_t32_loop v329).trips), ∀ a, (k0_off77 v329 k0_t32) a + S16.size a ≤ S4096.size a := fun v329 k0_hw64 k0_t32 => k0_hw64.2.2.2.2.2.2.1 k0_t32
theorem k0_off78_inb : ∀ (v329 : BitVec 32) (k0_hw64 : k0_chk64 v329) (k0_t32 : Fin (k0_t32_loop v329).trips), ∀ a, (k0_off78 v329 k0_t32) a + S16.size a ≤ S4096.size a := fun v329 k0_hw64 k0_t32 => k0_hw64.2.2.2.2.2.2.2.1 k0_t32
theorem k0_off79_inb : ∀ (v329 : BitVec 32) (k0_hw64 : k0_chk64 v329) (k0_t32 : Fin (k0_t32_loop v329).trips), ∀ a, (k0_off79 v329 k0_t32) a + S16.size a ≤ S4096.size a := fun v329 k0_hw64 k0_t32 => k0_hw64.2.2.2.2.2.2.2.2.1 k0_t32
theorem k0_off80_inb : ∀ (v329 : BitVec 32) (k0_hw64 : k0_chk64 v329) (k0_t32 : Fin (k0_t32_loop v329).trips), ∀ a, (k0_off80 v329 k0_t32) a + S16.size a ≤ S4096.size a := fun v329 k0_hw64 k0_t32 => k0_hw64.2.2.2.2.2.2.2.2.2 k0_t32

def k0_chk72 (v679 : IVec S16 32) (v759 : IVec S16 32) : Prop :=
  (∀ a x, ((![v679, v759] : Fin 2 → IVec S16 32) a x).toNat < S16x6272.size a)
theorem k0_idx64_inb : ∀ (v679 : IVec S16 32) (v759 : IVec S16 32) (k0_hw72 : k0_chk72 v679 v759), ∀ a x, ((![v679, v759] : Fin 2 → IVec S16 32) a x).toNat < S16x6272.size a := fun v679 v759 k0_hw72 => k0_hw72
@[reducible] def k0_t33_loop (v369 : BitVec 32) : Scf.Loop 32 :=
  let c0_i32_264 : BitVec 32 := 0#32
  let c63_i32_256 : BitVec 32 := 63#32
  let v378 : BitVec 32 := Scalar.addi v369 c63_i32_256
  let c0_i32_258 : BitVec 32 := 0#32
  let v380 : BitVec 1 := Scalar.cmpi .sgt v378 c0_i32_258
  let v381 : BitVec 32 := Scalar.extui v380
  let c0_i32_259 : BitVec 32 := 0#32
  let v382 : BitVec 1 := Scalar.cmpi .slt v378 c0_i32_259
  let v383 : BitVec 32 := Scalar.extui v382
  let v384 : BitVec 32 := Scalar.subi v381 v383
  let c64_i32_257 : BitVec 32 := 64#32
  let c0_i32_260 : BitVec 32 := 0#32
  let v385 : BitVec 1 := Scalar.cmpi .sgt c64_i32_257 c0_i32_260
  let v386 : BitVec 32 := Scalar.extui v385
  let c0_i32_261 : BitVec 32 := 0#32
  let v387 : BitVec 1 := Scalar.cmpi .slt c64_i32_257 c0_i32_261
  let v388 : BitVec 32 := Scalar.extui v387
  let v389 : BitVec 32 := Scalar.subi v386 v388
  let v390 : BitVec 1 := Scalar.cmpi .ne v384 v389
  let v391 : BitVec 32 := Scalar.remsi v378 c64_i32_257
  let c0_i32_262 : BitVec 32 := 0#32
  let v392 : BitVec 1 := Scalar.cmpi .ne v391 c0_i32_262
  let v393 : BitVec 1 := Scalar.andi v390 v392
  let v379 : BitVec 32 := Scalar.divsi v378 c64_i32_257
  let c1_i32_263 : BitVec 32 := 1#32
  let v394 : BitVec 32 := Scalar.subi v379 c1_i32_263
  let v395 : BitVec 32 := Scalar.select v393 v394 v379
  let v396 : BitVec 32 := Scalar.subi v395 c0_i32_264
  let c1_i32_266 : BitVec 32 := 1#32
  let v398 : BitVec 32 := Scalar.divsi v396 c1_i32_266
  let v399 : BitVec 32 := Scalar.muli v398 c1_i32_266
  let v400 : BitVec 32 := Scalar.addi c0_i32_264 v399
  let c1_i32_267 : BitVec 32 := 1#32
  ⟨c0_i32_264, v400, c1_i32_267⟩

def k0_off81 (v369 : BitVec 32) (k0_t33 : Fin (k0_t33_loop v369).trips) : Fin 1 → Nat :=
  let c0_i32_264 : BitVec 32 := 0#32
  let c1_i32_267 : BitVec 32 := 1#32
  let arg10 : BitVec 32 := Scf.iv c0_i32_264 c1_i32_267 k0_t33
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk74 (v679 : IVec S16 32) (v699 : IVec S16 32) : Prop :=
  (∀ a x, ((![v679, v699] : Fin 2 → IVec S16 32) a x).toNat < S16x6272.size a)
theorem k0_idx65_inb : ∀ (v679 : IVec S16 32) (v699 : IVec S16 32) (k0_hw74 : k0_chk74 v679 v699), ∀ a x, ((![v679, v699] : Fin 2 → IVec S16 32) a x).toNat < S16x6272.size a := fun v679 v699 k0_hw74 => k0_hw74
def k0_off82 (v369 : BitVec 32) (k0_t33 : Fin (k0_t33_loop v369).trips) : Fin 1 → Nat :=
  let c0_i32_264 : BitVec 32 := 0#32
  let c1_i32_267 : BitVec 32 := 1#32
  let arg10 : BitVec 32 := Scf.iv c0_i32_264 c1_i32_267 k0_t33
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk75 (v679 : IVec S16 32) (v719 : IVec S16 32) : Prop :=
  (∀ a x, ((![v679, v719] : Fin 2 → IVec S16 32) a x).toNat < S16x6272.size a)
theorem k0_idx66_inb : ∀ (v679 : IVec S16 32) (v719 : IVec S16 32) (k0_hw75 : k0_chk75 v679 v719), ∀ a x, ((![v679, v719] : Fin 2 → IVec S16 32) a x).toNat < S16x6272.size a := fun v679 v719 k0_hw75 => k0_hw75
def k0_off83 (v369 : BitVec 32) (k0_t33 : Fin (k0_t33_loop v369).trips) : Fin 1 → Nat :=
  let c0_i32_264 : BitVec 32 := 0#32
  let c1_i32_267 : BitVec 32 := 1#32
  let arg10 : BitVec 32 := Scf.iv c0_i32_264 c1_i32_267 k0_t33
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk76 (v679 : IVec S16 32) (v739 : IVec S16 32) : Prop :=
  (∀ a x, ((![v679, v739] : Fin 2 → IVec S16 32) a x).toNat < S16x6272.size a)
theorem k0_idx67_inb : ∀ (v679 : IVec S16 32) (v739 : IVec S16 32) (k0_hw76 : k0_chk76 v679 v739), ∀ a x, ((![v679, v739] : Fin 2 → IVec S16 32) a x).toNat < S16x6272.size a := fun v679 v739 k0_hw76 => k0_hw76
def k0_off84 (v369 : BitVec 32) (k0_t33 : Fin (k0_t33_loop v369).trips) : Fin 1 → Nat :=
  let c0_i32_264 : BitVec 32 := 0#32
  let c1_i32_267 : BitVec 32 := 1#32
  let arg10 : BitVec 32 := Scf.iv c0_i32_264 c1_i32_267 k0_t33
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk77 (v679 : IVec S16 32) (v759 : IVec S16 32) : Prop :=
  (∀ a x, ((![v679, v759] : Fin 2 → IVec S16 32) a x).toNat < S16x6272.size a)
theorem k0_idx68_inb : ∀ (v679 : IVec S16 32) (v759 : IVec S16 32) (k0_hw77 : k0_chk77 v679 v759), ∀ a x, ((![v679, v759] : Fin 2 → IVec S16 32) a x).toNat < S16x6272.size a := fun v679 v759 k0_hw77 => k0_hw77
@[reducible] def k0_t34_loop (v369 : BitVec 32) : Scf.Loop 32 :=
  let c0_i32_264 : BitVec 32 := 0#32
  let c63_i32_256 : BitVec 32 := 63#32
  let v378 : BitVec 32 := Scalar.addi v369 c63_i32_256
  let c0_i32_258 : BitVec 32 := 0#32
  let v380 : BitVec 1 := Scalar.cmpi .sgt v378 c0_i32_258
  let v381 : BitVec 32 := Scalar.extui v380
  let c0_i32_259 : BitVec 32 := 0#32
  let v382 : BitVec 1 := Scalar.cmpi .slt v378 c0_i32_259
  let v383 : BitVec 32 := Scalar.extui v382
  let v384 : BitVec 32 := Scalar.subi v381 v383
  let c64_i32_257 : BitVec 32 := 64#32
  let c0_i32_260 : BitVec 32 := 0#32
  let v385 : BitVec 1 := Scalar.cmpi .sgt c64_i32_257 c0_i32_260
  let v386 : BitVec 32 := Scalar.extui v385
  let c0_i32_261 : BitVec 32 := 0#32
  let v387 : BitVec 1 := Scalar.cmpi .slt c64_i32_257 c0_i32_261
  let v388 : BitVec 32 := Scalar.extui v387
  let v389 : BitVec 32 := Scalar.subi v386 v388
  let v390 : BitVec 1 := Scalar.cmpi .ne v384 v389
  let v391 : BitVec 32 := Scalar.remsi v378 c64_i32_257
  let c0_i32_262 : BitVec 32 := 0#32
  let v392 : BitVec 1 := Scalar.cmpi .ne v391 c0_i32_262
  let v393 : BitVec 1 := Scalar.andi v390 v392
  let v379 : BitVec 32 := Scalar.divsi v378 c64_i32_257
  let c1_i32_263 : BitVec 32 := 1#32
  let v394 : BitVec 32 := Scalar.subi v379 c1_i32_263
  let v395 : BitVec 32 := Scalar.select v393 v394 v379
  let v396 : BitVec 32 := Scalar.subi v395 c0_i32_264
  let c1_i32_266 : BitVec 32 := 1#32
  let v398 : BitVec 32 := Scalar.divsi v396 c1_i32_266
  let v399 : BitVec 32 := Scalar.muli v398 c1_i32_266
  let v400 : BitVec 32 := Scalar.addi c0_i32_264 v399
  let v397 : BitVec 32 := Scalar.addi c0_i32_264 v396
  let c1_i32_268 : BitVec 32 := 1#32
  ⟨v400, v397, c1_i32_268⟩
def k0_off85 (v369 : BitVec 32) (k0_t34 : Fin (k0_t34_loop v369).trips) : Fin 1 → Nat :=
  let c0_i32_264 : BitVec 32 := 0#32
  let c63_i32_256 : BitVec 32 := 63#32
  let v378 : BitVec 32 := Scalar.addi v369 c63_i32_256
  let c0_i32_258 : BitVec 32 := 0#32
  let v380 : BitVec 1 := Scalar.cmpi .sgt v378 c0_i32_258
  let v381 : BitVec 32 := Scalar.extui v380
  let c0_i32_259 : BitVec 32 := 0#32
  let v382 : BitVec 1 := Scalar.cmpi .slt v378 c0_i32_259
  let v383 : BitVec 32 := Scalar.extui v382
  let v384 : BitVec 32 := Scalar.subi v381 v383
  let c64_i32_257 : BitVec 32 := 64#32
  let c0_i32_260 : BitVec 32 := 0#32
  let v385 : BitVec 1 := Scalar.cmpi .sgt c64_i32_257 c0_i32_260
  let v386 : BitVec 32 := Scalar.extui v385
  let c0_i32_261 : BitVec 32 := 0#32
  let v387 : BitVec 1 := Scalar.cmpi .slt c64_i32_257 c0_i32_261
  let v388 : BitVec 32 := Scalar.extui v387
  let v389 : BitVec 32 := Scalar.subi v386 v388
  let v390 : BitVec 1 := Scalar.cmpi .ne v384 v389
  let v391 : BitVec 32 := Scalar.remsi v378 c64_i32_257
  let c0_i32_262 : BitVec 32 := 0#32
  let v392 : BitVec 1 := Scalar.cmpi .ne v391 c0_i32_262
  let v393 : BitVec 1 := Scalar.andi v390 v392
  let v379 : BitVec 32 := Scalar.divsi v378 c64_i32_257
  let c1_i32_263 : BitVec 32 := 1#32
  let v394 : BitVec 32 := Scalar.subi v379 c1_i32_263
  let v395 : BitVec 32 := Scalar.select v393 v394 v379
  let v396 : BitVec 32 := Scalar.subi v395 c0_i32_264
  let c1_i32_266 : BitVec 32 := 1#32
  let v398 : BitVec 32 := Scalar.divsi v396 c1_i32_266
  let v399 : BitVec 32 := Scalar.muli v398 c1_i32_266
  let v400 : BitVec 32 := Scalar.addi c0_i32_264 v399
  let c1_i32_268 : BitVec 32 := 1#32
  let arg10 : BitVec 32 := Scf.iv v400 c1_i32_268 k0_t34
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk78 (v679 : IVec S16 32) (v699 : IVec S16 32) : Prop :=
  (∀ a x, ((![v679, v699] : Fin 2 → IVec S16 32) a x).toNat < S16x6272.size a)
theorem k0_idx69_inb : ∀ (v679 : IVec S16 32) (v699 : IVec S16 32) (k0_hw78 : k0_chk78 v679 v699), ∀ a x, ((![v679, v699] : Fin 2 → IVec S16 32) a x).toNat < S16x6272.size a := fun v679 v699 k0_hw78 => k0_hw78
def k0_off86 (v369 : BitVec 32) (k0_t34 : Fin (k0_t34_loop v369).trips) : Fin 1 → Nat :=
  let c0_i32_264 : BitVec 32 := 0#32
  let c63_i32_256 : BitVec 32 := 63#32
  let v378 : BitVec 32 := Scalar.addi v369 c63_i32_256
  let c0_i32_258 : BitVec 32 := 0#32
  let v380 : BitVec 1 := Scalar.cmpi .sgt v378 c0_i32_258
  let v381 : BitVec 32 := Scalar.extui v380
  let c0_i32_259 : BitVec 32 := 0#32
  let v382 : BitVec 1 := Scalar.cmpi .slt v378 c0_i32_259
  let v383 : BitVec 32 := Scalar.extui v382
  let v384 : BitVec 32 := Scalar.subi v381 v383
  let c64_i32_257 : BitVec 32 := 64#32
  let c0_i32_260 : BitVec 32 := 0#32
  let v385 : BitVec 1 := Scalar.cmpi .sgt c64_i32_257 c0_i32_260
  let v386 : BitVec 32 := Scalar.extui v385
  let c0_i32_261 : BitVec 32 := 0#32
  let v387 : BitVec 1 := Scalar.cmpi .slt c64_i32_257 c0_i32_261
  let v388 : BitVec 32 := Scalar.extui v387
  let v389 : BitVec 32 := Scalar.subi v386 v388
  let v390 : BitVec 1 := Scalar.cmpi .ne v384 v389
  let v391 : BitVec 32 := Scalar.remsi v378 c64_i32_257
  let c0_i32_262 : BitVec 32 := 0#32
  let v392 : BitVec 1 := Scalar.cmpi .ne v391 c0_i32_262
  let v393 : BitVec 1 := Scalar.andi v390 v392
  let v379 : BitVec 32 := Scalar.divsi v378 c64_i32_257
  let c1_i32_263 : BitVec 32 := 1#32
  let v394 : BitVec 32 := Scalar.subi v379 c1_i32_263
  let v395 : BitVec 32 := Scalar.select v393 v394 v379
  let v396 : BitVec 32 := Scalar.subi v395 c0_i32_264
  let c1_i32_266 : BitVec 32 := 1#32
  let v398 : BitVec 32 := Scalar.divsi v396 c1_i32_266
  let v399 : BitVec 32 := Scalar.muli v398 c1_i32_266
  let v400 : BitVec 32 := Scalar.addi c0_i32_264 v399
  let c1_i32_268 : BitVec 32 := 1#32
  let arg10 : BitVec 32 := Scf.iv v400 c1_i32_268 k0_t34
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk79 (v679 : IVec S16 32) (v719 : IVec S16 32) : Prop :=
  (∀ a x, ((![v679, v719] : Fin 2 → IVec S16 32) a x).toNat < S16x6272.size a)
theorem k0_idx70_inb : ∀ (v679 : IVec S16 32) (v719 : IVec S16 32) (k0_hw79 : k0_chk79 v679 v719), ∀ a x, ((![v679, v719] : Fin 2 → IVec S16 32) a x).toNat < S16x6272.size a := fun v679 v719 k0_hw79 => k0_hw79
def k0_off87 (v369 : BitVec 32) (k0_t34 : Fin (k0_t34_loop v369).trips) : Fin 1 → Nat :=
  let c0_i32_264 : BitVec 32 := 0#32
  let c63_i32_256 : BitVec 32 := 63#32
  let v378 : BitVec 32 := Scalar.addi v369 c63_i32_256
  let c0_i32_258 : BitVec 32 := 0#32
  let v380 : BitVec 1 := Scalar.cmpi .sgt v378 c0_i32_258
  let v381 : BitVec 32 := Scalar.extui v380
  let c0_i32_259 : BitVec 32 := 0#32
  let v382 : BitVec 1 := Scalar.cmpi .slt v378 c0_i32_259
  let v383 : BitVec 32 := Scalar.extui v382
  let v384 : BitVec 32 := Scalar.subi v381 v383
  let c64_i32_257 : BitVec 32 := 64#32
  let c0_i32_260 : BitVec 32 := 0#32
  let v385 : BitVec 1 := Scalar.cmpi .sgt c64_i32_257 c0_i32_260
  let v386 : BitVec 32 := Scalar.extui v385
  let c0_i32_261 : BitVec 32 := 0#32
  let v387 : BitVec 1 := Scalar.cmpi .slt c64_i32_257 c0_i32_261
  let v388 : BitVec 32 := Scalar.extui v387
  let v389 : BitVec 32 := Scalar.subi v386 v388
  let v390 : BitVec 1 := Scalar.cmpi .ne v384 v389
  let v391 : BitVec 32 := Scalar.remsi v378 c64_i32_257
  let c0_i32_262 : BitVec 32 := 0#32
  let v392 : BitVec 1 := Scalar.cmpi .ne v391 c0_i32_262
  let v393 : BitVec 1 := Scalar.andi v390 v392
  let v379 : BitVec 32 := Scalar.divsi v378 c64_i32_257
  let c1_i32_263 : BitVec 32 := 1#32
  let v394 : BitVec 32 := Scalar.subi v379 c1_i32_263
  let v395 : BitVec 32 := Scalar.select v393 v394 v379
  let v396 : BitVec 32 := Scalar.subi v395 c0_i32_264
  let c1_i32_266 : BitVec 32 := 1#32
  let v398 : BitVec 32 := Scalar.divsi v396 c1_i32_266
  let v399 : BitVec 32 := Scalar.muli v398 c1_i32_266
  let v400 : BitVec 32 := Scalar.addi c0_i32_264 v399
  let c1_i32_268 : BitVec 32 := 1#32
  let arg10 : BitVec 32 := Scf.iv v400 c1_i32_268 k0_t34
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk80 (v679 : IVec S16 32) (v739 : IVec S16 32) : Prop :=
  (∀ a x, ((![v679, v739] : Fin 2 → IVec S16 32) a x).toNat < S16x6272.size a)
theorem k0_idx71_inb : ∀ (v679 : IVec S16 32) (v739 : IVec S16 32) (k0_hw80 : k0_chk80 v679 v739), ∀ a x, ((![v679, v739] : Fin 2 → IVec S16 32) a x).toNat < S16x6272.size a := fun v679 v739 k0_hw80 => k0_hw80
def k0_off88 (v369 : BitVec 32) (k0_t34 : Fin (k0_t34_loop v369).trips) : Fin 1 → Nat :=
  let c0_i32_264 : BitVec 32 := 0#32
  let c63_i32_256 : BitVec 32 := 63#32
  let v378 : BitVec 32 := Scalar.addi v369 c63_i32_256
  let c0_i32_258 : BitVec 32 := 0#32
  let v380 : BitVec 1 := Scalar.cmpi .sgt v378 c0_i32_258
  let v381 : BitVec 32 := Scalar.extui v380
  let c0_i32_259 : BitVec 32 := 0#32
  let v382 : BitVec 1 := Scalar.cmpi .slt v378 c0_i32_259
  let v383 : BitVec 32 := Scalar.extui v382
  let v384 : BitVec 32 := Scalar.subi v381 v383
  let c64_i32_257 : BitVec 32 := 64#32
  let c0_i32_260 : BitVec 32 := 0#32
  let v385 : BitVec 1 := Scalar.cmpi .sgt c64_i32_257 c0_i32_260
  let v386 : BitVec 32 := Scalar.extui v385
  let c0_i32_261 : BitVec 32 := 0#32
  let v387 : BitVec 1 := Scalar.cmpi .slt c64_i32_257 c0_i32_261
  let v388 : BitVec 32 := Scalar.extui v387
  let v389 : BitVec 32 := Scalar.subi v386 v388
  let v390 : BitVec 1 := Scalar.cmpi .ne v384 v389
  let v391 : BitVec 32 := Scalar.remsi v378 c64_i32_257
  let c0_i32_262 : BitVec 32 := 0#32
  let v392 : BitVec 1 := Scalar.cmpi .ne v391 c0_i32_262
  let v393 : BitVec 1 := Scalar.andi v390 v392
  let v379 : BitVec 32 := Scalar.divsi v378 c64_i32_257
  let c1_i32_263 : BitVec 32 := 1#32
  let v394 : BitVec 32 := Scalar.subi v379 c1_i32_263
  let v395 : BitVec 32 := Scalar.select v393 v394 v379
  let v396 : BitVec 32 := Scalar.subi v395 c0_i32_264
  let c1_i32_266 : BitVec 32 := 1#32
  let v398 : BitVec 32 := Scalar.divsi v396 c1_i32_266
  let v399 : BitVec 32 := Scalar.muli v398 c1_i32_266
  let v400 : BitVec 32 := Scalar.addi c0_i32_264 v399
  let c1_i32_268 : BitVec 32 := 1#32
  let arg10 : BitVec 32 := Scf.iv v400 c1_i32_268 k0_t34
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk73 (v369 : BitVec 32) : Prop :=
  ((k0_t33_loop v369).OK) ∧
  (∀ k0_t33 : Fin (k0_t33_loop v369).trips, ∀ a, (k0_off81 v369 k0_t33) a + S16.size a ≤ S4096.size a) ∧
  (∀ k0_t33 : Fin (k0_t33_loop v369).trips, ∀ a, (k0_off82 v369 k0_t33) a + S16.size a ≤ S4096.size a) ∧
  (∀ k0_t33 : Fin (k0_t33_loop v369).trips, ∀ a, (k0_off83 v369 k0_t33) a + S16.size a ≤ S4096.size a) ∧
  (∀ k0_t33 : Fin (k0_t33_loop v369).trips, ∀ a, (k0_off84 v369 k0_t33) a + S16.size a ≤ S4096.size a) ∧
  ((k0_t34_loop v369).OK) ∧
  (∀ k0_t34 : Fin (k0_t34_loop v369).trips, ∀ a, (k0_off85 v369 k0_t34) a + S16.size a ≤ S4096.size a) ∧
  (∀ k0_t34 : Fin (k0_t34_loop v369).trips, ∀ a, (k0_off86 v369 k0_t34) a + S16.size a ≤ S4096.size a) ∧
  (∀ k0_t34 : Fin (k0_t34_loop v369).trips, ∀ a, (k0_off87 v369 k0_t34) a + S16.size a ≤ S4096.size a) ∧
  (∀ k0_t34 : Fin (k0_t34_loop v369).trips, ∀ a, (k0_off88 v369 k0_t34) a + S16.size a ≤ S4096.size a)
theorem k0_t33_ok : ∀ (v369 : BitVec 32) (k0_hw73 : k0_chk73 v369), (k0_t33_loop v369).OK := fun v369 k0_hw73 => k0_hw73.1
theorem k0_off81_inb : ∀ (v369 : BitVec 32) (k0_hw73 : k0_chk73 v369) (k0_t33 : Fin (k0_t33_loop v369).trips), ∀ a, (k0_off81 v369 k0_t33) a + S16.size a ≤ S4096.size a := fun v369 k0_hw73 k0_t33 => k0_hw73.2.1 k0_t33
theorem k0_off82_inb : ∀ (v369 : BitVec 32) (k0_hw73 : k0_chk73 v369) (k0_t33 : Fin (k0_t33_loop v369).trips), ∀ a, (k0_off82 v369 k0_t33) a + S16.size a ≤ S4096.size a := fun v369 k0_hw73 k0_t33 => k0_hw73.2.2.1 k0_t33
theorem k0_off83_inb : ∀ (v369 : BitVec 32) (k0_hw73 : k0_chk73 v369) (k0_t33 : Fin (k0_t33_loop v369).trips), ∀ a, (k0_off83 v369 k0_t33) a + S16.size a ≤ S4096.size a := fun v369 k0_hw73 k0_t33 => k0_hw73.2.2.2.1 k0_t33
theorem k0_off84_inb : ∀ (v369 : BitVec 32) (k0_hw73 : k0_chk73 v369) (k0_t33 : Fin (k0_t33_loop v369).trips), ∀ a, (k0_off84 v369 k0_t33) a + S16.size a ≤ S4096.size a := fun v369 k0_hw73 k0_t33 => k0_hw73.2.2.2.2.1 k0_t33
theorem k0_t34_ok : ∀ (v369 : BitVec 32) (k0_hw73 : k0_chk73 v369), (k0_t34_loop v369).OK := fun v369 k0_hw73 => k0_hw73.2.2.2.2.2.1
theorem k0_off85_inb : ∀ (v369 : BitVec 32) (k0_hw73 : k0_chk73 v369) (k0_t34 : Fin (k0_t34_loop v369).trips), ∀ a, (k0_off85 v369 k0_t34) a + S16.size a ≤ S4096.size a := fun v369 k0_hw73 k0_t34 => k0_hw73.2.2.2.2.2.2.1 k0_t34
theorem k0_off86_inb : ∀ (v369 : BitVec 32) (k0_hw73 : k0_chk73 v369) (k0_t34 : Fin (k0_t34_loop v369).trips), ∀ a, (k0_off86 v369 k0_t34) a + S16.size a ≤ S4096.size a := fun v369 k0_hw73 k0_t34 => k0_hw73.2.2.2.2.2.2.2.1 k0_t34
theorem k0_off87_inb : ∀ (v369 : BitVec 32) (k0_hw73 : k0_chk73 v369) (k0_t34 : Fin (k0_t34_loop v369).trips), ∀ a, (k0_off87 v369 k0_t34) a + S16.size a ≤ S4096.size a := fun v369 k0_hw73 k0_t34 => k0_hw73.2.2.2.2.2.2.2.2.1 k0_t34
theorem k0_off88_inb : ∀ (v369 : BitVec 32) (k0_hw73 : k0_chk73 v369) (k0_t34 : Fin (k0_t34_loop v369).trips), ∀ a, (k0_off88 v369 k0_t34) a + S16.size a ≤ S4096.size a := fun v369 k0_hw73 k0_t34 => k0_hw73.2.2.2.2.2.2.2.2.2 k0_t34

def k0_chk81 (v679 : IVec S16 32) (v759 : IVec S16 32) : Prop :=
  (∀ a x, ((![v679, v759] : Fin 2 → IVec S16 32) a x).toNat < S16x6272.size a)
theorem k0_idx72_inb : ∀ (v679 : IVec S16 32) (v759 : IVec S16 32) (k0_hw81 : k0_chk81 v679 v759), ∀ a x, ((![v679, v759] : Fin 2 → IVec S16 32) a x).toNat < S16x6272.size a := fun v679 v759 k0_hw81 => k0_hw81
@[reducible] def k0_t35_loop (v409 : BitVec 32) : Scf.Loop 32 :=
  let c0_i32_285 : BitVec 32 := 0#32
  let c63_i32_277 : BitVec 32 := 63#32
  let v418 : BitVec 32 := Scalar.addi v409 c63_i32_277
  let c0_i32_279 : BitVec 32 := 0#32
  let v420 : BitVec 1 := Scalar.cmpi .sgt v418 c0_i32_279
  let v421 : BitVec 32 := Scalar.extui v420
  let c0_i32_280 : BitVec 32 := 0#32
  let v422 : BitVec 1 := Scalar.cmpi .slt v418 c0_i32_280
  let v423 : BitVec 32 := Scalar.extui v422
  let v424 : BitVec 32 := Scalar.subi v421 v423
  let c64_i32_278 : BitVec 32 := 64#32
  let c0_i32_281 : BitVec 32 := 0#32
  let v425 : BitVec 1 := Scalar.cmpi .sgt c64_i32_278 c0_i32_281
  let v426 : BitVec 32 := Scalar.extui v425
  let c0_i32_282 : BitVec 32 := 0#32
  let v427 : BitVec 1 := Scalar.cmpi .slt c64_i32_278 c0_i32_282
  let v428 : BitVec 32 := Scalar.extui v427
  let v429 : BitVec 32 := Scalar.subi v426 v428
  let v430 : BitVec 1 := Scalar.cmpi .ne v424 v429
  let v431 : BitVec 32 := Scalar.remsi v418 c64_i32_278
  let c0_i32_283 : BitVec 32 := 0#32
  let v432 : BitVec 1 := Scalar.cmpi .ne v431 c0_i32_283
  let v433 : BitVec 1 := Scalar.andi v430 v432
  let v419 : BitVec 32 := Scalar.divsi v418 c64_i32_278
  let c1_i32_284 : BitVec 32 := 1#32
  let v434 : BitVec 32 := Scalar.subi v419 c1_i32_284
  let v435 : BitVec 32 := Scalar.select v433 v434 v419
  let v436 : BitVec 32 := Scalar.subi v435 c0_i32_285
  let c1_i32_287 : BitVec 32 := 1#32
  let v438 : BitVec 32 := Scalar.divsi v436 c1_i32_287
  let v439 : BitVec 32 := Scalar.muli v438 c1_i32_287
  let v440 : BitVec 32 := Scalar.addi c0_i32_285 v439
  let c1_i32_288 : BitVec 32 := 1#32
  ⟨c0_i32_285, v440, c1_i32_288⟩

def k0_off89 (v409 : BitVec 32) (k0_t35 : Fin (k0_t35_loop v409).trips) : Fin 1 → Nat :=
  let c0_i32_285 : BitVec 32 := 0#32
  let c1_i32_288 : BitVec 32 := 1#32
  let arg10 : BitVec 32 := Scf.iv c0_i32_285 c1_i32_288 k0_t35
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk83 (v679 : IVec S16 32) (v699 : IVec S16 32) : Prop :=
  (∀ a x, ((![v679, v699] : Fin 2 → IVec S16 32) a x).toNat < S16x6272.size a)
theorem k0_idx73_inb : ∀ (v679 : IVec S16 32) (v699 : IVec S16 32) (k0_hw83 : k0_chk83 v679 v699), ∀ a x, ((![v679, v699] : Fin 2 → IVec S16 32) a x).toNat < S16x6272.size a := fun v679 v699 k0_hw83 => k0_hw83
def k0_off90 (v409 : BitVec 32) (k0_t35 : Fin (k0_t35_loop v409).trips) : Fin 1 → Nat :=
  let c0_i32_285 : BitVec 32 := 0#32
  let c1_i32_288 : BitVec 32 := 1#32
  let arg10 : BitVec 32 := Scf.iv c0_i32_285 c1_i32_288 k0_t35
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk84 (v679 : IVec S16 32) (v719 : IVec S16 32) : Prop :=
  (∀ a x, ((![v679, v719] : Fin 2 → IVec S16 32) a x).toNat < S16x6272.size a)
theorem k0_idx74_inb : ∀ (v679 : IVec S16 32) (v719 : IVec S16 32) (k0_hw84 : k0_chk84 v679 v719), ∀ a x, ((![v679, v719] : Fin 2 → IVec S16 32) a x).toNat < S16x6272.size a := fun v679 v719 k0_hw84 => k0_hw84
def k0_off91 (v409 : BitVec 32) (k0_t35 : Fin (k0_t35_loop v409).trips) : Fin 1 → Nat :=
  let c0_i32_285 : BitVec 32 := 0#32
  let c1_i32_288 : BitVec 32 := 1#32
  let arg10 : BitVec 32 := Scf.iv c0_i32_285 c1_i32_288 k0_t35
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk85 (v679 : IVec S16 32) (v739 : IVec S16 32) : Prop :=
  (∀ a x, ((![v679, v739] : Fin 2 → IVec S16 32) a x).toNat < S16x6272.size a)
theorem k0_idx75_inb : ∀ (v679 : IVec S16 32) (v739 : IVec S16 32) (k0_hw85 : k0_chk85 v679 v739), ∀ a x, ((![v679, v739] : Fin 2 → IVec S16 32) a x).toNat < S16x6272.size a := fun v679 v739 k0_hw85 => k0_hw85
def k0_off92 (v409 : BitVec 32) (k0_t35 : Fin (k0_t35_loop v409).trips) : Fin 1 → Nat :=
  let c0_i32_285 : BitVec 32 := 0#32
  let c1_i32_288 : BitVec 32 := 1#32
  let arg10 : BitVec 32 := Scf.iv c0_i32_285 c1_i32_288 k0_t35
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk86 (v679 : IVec S16 32) (v759 : IVec S16 32) : Prop :=
  (∀ a x, ((![v679, v759] : Fin 2 → IVec S16 32) a x).toNat < S16x6272.size a)
theorem k0_idx76_inb : ∀ (v679 : IVec S16 32) (v759 : IVec S16 32) (k0_hw86 : k0_chk86 v679 v759), ∀ a x, ((![v679, v759] : Fin 2 → IVec S16 32) a x).toNat < S16x6272.size a := fun v679 v759 k0_hw86 => k0_hw86
@[reducible] def k0_t36_loop (v409 : BitVec 32) : Scf.Loop 32 :=
  let c0_i32_285 : BitVec 32 := 0#32
  let c63_i32_277 : BitVec 32 := 63#32
  let v418 : BitVec 32 := Scalar.addi v409 c63_i32_277
  let c0_i32_279 : BitVec 32 := 0#32
  let v420 : BitVec 1 := Scalar.cmpi .sgt v418 c0_i32_279
  let v421 : BitVec 32 := Scalar.extui v420
  let c0_i32_280 : BitVec 32 := 0#32
  let v422 : BitVec 1 := Scalar.cmpi .slt v418 c0_i32_280
  let v423 : BitVec 32 := Scalar.extui v422
  let v424 : BitVec 32 := Scalar.subi v421 v423
  let c64_i32_278 : BitVec 32 := 64#32
  let c0_i32_281 : BitVec 32 := 0#32
  let v425 : BitVec 1 := Scalar.cmpi .sgt c64_i32_278 c0_i32_281
  let v426 : BitVec 32 := Scalar.extui v425
  let c0_i32_282 : BitVec 32 := 0#32
  let v427 : BitVec 1 := Scalar.cmpi .slt c64_i32_278 c0_i32_282
  let v428 : BitVec 32 := Scalar.extui v427
  let v429 : BitVec 32 := Scalar.subi v426 v428
  let v430 : BitVec 1 := Scalar.cmpi .ne v424 v429
  let v431 : BitVec 32 := Scalar.remsi v418 c64_i32_278
  let c0_i32_283 : BitVec 32 := 0#32
  let v432 : BitVec 1 := Scalar.cmpi .ne v431 c0_i32_283
  let v433 : BitVec 1 := Scalar.andi v430 v432
  let v419 : BitVec 32 := Scalar.divsi v418 c64_i32_278
  let c1_i32_284 : BitVec 32 := 1#32
  let v434 : BitVec 32 := Scalar.subi v419 c1_i32_284
  let v435 : BitVec 32 := Scalar.select v433 v434 v419
  let v436 : BitVec 32 := Scalar.subi v435 c0_i32_285
  let c1_i32_287 : BitVec 32 := 1#32
  let v438 : BitVec 32 := Scalar.divsi v436 c1_i32_287
  let v439 : BitVec 32 := Scalar.muli v438 c1_i32_287
  let v440 : BitVec 32 := Scalar.addi c0_i32_285 v439
  let v437 : BitVec 32 := Scalar.addi c0_i32_285 v436
  let c1_i32_289 : BitVec 32 := 1#32
  ⟨v440, v437, c1_i32_289⟩
def k0_off93 (v409 : BitVec 32) (k0_t36 : Fin (k0_t36_loop v409).trips) : Fin 1 → Nat :=
  let c0_i32_285 : BitVec 32 := 0#32
  let c63_i32_277 : BitVec 32 := 63#32
  let v418 : BitVec 32 := Scalar.addi v409 c63_i32_277
  let c0_i32_279 : BitVec 32 := 0#32
  let v420 : BitVec 1 := Scalar.cmpi .sgt v418 c0_i32_279
  let v421 : BitVec 32 := Scalar.extui v420
  let c0_i32_280 : BitVec 32 := 0#32
  let v422 : BitVec 1 := Scalar.cmpi .slt v418 c0_i32_280
  let v423 : BitVec 32 := Scalar.extui v422
  let v424 : BitVec 32 := Scalar.subi v421 v423
  let c64_i32_278 : BitVec 32 := 64#32
  let c0_i32_281 : BitVec 32 := 0#32
  let v425 : BitVec 1 := Scalar.cmpi .sgt c64_i32_278 c0_i32_281
  let v426 : BitVec 32 := Scalar.extui v425
  let c0_i32_282 : BitVec 32 := 0#32
  let v427 : BitVec 1 := Scalar.cmpi .slt c64_i32_278 c0_i32_282
  let v428 : BitVec 32 := Scalar.extui v427
  let v429 : BitVec 32 := Scalar.subi v426 v428
  let v430 : BitVec 1 := Scalar.cmpi .ne v424 v429
  let v431 : BitVec 32 := Scalar.remsi v418 c64_i32_278
  let c0_i32_283 : BitVec 32 := 0#32
  let v432 : BitVec 1 := Scalar.cmpi .ne v431 c0_i32_283
  let v433 : BitVec 1 := Scalar.andi v430 v432
  let v419 : BitVec 32 := Scalar.divsi v418 c64_i32_278
  let c1_i32_284 : BitVec 32 := 1#32
  let v434 : BitVec 32 := Scalar.subi v419 c1_i32_284
  let v435 : BitVec 32 := Scalar.select v433 v434 v419
  let v436 : BitVec 32 := Scalar.subi v435 c0_i32_285
  let c1_i32_287 : BitVec 32 := 1#32
  let v438 : BitVec 32 := Scalar.divsi v436 c1_i32_287
  let v439 : BitVec 32 := Scalar.muli v438 c1_i32_287
  let v440 : BitVec 32 := Scalar.addi c0_i32_285 v439
  let c1_i32_289 : BitVec 32 := 1#32
  let arg10 : BitVec 32 := Scf.iv v440 c1_i32_289 k0_t36
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk87 (v679 : IVec S16 32) (v699 : IVec S16 32) : Prop :=
  (∀ a x, ((![v679, v699] : Fin 2 → IVec S16 32) a x).toNat < S16x6272.size a)
theorem k0_idx77_inb : ∀ (v679 : IVec S16 32) (v699 : IVec S16 32) (k0_hw87 : k0_chk87 v679 v699), ∀ a x, ((![v679, v699] : Fin 2 → IVec S16 32) a x).toNat < S16x6272.size a := fun v679 v699 k0_hw87 => k0_hw87
def k0_off94 (v409 : BitVec 32) (k0_t36 : Fin (k0_t36_loop v409).trips) : Fin 1 → Nat :=
  let c0_i32_285 : BitVec 32 := 0#32
  let c63_i32_277 : BitVec 32 := 63#32
  let v418 : BitVec 32 := Scalar.addi v409 c63_i32_277
  let c0_i32_279 : BitVec 32 := 0#32
  let v420 : BitVec 1 := Scalar.cmpi .sgt v418 c0_i32_279
  let v421 : BitVec 32 := Scalar.extui v420
  let c0_i32_280 : BitVec 32 := 0#32
  let v422 : BitVec 1 := Scalar.cmpi .slt v418 c0_i32_280
  let v423 : BitVec 32 := Scalar.extui v422
  let v424 : BitVec 32 := Scalar.subi v421 v423
  let c64_i32_278 : BitVec 32 := 64#32
  let c0_i32_281 : BitVec 32 := 0#32
  let v425 : BitVec 1 := Scalar.cmpi .sgt c64_i32_278 c0_i32_281
  let v426 : BitVec 32 := Scalar.extui v425
  let c0_i32_282 : BitVec 32 := 0#32
  let v427 : BitVec 1 := Scalar.cmpi .slt c64_i32_278 c0_i32_282
  let v428 : BitVec 32 := Scalar.extui v427
  let v429 : BitVec 32 := Scalar.subi v426 v428
  let v430 : BitVec 1 := Scalar.cmpi .ne v424 v429
  let v431 : BitVec 32 := Scalar.remsi v418 c64_i32_278
  let c0_i32_283 : BitVec 32 := 0#32
  let v432 : BitVec 1 := Scalar.cmpi .ne v431 c0_i32_283
  let v433 : BitVec 1 := Scalar.andi v430 v432
  let v419 : BitVec 32 := Scalar.divsi v418 c64_i32_278
  let c1_i32_284 : BitVec 32 := 1#32
  let v434 : BitVec 32 := Scalar.subi v419 c1_i32_284
  let v435 : BitVec 32 := Scalar.select v433 v434 v419
  let v436 : BitVec 32 := Scalar.subi v435 c0_i32_285
  let c1_i32_287 : BitVec 32 := 1#32
  let v438 : BitVec 32 := Scalar.divsi v436 c1_i32_287
  let v439 : BitVec 32 := Scalar.muli v438 c1_i32_287
  let v440 : BitVec 32 := Scalar.addi c0_i32_285 v439
  let c1_i32_289 : BitVec 32 := 1#32
  let arg10 : BitVec 32 := Scf.iv v440 c1_i32_289 k0_t36
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk88 (v679 : IVec S16 32) (v719 : IVec S16 32) : Prop :=
  (∀ a x, ((![v679, v719] : Fin 2 → IVec S16 32) a x).toNat < S16x6272.size a)
theorem k0_idx78_inb : ∀ (v679 : IVec S16 32) (v719 : IVec S16 32) (k0_hw88 : k0_chk88 v679 v719), ∀ a x, ((![v679, v719] : Fin 2 → IVec S16 32) a x).toNat < S16x6272.size a := fun v679 v719 k0_hw88 => k0_hw88
def k0_off95 (v409 : BitVec 32) (k0_t36 : Fin (k0_t36_loop v409).trips) : Fin 1 → Nat :=
  let c0_i32_285 : BitVec 32 := 0#32
  let c63_i32_277 : BitVec 32 := 63#32
  let v418 : BitVec 32 := Scalar.addi v409 c63_i32_277
  let c0_i32_279 : BitVec 32 := 0#32
  let v420 : BitVec 1 := Scalar.cmpi .sgt v418 c0_i32_279
  let v421 : BitVec 32 := Scalar.extui v420
  let c0_i32_280 : BitVec 32 := 0#32
  let v422 : BitVec 1 := Scalar.cmpi .slt v418 c0_i32_280
  let v423 : BitVec 32 := Scalar.extui v422
  let v424 : BitVec 32 := Scalar.subi v421 v423
  let c64_i32_278 : BitVec 32 := 64#32
  let c0_i32_281 : BitVec 32 := 0#32
  let v425 : BitVec 1 := Scalar.cmpi .sgt c64_i32_278 c0_i32_281
  let v426 : BitVec 32 := Scalar.extui v425
  let c0_i32_282 : BitVec 32 := 0#32
  let v427 : BitVec 1 := Scalar.cmpi .slt c64_i32_278 c0_i32_282
  let v428 : BitVec 32 := Scalar.extui v427
  let v429 : BitVec 32 := Scalar.subi v426 v428
  let v430 : BitVec 1 := Scalar.cmpi .ne v424 v429
  let v431 : BitVec 32 := Scalar.remsi v418 c64_i32_278
  let c0_i32_283 : BitVec 32 := 0#32
  let v432 : BitVec 1 := Scalar.cmpi .ne v431 c0_i32_283
  let v433 : BitVec 1 := Scalar.andi v430 v432
  let v419 : BitVec 32 := Scalar.divsi v418 c64_i32_278
  let c1_i32_284 : BitVec 32 := 1#32
  let v434 : BitVec 32 := Scalar.subi v419 c1_i32_284
  let v435 : BitVec 32 := Scalar.select v433 v434 v419
  let v436 : BitVec 32 := Scalar.subi v435 c0_i32_285
  let c1_i32_287 : BitVec 32 := 1#32
  let v438 : BitVec 32 := Scalar.divsi v436 c1_i32_287
  let v439 : BitVec 32 := Scalar.muli v438 c1_i32_287
  let v440 : BitVec 32 := Scalar.addi c0_i32_285 v439
  let c1_i32_289 : BitVec 32 := 1#32
  let arg10 : BitVec 32 := Scf.iv v440 c1_i32_289 k0_t36
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk89 (v679 : IVec S16 32) (v739 : IVec S16 32) : Prop :=
  (∀ a x, ((![v679, v739] : Fin 2 → IVec S16 32) a x).toNat < S16x6272.size a)
theorem k0_idx79_inb : ∀ (v679 : IVec S16 32) (v739 : IVec S16 32) (k0_hw89 : k0_chk89 v679 v739), ∀ a x, ((![v679, v739] : Fin 2 → IVec S16 32) a x).toNat < S16x6272.size a := fun v679 v739 k0_hw89 => k0_hw89
def k0_off96 (v409 : BitVec 32) (k0_t36 : Fin (k0_t36_loop v409).trips) : Fin 1 → Nat :=
  let c0_i32_285 : BitVec 32 := 0#32
  let c63_i32_277 : BitVec 32 := 63#32
  let v418 : BitVec 32 := Scalar.addi v409 c63_i32_277
  let c0_i32_279 : BitVec 32 := 0#32
  let v420 : BitVec 1 := Scalar.cmpi .sgt v418 c0_i32_279
  let v421 : BitVec 32 := Scalar.extui v420
  let c0_i32_280 : BitVec 32 := 0#32
  let v422 : BitVec 1 := Scalar.cmpi .slt v418 c0_i32_280
  let v423 : BitVec 32 := Scalar.extui v422
  let v424 : BitVec 32 := Scalar.subi v421 v423
  let c64_i32_278 : BitVec 32 := 64#32
  let c0_i32_281 : BitVec 32 := 0#32
  let v425 : BitVec 1 := Scalar.cmpi .sgt c64_i32_278 c0_i32_281
  let v426 : BitVec 32 := Scalar.extui v425
  let c0_i32_282 : BitVec 32 := 0#32
  let v427 : BitVec 1 := Scalar.cmpi .slt c64_i32_278 c0_i32_282
  let v428 : BitVec 32 := Scalar.extui v427
  let v429 : BitVec 32 := Scalar.subi v426 v428
  let v430 : BitVec 1 := Scalar.cmpi .ne v424 v429
  let v431 : BitVec 32 := Scalar.remsi v418 c64_i32_278
  let c0_i32_283 : BitVec 32 := 0#32
  let v432 : BitVec 1 := Scalar.cmpi .ne v431 c0_i32_283
  let v433 : BitVec 1 := Scalar.andi v430 v432
  let v419 : BitVec 32 := Scalar.divsi v418 c64_i32_278
  let c1_i32_284 : BitVec 32 := 1#32
  let v434 : BitVec 32 := Scalar.subi v419 c1_i32_284
  let v435 : BitVec 32 := Scalar.select v433 v434 v419
  let v436 : BitVec 32 := Scalar.subi v435 c0_i32_285
  let c1_i32_287 : BitVec 32 := 1#32
  let v438 : BitVec 32 := Scalar.divsi v436 c1_i32_287
  let v439 : BitVec 32 := Scalar.muli v438 c1_i32_287
  let v440 : BitVec 32 := Scalar.addi c0_i32_285 v439
  let c1_i32_289 : BitVec 32 := 1#32
  let arg10 : BitVec 32 := Scf.iv v440 c1_i32_289 k0_t36
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk82 (v409 : BitVec 32) : Prop :=
  ((k0_t35_loop v409).OK) ∧
  (∀ k0_t35 : Fin (k0_t35_loop v409).trips, ∀ a, (k0_off89 v409 k0_t35) a + S16.size a ≤ S4096.size a) ∧
  (∀ k0_t35 : Fin (k0_t35_loop v409).trips, ∀ a, (k0_off90 v409 k0_t35) a + S16.size a ≤ S4096.size a) ∧
  (∀ k0_t35 : Fin (k0_t35_loop v409).trips, ∀ a, (k0_off91 v409 k0_t35) a + S16.size a ≤ S4096.size a) ∧
  (∀ k0_t35 : Fin (k0_t35_loop v409).trips, ∀ a, (k0_off92 v409 k0_t35) a + S16.size a ≤ S4096.size a) ∧
  ((k0_t36_loop v409).OK) ∧
  (∀ k0_t36 : Fin (k0_t36_loop v409).trips, ∀ a, (k0_off93 v409 k0_t36) a + S16.size a ≤ S4096.size a) ∧
  (∀ k0_t36 : Fin (k0_t36_loop v409).trips, ∀ a, (k0_off94 v409 k0_t36) a + S16.size a ≤ S4096.size a) ∧
  (∀ k0_t36 : Fin (k0_t36_loop v409).trips, ∀ a, (k0_off95 v409 k0_t36) a + S16.size a ≤ S4096.size a) ∧
  (∀ k0_t36 : Fin (k0_t36_loop v409).trips, ∀ a, (k0_off96 v409 k0_t36) a + S16.size a ≤ S4096.size a)
theorem k0_t35_ok : ∀ (v409 : BitVec 32) (k0_hw82 : k0_chk82 v409), (k0_t35_loop v409).OK := fun v409 k0_hw82 => k0_hw82.1
theorem k0_off89_inb : ∀ (v409 : BitVec 32) (k0_hw82 : k0_chk82 v409) (k0_t35 : Fin (k0_t35_loop v409).trips), ∀ a, (k0_off89 v409 k0_t35) a + S16.size a ≤ S4096.size a := fun v409 k0_hw82 k0_t35 => k0_hw82.2.1 k0_t35
theorem k0_off90_inb : ∀ (v409 : BitVec 32) (k0_hw82 : k0_chk82 v409) (k0_t35 : Fin (k0_t35_loop v409).trips), ∀ a, (k0_off90 v409 k0_t35) a + S16.size a ≤ S4096.size a := fun v409 k0_hw82 k0_t35 => k0_hw82.2.2.1 k0_t35
theorem k0_off91_inb : ∀ (v409 : BitVec 32) (k0_hw82 : k0_chk82 v409) (k0_t35 : Fin (k0_t35_loop v409).trips), ∀ a, (k0_off91 v409 k0_t35) a + S16.size a ≤ S4096.size a := fun v409 k0_hw82 k0_t35 => k0_hw82.2.2.2.1 k0_t35
theorem k0_off92_inb : ∀ (v409 : BitVec 32) (k0_hw82 : k0_chk82 v409) (k0_t35 : Fin (k0_t35_loop v409).trips), ∀ a, (k0_off92 v409 k0_t35) a + S16.size a ≤ S4096.size a := fun v409 k0_hw82 k0_t35 => k0_hw82.2.2.2.2.1 k0_t35
theorem k0_t36_ok : ∀ (v409 : BitVec 32) (k0_hw82 : k0_chk82 v409), (k0_t36_loop v409).OK := fun v409 k0_hw82 => k0_hw82.2.2.2.2.2.1
theorem k0_off93_inb : ∀ (v409 : BitVec 32) (k0_hw82 : k0_chk82 v409) (k0_t36 : Fin (k0_t36_loop v409).trips), ∀ a, (k0_off93 v409 k0_t36) a + S16.size a ≤ S4096.size a := fun v409 k0_hw82 k0_t36 => k0_hw82.2.2.2.2.2.2.1 k0_t36
theorem k0_off94_inb : ∀ (v409 : BitVec 32) (k0_hw82 : k0_chk82 v409) (k0_t36 : Fin (k0_t36_loop v409).trips), ∀ a, (k0_off94 v409 k0_t36) a + S16.size a ≤ S4096.size a := fun v409 k0_hw82 k0_t36 => k0_hw82.2.2.2.2.2.2.2.1 k0_t36
theorem k0_off95_inb : ∀ (v409 : BitVec 32) (k0_hw82 : k0_chk82 v409) (k0_t36 : Fin (k0_t36_loop v409).trips), ∀ a, (k0_off95 v409 k0_t36) a + S16.size a ≤ S4096.size a := fun v409 k0_hw82 k0_t36 => k0_hw82.2.2.2.2.2.2.2.2.1 k0_t36
theorem k0_off96_inb : ∀ (v409 : BitVec 32) (k0_hw82 : k0_chk82 v409) (k0_t36 : Fin (k0_t36_loop v409).trips), ∀ a, (k0_off96 v409 k0_t36) a + S16.size a ≤ S4096.size a := fun v409 k0_hw82 k0_t36 => k0_hw82.2.2.2.2.2.2.2.2.2 k0_t36

def k0_chk90 (v679 : IVec S16 32) (v759 : IVec S16 32) : Prop :=
  (∀ a x, ((![v679, v759] : Fin 2 → IVec S16 32) a x).toNat < S16x6272.size a)
theorem k0_idx80_inb : ∀ (v679 : IVec S16 32) (v759 : IVec S16 32) (k0_hw90 : k0_chk90 v679 v759), ∀ a x, ((![v679, v759] : Fin 2 → IVec S16 32) a x).toNat < S16x6272.size a := fun v679 v759 k0_hw90 => k0_hw90
@[reducible] def k0_t37_loop (v449 : BitVec 32) : Scf.Loop 32 :=
  let c0_i32_306 : BitVec 32 := 0#32
  let c63_i32_298 : BitVec 32 := 63#32
  let v458 : BitVec 32 := Scalar.addi v449 c63_i32_298
  let c0_i32_300 : BitVec 32 := 0#32
  let v460 : BitVec 1 := Scalar.cmpi .sgt v458 c0_i32_300
  let v461 : BitVec 32 := Scalar.extui v460
  let c0_i32_301 : BitVec 32 := 0#32
  let v462 : BitVec 1 := Scalar.cmpi .slt v458 c0_i32_301
  let v463 : BitVec 32 := Scalar.extui v462
  let v464 : BitVec 32 := Scalar.subi v461 v463
  let c64_i32_299 : BitVec 32 := 64#32
  let c0_i32_302 : BitVec 32 := 0#32
  let v465 : BitVec 1 := Scalar.cmpi .sgt c64_i32_299 c0_i32_302
  let v466 : BitVec 32 := Scalar.extui v465
  let c0_i32_303 : BitVec 32 := 0#32
  let v467 : BitVec 1 := Scalar.cmpi .slt c64_i32_299 c0_i32_303
  let v468 : BitVec 32 := Scalar.extui v467
  let v469 : BitVec 32 := Scalar.subi v466 v468
  let v470 : BitVec 1 := Scalar.cmpi .ne v464 v469
  let v471 : BitVec 32 := Scalar.remsi v458 c64_i32_299
  let c0_i32_304 : BitVec 32 := 0#32
  let v472 : BitVec 1 := Scalar.cmpi .ne v471 c0_i32_304
  let v473 : BitVec 1 := Scalar.andi v470 v472
  let v459 : BitVec 32 := Scalar.divsi v458 c64_i32_299
  let c1_i32_305 : BitVec 32 := 1#32
  let v474 : BitVec 32 := Scalar.subi v459 c1_i32_305
  let v475 : BitVec 32 := Scalar.select v473 v474 v459
  let v476 : BitVec 32 := Scalar.subi v475 c0_i32_306
  let c1_i32_308 : BitVec 32 := 1#32
  let v478 : BitVec 32 := Scalar.divsi v476 c1_i32_308
  let v479 : BitVec 32 := Scalar.muli v478 c1_i32_308
  let v480 : BitVec 32 := Scalar.addi c0_i32_306 v479
  let c1_i32_309 : BitVec 32 := 1#32
  ⟨c0_i32_306, v480, c1_i32_309⟩

def k0_off97 (v449 : BitVec 32) (k0_t37 : Fin (k0_t37_loop v449).trips) : Fin 1 → Nat :=
  let c0_i32_306 : BitVec 32 := 0#32
  let c1_i32_309 : BitVec 32 := 1#32
  let arg10 : BitVec 32 := Scf.iv c0_i32_306 c1_i32_309 k0_t37
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk92 (v679 : IVec S16 32) (v699 : IVec S16 32) : Prop :=
  (∀ a x, ((![v679, v699] : Fin 2 → IVec S16 32) a x).toNat < S16x6272.size a)
theorem k0_idx81_inb : ∀ (v679 : IVec S16 32) (v699 : IVec S16 32) (k0_hw92 : k0_chk92 v679 v699), ∀ a x, ((![v679, v699] : Fin 2 → IVec S16 32) a x).toNat < S16x6272.size a := fun v679 v699 k0_hw92 => k0_hw92
def k0_off98 (v449 : BitVec 32) (k0_t37 : Fin (k0_t37_loop v449).trips) : Fin 1 → Nat :=
  let c0_i32_306 : BitVec 32 := 0#32
  let c1_i32_309 : BitVec 32 := 1#32
  let arg10 : BitVec 32 := Scf.iv c0_i32_306 c1_i32_309 k0_t37
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk93 (v679 : IVec S16 32) (v719 : IVec S16 32) : Prop :=
  (∀ a x, ((![v679, v719] : Fin 2 → IVec S16 32) a x).toNat < S16x6272.size a)
theorem k0_idx82_inb : ∀ (v679 : IVec S16 32) (v719 : IVec S16 32) (k0_hw93 : k0_chk93 v679 v719), ∀ a x, ((![v679, v719] : Fin 2 → IVec S16 32) a x).toNat < S16x6272.size a := fun v679 v719 k0_hw93 => k0_hw93
def k0_off99 (v449 : BitVec 32) (k0_t37 : Fin (k0_t37_loop v449).trips) : Fin 1 → Nat :=
  let c0_i32_306 : BitVec 32 := 0#32
  let c1_i32_309 : BitVec 32 := 1#32
  let arg10 : BitVec 32 := Scf.iv c0_i32_306 c1_i32_309 k0_t37
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk94 (v679 : IVec S16 32) (v739 : IVec S16 32) : Prop :=
  (∀ a x, ((![v679, v739] : Fin 2 → IVec S16 32) a x).toNat < S16x6272.size a)
theorem k0_idx83_inb : ∀ (v679 : IVec S16 32) (v739 : IVec S16 32) (k0_hw94 : k0_chk94 v679 v739), ∀ a x, ((![v679, v739] : Fin 2 → IVec S16 32) a x).toNat < S16x6272.size a := fun v679 v739 k0_hw94 => k0_hw94
def k0_off100 (v449 : BitVec 32) (k0_t37 : Fin (k0_t37_loop v449).trips) : Fin 1 → Nat :=
  let c0_i32_306 : BitVec 32 := 0#32
  let c1_i32_309 : BitVec 32 := 1#32
  let arg10 : BitVec 32 := Scf.iv c0_i32_306 c1_i32_309 k0_t37
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk95 (v679 : IVec S16 32) (v759 : IVec S16 32) : Prop :=
  (∀ a x, ((![v679, v759] : Fin 2 → IVec S16 32) a x).toNat < S16x6272.size a)
theorem k0_idx84_inb : ∀ (v679 : IVec S16 32) (v759 : IVec S16 32) (k0_hw95 : k0_chk95 v679 v759), ∀ a x, ((![v679, v759] : Fin 2 → IVec S16 32) a x).toNat < S16x6272.size a := fun v679 v759 k0_hw95 => k0_hw95
@[reducible] def k0_t38_loop (v449 : BitVec 32) : Scf.Loop 32 :=
  let c0_i32_306 : BitVec 32 := 0#32
  let c63_i32_298 : BitVec 32 := 63#32
  let v458 : BitVec 32 := Scalar.addi v449 c63_i32_298
  let c0_i32_300 : BitVec 32 := 0#32
  let v460 : BitVec 1 := Scalar.cmpi .sgt v458 c0_i32_300
  let v461 : BitVec 32 := Scalar.extui v460
  let c0_i32_301 : BitVec 32 := 0#32
  let v462 : BitVec 1 := Scalar.cmpi .slt v458 c0_i32_301
  let v463 : BitVec 32 := Scalar.extui v462
  let v464 : BitVec 32 := Scalar.subi v461 v463
  let c64_i32_299 : BitVec 32 := 64#32
  let c0_i32_302 : BitVec 32 := 0#32
  let v465 : BitVec 1 := Scalar.cmpi .sgt c64_i32_299 c0_i32_302
  let v466 : BitVec 32 := Scalar.extui v465
  let c0_i32_303 : BitVec 32 := 0#32
  let v467 : BitVec 1 := Scalar.cmpi .slt c64_i32_299 c0_i32_303
  let v468 : BitVec 32 := Scalar.extui v467
  let v469 : BitVec 32 := Scalar.subi v466 v468
  let v470 : BitVec 1 := Scalar.cmpi .ne v464 v469
  let v471 : BitVec 32 := Scalar.remsi v458 c64_i32_299
  let c0_i32_304 : BitVec 32 := 0#32
  let v472 : BitVec 1 := Scalar.cmpi .ne v471 c0_i32_304
  let v473 : BitVec 1 := Scalar.andi v470 v472
  let v459 : BitVec 32 := Scalar.divsi v458 c64_i32_299
  let c1_i32_305 : BitVec 32 := 1#32
  let v474 : BitVec 32 := Scalar.subi v459 c1_i32_305
  let v475 : BitVec 32 := Scalar.select v473 v474 v459
  let v476 : BitVec 32 := Scalar.subi v475 c0_i32_306
  let c1_i32_308 : BitVec 32 := 1#32
  let v478 : BitVec 32 := Scalar.divsi v476 c1_i32_308
  let v479 : BitVec 32 := Scalar.muli v478 c1_i32_308
  let v480 : BitVec 32 := Scalar.addi c0_i32_306 v479
  let v477 : BitVec 32 := Scalar.addi c0_i32_306 v476
  let c1_i32_310 : BitVec 32 := 1#32
  ⟨v480, v477, c1_i32_310⟩
def k0_off101 (v449 : BitVec 32) (k0_t38 : Fin (k0_t38_loop v449).trips) : Fin 1 → Nat :=
  let c0_i32_306 : BitVec 32 := 0#32
  let c63_i32_298 : BitVec 32 := 63#32
  let v458 : BitVec 32 := Scalar.addi v449 c63_i32_298
  let c0_i32_300 : BitVec 32 := 0#32
  let v460 : BitVec 1 := Scalar.cmpi .sgt v458 c0_i32_300
  let v461 : BitVec 32 := Scalar.extui v460
  let c0_i32_301 : BitVec 32 := 0#32
  let v462 : BitVec 1 := Scalar.cmpi .slt v458 c0_i32_301
  let v463 : BitVec 32 := Scalar.extui v462
  let v464 : BitVec 32 := Scalar.subi v461 v463
  let c64_i32_299 : BitVec 32 := 64#32
  let c0_i32_302 : BitVec 32 := 0#32
  let v465 : BitVec 1 := Scalar.cmpi .sgt c64_i32_299 c0_i32_302
  let v466 : BitVec 32 := Scalar.extui v465
  let c0_i32_303 : BitVec 32 := 0#32
  let v467 : BitVec 1 := Scalar.cmpi .slt c64_i32_299 c0_i32_303
  let v468 : BitVec 32 := Scalar.extui v467
  let v469 : BitVec 32 := Scalar.subi v466 v468
  let v470 : BitVec 1 := Scalar.cmpi .ne v464 v469
  let v471 : BitVec 32 := Scalar.remsi v458 c64_i32_299
  let c0_i32_304 : BitVec 32 := 0#32
  let v472 : BitVec 1 := Scalar.cmpi .ne v471 c0_i32_304
  let v473 : BitVec 1 := Scalar.andi v470 v472
  let v459 : BitVec 32 := Scalar.divsi v458 c64_i32_299
  let c1_i32_305 : BitVec 32 := 1#32
  let v474 : BitVec 32 := Scalar.subi v459 c1_i32_305
  let v475 : BitVec 32 := Scalar.select v473 v474 v459
  let v476 : BitVec 32 := Scalar.subi v475 c0_i32_306
  let c1_i32_308 : BitVec 32 := 1#32
  let v478 : BitVec 32 := Scalar.divsi v476 c1_i32_308
  let v479 : BitVec 32 := Scalar.muli v478 c1_i32_308
  let v480 : BitVec 32 := Scalar.addi c0_i32_306 v479
  let c1_i32_310 : BitVec 32 := 1#32
  let arg10 : BitVec 32 := Scf.iv v480 c1_i32_310 k0_t38
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk96 (v679 : IVec S16 32) (v699 : IVec S16 32) : Prop :=
  (∀ a x, ((![v679, v699] : Fin 2 → IVec S16 32) a x).toNat < S16x6272.size a)
theorem k0_idx85_inb : ∀ (v679 : IVec S16 32) (v699 : IVec S16 32) (k0_hw96 : k0_chk96 v679 v699), ∀ a x, ((![v679, v699] : Fin 2 → IVec S16 32) a x).toNat < S16x6272.size a := fun v679 v699 k0_hw96 => k0_hw96
def k0_off102 (v449 : BitVec 32) (k0_t38 : Fin (k0_t38_loop v449).trips) : Fin 1 → Nat :=
  let c0_i32_306 : BitVec 32 := 0#32
  let c63_i32_298 : BitVec 32 := 63#32
  let v458 : BitVec 32 := Scalar.addi v449 c63_i32_298
  let c0_i32_300 : BitVec 32 := 0#32
  let v460 : BitVec 1 := Scalar.cmpi .sgt v458 c0_i32_300
  let v461 : BitVec 32 := Scalar.extui v460
  let c0_i32_301 : BitVec 32 := 0#32
  let v462 : BitVec 1 := Scalar.cmpi .slt v458 c0_i32_301
  let v463 : BitVec 32 := Scalar.extui v462
  let v464 : BitVec 32 := Scalar.subi v461 v463
  let c64_i32_299 : BitVec 32 := 64#32
  let c0_i32_302 : BitVec 32 := 0#32
  let v465 : BitVec 1 := Scalar.cmpi .sgt c64_i32_299 c0_i32_302
  let v466 : BitVec 32 := Scalar.extui v465
  let c0_i32_303 : BitVec 32 := 0#32
  let v467 : BitVec 1 := Scalar.cmpi .slt c64_i32_299 c0_i32_303
  let v468 : BitVec 32 := Scalar.extui v467
  let v469 : BitVec 32 := Scalar.subi v466 v468
  let v470 : BitVec 1 := Scalar.cmpi .ne v464 v469
  let v471 : BitVec 32 := Scalar.remsi v458 c64_i32_299
  let c0_i32_304 : BitVec 32 := 0#32
  let v472 : BitVec 1 := Scalar.cmpi .ne v471 c0_i32_304
  let v473 : BitVec 1 := Scalar.andi v470 v472
  let v459 : BitVec 32 := Scalar.divsi v458 c64_i32_299
  let c1_i32_305 : BitVec 32 := 1#32
  let v474 : BitVec 32 := Scalar.subi v459 c1_i32_305
  let v475 : BitVec 32 := Scalar.select v473 v474 v459
  let v476 : BitVec 32 := Scalar.subi v475 c0_i32_306
  let c1_i32_308 : BitVec 32 := 1#32
  let v478 : BitVec 32 := Scalar.divsi v476 c1_i32_308
  let v479 : BitVec 32 := Scalar.muli v478 c1_i32_308
  let v480 : BitVec 32 := Scalar.addi c0_i32_306 v479
  let c1_i32_310 : BitVec 32 := 1#32
  let arg10 : BitVec 32 := Scf.iv v480 c1_i32_310 k0_t38
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk97 (v679 : IVec S16 32) (v719 : IVec S16 32) : Prop :=
  (∀ a x, ((![v679, v719] : Fin 2 → IVec S16 32) a x).toNat < S16x6272.size a)
theorem k0_idx86_inb : ∀ (v679 : IVec S16 32) (v719 : IVec S16 32) (k0_hw97 : k0_chk97 v679 v719), ∀ a x, ((![v679, v719] : Fin 2 → IVec S16 32) a x).toNat < S16x6272.size a := fun v679 v719 k0_hw97 => k0_hw97
def k0_off103 (v449 : BitVec 32) (k0_t38 : Fin (k0_t38_loop v449).trips) : Fin 1 → Nat :=
  let c0_i32_306 : BitVec 32 := 0#32
  let c63_i32_298 : BitVec 32 := 63#32
  let v458 : BitVec 32 := Scalar.addi v449 c63_i32_298
  let c0_i32_300 : BitVec 32 := 0#32
  let v460 : BitVec 1 := Scalar.cmpi .sgt v458 c0_i32_300
  let v461 : BitVec 32 := Scalar.extui v460
  let c0_i32_301 : BitVec 32 := 0#32
  let v462 : BitVec 1 := Scalar.cmpi .slt v458 c0_i32_301
  let v463 : BitVec 32 := Scalar.extui v462
  let v464 : BitVec 32 := Scalar.subi v461 v463
  let c64_i32_299 : BitVec 32 := 64#32
  let c0_i32_302 : BitVec 32 := 0#32
  let v465 : BitVec 1 := Scalar.cmpi .sgt c64_i32_299 c0_i32_302
  let v466 : BitVec 32 := Scalar.extui v465
  let c0_i32_303 : BitVec 32 := 0#32
  let v467 : BitVec 1 := Scalar.cmpi .slt c64_i32_299 c0_i32_303
  let v468 : BitVec 32 := Scalar.extui v467
  let v469 : BitVec 32 := Scalar.subi v466 v468
  let v470 : BitVec 1 := Scalar.cmpi .ne v464 v469
  let v471 : BitVec 32 := Scalar.remsi v458 c64_i32_299
  let c0_i32_304 : BitVec 32 := 0#32
  let v472 : BitVec 1 := Scalar.cmpi .ne v471 c0_i32_304
  let v473 : BitVec 1 := Scalar.andi v470 v472
  let v459 : BitVec 32 := Scalar.divsi v458 c64_i32_299
  let c1_i32_305 : BitVec 32 := 1#32
  let v474 : BitVec 32 := Scalar.subi v459 c1_i32_305
  let v475 : BitVec 32 := Scalar.select v473 v474 v459
  let v476 : BitVec 32 := Scalar.subi v475 c0_i32_306
  let c1_i32_308 : BitVec 32 := 1#32
  let v478 : BitVec 32 := Scalar.divsi v476 c1_i32_308
  let v479 : BitVec 32 := Scalar.muli v478 c1_i32_308
  let v480 : BitVec 32 := Scalar.addi c0_i32_306 v479
  let c1_i32_310 : BitVec 32 := 1#32
  let arg10 : BitVec 32 := Scf.iv v480 c1_i32_310 k0_t38
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk98 (v679 : IVec S16 32) (v739 : IVec S16 32) : Prop :=
  (∀ a x, ((![v679, v739] : Fin 2 → IVec S16 32) a x).toNat < S16x6272.size a)
theorem k0_idx87_inb : ∀ (v679 : IVec S16 32) (v739 : IVec S16 32) (k0_hw98 : k0_chk98 v679 v739), ∀ a x, ((![v679, v739] : Fin 2 → IVec S16 32) a x).toNat < S16x6272.size a := fun v679 v739 k0_hw98 => k0_hw98
def k0_off104 (v449 : BitVec 32) (k0_t38 : Fin (k0_t38_loop v449).trips) : Fin 1 → Nat :=
  let c0_i32_306 : BitVec 32 := 0#32
  let c63_i32_298 : BitVec 32 := 63#32
  let v458 : BitVec 32 := Scalar.addi v449 c63_i32_298
  let c0_i32_300 : BitVec 32 := 0#32
  let v460 : BitVec 1 := Scalar.cmpi .sgt v458 c0_i32_300
  let v461 : BitVec 32 := Scalar.extui v460
  let c0_i32_301 : BitVec 32 := 0#32
  let v462 : BitVec 1 := Scalar.cmpi .slt v458 c0_i32_301
  let v463 : BitVec 32 := Scalar.extui v462
  let v464 : BitVec 32 := Scalar.subi v461 v463
  let c64_i32_299 : BitVec 32 := 64#32
  let c0_i32_302 : BitVec 32 := 0#32
  let v465 : BitVec 1 := Scalar.cmpi .sgt c64_i32_299 c0_i32_302
  let v466 : BitVec 32 := Scalar.extui v465
  let c0_i32_303 : BitVec 32 := 0#32
  let v467 : BitVec 1 := Scalar.cmpi .slt c64_i32_299 c0_i32_303
  let v468 : BitVec 32 := Scalar.extui v467
  let v469 : BitVec 32 := Scalar.subi v466 v468
  let v470 : BitVec 1 := Scalar.cmpi .ne v464 v469
  let v471 : BitVec 32 := Scalar.remsi v458 c64_i32_299
  let c0_i32_304 : BitVec 32 := 0#32
  let v472 : BitVec 1 := Scalar.cmpi .ne v471 c0_i32_304
  let v473 : BitVec 1 := Scalar.andi v470 v472
  let v459 : BitVec 32 := Scalar.divsi v458 c64_i32_299
  let c1_i32_305 : BitVec 32 := 1#32
  let v474 : BitVec 32 := Scalar.subi v459 c1_i32_305
  let v475 : BitVec 32 := Scalar.select v473 v474 v459
  let v476 : BitVec 32 := Scalar.subi v475 c0_i32_306
  let c1_i32_308 : BitVec 32 := 1#32
  let v478 : BitVec 32 := Scalar.divsi v476 c1_i32_308
  let v479 : BitVec 32 := Scalar.muli v478 c1_i32_308
  let v480 : BitVec 32 := Scalar.addi c0_i32_306 v479
  let c1_i32_310 : BitVec 32 := 1#32
  let arg10 : BitVec 32 := Scf.iv v480 c1_i32_310 k0_t38
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk91 (v449 : BitVec 32) : Prop :=
  ((k0_t37_loop v449).OK) ∧
  (∀ k0_t37 : Fin (k0_t37_loop v449).trips, ∀ a, (k0_off97 v449 k0_t37) a + S16.size a ≤ S4096.size a) ∧
  (∀ k0_t37 : Fin (k0_t37_loop v449).trips, ∀ a, (k0_off98 v449 k0_t37) a + S16.size a ≤ S4096.size a) ∧
  (∀ k0_t37 : Fin (k0_t37_loop v449).trips, ∀ a, (k0_off99 v449 k0_t37) a + S16.size a ≤ S4096.size a) ∧
  (∀ k0_t37 : Fin (k0_t37_loop v449).trips, ∀ a, (k0_off100 v449 k0_t37) a + S16.size a ≤ S4096.size a) ∧
  ((k0_t38_loop v449).OK) ∧
  (∀ k0_t38 : Fin (k0_t38_loop v449).trips, ∀ a, (k0_off101 v449 k0_t38) a + S16.size a ≤ S4096.size a) ∧
  (∀ k0_t38 : Fin (k0_t38_loop v449).trips, ∀ a, (k0_off102 v449 k0_t38) a + S16.size a ≤ S4096.size a) ∧
  (∀ k0_t38 : Fin (k0_t38_loop v449).trips, ∀ a, (k0_off103 v449 k0_t38) a + S16.size a ≤ S4096.size a) ∧
  (∀ k0_t38 : Fin (k0_t38_loop v449).trips, ∀ a, (k0_off104 v449 k0_t38) a + S16.size a ≤ S4096.size a)
theorem k0_t37_ok : ∀ (v449 : BitVec 32) (k0_hw91 : k0_chk91 v449), (k0_t37_loop v449).OK := fun v449 k0_hw91 => k0_hw91.1
theorem k0_off97_inb : ∀ (v449 : BitVec 32) (k0_hw91 : k0_chk91 v449) (k0_t37 : Fin (k0_t37_loop v449).trips), ∀ a, (k0_off97 v449 k0_t37) a + S16.size a ≤ S4096.size a := fun v449 k0_hw91 k0_t37 => k0_hw91.2.1 k0_t37
theorem k0_off98_inb : ∀ (v449 : BitVec 32) (k0_hw91 : k0_chk91 v449) (k0_t37 : Fin (k0_t37_loop v449).trips), ∀ a, (k0_off98 v449 k0_t37) a + S16.size a ≤ S4096.size a := fun v449 k0_hw91 k0_t37 => k0_hw91.2.2.1 k0_t37
theorem k0_off99_inb : ∀ (v449 : BitVec 32) (k0_hw91 : k0_chk91 v449) (k0_t37 : Fin (k0_t37_loop v449).trips), ∀ a, (k0_off99 v449 k0_t37) a + S16.size a ≤ S4096.size a := fun v449 k0_hw91 k0_t37 => k0_hw91.2.2.2.1 k0_t37
theorem k0_off100_inb : ∀ (v449 : BitVec 32) (k0_hw91 : k0_chk91 v449) (k0_t37 : Fin (k0_t37_loop v449).trips), ∀ a, (k0_off100 v449 k0_t37) a + S16.size a ≤ S4096.size a := fun v449 k0_hw91 k0_t37 => k0_hw91.2.2.2.2.1 k0_t37
theorem k0_t38_ok : ∀ (v449 : BitVec 32) (k0_hw91 : k0_chk91 v449), (k0_t38_loop v449).OK := fun v449 k0_hw91 => k0_hw91.2.2.2.2.2.1
theorem k0_off101_inb : ∀ (v449 : BitVec 32) (k0_hw91 : k0_chk91 v449) (k0_t38 : Fin (k0_t38_loop v449).trips), ∀ a, (k0_off101 v449 k0_t38) a + S16.size a ≤ S4096.size a := fun v449 k0_hw91 k0_t38 => k0_hw91.2.2.2.2.2.2.1 k0_t38
theorem k0_off102_inb : ∀ (v449 : BitVec 32) (k0_hw91 : k0_chk91 v449) (k0_t38 : Fin (k0_t38_loop v449).trips), ∀ a, (k0_off102 v449 k0_t38) a + S16.size a ≤ S4096.size a := fun v449 k0_hw91 k0_t38 => k0_hw91.2.2.2.2.2.2.2.1 k0_t38
theorem k0_off103_inb : ∀ (v449 : BitVec 32) (k0_hw91 : k0_chk91 v449) (k0_t38 : Fin (k0_t38_loop v449).trips), ∀ a, (k0_off103 v449 k0_t38) a + S16.size a ≤ S4096.size a := fun v449 k0_hw91 k0_t38 => k0_hw91.2.2.2.2.2.2.2.2.1 k0_t38
theorem k0_off104_inb : ∀ (v449 : BitVec 32) (k0_hw91 : k0_chk91 v449) (k0_t38 : Fin (k0_t38_loop v449).trips), ∀ a, (k0_off104 v449 k0_t38) a + S16.size a ≤ S4096.size a := fun v449 k0_hw91 k0_t38 => k0_hw91.2.2.2.2.2.2.2.2.2 k0_t38

def k0_chk99 (v679 : IVec S16 32) (v759 : IVec S16 32) : Prop :=
  (∀ a x, ((![v679, v759] : Fin 2 → IVec S16 32) a x).toNat < S16x6272.size a)
theorem k0_idx88_inb : ∀ (v679 : IVec S16 32) (v759 : IVec S16 32) (k0_hw99 : k0_chk99 v679 v759), ∀ a x, ((![v679, v759] : Fin 2 → IVec S16 32) a x).toNat < S16x6272.size a := fun v679 v759 k0_hw99 => k0_hw99
@[reducible] def k0_t39_loop (v489 : BitVec 32) : Scf.Loop 32 :=
  let c0_i32_327 : BitVec 32 := 0#32
  let c63_i32_319 : BitVec 32 := 63#32
  let v498 : BitVec 32 := Scalar.addi v489 c63_i32_319
  let c0_i32_321 : BitVec 32 := 0#32
  let v500 : BitVec 1 := Scalar.cmpi .sgt v498 c0_i32_321
  let v501 : BitVec 32 := Scalar.extui v500
  let c0_i32_322 : BitVec 32 := 0#32
  let v502 : BitVec 1 := Scalar.cmpi .slt v498 c0_i32_322
  let v503 : BitVec 32 := Scalar.extui v502
  let v504 : BitVec 32 := Scalar.subi v501 v503
  let c64_i32_320 : BitVec 32 := 64#32
  let c0_i32_323 : BitVec 32 := 0#32
  let v505 : BitVec 1 := Scalar.cmpi .sgt c64_i32_320 c0_i32_323
  let v506 : BitVec 32 := Scalar.extui v505
  let c0_i32_324 : BitVec 32 := 0#32
  let v507 : BitVec 1 := Scalar.cmpi .slt c64_i32_320 c0_i32_324
  let v508 : BitVec 32 := Scalar.extui v507
  let v509 : BitVec 32 := Scalar.subi v506 v508
  let v510 : BitVec 1 := Scalar.cmpi .ne v504 v509
  let v511 : BitVec 32 := Scalar.remsi v498 c64_i32_320
  let c0_i32_325 : BitVec 32 := 0#32
  let v512 : BitVec 1 := Scalar.cmpi .ne v511 c0_i32_325
  let v513 : BitVec 1 := Scalar.andi v510 v512
  let v499 : BitVec 32 := Scalar.divsi v498 c64_i32_320
  let c1_i32_326 : BitVec 32 := 1#32
  let v514 : BitVec 32 := Scalar.subi v499 c1_i32_326
  let v515 : BitVec 32 := Scalar.select v513 v514 v499
  let v516 : BitVec 32 := Scalar.subi v515 c0_i32_327
  let c1_i32_329 : BitVec 32 := 1#32
  let v518 : BitVec 32 := Scalar.divsi v516 c1_i32_329
  let v519 : BitVec 32 := Scalar.muli v518 c1_i32_329
  let v520 : BitVec 32 := Scalar.addi c0_i32_327 v519
  let c1_i32_330 : BitVec 32 := 1#32
  ⟨c0_i32_327, v520, c1_i32_330⟩

def k0_off105 (v489 : BitVec 32) (k0_t39 : Fin (k0_t39_loop v489).trips) : Fin 1 → Nat :=
  let c0_i32_327 : BitVec 32 := 0#32
  let c1_i32_330 : BitVec 32 := 1#32
  let arg10 : BitVec 32 := Scf.iv c0_i32_327 c1_i32_330 k0_t39
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk101 (v679 : IVec S16 32) (v699 : IVec S16 32) : Prop :=
  (∀ a x, ((![v679, v699] : Fin 2 → IVec S16 32) a x).toNat < S16x6272.size a)
theorem k0_idx89_inb : ∀ (v679 : IVec S16 32) (v699 : IVec S16 32) (k0_hw101 : k0_chk101 v679 v699), ∀ a x, ((![v679, v699] : Fin 2 → IVec S16 32) a x).toNat < S16x6272.size a := fun v679 v699 k0_hw101 => k0_hw101
def k0_off106 (v489 : BitVec 32) (k0_t39 : Fin (k0_t39_loop v489).trips) : Fin 1 → Nat :=
  let c0_i32_327 : BitVec 32 := 0#32
  let c1_i32_330 : BitVec 32 := 1#32
  let arg10 : BitVec 32 := Scf.iv c0_i32_327 c1_i32_330 k0_t39
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk102 (v679 : IVec S16 32) (v719 : IVec S16 32) : Prop :=
  (∀ a x, ((![v679, v719] : Fin 2 → IVec S16 32) a x).toNat < S16x6272.size a)
theorem k0_idx90_inb : ∀ (v679 : IVec S16 32) (v719 : IVec S16 32) (k0_hw102 : k0_chk102 v679 v719), ∀ a x, ((![v679, v719] : Fin 2 → IVec S16 32) a x).toNat < S16x6272.size a := fun v679 v719 k0_hw102 => k0_hw102
def k0_off107 (v489 : BitVec 32) (k0_t39 : Fin (k0_t39_loop v489).trips) : Fin 1 → Nat :=
  let c0_i32_327 : BitVec 32 := 0#32
  let c1_i32_330 : BitVec 32 := 1#32
  let arg10 : BitVec 32 := Scf.iv c0_i32_327 c1_i32_330 k0_t39
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk103 (v679 : IVec S16 32) (v739 : IVec S16 32) : Prop :=
  (∀ a x, ((![v679, v739] : Fin 2 → IVec S16 32) a x).toNat < S16x6272.size a)
theorem k0_idx91_inb : ∀ (v679 : IVec S16 32) (v739 : IVec S16 32) (k0_hw103 : k0_chk103 v679 v739), ∀ a x, ((![v679, v739] : Fin 2 → IVec S16 32) a x).toNat < S16x6272.size a := fun v679 v739 k0_hw103 => k0_hw103
def k0_off108 (v489 : BitVec 32) (k0_t39 : Fin (k0_t39_loop v489).trips) : Fin 1 → Nat :=
  let c0_i32_327 : BitVec 32 := 0#32
  let c1_i32_330 : BitVec 32 := 1#32
  let arg10 : BitVec 32 := Scf.iv c0_i32_327 c1_i32_330 k0_t39
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk104 (v679 : IVec S16 32) (v759 : IVec S16 32) : Prop :=
  (∀ a x, ((![v679, v759] : Fin 2 → IVec S16 32) a x).toNat < S16x6272.size a)
theorem k0_idx92_inb : ∀ (v679 : IVec S16 32) (v759 : IVec S16 32) (k0_hw104 : k0_chk104 v679 v759), ∀ a x, ((![v679, v759] : Fin 2 → IVec S16 32) a x).toNat < S16x6272.size a := fun v679 v759 k0_hw104 => k0_hw104
@[reducible] def k0_t40_loop (v489 : BitVec 32) : Scf.Loop 32 :=
  let c0_i32_327 : BitVec 32 := 0#32
  let c63_i32_319 : BitVec 32 := 63#32
  let v498 : BitVec 32 := Scalar.addi v489 c63_i32_319
  let c0_i32_321 : BitVec 32 := 0#32
  let v500 : BitVec 1 := Scalar.cmpi .sgt v498 c0_i32_321
  let v501 : BitVec 32 := Scalar.extui v500
  let c0_i32_322 : BitVec 32 := 0#32
  let v502 : BitVec 1 := Scalar.cmpi .slt v498 c0_i32_322
  let v503 : BitVec 32 := Scalar.extui v502
  let v504 : BitVec 32 := Scalar.subi v501 v503
  let c64_i32_320 : BitVec 32 := 64#32
  let c0_i32_323 : BitVec 32 := 0#32
  let v505 : BitVec 1 := Scalar.cmpi .sgt c64_i32_320 c0_i32_323
  let v506 : BitVec 32 := Scalar.extui v505
  let c0_i32_324 : BitVec 32 := 0#32
  let v507 : BitVec 1 := Scalar.cmpi .slt c64_i32_320 c0_i32_324
  let v508 : BitVec 32 := Scalar.extui v507
  let v509 : BitVec 32 := Scalar.subi v506 v508
  let v510 : BitVec 1 := Scalar.cmpi .ne v504 v509
  let v511 : BitVec 32 := Scalar.remsi v498 c64_i32_320
  let c0_i32_325 : BitVec 32 := 0#32
  let v512 : BitVec 1 := Scalar.cmpi .ne v511 c0_i32_325
  let v513 : BitVec 1 := Scalar.andi v510 v512
  let v499 : BitVec 32 := Scalar.divsi v498 c64_i32_320
  let c1_i32_326 : BitVec 32 := 1#32
  let v514 : BitVec 32 := Scalar.subi v499 c1_i32_326
  let v515 : BitVec 32 := Scalar.select v513 v514 v499
  let v516 : BitVec 32 := Scalar.subi v515 c0_i32_327
  let c1_i32_329 : BitVec 32 := 1#32
  let v518 : BitVec 32 := Scalar.divsi v516 c1_i32_329
  let v519 : BitVec 32 := Scalar.muli v518 c1_i32_329
  let v520 : BitVec 32 := Scalar.addi c0_i32_327 v519
  let v517 : BitVec 32 := Scalar.addi c0_i32_327 v516
  let c1_i32_331 : BitVec 32 := 1#32
  ⟨v520, v517, c1_i32_331⟩
def k0_off109 (v489 : BitVec 32) (k0_t40 : Fin (k0_t40_loop v489).trips) : Fin 1 → Nat :=
  let c0_i32_327 : BitVec 32 := 0#32
  let c63_i32_319 : BitVec 32 := 63#32
  let v498 : BitVec 32 := Scalar.addi v489 c63_i32_319
  let c0_i32_321 : BitVec 32 := 0#32
  let v500 : BitVec 1 := Scalar.cmpi .sgt v498 c0_i32_321
  let v501 : BitVec 32 := Scalar.extui v500
  let c0_i32_322 : BitVec 32 := 0#32
  let v502 : BitVec 1 := Scalar.cmpi .slt v498 c0_i32_322
  let v503 : BitVec 32 := Scalar.extui v502
  let v504 : BitVec 32 := Scalar.subi v501 v503
  let c64_i32_320 : BitVec 32 := 64#32
  let c0_i32_323 : BitVec 32 := 0#32
  let v505 : BitVec 1 := Scalar.cmpi .sgt c64_i32_320 c0_i32_323
  let v506 : BitVec 32 := Scalar.extui v505
  let c0_i32_324 : BitVec 32 := 0#32
  let v507 : BitVec 1 := Scalar.cmpi .slt c64_i32_320 c0_i32_324
  let v508 : BitVec 32 := Scalar.extui v507
  let v509 : BitVec 32 := Scalar.subi v506 v508
  let v510 : BitVec 1 := Scalar.cmpi .ne v504 v509
  let v511 : BitVec 32 := Scalar.remsi v498 c64_i32_320
  let c0_i32_325 : BitVec 32 := 0#32
  let v512 : BitVec 1 := Scalar.cmpi .ne v511 c0_i32_325
  let v513 : BitVec 1 := Scalar.andi v510 v512
  let v499 : BitVec 32 := Scalar.divsi v498 c64_i32_320
  let c1_i32_326 : BitVec 32 := 1#32
  let v514 : BitVec 32 := Scalar.subi v499 c1_i32_326
  let v515 : BitVec 32 := Scalar.select v513 v514 v499
  let v516 : BitVec 32 := Scalar.subi v515 c0_i32_327
  let c1_i32_329 : BitVec 32 := 1#32
  let v518 : BitVec 32 := Scalar.divsi v516 c1_i32_329
  let v519 : BitVec 32 := Scalar.muli v518 c1_i32_329
  let v520 : BitVec 32 := Scalar.addi c0_i32_327 v519
  let c1_i32_331 : BitVec 32 := 1#32
  let arg10 : BitVec 32 := Scf.iv v520 c1_i32_331 k0_t40
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk105 (v679 : IVec S16 32) (v699 : IVec S16 32) : Prop :=
  (∀ a x, ((![v679, v699] : Fin 2 → IVec S16 32) a x).toNat < S16x6272.size a)
theorem k0_idx93_inb : ∀ (v679 : IVec S16 32) (v699 : IVec S16 32) (k0_hw105 : k0_chk105 v679 v699), ∀ a x, ((![v679, v699] : Fin 2 → IVec S16 32) a x).toNat < S16x6272.size a := fun v679 v699 k0_hw105 => k0_hw105
def k0_off110 (v489 : BitVec 32) (k0_t40 : Fin (k0_t40_loop v489).trips) : Fin 1 → Nat :=
  let c0_i32_327 : BitVec 32 := 0#32
  let c63_i32_319 : BitVec 32 := 63#32
  let v498 : BitVec 32 := Scalar.addi v489 c63_i32_319
  let c0_i32_321 : BitVec 32 := 0#32
  let v500 : BitVec 1 := Scalar.cmpi .sgt v498 c0_i32_321
  let v501 : BitVec 32 := Scalar.extui v500
  let c0_i32_322 : BitVec 32 := 0#32
  let v502 : BitVec 1 := Scalar.cmpi .slt v498 c0_i32_322
  let v503 : BitVec 32 := Scalar.extui v502
  let v504 : BitVec 32 := Scalar.subi v501 v503
  let c64_i32_320 : BitVec 32 := 64#32
  let c0_i32_323 : BitVec 32 := 0#32
  let v505 : BitVec 1 := Scalar.cmpi .sgt c64_i32_320 c0_i32_323
  let v506 : BitVec 32 := Scalar.extui v505
  let c0_i32_324 : BitVec 32 := 0#32
  let v507 : BitVec 1 := Scalar.cmpi .slt c64_i32_320 c0_i32_324
  let v508 : BitVec 32 := Scalar.extui v507
  let v509 : BitVec 32 := Scalar.subi v506 v508
  let v510 : BitVec 1 := Scalar.cmpi .ne v504 v509
  let v511 : BitVec 32 := Scalar.remsi v498 c64_i32_320
  let c0_i32_325 : BitVec 32 := 0#32
  let v512 : BitVec 1 := Scalar.cmpi .ne v511 c0_i32_325
  let v513 : BitVec 1 := Scalar.andi v510 v512
  let v499 : BitVec 32 := Scalar.divsi v498 c64_i32_320
  let c1_i32_326 : BitVec 32 := 1#32
  let v514 : BitVec 32 := Scalar.subi v499 c1_i32_326
  let v515 : BitVec 32 := Scalar.select v513 v514 v499
  let v516 : BitVec 32 := Scalar.subi v515 c0_i32_327
  let c1_i32_329 : BitVec 32 := 1#32
  let v518 : BitVec 32 := Scalar.divsi v516 c1_i32_329
  let v519 : BitVec 32 := Scalar.muli v518 c1_i32_329
  let v520 : BitVec 32 := Scalar.addi c0_i32_327 v519
  let c1_i32_331 : BitVec 32 := 1#32
  let arg10 : BitVec 32 := Scf.iv v520 c1_i32_331 k0_t40
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk106 (v679 : IVec S16 32) (v719 : IVec S16 32) : Prop :=
  (∀ a x, ((![v679, v719] : Fin 2 → IVec S16 32) a x).toNat < S16x6272.size a)
theorem k0_idx94_inb : ∀ (v679 : IVec S16 32) (v719 : IVec S16 32) (k0_hw106 : k0_chk106 v679 v719), ∀ a x, ((![v679, v719] : Fin 2 → IVec S16 32) a x).toNat < S16x6272.size a := fun v679 v719 k0_hw106 => k0_hw106
def k0_off111 (v489 : BitVec 32) (k0_t40 : Fin (k0_t40_loop v489).trips) : Fin 1 → Nat :=
  let c0_i32_327 : BitVec 32 := 0#32
  let c63_i32_319 : BitVec 32 := 63#32
  let v498 : BitVec 32 := Scalar.addi v489 c63_i32_319
  let c0_i32_321 : BitVec 32 := 0#32
  let v500 : BitVec 1 := Scalar.cmpi .sgt v498 c0_i32_321
  let v501 : BitVec 32 := Scalar.extui v500
  let c0_i32_322 : BitVec 32 := 0#32
  let v502 : BitVec 1 := Scalar.cmpi .slt v498 c0_i32_322
  let v503 : BitVec 32 := Scalar.extui v502
  let v504 : BitVec 32 := Scalar.subi v501 v503
  let c64_i32_320 : BitVec 32 := 64#32
  let c0_i32_323 : BitVec 32 := 0#32
  let v505 : BitVec 1 := Scalar.cmpi .sgt c64_i32_320 c0_i32_323
  let v506 : BitVec 32 := Scalar.extui v505
  let c0_i32_324 : BitVec 32 := 0#32
  let v507 : BitVec 1 := Scalar.cmpi .slt c64_i32_320 c0_i32_324
  let v508 : BitVec 32 := Scalar.extui v507
  let v509 : BitVec 32 := Scalar.subi v506 v508
  let v510 : BitVec 1 := Scalar.cmpi .ne v504 v509
  let v511 : BitVec 32 := Scalar.remsi v498 c64_i32_320
  let c0_i32_325 : BitVec 32 := 0#32
  let v512 : BitVec 1 := Scalar.cmpi .ne v511 c0_i32_325
  let v513 : BitVec 1 := Scalar.andi v510 v512
  let v499 : BitVec 32 := Scalar.divsi v498 c64_i32_320
  let c1_i32_326 : BitVec 32 := 1#32
  let v514 : BitVec 32 := Scalar.subi v499 c1_i32_326
  let v515 : BitVec 32 := Scalar.select v513 v514 v499
  let v516 : BitVec 32 := Scalar.subi v515 c0_i32_327
  let c1_i32_329 : BitVec 32 := 1#32
  let v518 : BitVec 32 := Scalar.divsi v516 c1_i32_329
  let v519 : BitVec 32 := Scalar.muli v518 c1_i32_329
  let v520 : BitVec 32 := Scalar.addi c0_i32_327 v519
  let c1_i32_331 : BitVec 32 := 1#32
  let arg10 : BitVec 32 := Scf.iv v520 c1_i32_331 k0_t40
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk107 (v679 : IVec S16 32) (v739 : IVec S16 32) : Prop :=
  (∀ a x, ((![v679, v739] : Fin 2 → IVec S16 32) a x).toNat < S16x6272.size a)
theorem k0_idx95_inb : ∀ (v679 : IVec S16 32) (v739 : IVec S16 32) (k0_hw107 : k0_chk107 v679 v739), ∀ a x, ((![v679, v739] : Fin 2 → IVec S16 32) a x).toNat < S16x6272.size a := fun v679 v739 k0_hw107 => k0_hw107
def k0_off112 (v489 : BitVec 32) (k0_t40 : Fin (k0_t40_loop v489).trips) : Fin 1 → Nat :=
  let c0_i32_327 : BitVec 32 := 0#32
  let c63_i32_319 : BitVec 32 := 63#32
  let v498 : BitVec 32 := Scalar.addi v489 c63_i32_319
  let c0_i32_321 : BitVec 32 := 0#32
  let v500 : BitVec 1 := Scalar.cmpi .sgt v498 c0_i32_321
  let v501 : BitVec 32 := Scalar.extui v500
  let c0_i32_322 : BitVec 32 := 0#32
  let v502 : BitVec 1 := Scalar.cmpi .slt v498 c0_i32_322
  let v503 : BitVec 32 := Scalar.extui v502
  let v504 : BitVec 32 := Scalar.subi v501 v503
  let c64_i32_320 : BitVec 32 := 64#32
  let c0_i32_323 : BitVec 32 := 0#32
  let v505 : BitVec 1 := Scalar.cmpi .sgt c64_i32_320 c0_i32_323
  let v506 : BitVec 32 := Scalar.extui v505
  let c0_i32_324 : BitVec 32 := 0#32
  let v507 : BitVec 1 := Scalar.cmpi .slt c64_i32_320 c0_i32_324
  let v508 : BitVec 32 := Scalar.extui v507
  let v509 : BitVec 32 := Scalar.subi v506 v508
  let v510 : BitVec 1 := Scalar.cmpi .ne v504 v509
  let v511 : BitVec 32 := Scalar.remsi v498 c64_i32_320
  let c0_i32_325 : BitVec 32 := 0#32
  let v512 : BitVec 1 := Scalar.cmpi .ne v511 c0_i32_325
  let v513 : BitVec 1 := Scalar.andi v510 v512
  let v499 : BitVec 32 := Scalar.divsi v498 c64_i32_320
  let c1_i32_326 : BitVec 32 := 1#32
  let v514 : BitVec 32 := Scalar.subi v499 c1_i32_326
  let v515 : BitVec 32 := Scalar.select v513 v514 v499
  let v516 : BitVec 32 := Scalar.subi v515 c0_i32_327
  let c1_i32_329 : BitVec 32 := 1#32
  let v518 : BitVec 32 := Scalar.divsi v516 c1_i32_329
  let v519 : BitVec 32 := Scalar.muli v518 c1_i32_329
  let v520 : BitVec 32 := Scalar.addi c0_i32_327 v519
  let c1_i32_331 : BitVec 32 := 1#32
  let arg10 : BitVec 32 := Scf.iv v520 c1_i32_331 k0_t40
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk100 (v489 : BitVec 32) : Prop :=
  ((k0_t39_loop v489).OK) ∧
  (∀ k0_t39 : Fin (k0_t39_loop v489).trips, ∀ a, (k0_off105 v489 k0_t39) a + S16.size a ≤ S4096.size a) ∧
  (∀ k0_t39 : Fin (k0_t39_loop v489).trips, ∀ a, (k0_off106 v489 k0_t39) a + S16.size a ≤ S4096.size a) ∧
  (∀ k0_t39 : Fin (k0_t39_loop v489).trips, ∀ a, (k0_off107 v489 k0_t39) a + S16.size a ≤ S4096.size a) ∧
  (∀ k0_t39 : Fin (k0_t39_loop v489).trips, ∀ a, (k0_off108 v489 k0_t39) a + S16.size a ≤ S4096.size a) ∧
  ((k0_t40_loop v489).OK) ∧
  (∀ k0_t40 : Fin (k0_t40_loop v489).trips, ∀ a, (k0_off109 v489 k0_t40) a + S16.size a ≤ S4096.size a) ∧
  (∀ k0_t40 : Fin (k0_t40_loop v489).trips, ∀ a, (k0_off110 v489 k0_t40) a + S16.size a ≤ S4096.size a) ∧
  (∀ k0_t40 : Fin (k0_t40_loop v489).trips, ∀ a, (k0_off111 v489 k0_t40) a + S16.size a ≤ S4096.size a) ∧
  (∀ k0_t40 : Fin (k0_t40_loop v489).trips, ∀ a, (k0_off112 v489 k0_t40) a + S16.size a ≤ S4096.size a)
theorem k0_t39_ok : ∀ (v489 : BitVec 32) (k0_hw100 : k0_chk100 v489), (k0_t39_loop v489).OK := fun v489 k0_hw100 => k0_hw100.1
theorem k0_off105_inb : ∀ (v489 : BitVec 32) (k0_hw100 : k0_chk100 v489) (k0_t39 : Fin (k0_t39_loop v489).trips), ∀ a, (k0_off105 v489 k0_t39) a + S16.size a ≤ S4096.size a := fun v489 k0_hw100 k0_t39 => k0_hw100.2.1 k0_t39
theorem k0_off106_inb : ∀ (v489 : BitVec 32) (k0_hw100 : k0_chk100 v489) (k0_t39 : Fin (k0_t39_loop v489).trips), ∀ a, (k0_off106 v489 k0_t39) a + S16.size a ≤ S4096.size a := fun v489 k0_hw100 k0_t39 => k0_hw100.2.2.1 k0_t39
theorem k0_off107_inb : ∀ (v489 : BitVec 32) (k0_hw100 : k0_chk100 v489) (k0_t39 : Fin (k0_t39_loop v489).trips), ∀ a, (k0_off107 v489 k0_t39) a + S16.size a ≤ S4096.size a := fun v489 k0_hw100 k0_t39 => k0_hw100.2.2.2.1 k0_t39
theorem k0_off108_inb : ∀ (v489 : BitVec 32) (k0_hw100 : k0_chk100 v489) (k0_t39 : Fin (k0_t39_loop v489).trips), ∀ a, (k0_off108 v489 k0_t39) a + S16.size a ≤ S4096.size a := fun v489 k0_hw100 k0_t39 => k0_hw100.2.2.2.2.1 k0_t39
theorem k0_t40_ok : ∀ (v489 : BitVec 32) (k0_hw100 : k0_chk100 v489), (k0_t40_loop v489).OK := fun v489 k0_hw100 => k0_hw100.2.2.2.2.2.1
theorem k0_off109_inb : ∀ (v489 : BitVec 32) (k0_hw100 : k0_chk100 v489) (k0_t40 : Fin (k0_t40_loop v489).trips), ∀ a, (k0_off109 v489 k0_t40) a + S16.size a ≤ S4096.size a := fun v489 k0_hw100 k0_t40 => k0_hw100.2.2.2.2.2.2.1 k0_t40
theorem k0_off110_inb : ∀ (v489 : BitVec 32) (k0_hw100 : k0_chk100 v489) (k0_t40 : Fin (k0_t40_loop v489).trips), ∀ a, (k0_off110 v489 k0_t40) a + S16.size a ≤ S4096.size a := fun v489 k0_hw100 k0_t40 => k0_hw100.2.2.2.2.2.2.2.1 k0_t40
theorem k0_off111_inb : ∀ (v489 : BitVec 32) (k0_hw100 : k0_chk100 v489) (k0_t40 : Fin (k0_t40_loop v489).trips), ∀ a, (k0_off111 v489 k0_t40) a + S16.size a ≤ S4096.size a := fun v489 k0_hw100 k0_t40 => k0_hw100.2.2.2.2.2.2.2.2.1 k0_t40
theorem k0_off112_inb : ∀ (v489 : BitVec 32) (k0_hw100 : k0_chk100 v489) (k0_t40 : Fin (k0_t40_loop v489).trips), ∀ a, (k0_off112 v489 k0_t40) a + S16.size a ≤ S4096.size a := fun v489 k0_hw100 k0_t40 => k0_hw100.2.2.2.2.2.2.2.2.2 k0_t40

def k0_chk108 (v679 : IVec S16 32) (v759 : IVec S16 32) : Prop :=
  (∀ a x, ((![v679, v759] : Fin 2 → IVec S16 32) a x).toNat < S16x6272.size a)
theorem k0_idx96_inb : ∀ (v679 : IVec S16 32) (v759 : IVec S16 32) (k0_hw108 : k0_chk108 v679 v759), ∀ a x, ((![v679, v759] : Fin 2 → IVec S16 32) a x).toNat < S16x6272.size a := fun v679 v759 k0_hw108 => k0_hw108
@[reducible] def k0_t41_loop (v529 : BitVec 32) : Scf.Loop 32 :=
  let c0_i32_348 : BitVec 32 := 0#32
  let c63_i32_340 : BitVec 32 := 63#32
  let v538 : BitVec 32 := Scalar.addi v529 c63_i32_340
  let c0_i32_342 : BitVec 32 := 0#32
  let v540 : BitVec 1 := Scalar.cmpi .sgt v538 c0_i32_342
  let v541 : BitVec 32 := Scalar.extui v540
  let c0_i32_343 : BitVec 32 := 0#32
  let v542 : BitVec 1 := Scalar.cmpi .slt v538 c0_i32_343
  let v543 : BitVec 32 := Scalar.extui v542
  let v544 : BitVec 32 := Scalar.subi v541 v543
  let c64_i32_341 : BitVec 32 := 64#32
  let c0_i32_344 : BitVec 32 := 0#32
  let v545 : BitVec 1 := Scalar.cmpi .sgt c64_i32_341 c0_i32_344
  let v546 : BitVec 32 := Scalar.extui v545
  let c0_i32_345 : BitVec 32 := 0#32
  let v547 : BitVec 1 := Scalar.cmpi .slt c64_i32_341 c0_i32_345
  let v548 : BitVec 32 := Scalar.extui v547
  let v549 : BitVec 32 := Scalar.subi v546 v548
  let v550 : BitVec 1 := Scalar.cmpi .ne v544 v549
  let v551 : BitVec 32 := Scalar.remsi v538 c64_i32_341
  let c0_i32_346 : BitVec 32 := 0#32
  let v552 : BitVec 1 := Scalar.cmpi .ne v551 c0_i32_346
  let v553 : BitVec 1 := Scalar.andi v550 v552
  let v539 : BitVec 32 := Scalar.divsi v538 c64_i32_341
  let c1_i32_347 : BitVec 32 := 1#32
  let v554 : BitVec 32 := Scalar.subi v539 c1_i32_347
  let v555 : BitVec 32 := Scalar.select v553 v554 v539
  let v556 : BitVec 32 := Scalar.subi v555 c0_i32_348
  let c1_i32_350 : BitVec 32 := 1#32
  let v558 : BitVec 32 := Scalar.divsi v556 c1_i32_350
  let v559 : BitVec 32 := Scalar.muli v558 c1_i32_350
  let v560 : BitVec 32 := Scalar.addi c0_i32_348 v559
  let c1_i32_351 : BitVec 32 := 1#32
  ⟨c0_i32_348, v560, c1_i32_351⟩

def k0_off113 (v529 : BitVec 32) (k0_t41 : Fin (k0_t41_loop v529).trips) : Fin 1 → Nat :=
  let c0_i32_348 : BitVec 32 := 0#32
  let c1_i32_351 : BitVec 32 := 1#32
  let arg10 : BitVec 32 := Scf.iv c0_i32_348 c1_i32_351 k0_t41
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk110 (v679 : IVec S16 32) (v699 : IVec S16 32) : Prop :=
  (∀ a x, ((![v679, v699] : Fin 2 → IVec S16 32) a x).toNat < S16x6272.size a)
theorem k0_idx97_inb : ∀ (v679 : IVec S16 32) (v699 : IVec S16 32) (k0_hw110 : k0_chk110 v679 v699), ∀ a x, ((![v679, v699] : Fin 2 → IVec S16 32) a x).toNat < S16x6272.size a := fun v679 v699 k0_hw110 => k0_hw110
def k0_off114 (v529 : BitVec 32) (k0_t41 : Fin (k0_t41_loop v529).trips) : Fin 1 → Nat :=
  let c0_i32_348 : BitVec 32 := 0#32
  let c1_i32_351 : BitVec 32 := 1#32
  let arg10 : BitVec 32 := Scf.iv c0_i32_348 c1_i32_351 k0_t41
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk111 (v679 : IVec S16 32) (v719 : IVec S16 32) : Prop :=
  (∀ a x, ((![v679, v719] : Fin 2 → IVec S16 32) a x).toNat < S16x6272.size a)
theorem k0_idx98_inb : ∀ (v679 : IVec S16 32) (v719 : IVec S16 32) (k0_hw111 : k0_chk111 v679 v719), ∀ a x, ((![v679, v719] : Fin 2 → IVec S16 32) a x).toNat < S16x6272.size a := fun v679 v719 k0_hw111 => k0_hw111
def k0_off115 (v529 : BitVec 32) (k0_t41 : Fin (k0_t41_loop v529).trips) : Fin 1 → Nat :=
  let c0_i32_348 : BitVec 32 := 0#32
  let c1_i32_351 : BitVec 32 := 1#32
  let arg10 : BitVec 32 := Scf.iv c0_i32_348 c1_i32_351 k0_t41
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk112 (v679 : IVec S16 32) (v739 : IVec S16 32) : Prop :=
  (∀ a x, ((![v679, v739] : Fin 2 → IVec S16 32) a x).toNat < S16x6272.size a)
theorem k0_idx99_inb : ∀ (v679 : IVec S16 32) (v739 : IVec S16 32) (k0_hw112 : k0_chk112 v679 v739), ∀ a x, ((![v679, v739] : Fin 2 → IVec S16 32) a x).toNat < S16x6272.size a := fun v679 v739 k0_hw112 => k0_hw112
def k0_off116 (v529 : BitVec 32) (k0_t41 : Fin (k0_t41_loop v529).trips) : Fin 1 → Nat :=
  let c0_i32_348 : BitVec 32 := 0#32
  let c1_i32_351 : BitVec 32 := 1#32
  let arg10 : BitVec 32 := Scf.iv c0_i32_348 c1_i32_351 k0_t41
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk113 (v679 : IVec S16 32) (v759 : IVec S16 32) : Prop :=
  (∀ a x, ((![v679, v759] : Fin 2 → IVec S16 32) a x).toNat < S16x6272.size a)
theorem k0_idx100_inb : ∀ (v679 : IVec S16 32) (v759 : IVec S16 32) (k0_hw113 : k0_chk113 v679 v759), ∀ a x, ((![v679, v759] : Fin 2 → IVec S16 32) a x).toNat < S16x6272.size a := fun v679 v759 k0_hw113 => k0_hw113
@[reducible] def k0_t42_loop (v529 : BitVec 32) : Scf.Loop 32 :=
  let c0_i32_348 : BitVec 32 := 0#32
  let c63_i32_340 : BitVec 32 := 63#32
  let v538 : BitVec 32 := Scalar.addi v529 c63_i32_340
  let c0_i32_342 : BitVec 32 := 0#32
  let v540 : BitVec 1 := Scalar.cmpi .sgt v538 c0_i32_342
  let v541 : BitVec 32 := Scalar.extui v540
  let c0_i32_343 : BitVec 32 := 0#32
  let v542 : BitVec 1 := Scalar.cmpi .slt v538 c0_i32_343
  let v543 : BitVec 32 := Scalar.extui v542
  let v544 : BitVec 32 := Scalar.subi v541 v543
  let c64_i32_341 : BitVec 32 := 64#32
  let c0_i32_344 : BitVec 32 := 0#32
  let v545 : BitVec 1 := Scalar.cmpi .sgt c64_i32_341 c0_i32_344
  let v546 : BitVec 32 := Scalar.extui v545
  let c0_i32_345 : BitVec 32 := 0#32
  let v547 : BitVec 1 := Scalar.cmpi .slt c64_i32_341 c0_i32_345
  let v548 : BitVec 32 := Scalar.extui v547
  let v549 : BitVec 32 := Scalar.subi v546 v548
  let v550 : BitVec 1 := Scalar.cmpi .ne v544 v549
  let v551 : BitVec 32 := Scalar.remsi v538 c64_i32_341
  let c0_i32_346 : BitVec 32 := 0#32
  let v552 : BitVec 1 := Scalar.cmpi .ne v551 c0_i32_346
  let v553 : BitVec 1 := Scalar.andi v550 v552
  let v539 : BitVec 32 := Scalar.divsi v538 c64_i32_341
  let c1_i32_347 : BitVec 32 := 1#32
  let v554 : BitVec 32 := Scalar.subi v539 c1_i32_347
  let v555 : BitVec 32 := Scalar.select v553 v554 v539
  let v556 : BitVec 32 := Scalar.subi v555 c0_i32_348
  let c1_i32_350 : BitVec 32 := 1#32
  let v558 : BitVec 32 := Scalar.divsi v556 c1_i32_350
  let v559 : BitVec 32 := Scalar.muli v558 c1_i32_350
  let v560 : BitVec 32 := Scalar.addi c0_i32_348 v559
  let v557 : BitVec 32 := Scalar.addi c0_i32_348 v556
  let c1_i32_352 : BitVec 32 := 1#32
  ⟨v560, v557, c1_i32_352⟩
def k0_off117 (v529 : BitVec 32) (k0_t42 : Fin (k0_t42_loop v529).trips) : Fin 1 → Nat :=
  let c0_i32_348 : BitVec 32 := 0#32
  let c63_i32_340 : BitVec 32 := 63#32
  let v538 : BitVec 32 := Scalar.addi v529 c63_i32_340
  let c0_i32_342 : BitVec 32 := 0#32
  let v540 : BitVec 1 := Scalar.cmpi .sgt v538 c0_i32_342
  let v541 : BitVec 32 := Scalar.extui v540
  let c0_i32_343 : BitVec 32 := 0#32
  let v542 : BitVec 1 := Scalar.cmpi .slt v538 c0_i32_343
  let v543 : BitVec 32 := Scalar.extui v542
  let v544 : BitVec 32 := Scalar.subi v541 v543
  let c64_i32_341 : BitVec 32 := 64#32
  let c0_i32_344 : BitVec 32 := 0#32
  let v545 : BitVec 1 := Scalar.cmpi .sgt c64_i32_341 c0_i32_344
  let v546 : BitVec 32 := Scalar.extui v545
  let c0_i32_345 : BitVec 32 := 0#32
  let v547 : BitVec 1 := Scalar.cmpi .slt c64_i32_341 c0_i32_345
  let v548 : BitVec 32 := Scalar.extui v547
  let v549 : BitVec 32 := Scalar.subi v546 v548
  let v550 : BitVec 1 := Scalar.cmpi .ne v544 v549
  let v551 : BitVec 32 := Scalar.remsi v538 c64_i32_341
  let c0_i32_346 : BitVec 32 := 0#32
  let v552 : BitVec 1 := Scalar.cmpi .ne v551 c0_i32_346
  let v553 : BitVec 1 := Scalar.andi v550 v552
  let v539 : BitVec 32 := Scalar.divsi v538 c64_i32_341
  let c1_i32_347 : BitVec 32 := 1#32
  let v554 : BitVec 32 := Scalar.subi v539 c1_i32_347
  let v555 : BitVec 32 := Scalar.select v553 v554 v539
  let v556 : BitVec 32 := Scalar.subi v555 c0_i32_348
  let c1_i32_350 : BitVec 32 := 1#32
  let v558 : BitVec 32 := Scalar.divsi v556 c1_i32_350
  let v559 : BitVec 32 := Scalar.muli v558 c1_i32_350
  let v560 : BitVec 32 := Scalar.addi c0_i32_348 v559
  let c1_i32_352 : BitVec 32 := 1#32
  let arg10 : BitVec 32 := Scf.iv v560 c1_i32_352 k0_t42
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk114 (v679 : IVec S16 32) (v699 : IVec S16 32) : Prop :=
  (∀ a x, ((![v679, v699] : Fin 2 → IVec S16 32) a x).toNat < S16x6272.size a)
theorem k0_idx101_inb : ∀ (v679 : IVec S16 32) (v699 : IVec S16 32) (k0_hw114 : k0_chk114 v679 v699), ∀ a x, ((![v679, v699] : Fin 2 → IVec S16 32) a x).toNat < S16x6272.size a := fun v679 v699 k0_hw114 => k0_hw114
def k0_off118 (v529 : BitVec 32) (k0_t42 : Fin (k0_t42_loop v529).trips) : Fin 1 → Nat :=
  let c0_i32_348 : BitVec 32 := 0#32
  let c63_i32_340 : BitVec 32 := 63#32
  let v538 : BitVec 32 := Scalar.addi v529 c63_i32_340
  let c0_i32_342 : BitVec 32 := 0#32
  let v540 : BitVec 1 := Scalar.cmpi .sgt v538 c0_i32_342
  let v541 : BitVec 32 := Scalar.extui v540
  let c0_i32_343 : BitVec 32 := 0#32
  let v542 : BitVec 1 := Scalar.cmpi .slt v538 c0_i32_343
  let v543 : BitVec 32 := Scalar.extui v542
  let v544 : BitVec 32 := Scalar.subi v541 v543
  let c64_i32_341 : BitVec 32 := 64#32
  let c0_i32_344 : BitVec 32 := 0#32
  let v545 : BitVec 1 := Scalar.cmpi .sgt c64_i32_341 c0_i32_344
  let v546 : BitVec 32 := Scalar.extui v545
  let c0_i32_345 : BitVec 32 := 0#32
  let v547 : BitVec 1 := Scalar.cmpi .slt c64_i32_341 c0_i32_345
  let v548 : BitVec 32 := Scalar.extui v547
  let v549 : BitVec 32 := Scalar.subi v546 v548
  let v550 : BitVec 1 := Scalar.cmpi .ne v544 v549
  let v551 : BitVec 32 := Scalar.remsi v538 c64_i32_341
  let c0_i32_346 : BitVec 32 := 0#32
  let v552 : BitVec 1 := Scalar.cmpi .ne v551 c0_i32_346
  let v553 : BitVec 1 := Scalar.andi v550 v552
  let v539 : BitVec 32 := Scalar.divsi v538 c64_i32_341
  let c1_i32_347 : BitVec 32 := 1#32
  let v554 : BitVec 32 := Scalar.subi v539 c1_i32_347
  let v555 : BitVec 32 := Scalar.select v553 v554 v539
  let v556 : BitVec 32 := Scalar.subi v555 c0_i32_348
  let c1_i32_350 : BitVec 32 := 1#32
  let v558 : BitVec 32 := Scalar.divsi v556 c1_i32_350
  let v559 : BitVec 32 := Scalar.muli v558 c1_i32_350
  let v560 : BitVec 32 := Scalar.addi c0_i32_348 v559
  let c1_i32_352 : BitVec 32 := 1#32
  let arg10 : BitVec 32 := Scf.iv v560 c1_i32_352 k0_t42
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk115 (v679 : IVec S16 32) (v719 : IVec S16 32) : Prop :=
  (∀ a x, ((![v679, v719] : Fin 2 → IVec S16 32) a x).toNat < S16x6272.size a)
theorem k0_idx102_inb : ∀ (v679 : IVec S16 32) (v719 : IVec S16 32) (k0_hw115 : k0_chk115 v679 v719), ∀ a x, ((![v679, v719] : Fin 2 → IVec S16 32) a x).toNat < S16x6272.size a := fun v679 v719 k0_hw115 => k0_hw115
def k0_off119 (v529 : BitVec 32) (k0_t42 : Fin (k0_t42_loop v529).trips) : Fin 1 → Nat :=
  let c0_i32_348 : BitVec 32 := 0#32
  let c63_i32_340 : BitVec 32 := 63#32
  let v538 : BitVec 32 := Scalar.addi v529 c63_i32_340
  let c0_i32_342 : BitVec 32 := 0#32
  let v540 : BitVec 1 := Scalar.cmpi .sgt v538 c0_i32_342
  let v541 : BitVec 32 := Scalar.extui v540
  let c0_i32_343 : BitVec 32 := 0#32
  let v542 : BitVec 1 := Scalar.cmpi .slt v538 c0_i32_343
  let v543 : BitVec 32 := Scalar.extui v542
  let v544 : BitVec 32 := Scalar.subi v541 v543
  let c64_i32_341 : BitVec 32 := 64#32
  let c0_i32_344 : BitVec 32 := 0#32
  let v545 : BitVec 1 := Scalar.cmpi .sgt c64_i32_341 c0_i32_344
  let v546 : BitVec 32 := Scalar.extui v545
  let c0_i32_345 : BitVec 32 := 0#32
  let v547 : BitVec 1 := Scalar.cmpi .slt c64_i32_341 c0_i32_345
  let v548 : BitVec 32 := Scalar.extui v547
  let v549 : BitVec 32 := Scalar.subi v546 v548
  let v550 : BitVec 1 := Scalar.cmpi .ne v544 v549
  let v551 : BitVec 32 := Scalar.remsi v538 c64_i32_341
  let c0_i32_346 : BitVec 32 := 0#32
  let v552 : BitVec 1 := Scalar.cmpi .ne v551 c0_i32_346
  let v553 : BitVec 1 := Scalar.andi v550 v552
  let v539 : BitVec 32 := Scalar.divsi v538 c64_i32_341
  let c1_i32_347 : BitVec 32 := 1#32
  let v554 : BitVec 32 := Scalar.subi v539 c1_i32_347
  let v555 : BitVec 32 := Scalar.select v553 v554 v539
  let v556 : BitVec 32 := Scalar.subi v555 c0_i32_348
  let c1_i32_350 : BitVec 32 := 1#32
  let v558 : BitVec 32 := Scalar.divsi v556 c1_i32_350
  let v559 : BitVec 32 := Scalar.muli v558 c1_i32_350
  let v560 : BitVec 32 := Scalar.addi c0_i32_348 v559
  let c1_i32_352 : BitVec 32 := 1#32
  let arg10 : BitVec 32 := Scf.iv v560 c1_i32_352 k0_t42
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk116 (v679 : IVec S16 32) (v739 : IVec S16 32) : Prop :=
  (∀ a x, ((![v679, v739] : Fin 2 → IVec S16 32) a x).toNat < S16x6272.size a)
theorem k0_idx103_inb : ∀ (v679 : IVec S16 32) (v739 : IVec S16 32) (k0_hw116 : k0_chk116 v679 v739), ∀ a x, ((![v679, v739] : Fin 2 → IVec S16 32) a x).toNat < S16x6272.size a := fun v679 v739 k0_hw116 => k0_hw116
def k0_off120 (v529 : BitVec 32) (k0_t42 : Fin (k0_t42_loop v529).trips) : Fin 1 → Nat :=
  let c0_i32_348 : BitVec 32 := 0#32
  let c63_i32_340 : BitVec 32 := 63#32
  let v538 : BitVec 32 := Scalar.addi v529 c63_i32_340
  let c0_i32_342 : BitVec 32 := 0#32
  let v540 : BitVec 1 := Scalar.cmpi .sgt v538 c0_i32_342
  let v541 : BitVec 32 := Scalar.extui v540
  let c0_i32_343 : BitVec 32 := 0#32
  let v542 : BitVec 1 := Scalar.cmpi .slt v538 c0_i32_343
  let v543 : BitVec 32 := Scalar.extui v542
  let v544 : BitVec 32 := Scalar.subi v541 v543
  let c64_i32_341 : BitVec 32 := 64#32
  let c0_i32_344 : BitVec 32 := 0#32
  let v545 : BitVec 1 := Scalar.cmpi .sgt c64_i32_341 c0_i32_344
  let v546 : BitVec 32 := Scalar.extui v545
  let c0_i32_345 : BitVec 32 := 0#32
  let v547 : BitVec 1 := Scalar.cmpi .slt c64_i32_341 c0_i32_345
  let v548 : BitVec 32 := Scalar.extui v547
  let v549 : BitVec 32 := Scalar.subi v546 v548
  let v550 : BitVec 1 := Scalar.cmpi .ne v544 v549
  let v551 : BitVec 32 := Scalar.remsi v538 c64_i32_341
  let c0_i32_346 : BitVec 32 := 0#32
  let v552 : BitVec 1 := Scalar.cmpi .ne v551 c0_i32_346
  let v553 : BitVec 1 := Scalar.andi v550 v552
  let v539 : BitVec 32 := Scalar.divsi v538 c64_i32_341
  let c1_i32_347 : BitVec 32 := 1#32
  let v554 : BitVec 32 := Scalar.subi v539 c1_i32_347
  let v555 : BitVec 32 := Scalar.select v553 v554 v539
  let v556 : BitVec 32 := Scalar.subi v555 c0_i32_348
  let c1_i32_350 : BitVec 32 := 1#32
  let v558 : BitVec 32 := Scalar.divsi v556 c1_i32_350
  let v559 : BitVec 32 := Scalar.muli v558 c1_i32_350
  let v560 : BitVec 32 := Scalar.addi c0_i32_348 v559
  let c1_i32_352 : BitVec 32 := 1#32
  let arg10 : BitVec 32 := Scf.iv v560 c1_i32_352 k0_t42
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk109 (v529 : BitVec 32) : Prop :=
  ((k0_t41_loop v529).OK) ∧
  (∀ k0_t41 : Fin (k0_t41_loop v529).trips, ∀ a, (k0_off113 v529 k0_t41) a + S16.size a ≤ S4096.size a) ∧
  (∀ k0_t41 : Fin (k0_t41_loop v529).trips, ∀ a, (k0_off114 v529 k0_t41) a + S16.size a ≤ S4096.size a) ∧
  (∀ k0_t41 : Fin (k0_t41_loop v529).trips, ∀ a, (k0_off115 v529 k0_t41) a + S16.size a ≤ S4096.size a) ∧
  (∀ k0_t41 : Fin (k0_t41_loop v529).trips, ∀ a, (k0_off116 v529 k0_t41) a + S16.size a ≤ S4096.size a) ∧
  ((k0_t42_loop v529).OK) ∧
  (∀ k0_t42 : Fin (k0_t42_loop v529).trips, ∀ a, (k0_off117 v529 k0_t42) a + S16.size a ≤ S4096.size a) ∧
  (∀ k0_t42 : Fin (k0_t42_loop v529).trips, ∀ a, (k0_off118 v529 k0_t42) a + S16.size a ≤ S4096.size a) ∧
  (∀ k0_t42 : Fin (k0_t42_loop v529).trips, ∀ a, (k0_off119 v529 k0_t42) a + S16.size a ≤ S4096.size a) ∧
  (∀ k0_t42 : Fin (k0_t42_loop v529).trips, ∀ a, (k0_off120 v529 k0_t42) a + S16.size a ≤ S4096.size a)
theorem k0_t41_ok : ∀ (v529 : BitVec 32) (k0_hw109 : k0_chk109 v529), (k0_t41_loop v529).OK := fun v529 k0_hw109 => k0_hw109.1
theorem k0_off113_inb : ∀ (v529 : BitVec 32) (k0_hw109 : k0_chk109 v529) (k0_t41 : Fin (k0_t41_loop v529).trips), ∀ a, (k0_off113 v529 k0_t41) a + S16.size a ≤ S4096.size a := fun v529 k0_hw109 k0_t41 => k0_hw109.2.1 k0_t41
theorem k0_off114_inb : ∀ (v529 : BitVec 32) (k0_hw109 : k0_chk109 v529) (k0_t41 : Fin (k0_t41_loop v529).trips), ∀ a, (k0_off114 v529 k0_t41) a + S16.size a ≤ S4096.size a := fun v529 k0_hw109 k0_t41 => k0_hw109.2.2.1 k0_t41
theorem k0_off115_inb : ∀ (v529 : BitVec 32) (k0_hw109 : k0_chk109 v529) (k0_t41 : Fin (k0_t41_loop v529).trips), ∀ a, (k0_off115 v529 k0_t41) a + S16.size a ≤ S4096.size a := fun v529 k0_hw109 k0_t41 => k0_hw109.2.2.2.1 k0_t41
theorem k0_off116_inb : ∀ (v529 : BitVec 32) (k0_hw109 : k0_chk109 v529) (k0_t41 : Fin (k0_t41_loop v529).trips), ∀ a, (k0_off116 v529 k0_t41) a + S16.size a ≤ S4096.size a := fun v529 k0_hw109 k0_t41 => k0_hw109.2.2.2.2.1 k0_t41
theorem k0_t42_ok : ∀ (v529 : BitVec 32) (k0_hw109 : k0_chk109 v529), (k0_t42_loop v529).OK := fun v529 k0_hw109 => k0_hw109.2.2.2.2.2.1
theorem k0_off117_inb : ∀ (v529 : BitVec 32) (k0_hw109 : k0_chk109 v529) (k0_t42 : Fin (k0_t42_loop v529).trips), ∀ a, (k0_off117 v529 k0_t42) a + S16.size a ≤ S4096.size a := fun v529 k0_hw109 k0_t42 => k0_hw109.2.2.2.2.2.2.1 k0_t42
theorem k0_off118_inb : ∀ (v529 : BitVec 32) (k0_hw109 : k0_chk109 v529) (k0_t42 : Fin (k0_t42_loop v529).trips), ∀ a, (k0_off118 v529 k0_t42) a + S16.size a ≤ S4096.size a := fun v529 k0_hw109 k0_t42 => k0_hw109.2.2.2.2.2.2.2.1 k0_t42
theorem k0_off119_inb : ∀ (v529 : BitVec 32) (k0_hw109 : k0_chk109 v529) (k0_t42 : Fin (k0_t42_loop v529).trips), ∀ a, (k0_off119 v529 k0_t42) a + S16.size a ≤ S4096.size a := fun v529 k0_hw109 k0_t42 => k0_hw109.2.2.2.2.2.2.2.2.1 k0_t42
theorem k0_off120_inb : ∀ (v529 : BitVec 32) (k0_hw109 : k0_chk109 v529) (k0_t42 : Fin (k0_t42_loop v529).trips), ∀ a, (k0_off120 v529 k0_t42) a + S16.size a ≤ S4096.size a := fun v529 k0_hw109 k0_t42 => k0_hw109.2.2.2.2.2.2.2.2.2 k0_t42

def k0_chk117 (v679 : IVec S16 32) (v759 : IVec S16 32) : Prop :=
  (∀ a x, ((![v679, v759] : Fin 2 → IVec S16 32) a x).toNat < S16x6272.size a)
theorem k0_idx104_inb : ∀ (v679 : IVec S16 32) (v759 : IVec S16 32) (k0_hw117 : k0_chk117 v679 v759), ∀ a x, ((![v679, v759] : Fin 2 → IVec S16 32) a x).toNat < S16x6272.size a := fun v679 v759 k0_hw117 => k0_hw117
@[reducible] def k0_t43_loop (v569 : BitVec 32) : Scf.Loop 32 :=
  let c0_i32_369 : BitVec 32 := 0#32
  let c63_i32_361 : BitVec 32 := 63#32
  let v578 : BitVec 32 := Scalar.addi v569 c63_i32_361
  let c0_i32_363 : BitVec 32 := 0#32
  let v580 : BitVec 1 := Scalar.cmpi .sgt v578 c0_i32_363
  let v581 : BitVec 32 := Scalar.extui v580
  let c0_i32_364 : BitVec 32 := 0#32
  let v582 : BitVec 1 := Scalar.cmpi .slt v578 c0_i32_364
  let v583 : BitVec 32 := Scalar.extui v582
  let v584 : BitVec 32 := Scalar.subi v581 v583
  let c64_i32_362 : BitVec 32 := 64#32
  let c0_i32_365 : BitVec 32 := 0#32
  let v585 : BitVec 1 := Scalar.cmpi .sgt c64_i32_362 c0_i32_365
  let v586 : BitVec 32 := Scalar.extui v585
  let c0_i32_366 : BitVec 32 := 0#32
  let v587 : BitVec 1 := Scalar.cmpi .slt c64_i32_362 c0_i32_366
  let v588 : BitVec 32 := Scalar.extui v587
  let v589 : BitVec 32 := Scalar.subi v586 v588
  let v590 : BitVec 1 := Scalar.cmpi .ne v584 v589
  let v591 : BitVec 32 := Scalar.remsi v578 c64_i32_362
  let c0_i32_367 : BitVec 32 := 0#32
  let v592 : BitVec 1 := Scalar.cmpi .ne v591 c0_i32_367
  let v593 : BitVec 1 := Scalar.andi v590 v592
  let v579 : BitVec 32 := Scalar.divsi v578 c64_i32_362
  let c1_i32_368 : BitVec 32 := 1#32
  let v594 : BitVec 32 := Scalar.subi v579 c1_i32_368
  let v595 : BitVec 32 := Scalar.select v593 v594 v579
  let v596 : BitVec 32 := Scalar.subi v595 c0_i32_369
  let c1_i32_371 : BitVec 32 := 1#32
  let v598 : BitVec 32 := Scalar.divsi v596 c1_i32_371
  let v599 : BitVec 32 := Scalar.muli v598 c1_i32_371
  let v600 : BitVec 32 := Scalar.addi c0_i32_369 v599
  let c1_i32_372 : BitVec 32 := 1#32
  ⟨c0_i32_369, v600, c1_i32_372⟩

def k0_off121 (v569 : BitVec 32) (k0_t43 : Fin (k0_t43_loop v569).trips) : Fin 1 → Nat :=
  let c0_i32_369 : BitVec 32 := 0#32
  let c1_i32_372 : BitVec 32 := 1#32
  let arg10 : BitVec 32 := Scf.iv c0_i32_369 c1_i32_372 k0_t43
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk119 (v679 : IVec S16 32) (v699 : IVec S16 32) : Prop :=
  (∀ a x, ((![v679, v699] : Fin 2 → IVec S16 32) a x).toNat < S16x6272.size a)
theorem k0_idx105_inb : ∀ (v679 : IVec S16 32) (v699 : IVec S16 32) (k0_hw119 : k0_chk119 v679 v699), ∀ a x, ((![v679, v699] : Fin 2 → IVec S16 32) a x).toNat < S16x6272.size a := fun v679 v699 k0_hw119 => k0_hw119
def k0_off122 (v569 : BitVec 32) (k0_t43 : Fin (k0_t43_loop v569).trips) : Fin 1 → Nat :=
  let c0_i32_369 : BitVec 32 := 0#32
  let c1_i32_372 : BitVec 32 := 1#32
  let arg10 : BitVec 32 := Scf.iv c0_i32_369 c1_i32_372 k0_t43
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk120 (v679 : IVec S16 32) (v719 : IVec S16 32) : Prop :=
  (∀ a x, ((![v679, v719] : Fin 2 → IVec S16 32) a x).toNat < S16x6272.size a)
theorem k0_idx106_inb : ∀ (v679 : IVec S16 32) (v719 : IVec S16 32) (k0_hw120 : k0_chk120 v679 v719), ∀ a x, ((![v679, v719] : Fin 2 → IVec S16 32) a x).toNat < S16x6272.size a := fun v679 v719 k0_hw120 => k0_hw120
def k0_off123 (v569 : BitVec 32) (k0_t43 : Fin (k0_t43_loop v569).trips) : Fin 1 → Nat :=
  let c0_i32_369 : BitVec 32 := 0#32
  let c1_i32_372 : BitVec 32 := 1#32
  let arg10 : BitVec 32 := Scf.iv c0_i32_369 c1_i32_372 k0_t43
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk121 (v679 : IVec S16 32) (v739 : IVec S16 32) : Prop :=
  (∀ a x, ((![v679, v739] : Fin 2 → IVec S16 32) a x).toNat < S16x6272.size a)
theorem k0_idx107_inb : ∀ (v679 : IVec S16 32) (v739 : IVec S16 32) (k0_hw121 : k0_chk121 v679 v739), ∀ a x, ((![v679, v739] : Fin 2 → IVec S16 32) a x).toNat < S16x6272.size a := fun v679 v739 k0_hw121 => k0_hw121
def k0_off124 (v569 : BitVec 32) (k0_t43 : Fin (k0_t43_loop v569).trips) : Fin 1 → Nat :=
  let c0_i32_369 : BitVec 32 := 0#32
  let c1_i32_372 : BitVec 32 := 1#32
  let arg10 : BitVec 32 := Scf.iv c0_i32_369 c1_i32_372 k0_t43
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk122 (v679 : IVec S16 32) (v759 : IVec S16 32) : Prop :=
  (∀ a x, ((![v679, v759] : Fin 2 → IVec S16 32) a x).toNat < S16x6272.size a)
theorem k0_idx108_inb : ∀ (v679 : IVec S16 32) (v759 : IVec S16 32) (k0_hw122 : k0_chk122 v679 v759), ∀ a x, ((![v679, v759] : Fin 2 → IVec S16 32) a x).toNat < S16x6272.size a := fun v679 v759 k0_hw122 => k0_hw122
@[reducible] def k0_t44_loop (v569 : BitVec 32) : Scf.Loop 32 :=
  let c0_i32_369 : BitVec 32 := 0#32
  let c63_i32_361 : BitVec 32 := 63#32
  let v578 : BitVec 32 := Scalar.addi v569 c63_i32_361
  let c0_i32_363 : BitVec 32 := 0#32
  let v580 : BitVec 1 := Scalar.cmpi .sgt v578 c0_i32_363
  let v581 : BitVec 32 := Scalar.extui v580
  let c0_i32_364 : BitVec 32 := 0#32
  let v582 : BitVec 1 := Scalar.cmpi .slt v578 c0_i32_364
  let v583 : BitVec 32 := Scalar.extui v582
  let v584 : BitVec 32 := Scalar.subi v581 v583
  let c64_i32_362 : BitVec 32 := 64#32
  let c0_i32_365 : BitVec 32 := 0#32
  let v585 : BitVec 1 := Scalar.cmpi .sgt c64_i32_362 c0_i32_365
  let v586 : BitVec 32 := Scalar.extui v585
  let c0_i32_366 : BitVec 32 := 0#32
  let v587 : BitVec 1 := Scalar.cmpi .slt c64_i32_362 c0_i32_366
  let v588 : BitVec 32 := Scalar.extui v587
  let v589 : BitVec 32 := Scalar.subi v586 v588
  let v590 : BitVec 1 := Scalar.cmpi .ne v584 v589
  let v591 : BitVec 32 := Scalar.remsi v578 c64_i32_362
  let c0_i32_367 : BitVec 32 := 0#32
  let v592 : BitVec 1 := Scalar.cmpi .ne v591 c0_i32_367
  let v593 : BitVec 1 := Scalar.andi v590 v592
  let v579 : BitVec 32 := Scalar.divsi v578 c64_i32_362
  let c1_i32_368 : BitVec 32 := 1#32
  let v594 : BitVec 32 := Scalar.subi v579 c1_i32_368
  let v595 : BitVec 32 := Scalar.select v593 v594 v579
  let v596 : BitVec 32 := Scalar.subi v595 c0_i32_369
  let c1_i32_371 : BitVec 32 := 1#32
  let v598 : BitVec 32 := Scalar.divsi v596 c1_i32_371
  let v599 : BitVec 32 := Scalar.muli v598 c1_i32_371
  let v600 : BitVec 32 := Scalar.addi c0_i32_369 v599
  let v597 : BitVec 32 := Scalar.addi c0_i32_369 v596
  let c1_i32_373 : BitVec 32 := 1#32
  ⟨v600, v597, c1_i32_373⟩
def k0_off125 (v569 : BitVec 32) (k0_t44 : Fin (k0_t44_loop v569).trips) : Fin 1 → Nat :=
  let c0_i32_369 : BitVec 32 := 0#32
  let c63_i32_361 : BitVec 32 := 63#32
  let v578 : BitVec 32 := Scalar.addi v569 c63_i32_361
  let c0_i32_363 : BitVec 32 := 0#32
  let v580 : BitVec 1 := Scalar.cmpi .sgt v578 c0_i32_363
  let v581 : BitVec 32 := Scalar.extui v580
  let c0_i32_364 : BitVec 32 := 0#32
  let v582 : BitVec 1 := Scalar.cmpi .slt v578 c0_i32_364
  let v583 : BitVec 32 := Scalar.extui v582
  let v584 : BitVec 32 := Scalar.subi v581 v583
  let c64_i32_362 : BitVec 32 := 64#32
  let c0_i32_365 : BitVec 32 := 0#32
  let v585 : BitVec 1 := Scalar.cmpi .sgt c64_i32_362 c0_i32_365
  let v586 : BitVec 32 := Scalar.extui v585
  let c0_i32_366 : BitVec 32 := 0#32
  let v587 : BitVec 1 := Scalar.cmpi .slt c64_i32_362 c0_i32_366
  let v588 : BitVec 32 := Scalar.extui v587
  let v589 : BitVec 32 := Scalar.subi v586 v588
  let v590 : BitVec 1 := Scalar.cmpi .ne v584 v589
  let v591 : BitVec 32 := Scalar.remsi v578 c64_i32_362
  let c0_i32_367 : BitVec 32 := 0#32
  let v592 : BitVec 1 := Scalar.cmpi .ne v591 c0_i32_367
  let v593 : BitVec 1 := Scalar.andi v590 v592
  let v579 : BitVec 32 := Scalar.divsi v578 c64_i32_362
  let c1_i32_368 : BitVec 32 := 1#32
  let v594 : BitVec 32 := Scalar.subi v579 c1_i32_368
  let v595 : BitVec 32 := Scalar.select v593 v594 v579
  let v596 : BitVec 32 := Scalar.subi v595 c0_i32_369
  let c1_i32_371 : BitVec 32 := 1#32
  let v598 : BitVec 32 := Scalar.divsi v596 c1_i32_371
  let v599 : BitVec 32 := Scalar.muli v598 c1_i32_371
  let v600 : BitVec 32 := Scalar.addi c0_i32_369 v599
  let c1_i32_373 : BitVec 32 := 1#32
  let arg10 : BitVec 32 := Scf.iv v600 c1_i32_373 k0_t44
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk123 (v679 : IVec S16 32) (v699 : IVec S16 32) : Prop :=
  (∀ a x, ((![v679, v699] : Fin 2 → IVec S16 32) a x).toNat < S16x6272.size a)
theorem k0_idx109_inb : ∀ (v679 : IVec S16 32) (v699 : IVec S16 32) (k0_hw123 : k0_chk123 v679 v699), ∀ a x, ((![v679, v699] : Fin 2 → IVec S16 32) a x).toNat < S16x6272.size a := fun v679 v699 k0_hw123 => k0_hw123
def k0_off126 (v569 : BitVec 32) (k0_t44 : Fin (k0_t44_loop v569).trips) : Fin 1 → Nat :=
  let c0_i32_369 : BitVec 32 := 0#32
  let c63_i32_361 : BitVec 32 := 63#32
  let v578 : BitVec 32 := Scalar.addi v569 c63_i32_361
  let c0_i32_363 : BitVec 32 := 0#32
  let v580 : BitVec 1 := Scalar.cmpi .sgt v578 c0_i32_363
  let v581 : BitVec 32 := Scalar.extui v580
  let c0_i32_364 : BitVec 32 := 0#32
  let v582 : BitVec 1 := Scalar.cmpi .slt v578 c0_i32_364
  let v583 : BitVec 32 := Scalar.extui v582
  let v584 : BitVec 32 := Scalar.subi v581 v583
  let c64_i32_362 : BitVec 32 := 64#32
  let c0_i32_365 : BitVec 32 := 0#32
  let v585 : BitVec 1 := Scalar.cmpi .sgt c64_i32_362 c0_i32_365
  let v586 : BitVec 32 := Scalar.extui v585
  let c0_i32_366 : BitVec 32 := 0#32
  let v587 : BitVec 1 := Scalar.cmpi .slt c64_i32_362 c0_i32_366
  let v588 : BitVec 32 := Scalar.extui v587
  let v589 : BitVec 32 := Scalar.subi v586 v588
  let v590 : BitVec 1 := Scalar.cmpi .ne v584 v589
  let v591 : BitVec 32 := Scalar.remsi v578 c64_i32_362
  let c0_i32_367 : BitVec 32 := 0#32
  let v592 : BitVec 1 := Scalar.cmpi .ne v591 c0_i32_367
  let v593 : BitVec 1 := Scalar.andi v590 v592
  let v579 : BitVec 32 := Scalar.divsi v578 c64_i32_362
  let c1_i32_368 : BitVec 32 := 1#32
  let v594 : BitVec 32 := Scalar.subi v579 c1_i32_368
  let v595 : BitVec 32 := Scalar.select v593 v594 v579
  let v596 : BitVec 32 := Scalar.subi v595 c0_i32_369
  let c1_i32_371 : BitVec 32 := 1#32
  let v598 : BitVec 32 := Scalar.divsi v596 c1_i32_371
  let v599 : BitVec 32 := Scalar.muli v598 c1_i32_371
  let v600 : BitVec 32 := Scalar.addi c0_i32_369 v599
  let c1_i32_373 : BitVec 32 := 1#32
  let arg10 : BitVec 32 := Scf.iv v600 c1_i32_373 k0_t44
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk124 (v679 : IVec S16 32) (v719 : IVec S16 32) : Prop :=
  (∀ a x, ((![v679, v719] : Fin 2 → IVec S16 32) a x).toNat < S16x6272.size a)
theorem k0_idx110_inb : ∀ (v679 : IVec S16 32) (v719 : IVec S16 32) (k0_hw124 : k0_chk124 v679 v719), ∀ a x, ((![v679, v719] : Fin 2 → IVec S16 32) a x).toNat < S16x6272.size a := fun v679 v719 k0_hw124 => k0_hw124
def k0_off127 (v569 : BitVec 32) (k0_t44 : Fin (k0_t44_loop v569).trips) : Fin 1 → Nat :=
  let c0_i32_369 : BitVec 32 := 0#32
  let c63_i32_361 : BitVec 32 := 63#32
  let v578 : BitVec 32 := Scalar.addi v569 c63_i32_361
  let c0_i32_363 : BitVec 32 := 0#32
  let v580 : BitVec 1 := Scalar.cmpi .sgt v578 c0_i32_363
  let v581 : BitVec 32 := Scalar.extui v580
  let c0_i32_364 : BitVec 32 := 0#32
  let v582 : BitVec 1 := Scalar.cmpi .slt v578 c0_i32_364
  let v583 : BitVec 32 := Scalar.extui v582
  let v584 : BitVec 32 := Scalar.subi v581 v583
  let c64_i32_362 : BitVec 32 := 64#32
  let c0_i32_365 : BitVec 32 := 0#32
  let v585 : BitVec 1 := Scalar.cmpi .sgt c64_i32_362 c0_i32_365
  let v586 : BitVec 32 := Scalar.extui v585
  let c0_i32_366 : BitVec 32 := 0#32
  let v587 : BitVec 1 := Scalar.cmpi .slt c64_i32_362 c0_i32_366
  let v588 : BitVec 32 := Scalar.extui v587
  let v589 : BitVec 32 := Scalar.subi v586 v588
  let v590 : BitVec 1 := Scalar.cmpi .ne v584 v589
  let v591 : BitVec 32 := Scalar.remsi v578 c64_i32_362
  let c0_i32_367 : BitVec 32 := 0#32
  let v592 : BitVec 1 := Scalar.cmpi .ne v591 c0_i32_367
  let v593 : BitVec 1 := Scalar.andi v590 v592
  let v579 : BitVec 32 := Scalar.divsi v578 c64_i32_362
  let c1_i32_368 : BitVec 32 := 1#32
  let v594 : BitVec 32 := Scalar.subi v579 c1_i32_368
  let v595 : BitVec 32 := Scalar.select v593 v594 v579
  let v596 : BitVec 32 := Scalar.subi v595 c0_i32_369
  let c1_i32_371 : BitVec 32 := 1#32
  let v598 : BitVec 32 := Scalar.divsi v596 c1_i32_371
  let v599 : BitVec 32 := Scalar.muli v598 c1_i32_371
  let v600 : BitVec 32 := Scalar.addi c0_i32_369 v599
  let c1_i32_373 : BitVec 32 := 1#32
  let arg10 : BitVec 32 := Scf.iv v600 c1_i32_373 k0_t44
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk125 (v679 : IVec S16 32) (v739 : IVec S16 32) : Prop :=
  (∀ a x, ((![v679, v739] : Fin 2 → IVec S16 32) a x).toNat < S16x6272.size a)
theorem k0_idx111_inb : ∀ (v679 : IVec S16 32) (v739 : IVec S16 32) (k0_hw125 : k0_chk125 v679 v739), ∀ a x, ((![v679, v739] : Fin 2 → IVec S16 32) a x).toNat < S16x6272.size a := fun v679 v739 k0_hw125 => k0_hw125
def k0_off128 (v569 : BitVec 32) (k0_t44 : Fin (k0_t44_loop v569).trips) : Fin 1 → Nat :=
  let c0_i32_369 : BitVec 32 := 0#32
  let c63_i32_361 : BitVec 32 := 63#32
  let v578 : BitVec 32 := Scalar.addi v569 c63_i32_361
  let c0_i32_363 : BitVec 32 := 0#32
  let v580 : BitVec 1 := Scalar.cmpi .sgt v578 c0_i32_363
  let v581 : BitVec 32 := Scalar.extui v580
  let c0_i32_364 : BitVec 32 := 0#32
  let v582 : BitVec 1 := Scalar.cmpi .slt v578 c0_i32_364
  let v583 : BitVec 32 := Scalar.extui v582
  let v584 : BitVec 32 := Scalar.subi v581 v583
  let c64_i32_362 : BitVec 32 := 64#32
  let c0_i32_365 : BitVec 32 := 0#32
  let v585 : BitVec 1 := Scalar.cmpi .sgt c64_i32_362 c0_i32_365
  let v586 : BitVec 32 := Scalar.extui v585
  let c0_i32_366 : BitVec 32 := 0#32
  let v587 : BitVec 1 := Scalar.cmpi .slt c64_i32_362 c0_i32_366
  let v588 : BitVec 32 := Scalar.extui v587
  let v589 : BitVec 32 := Scalar.subi v586 v588
  let v590 : BitVec 1 := Scalar.cmpi .ne v584 v589
  let v591 : BitVec 32 := Scalar.remsi v578 c64_i32_362
  let c0_i32_367 : BitVec 32 := 0#32
  let v592 : BitVec 1 := Scalar.cmpi .ne v591 c0_i32_367
  let v593 : BitVec 1 := Scalar.andi v590 v592
  let v579 : BitVec 32 := Scalar.divsi v578 c64_i32_362
  let c1_i32_368 : BitVec 32 := 1#32
  let v594 : BitVec 32 := Scalar.subi v579 c1_i32_368
  let v595 : BitVec 32 := Scalar.select v593 v594 v579
  let v596 : BitVec 32 := Scalar.subi v595 c0_i32_369
  let c1_i32_371 : BitVec 32 := 1#32
  let v598 : BitVec 32 := Scalar.divsi v596 c1_i32_371
  let v599 : BitVec 32 := Scalar.muli v598 c1_i32_371
  let v600 : BitVec 32 := Scalar.addi c0_i32_369 v599
  let c1_i32_373 : BitVec 32 := 1#32
  let arg10 : BitVec 32 := Scf.iv v600 c1_i32_373 k0_t44
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk118 (v569 : BitVec 32) : Prop :=
  ((k0_t43_loop v569).OK) ∧
  (∀ k0_t43 : Fin (k0_t43_loop v569).trips, ∀ a, (k0_off121 v569 k0_t43) a + S16.size a ≤ S4096.size a) ∧
  (∀ k0_t43 : Fin (k0_t43_loop v569).trips, ∀ a, (k0_off122 v569 k0_t43) a + S16.size a ≤ S4096.size a) ∧
  (∀ k0_t43 : Fin (k0_t43_loop v569).trips, ∀ a, (k0_off123 v569 k0_t43) a + S16.size a ≤ S4096.size a) ∧
  (∀ k0_t43 : Fin (k0_t43_loop v569).trips, ∀ a, (k0_off124 v569 k0_t43) a + S16.size a ≤ S4096.size a) ∧
  ((k0_t44_loop v569).OK) ∧
  (∀ k0_t44 : Fin (k0_t44_loop v569).trips, ∀ a, (k0_off125 v569 k0_t44) a + S16.size a ≤ S4096.size a) ∧
  (∀ k0_t44 : Fin (k0_t44_loop v569).trips, ∀ a, (k0_off126 v569 k0_t44) a + S16.size a ≤ S4096.size a) ∧
  (∀ k0_t44 : Fin (k0_t44_loop v569).trips, ∀ a, (k0_off127 v569 k0_t44) a + S16.size a ≤ S4096.size a) ∧
  (∀ k0_t44 : Fin (k0_t44_loop v569).trips, ∀ a, (k0_off128 v569 k0_t44) a + S16.size a ≤ S4096.size a)
theorem k0_t43_ok : ∀ (v569 : BitVec 32) (k0_hw118 : k0_chk118 v569), (k0_t43_loop v569).OK := fun v569 k0_hw118 => k0_hw118.1
theorem k0_off121_inb : ∀ (v569 : BitVec 32) (k0_hw118 : k0_chk118 v569) (k0_t43 : Fin (k0_t43_loop v569).trips), ∀ a, (k0_off121 v569 k0_t43) a + S16.size a ≤ S4096.size a := fun v569 k0_hw118 k0_t43 => k0_hw118.2.1 k0_t43
theorem k0_off122_inb : ∀ (v569 : BitVec 32) (k0_hw118 : k0_chk118 v569) (k0_t43 : Fin (k0_t43_loop v569).trips), ∀ a, (k0_off122 v569 k0_t43) a + S16.size a ≤ S4096.size a := fun v569 k0_hw118 k0_t43 => k0_hw118.2.2.1 k0_t43
theorem k0_off123_inb : ∀ (v569 : BitVec 32) (k0_hw118 : k0_chk118 v569) (k0_t43 : Fin (k0_t43_loop v569).trips), ∀ a, (k0_off123 v569 k0_t43) a + S16.size a ≤ S4096.size a := fun v569 k0_hw118 k0_t43 => k0_hw118.2.2.2.1 k0_t43
theorem k0_off124_inb : ∀ (v569 : BitVec 32) (k0_hw118 : k0_chk118 v569) (k0_t43 : Fin (k0_t43_loop v569).trips), ∀ a, (k0_off124 v569 k0_t43) a + S16.size a ≤ S4096.size a := fun v569 k0_hw118 k0_t43 => k0_hw118.2.2.2.2.1 k0_t43
theorem k0_t44_ok : ∀ (v569 : BitVec 32) (k0_hw118 : k0_chk118 v569), (k0_t44_loop v569).OK := fun v569 k0_hw118 => k0_hw118.2.2.2.2.2.1
theorem k0_off125_inb : ∀ (v569 : BitVec 32) (k0_hw118 : k0_chk118 v569) (k0_t44 : Fin (k0_t44_loop v569).trips), ∀ a, (k0_off125 v569 k0_t44) a + S16.size a ≤ S4096.size a := fun v569 k0_hw118 k0_t44 => k0_hw118.2.2.2.2.2.2.1 k0_t44
theorem k0_off126_inb : ∀ (v569 : BitVec 32) (k0_hw118 : k0_chk118 v569) (k0_t44 : Fin (k0_t44_loop v569).trips), ∀ a, (k0_off126 v569 k0_t44) a + S16.size a ≤ S4096.size a := fun v569 k0_hw118 k0_t44 => k0_hw118.2.2.2.2.2.2.2.1 k0_t44
theorem k0_off127_inb : ∀ (v569 : BitVec 32) (k0_hw118 : k0_chk118 v569) (k0_t44 : Fin (k0_t44_loop v569).trips), ∀ a, (k0_off127 v569 k0_t44) a + S16.size a ≤ S4096.size a := fun v569 k0_hw118 k0_t44 => k0_hw118.2.2.2.2.2.2.2.2.1 k0_t44
theorem k0_off128_inb : ∀ (v569 : BitVec 32) (k0_hw118 : k0_chk118 v569) (k0_t44 : Fin (k0_t44_loop v569).trips), ∀ a, (k0_off128 v569 k0_t44) a + S16.size a ≤ S4096.size a := fun v569 k0_hw118 k0_t44 => k0_hw118.2.2.2.2.2.2.2.2.2 k0_t44

def k0_chk126 (v679 : IVec S16 32) (v759 : IVec S16 32) : Prop :=
  (∀ a x, ((![v679, v759] : Fin 2 → IVec S16 32) a x).toNat < S16x6272.size a)
theorem k0_idx112_inb : ∀ (v679 : IVec S16 32) (v759 : IVec S16 32) (k0_hw126 : k0_chk126 v679 v759), ∀ a x, ((![v679, v759] : Fin 2 → IVec S16 32) a x).toNat < S16x6272.size a := fun v679 v759 k0_hw126 => k0_hw126
@[reducible] def k0_t45_loop (v609 : BitVec 32) : Scf.Loop 32 :=
  let c0_i32_390 : BitVec 32 := 0#32
  let c63_i32_382 : BitVec 32 := 63#32
  let v618 : BitVec 32 := Scalar.addi v609 c63_i32_382
  let c0_i32_384 : BitVec 32 := 0#32
  let v620 : BitVec 1 := Scalar.cmpi .sgt v618 c0_i32_384
  let v621 : BitVec 32 := Scalar.extui v620
  let c0_i32_385 : BitVec 32 := 0#32
  let v622 : BitVec 1 := Scalar.cmpi .slt v618 c0_i32_385
  let v623 : BitVec 32 := Scalar.extui v622
  let v624 : BitVec 32 := Scalar.subi v621 v623
  let c64_i32_383 : BitVec 32 := 64#32
  let c0_i32_386 : BitVec 32 := 0#32
  let v625 : BitVec 1 := Scalar.cmpi .sgt c64_i32_383 c0_i32_386
  let v626 : BitVec 32 := Scalar.extui v625
  let c0_i32_387 : BitVec 32 := 0#32
  let v627 : BitVec 1 := Scalar.cmpi .slt c64_i32_383 c0_i32_387
  let v628 : BitVec 32 := Scalar.extui v627
  let v629 : BitVec 32 := Scalar.subi v626 v628
  let v630 : BitVec 1 := Scalar.cmpi .ne v624 v629
  let v631 : BitVec 32 := Scalar.remsi v618 c64_i32_383
  let c0_i32_388 : BitVec 32 := 0#32
  let v632 : BitVec 1 := Scalar.cmpi .ne v631 c0_i32_388
  let v633 : BitVec 1 := Scalar.andi v630 v632
  let v619 : BitVec 32 := Scalar.divsi v618 c64_i32_383
  let c1_i32_389 : BitVec 32 := 1#32
  let v634 : BitVec 32 := Scalar.subi v619 c1_i32_389
  let v635 : BitVec 32 := Scalar.select v633 v634 v619
  let v636 : BitVec 32 := Scalar.subi v635 c0_i32_390
  let c1_i32_392 : BitVec 32 := 1#32
  let v638 : BitVec 32 := Scalar.divsi v636 c1_i32_392
  let v639 : BitVec 32 := Scalar.muli v638 c1_i32_392
  let v640 : BitVec 32 := Scalar.addi c0_i32_390 v639
  let c1_i32_393 : BitVec 32 := 1#32
  ⟨c0_i32_390, v640, c1_i32_393⟩

def k0_off129 (v609 : BitVec 32) (k0_t45 : Fin (k0_t45_loop v609).trips) : Fin 1 → Nat :=
  let c0_i32_390 : BitVec 32 := 0#32
  let c1_i32_393 : BitVec 32 := 1#32
  let arg10 : BitVec 32 := Scf.iv c0_i32_390 c1_i32_393 k0_t45
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk128 (v679 : IVec S16 32) (v699 : IVec S16 32) : Prop :=
  (∀ a x, ((![v679, v699] : Fin 2 → IVec S16 32) a x).toNat < S16x6272.size a)
theorem k0_idx113_inb : ∀ (v679 : IVec S16 32) (v699 : IVec S16 32) (k0_hw128 : k0_chk128 v679 v699), ∀ a x, ((![v679, v699] : Fin 2 → IVec S16 32) a x).toNat < S16x6272.size a := fun v679 v699 k0_hw128 => k0_hw128
def k0_off130 (v609 : BitVec 32) (k0_t45 : Fin (k0_t45_loop v609).trips) : Fin 1 → Nat :=
  let c0_i32_390 : BitVec 32 := 0#32
  let c1_i32_393 : BitVec 32 := 1#32
  let arg10 : BitVec 32 := Scf.iv c0_i32_390 c1_i32_393 k0_t45
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk129 (v679 : IVec S16 32) (v719 : IVec S16 32) : Prop :=
  (∀ a x, ((![v679, v719] : Fin 2 → IVec S16 32) a x).toNat < S16x6272.size a)
theorem k0_idx114_inb : ∀ (v679 : IVec S16 32) (v719 : IVec S16 32) (k0_hw129 : k0_chk129 v679 v719), ∀ a x, ((![v679, v719] : Fin 2 → IVec S16 32) a x).toNat < S16x6272.size a := fun v679 v719 k0_hw129 => k0_hw129
def k0_off131 (v609 : BitVec 32) (k0_t45 : Fin (k0_t45_loop v609).trips) : Fin 1 → Nat :=
  let c0_i32_390 : BitVec 32 := 0#32
  let c1_i32_393 : BitVec 32 := 1#32
  let arg10 : BitVec 32 := Scf.iv c0_i32_390 c1_i32_393 k0_t45
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk130 (v679 : IVec S16 32) (v739 : IVec S16 32) : Prop :=
  (∀ a x, ((![v679, v739] : Fin 2 → IVec S16 32) a x).toNat < S16x6272.size a)
theorem k0_idx115_inb : ∀ (v679 : IVec S16 32) (v739 : IVec S16 32) (k0_hw130 : k0_chk130 v679 v739), ∀ a x, ((![v679, v739] : Fin 2 → IVec S16 32) a x).toNat < S16x6272.size a := fun v679 v739 k0_hw130 => k0_hw130
def k0_off132 (v609 : BitVec 32) (k0_t45 : Fin (k0_t45_loop v609).trips) : Fin 1 → Nat :=
  let c0_i32_390 : BitVec 32 := 0#32
  let c1_i32_393 : BitVec 32 := 1#32
  let arg10 : BitVec 32 := Scf.iv c0_i32_390 c1_i32_393 k0_t45
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk131 (v679 : IVec S16 32) (v759 : IVec S16 32) : Prop :=
  (∀ a x, ((![v679, v759] : Fin 2 → IVec S16 32) a x).toNat < S16x6272.size a)
theorem k0_idx116_inb : ∀ (v679 : IVec S16 32) (v759 : IVec S16 32) (k0_hw131 : k0_chk131 v679 v759), ∀ a x, ((![v679, v759] : Fin 2 → IVec S16 32) a x).toNat < S16x6272.size a := fun v679 v759 k0_hw131 => k0_hw131
@[reducible] def k0_t46_loop (v609 : BitVec 32) : Scf.Loop 32 :=
  let c0_i32_390 : BitVec 32 := 0#32
  let c63_i32_382 : BitVec 32 := 63#32
  let v618 : BitVec 32 := Scalar.addi v609 c63_i32_382
  let c0_i32_384 : BitVec 32 := 0#32
  let v620 : BitVec 1 := Scalar.cmpi .sgt v618 c0_i32_384
  let v621 : BitVec 32 := Scalar.extui v620
  let c0_i32_385 : BitVec 32 := 0#32
  let v622 : BitVec 1 := Scalar.cmpi .slt v618 c0_i32_385
  let v623 : BitVec 32 := Scalar.extui v622
  let v624 : BitVec 32 := Scalar.subi v621 v623
  let c64_i32_383 : BitVec 32 := 64#32
  let c0_i32_386 : BitVec 32 := 0#32
  let v625 : BitVec 1 := Scalar.cmpi .sgt c64_i32_383 c0_i32_386
  let v626 : BitVec 32 := Scalar.extui v625
  let c0_i32_387 : BitVec 32 := 0#32
  let v627 : BitVec 1 := Scalar.cmpi .slt c64_i32_383 c0_i32_387
  let v628 : BitVec 32 := Scalar.extui v627
  let v629 : BitVec 32 := Scalar.subi v626 v628
  let v630 : BitVec 1 := Scalar.cmpi .ne v624 v629
  let v631 : BitVec 32 := Scalar.remsi v618 c64_i32_383
  let c0_i32_388 : BitVec 32 := 0#32
  let v632 : BitVec 1 := Scalar.cmpi .ne v631 c0_i32_388
  let v633 : BitVec 1 := Scalar.andi v630 v632
  let v619 : BitVec 32 := Scalar.divsi v618 c64_i32_383
  let c1_i32_389 : BitVec 32 := 1#32
  let v634 : BitVec 32 := Scalar.subi v619 c1_i32_389
  let v635 : BitVec 32 := Scalar.select v633 v634 v619
  let v636 : BitVec 32 := Scalar.subi v635 c0_i32_390
  let c1_i32_392 : BitVec 32 := 1#32
  let v638 : BitVec 32 := Scalar.divsi v636 c1_i32_392
  let v639 : BitVec 32 := Scalar.muli v638 c1_i32_392
  let v640 : BitVec 32 := Scalar.addi c0_i32_390 v639
  let v637 : BitVec 32 := Scalar.addi c0_i32_390 v636
  let c1_i32_394 : BitVec 32 := 1#32
  ⟨v640, v637, c1_i32_394⟩
def k0_off133 (v609 : BitVec 32) (k0_t46 : Fin (k0_t46_loop v609).trips) : Fin 1 → Nat :=
  let c0_i32_390 : BitVec 32 := 0#32
  let c63_i32_382 : BitVec 32 := 63#32
  let v618 : BitVec 32 := Scalar.addi v609 c63_i32_382
  let c0_i32_384 : BitVec 32 := 0#32
  let v620 : BitVec 1 := Scalar.cmpi .sgt v618 c0_i32_384
  let v621 : BitVec 32 := Scalar.extui v620
  let c0_i32_385 : BitVec 32 := 0#32
  let v622 : BitVec 1 := Scalar.cmpi .slt v618 c0_i32_385
  let v623 : BitVec 32 := Scalar.extui v622
  let v624 : BitVec 32 := Scalar.subi v621 v623
  let c64_i32_383 : BitVec 32 := 64#32
  let c0_i32_386 : BitVec 32 := 0#32
  let v625 : BitVec 1 := Scalar.cmpi .sgt c64_i32_383 c0_i32_386
  let v626 : BitVec 32 := Scalar.extui v625
  let c0_i32_387 : BitVec 32 := 0#32
  let v627 : BitVec 1 := Scalar.cmpi .slt c64_i32_383 c0_i32_387
  let v628 : BitVec 32 := Scalar.extui v627
  let v629 : BitVec 32 := Scalar.subi v626 v628
  let v630 : BitVec 1 := Scalar.cmpi .ne v624 v629
  let v631 : BitVec 32 := Scalar.remsi v618 c64_i32_383
  let c0_i32_388 : BitVec 32 := 0#32
  let v632 : BitVec 1 := Scalar.cmpi .ne v631 c0_i32_388
  let v633 : BitVec 1 := Scalar.andi v630 v632
  let v619 : BitVec 32 := Scalar.divsi v618 c64_i32_383
  let c1_i32_389 : BitVec 32 := 1#32
  let v634 : BitVec 32 := Scalar.subi v619 c1_i32_389
  let v635 : BitVec 32 := Scalar.select v633 v634 v619
  let v636 : BitVec 32 := Scalar.subi v635 c0_i32_390
  let c1_i32_392 : BitVec 32 := 1#32
  let v638 : BitVec 32 := Scalar.divsi v636 c1_i32_392
  let v639 : BitVec 32 := Scalar.muli v638 c1_i32_392
  let v640 : BitVec 32 := Scalar.addi c0_i32_390 v639
  let c1_i32_394 : BitVec 32 := 1#32
  let arg10 : BitVec 32 := Scf.iv v640 c1_i32_394 k0_t46
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk132 (v679 : IVec S16 32) (v699 : IVec S16 32) : Prop :=
  (∀ a x, ((![v679, v699] : Fin 2 → IVec S16 32) a x).toNat < S16x6272.size a)
theorem k0_idx117_inb : ∀ (v679 : IVec S16 32) (v699 : IVec S16 32) (k0_hw132 : k0_chk132 v679 v699), ∀ a x, ((![v679, v699] : Fin 2 → IVec S16 32) a x).toNat < S16x6272.size a := fun v679 v699 k0_hw132 => k0_hw132
def k0_off134 (v609 : BitVec 32) (k0_t46 : Fin (k0_t46_loop v609).trips) : Fin 1 → Nat :=
  let c0_i32_390 : BitVec 32 := 0#32
  let c63_i32_382 : BitVec 32 := 63#32
  let v618 : BitVec 32 := Scalar.addi v609 c63_i32_382
  let c0_i32_384 : BitVec 32 := 0#32
  let v620 : BitVec 1 := Scalar.cmpi .sgt v618 c0_i32_384
  let v621 : BitVec 32 := Scalar.extui v620
  let c0_i32_385 : BitVec 32 := 0#32
  let v622 : BitVec 1 := Scalar.cmpi .slt v618 c0_i32_385
  let v623 : BitVec 32 := Scalar.extui v622
  let v624 : BitVec 32 := Scalar.subi v621 v623
  let c64_i32_383 : BitVec 32 := 64#32
  let c0_i32_386 : BitVec 32 := 0#32
  let v625 : BitVec 1 := Scalar.cmpi .sgt c64_i32_383 c0_i32_386
  let v626 : BitVec 32 := Scalar.extui v625
  let c0_i32_387 : BitVec 32 := 0#32
  let v627 : BitVec 1 := Scalar.cmpi .slt c64_i32_383 c0_i32_387
  let v628 : BitVec 32 := Scalar.extui v627
  let v629 : BitVec 32 := Scalar.subi v626 v628
  let v630 : BitVec 1 := Scalar.cmpi .ne v624 v629
  let v631 : BitVec 32 := Scalar.remsi v618 c64_i32_383
  let c0_i32_388 : BitVec 32 := 0#32
  let v632 : BitVec 1 := Scalar.cmpi .ne v631 c0_i32_388
  let v633 : BitVec 1 := Scalar.andi v630 v632
  let v619 : BitVec 32 := Scalar.divsi v618 c64_i32_383
  let c1_i32_389 : BitVec 32 := 1#32
  let v634 : BitVec 32 := Scalar.subi v619 c1_i32_389
  let v635 : BitVec 32 := Scalar.select v633 v634 v619
  let v636 : BitVec 32 := Scalar.subi v635 c0_i32_390
  let c1_i32_392 : BitVec 32 := 1#32
  let v638 : BitVec 32 := Scalar.divsi v636 c1_i32_392
  let v639 : BitVec 32 := Scalar.muli v638 c1_i32_392
  let v640 : BitVec 32 := Scalar.addi c0_i32_390 v639
  let c1_i32_394 : BitVec 32 := 1#32
  let arg10 : BitVec 32 := Scf.iv v640 c1_i32_394 k0_t46
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk133 (v679 : IVec S16 32) (v719 : IVec S16 32) : Prop :=
  (∀ a x, ((![v679, v719] : Fin 2 → IVec S16 32) a x).toNat < S16x6272.size a)
theorem k0_idx118_inb : ∀ (v679 : IVec S16 32) (v719 : IVec S16 32) (k0_hw133 : k0_chk133 v679 v719), ∀ a x, ((![v679, v719] : Fin 2 → IVec S16 32) a x).toNat < S16x6272.size a := fun v679 v719 k0_hw133 => k0_hw133
def k0_off135 (v609 : BitVec 32) (k0_t46 : Fin (k0_t46_loop v609).trips) : Fin 1 → Nat :=
  let c0_i32_390 : BitVec 32 := 0#32
  let c63_i32_382 : BitVec 32 := 63#32
  let v618 : BitVec 32 := Scalar.addi v609 c63_i32_382
  let c0_i32_384 : BitVec 32 := 0#32
  let v620 : BitVec 1 := Scalar.cmpi .sgt v618 c0_i32_384
  let v621 : BitVec 32 := Scalar.extui v620
  let c0_i32_385 : BitVec 32 := 0#32
  let v622 : BitVec 1 := Scalar.cmpi .slt v618 c0_i32_385
  let v623 : BitVec 32 := Scalar.extui v622
  let v624 : BitVec 32 := Scalar.subi v621 v623
  let c64_i32_383 : BitVec 32 := 64#32
  let c0_i32_386 : BitVec 32 := 0#32
  let v625 : BitVec 1 := Scalar.cmpi .sgt c64_i32_383 c0_i32_386
  let v626 : BitVec 32 := Scalar.extui v625
  let c0_i32_387 : BitVec 32 := 0#32
  let v627 : BitVec 1 := Scalar.cmpi .slt c64_i32_383 c0_i32_387
  let v628 : BitVec 32 := Scalar.extui v627
  let v629 : BitVec 32 := Scalar.subi v626 v628
  let v630 : BitVec 1 := Scalar.cmpi .ne v624 v629
  let v631 : BitVec 32 := Scalar.remsi v618 c64_i32_383
  let c0_i32_388 : BitVec 32 := 0#32
  let v632 : BitVec 1 := Scalar.cmpi .ne v631 c0_i32_388
  let v633 : BitVec 1 := Scalar.andi v630 v632
  let v619 : BitVec 32 := Scalar.divsi v618 c64_i32_383
  let c1_i32_389 : BitVec 32 := 1#32
  let v634 : BitVec 32 := Scalar.subi v619 c1_i32_389
  let v635 : BitVec 32 := Scalar.select v633 v634 v619
  let v636 : BitVec 32 := Scalar.subi v635 c0_i32_390
  let c1_i32_392 : BitVec 32 := 1#32
  let v638 : BitVec 32 := Scalar.divsi v636 c1_i32_392
  let v639 : BitVec 32 := Scalar.muli v638 c1_i32_392
  let v640 : BitVec 32 := Scalar.addi c0_i32_390 v639
  let c1_i32_394 : BitVec 32 := 1#32
  let arg10 : BitVec 32 := Scf.iv v640 c1_i32_394 k0_t46
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk134 (v679 : IVec S16 32) (v739 : IVec S16 32) : Prop :=
  (∀ a x, ((![v679, v739] : Fin 2 → IVec S16 32) a x).toNat < S16x6272.size a)
theorem k0_idx119_inb : ∀ (v679 : IVec S16 32) (v739 : IVec S16 32) (k0_hw134 : k0_chk134 v679 v739), ∀ a x, ((![v679, v739] : Fin 2 → IVec S16 32) a x).toNat < S16x6272.size a := fun v679 v739 k0_hw134 => k0_hw134
def k0_off136 (v609 : BitVec 32) (k0_t46 : Fin (k0_t46_loop v609).trips) : Fin 1 → Nat :=
  let c0_i32_390 : BitVec 32 := 0#32
  let c63_i32_382 : BitVec 32 := 63#32
  let v618 : BitVec 32 := Scalar.addi v609 c63_i32_382
  let c0_i32_384 : BitVec 32 := 0#32
  let v620 : BitVec 1 := Scalar.cmpi .sgt v618 c0_i32_384
  let v621 : BitVec 32 := Scalar.extui v620
  let c0_i32_385 : BitVec 32 := 0#32
  let v622 : BitVec 1 := Scalar.cmpi .slt v618 c0_i32_385
  let v623 : BitVec 32 := Scalar.extui v622
  let v624 : BitVec 32 := Scalar.subi v621 v623
  let c64_i32_383 : BitVec 32 := 64#32
  let c0_i32_386 : BitVec 32 := 0#32
  let v625 : BitVec 1 := Scalar.cmpi .sgt c64_i32_383 c0_i32_386
  let v626 : BitVec 32 := Scalar.extui v625
  let c0_i32_387 : BitVec 32 := 0#32
  let v627 : BitVec 1 := Scalar.cmpi .slt c64_i32_383 c0_i32_387
  let v628 : BitVec 32 := Scalar.extui v627
  let v629 : BitVec 32 := Scalar.subi v626 v628
  let v630 : BitVec 1 := Scalar.cmpi .ne v624 v629
  let v631 : BitVec 32 := Scalar.remsi v618 c64_i32_383
  let c0_i32_388 : BitVec 32 := 0#32
  let v632 : BitVec 1 := Scalar.cmpi .ne v631 c0_i32_388
  let v633 : BitVec 1 := Scalar.andi v630 v632
  let v619 : BitVec 32 := Scalar.divsi v618 c64_i32_383
  let c1_i32_389 : BitVec 32 := 1#32
  let v634 : BitVec 32 := Scalar.subi v619 c1_i32_389
  let v635 : BitVec 32 := Scalar.select v633 v634 v619
  let v636 : BitVec 32 := Scalar.subi v635 c0_i32_390
  let c1_i32_392 : BitVec 32 := 1#32
  let v638 : BitVec 32 := Scalar.divsi v636 c1_i32_392
  let v639 : BitVec 32 := Scalar.muli v638 c1_i32_392
  let v640 : BitVec 32 := Scalar.addi c0_i32_390 v639
  let c1_i32_394 : BitVec 32 := 1#32
  let arg10 : BitVec 32 := Scf.iv v640 c1_i32_394 k0_t46
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk127 (v609 : BitVec 32) : Prop :=
  ((k0_t45_loop v609).OK) ∧
  (∀ k0_t45 : Fin (k0_t45_loop v609).trips, ∀ a, (k0_off129 v609 k0_t45) a + S16.size a ≤ S4096.size a) ∧
  (∀ k0_t45 : Fin (k0_t45_loop v609).trips, ∀ a, (k0_off130 v609 k0_t45) a + S16.size a ≤ S4096.size a) ∧
  (∀ k0_t45 : Fin (k0_t45_loop v609).trips, ∀ a, (k0_off131 v609 k0_t45) a + S16.size a ≤ S4096.size a) ∧
  (∀ k0_t45 : Fin (k0_t45_loop v609).trips, ∀ a, (k0_off132 v609 k0_t45) a + S16.size a ≤ S4096.size a) ∧
  ((k0_t46_loop v609).OK) ∧
  (∀ k0_t46 : Fin (k0_t46_loop v609).trips, ∀ a, (k0_off133 v609 k0_t46) a + S16.size a ≤ S4096.size a) ∧
  (∀ k0_t46 : Fin (k0_t46_loop v609).trips, ∀ a, (k0_off134 v609 k0_t46) a + S16.size a ≤ S4096.size a) ∧
  (∀ k0_t46 : Fin (k0_t46_loop v609).trips, ∀ a, (k0_off135 v609 k0_t46) a + S16.size a ≤ S4096.size a) ∧
  (∀ k0_t46 : Fin (k0_t46_loop v609).trips, ∀ a, (k0_off136 v609 k0_t46) a + S16.size a ≤ S4096.size a)
theorem k0_t45_ok : ∀ (v609 : BitVec 32) (k0_hw127 : k0_chk127 v609), (k0_t45_loop v609).OK := fun v609 k0_hw127 => k0_hw127.1
theorem k0_off129_inb : ∀ (v609 : BitVec 32) (k0_hw127 : k0_chk127 v609) (k0_t45 : Fin (k0_t45_loop v609).trips), ∀ a, (k0_off129 v609 k0_t45) a + S16.size a ≤ S4096.size a := fun v609 k0_hw127 k0_t45 => k0_hw127.2.1 k0_t45
theorem k0_off130_inb : ∀ (v609 : BitVec 32) (k0_hw127 : k0_chk127 v609) (k0_t45 : Fin (k0_t45_loop v609).trips), ∀ a, (k0_off130 v609 k0_t45) a + S16.size a ≤ S4096.size a := fun v609 k0_hw127 k0_t45 => k0_hw127.2.2.1 k0_t45
theorem k0_off131_inb : ∀ (v609 : BitVec 32) (k0_hw127 : k0_chk127 v609) (k0_t45 : Fin (k0_t45_loop v609).trips), ∀ a, (k0_off131 v609 k0_t45) a + S16.size a ≤ S4096.size a := fun v609 k0_hw127 k0_t45 => k0_hw127.2.2.2.1 k0_t45
theorem k0_off132_inb : ∀ (v609 : BitVec 32) (k0_hw127 : k0_chk127 v609) (k0_t45 : Fin (k0_t45_loop v609).trips), ∀ a, (k0_off132 v609 k0_t45) a + S16.size a ≤ S4096.size a := fun v609 k0_hw127 k0_t45 => k0_hw127.2.2.2.2.1 k0_t45
theorem k0_t46_ok : ∀ (v609 : BitVec 32) (k0_hw127 : k0_chk127 v609), (k0_t46_loop v609).OK := fun v609 k0_hw127 => k0_hw127.2.2.2.2.2.1
theorem k0_off133_inb : ∀ (v609 : BitVec 32) (k0_hw127 : k0_chk127 v609) (k0_t46 : Fin (k0_t46_loop v609).trips), ∀ a, (k0_off133 v609 k0_t46) a + S16.size a ≤ S4096.size a := fun v609 k0_hw127 k0_t46 => k0_hw127.2.2.2.2.2.2.1 k0_t46
theorem k0_off134_inb : ∀ (v609 : BitVec 32) (k0_hw127 : k0_chk127 v609) (k0_t46 : Fin (k0_t46_loop v609).trips), ∀ a, (k0_off134 v609 k0_t46) a + S16.size a ≤ S4096.size a := fun v609 k0_hw127 k0_t46 => k0_hw127.2.2.2.2.2.2.2.1 k0_t46
theorem k0_off135_inb : ∀ (v609 : BitVec 32) (k0_hw127 : k0_chk127 v609) (k0_t46 : Fin (k0_t46_loop v609).trips), ∀ a, (k0_off135 v609 k0_t46) a + S16.size a ≤ S4096.size a := fun v609 k0_hw127 k0_t46 => k0_hw127.2.2.2.2.2.2.2.2.1 k0_t46
theorem k0_off136_inb : ∀ (v609 : BitVec 32) (k0_hw127 : k0_chk127 v609) (k0_t46 : Fin (k0_t46_loop v609).trips), ∀ a, (k0_off136 v609 k0_t46) a + S16.size a ≤ S4096.size a := fun v609 k0_hw127 k0_t46 => k0_hw127.2.2.2.2.2.2.2.2.2 k0_t46

def k0_chk135 (v679 : IVec S16 32) (v759 : IVec S16 32) : Prop :=
  (∀ a x, ((![v679, v759] : Fin 2 → IVec S16 32) a x).toNat < S16x6272.size a)
theorem k0_idx120_inb : ∀ (v679 : IVec S16 32) (v759 : IVec S16 32) (k0_hw135 : k0_chk135 v679 v759), ∀ a x, ((![v679, v759] : Fin 2 → IVec S16 32) a x).toNat < S16x6272.size a := fun v679 v759 k0_hw135 => k0_hw135
@[reducible] def k0_t47_loop (v649 : BitVec 32) : Scf.Loop 32 :=
  let c0_i32_409 : BitVec 32 := 0#32
  let c63_i32_401 : BitVec 32 := 63#32
  let v654 : BitVec 32 := Scalar.addi v649 c63_i32_401
  let c0_i32_403 : BitVec 32 := 0#32
  let v656 : BitVec 1 := Scalar.cmpi .sgt v654 c0_i32_403
  let v657 : BitVec 32 := Scalar.extui v656
  let c0_i32_404 : BitVec 32 := 0#32
  let v658 : BitVec 1 := Scalar.cmpi .slt v654 c0_i32_404
  let v659 : BitVec 32 := Scalar.extui v658
  let v660 : BitVec 32 := Scalar.subi v657 v659
  let c64_i32_402 : BitVec 32 := 64#32
  let c0_i32_405 : BitVec 32 := 0#32
  let v661 : BitVec 1 := Scalar.cmpi .sgt c64_i32_402 c0_i32_405
  let v662 : BitVec 32 := Scalar.extui v661
  let c0_i32_406 : BitVec 32 := 0#32
  let v663 : BitVec 1 := Scalar.cmpi .slt c64_i32_402 c0_i32_406
  let v664 : BitVec 32 := Scalar.extui v663
  let v665 : BitVec 32 := Scalar.subi v662 v664
  let v666 : BitVec 1 := Scalar.cmpi .ne v660 v665
  let v667 : BitVec 32 := Scalar.remsi v654 c64_i32_402
  let c0_i32_407 : BitVec 32 := 0#32
  let v668 : BitVec 1 := Scalar.cmpi .ne v667 c0_i32_407
  let v669 : BitVec 1 := Scalar.andi v666 v668
  let v655 : BitVec 32 := Scalar.divsi v654 c64_i32_402
  let c1_i32_408 : BitVec 32 := 1#32
  let v670 : BitVec 32 := Scalar.subi v655 c1_i32_408
  let v671 : BitVec 32 := Scalar.select v669 v670 v655
  let v672 : BitVec 32 := Scalar.subi v671 c0_i32_409
  let c1_i32_411 : BitVec 32 := 1#32
  let v674 : BitVec 32 := Scalar.divsi v672 c1_i32_411
  let v675 : BitVec 32 := Scalar.muli v674 c1_i32_411
  let v676 : BitVec 32 := Scalar.addi c0_i32_409 v675
  let c1_i32_412 : BitVec 32 := 1#32
  ⟨c0_i32_409, v676, c1_i32_412⟩

def k0_off137 (v649 : BitVec 32) (k0_t47 : Fin (k0_t47_loop v649).trips) : Fin 1 → Nat :=
  let c0_i32_409 : BitVec 32 := 0#32
  let c1_i32_412 : BitVec 32 := 1#32
  let arg10 : BitVec 32 := Scf.iv c0_i32_409 c1_i32_412 k0_t47
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk137 (v679 : IVec S16 32) (v699 : IVec S16 32) : Prop :=
  (∀ a x, ((![v679, v699] : Fin 2 → IVec S16 32) a x).toNat < S16x6272.size a)
theorem k0_idx121_inb : ∀ (v679 : IVec S16 32) (v699 : IVec S16 32) (k0_hw137 : k0_chk137 v679 v699), ∀ a x, ((![v679, v699] : Fin 2 → IVec S16 32) a x).toNat < S16x6272.size a := fun v679 v699 k0_hw137 => k0_hw137
def k0_off138 (v649 : BitVec 32) (k0_t47 : Fin (k0_t47_loop v649).trips) : Fin 1 → Nat :=
  let c0_i32_409 : BitVec 32 := 0#32
  let c1_i32_412 : BitVec 32 := 1#32
  let arg10 : BitVec 32 := Scf.iv c0_i32_409 c1_i32_412 k0_t47
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk138 (v679 : IVec S16 32) (v719 : IVec S16 32) : Prop :=
  (∀ a x, ((![v679, v719] : Fin 2 → IVec S16 32) a x).toNat < S16x6272.size a)
theorem k0_idx122_inb : ∀ (v679 : IVec S16 32) (v719 : IVec S16 32) (k0_hw138 : k0_chk138 v679 v719), ∀ a x, ((![v679, v719] : Fin 2 → IVec S16 32) a x).toNat < S16x6272.size a := fun v679 v719 k0_hw138 => k0_hw138
def k0_off139 (v649 : BitVec 32) (k0_t47 : Fin (k0_t47_loop v649).trips) : Fin 1 → Nat :=
  let c0_i32_409 : BitVec 32 := 0#32
  let c1_i32_412 : BitVec 32 := 1#32
  let arg10 : BitVec 32 := Scf.iv c0_i32_409 c1_i32_412 k0_t47
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk139 (v679 : IVec S16 32) (v739 : IVec S16 32) : Prop :=
  (∀ a x, ((![v679, v739] : Fin 2 → IVec S16 32) a x).toNat < S16x6272.size a)
theorem k0_idx123_inb : ∀ (v679 : IVec S16 32) (v739 : IVec S16 32) (k0_hw139 : k0_chk139 v679 v739), ∀ a x, ((![v679, v739] : Fin 2 → IVec S16 32) a x).toNat < S16x6272.size a := fun v679 v739 k0_hw139 => k0_hw139
def k0_off140 (v649 : BitVec 32) (k0_t47 : Fin (k0_t47_loop v649).trips) : Fin 1 → Nat :=
  let c0_i32_409 : BitVec 32 := 0#32
  let c1_i32_412 : BitVec 32 := 1#32
  let arg10 : BitVec 32 := Scf.iv c0_i32_409 c1_i32_412 k0_t47
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk140 (v679 : IVec S16 32) (v759 : IVec S16 32) : Prop :=
  (∀ a x, ((![v679, v759] : Fin 2 → IVec S16 32) a x).toNat < S16x6272.size a)
theorem k0_idx124_inb : ∀ (v679 : IVec S16 32) (v759 : IVec S16 32) (k0_hw140 : k0_chk140 v679 v759), ∀ a x, ((![v679, v759] : Fin 2 → IVec S16 32) a x).toNat < S16x6272.size a := fun v679 v759 k0_hw140 => k0_hw140
@[reducible] def k0_t48_loop (v649 : BitVec 32) : Scf.Loop 32 :=
  let c0_i32_409 : BitVec 32 := 0#32
  let c63_i32_401 : BitVec 32 := 63#32
  let v654 : BitVec 32 := Scalar.addi v649 c63_i32_401
  let c0_i32_403 : BitVec 32 := 0#32
  let v656 : BitVec 1 := Scalar.cmpi .sgt v654 c0_i32_403
  let v657 : BitVec 32 := Scalar.extui v656
  let c0_i32_404 : BitVec 32 := 0#32
  let v658 : BitVec 1 := Scalar.cmpi .slt v654 c0_i32_404
  let v659 : BitVec 32 := Scalar.extui v658
  let v660 : BitVec 32 := Scalar.subi v657 v659
  let c64_i32_402 : BitVec 32 := 64#32
  let c0_i32_405 : BitVec 32 := 0#32
  let v661 : BitVec 1 := Scalar.cmpi .sgt c64_i32_402 c0_i32_405
  let v662 : BitVec 32 := Scalar.extui v661
  let c0_i32_406 : BitVec 32 := 0#32
  let v663 : BitVec 1 := Scalar.cmpi .slt c64_i32_402 c0_i32_406
  let v664 : BitVec 32 := Scalar.extui v663
  let v665 : BitVec 32 := Scalar.subi v662 v664
  let v666 : BitVec 1 := Scalar.cmpi .ne v660 v665
  let v667 : BitVec 32 := Scalar.remsi v654 c64_i32_402
  let c0_i32_407 : BitVec 32 := 0#32
  let v668 : BitVec 1 := Scalar.cmpi .ne v667 c0_i32_407
  let v669 : BitVec 1 := Scalar.andi v666 v668
  let v655 : BitVec 32 := Scalar.divsi v654 c64_i32_402
  let c1_i32_408 : BitVec 32 := 1#32
  let v670 : BitVec 32 := Scalar.subi v655 c1_i32_408
  let v671 : BitVec 32 := Scalar.select v669 v670 v655
  let v672 : BitVec 32 := Scalar.subi v671 c0_i32_409
  let c1_i32_411 : BitVec 32 := 1#32
  let v674 : BitVec 32 := Scalar.divsi v672 c1_i32_411
  let v675 : BitVec 32 := Scalar.muli v674 c1_i32_411
  let v676 : BitVec 32 := Scalar.addi c0_i32_409 v675
  let v673 : BitVec 32 := Scalar.addi c0_i32_409 v672
  let c1_i32_413 : BitVec 32 := 1#32
  ⟨v676, v673, c1_i32_413⟩
def k0_off141 (v649 : BitVec 32) (k0_t48 : Fin (k0_t48_loop v649).trips) : Fin 1 → Nat :=
  let c0_i32_409 : BitVec 32 := 0#32
  let c63_i32_401 : BitVec 32 := 63#32
  let v654 : BitVec 32 := Scalar.addi v649 c63_i32_401
  let c0_i32_403 : BitVec 32 := 0#32
  let v656 : BitVec 1 := Scalar.cmpi .sgt v654 c0_i32_403
  let v657 : BitVec 32 := Scalar.extui v656
  let c0_i32_404 : BitVec 32 := 0#32
  let v658 : BitVec 1 := Scalar.cmpi .slt v654 c0_i32_404
  let v659 : BitVec 32 := Scalar.extui v658
  let v660 : BitVec 32 := Scalar.subi v657 v659
  let c64_i32_402 : BitVec 32 := 64#32
  let c0_i32_405 : BitVec 32 := 0#32
  let v661 : BitVec 1 := Scalar.cmpi .sgt c64_i32_402 c0_i32_405
  let v662 : BitVec 32 := Scalar.extui v661
  let c0_i32_406 : BitVec 32 := 0#32
  let v663 : BitVec 1 := Scalar.cmpi .slt c64_i32_402 c0_i32_406
  let v664 : BitVec 32 := Scalar.extui v663
  let v665 : BitVec 32 := Scalar.subi v662 v664
  let v666 : BitVec 1 := Scalar.cmpi .ne v660 v665
  let v667 : BitVec 32 := Scalar.remsi v654 c64_i32_402
  let c0_i32_407 : BitVec 32 := 0#32
  let v668 : BitVec 1 := Scalar.cmpi .ne v667 c0_i32_407
  let v669 : BitVec 1 := Scalar.andi v666 v668
  let v655 : BitVec 32 := Scalar.divsi v654 c64_i32_402
  let c1_i32_408 : BitVec 32 := 1#32
  let v670 : BitVec 32 := Scalar.subi v655 c1_i32_408
  let v671 : BitVec 32 := Scalar.select v669 v670 v655
  let v672 : BitVec 32 := Scalar.subi v671 c0_i32_409
  let c1_i32_411 : BitVec 32 := 1#32
  let v674 : BitVec 32 := Scalar.divsi v672 c1_i32_411
  let v675 : BitVec 32 := Scalar.muli v674 c1_i32_411
  let v676 : BitVec 32 := Scalar.addi c0_i32_409 v675
  let c1_i32_413 : BitVec 32 := 1#32
  let arg10 : BitVec 32 := Scf.iv v676 c1_i32_413 k0_t48
  let c64_i32_415 : BitVec 32 := 64#32
  let v680 : BitVec 32 := Scalar.muli arg10 c64_i32_415
  let c0_i32_416 : BitVec 32 := 0#32
  let v681 : BitVec 32 := Scalar.addi v680 c0_i32_416
  let v682 : Index := Scalar.indexCast v681
  ![v682.toNat]

def k0_chk141 (v679 : IVec S16 32) (v699 : IVec S16 32) : Prop :=
  (∀ a x, ((![v679, v699] : Fin 2 → IVec S16 32) a x).toNat < S16x6272.size a)
theorem k0_idx125_inb : ∀ (v679 : IVec S16 32) (v699 : IVec S16 32) (k0_hw141 : k0_chk141 v679 v699), ∀ a x, ((![v679, v699] : Fin 2 → IVec S16 32) a x).toNat < S16x6272.size a := fun v679 v699 k0_hw141 => k0_hw141
def k0_off142 (v649 : BitVec 32) (k0_t48 : Fin (k0_t48_loop v649).trips) : Fin 1 → Nat :=
  let c0_i32_409 : BitVec 32 := 0#32
  let c63_i32_401 : BitVec 32 := 63#32
  let v654 : BitVec 32 := Scalar.addi v649 c63_i32_401
  let c0_i32_403 : BitVec 32 := 0#32
  let v656 : BitVec 1 := Scalar.cmpi .sgt v654 c0_i32_403
  let v657 : BitVec 32 := Scalar.extui v656
  let c0_i32_404 : BitVec 32 := 0#32
  let v658 : BitVec 1 := Scalar.cmpi .slt v654 c0_i32_404
  let v659 : BitVec 32 := Scalar.extui v658
  let v660 : BitVec 32 := Scalar.subi v657 v659
  let c64_i32_402 : BitVec 32 := 64#32
  let c0_i32_405 : BitVec 32 := 0#32
  let v661 : BitVec 1 := Scalar.cmpi .sgt c64_i32_402 c0_i32_405
  let v662 : BitVec 32 := Scalar.extui v661
  let c0_i32_406 : BitVec 32 := 0#32
  let v663 : BitVec 1 := Scalar.cmpi .slt c64_i32_402 c0_i32_406
  let v664 : BitVec 32 := Scalar.extui v663
  let v665 : BitVec 32 := Scalar.subi v662 v664
  let v666 : BitVec 1 := Scalar.cmpi .ne v660 v665
  let v667 : BitVec 32 := Scalar.remsi v654 c64_i32_402
  let c0_i32_407 : BitVec 32 := 0#32
  let v668 : BitVec 1 := Scalar.cmpi .ne v667 c0_i32_407
  let v669 : BitVec 1 := Scalar.andi v666 v668
  let v655 : BitVec 32 := Scalar.divsi v654 c64_i32_402
  let c1_i32_408 : BitVec 32 := 1#32
  let v670 : BitVec 32 := Scalar.subi v655 c1_i32_408
  let v671 : BitVec 32 := Scalar.select v669 v670 v655
  let v672 : BitVec 32 := Scalar.subi v671 c0_i32_409
  let c1_i32_411 : BitVec 32 := 1#32
  let v674 : BitVec 32 := Scalar.divsi v672 c1_i32_411
  let v675 : BitVec 32 := Scalar.muli v674 c1_i32_411
  let v676 : BitVec 32 := Scalar.addi c0_i32_409 v675
  let c1_i32_413 : BitVec 32 := 1#32
  let arg10 : BitVec 32 := Scf.iv v676 c1_i32_413 k0_t48
  let c64_i32_422 : BitVec 32 := 64#32
  let v700 : BitVec 32 := Scalar.muli arg10 c64_i32_422
  let c16_i32 : BitVec 32 := 16#32
  let v701 : BitVec 32 := Scalar.addi v700 c16_i32
  let v702 : Index := Scalar.indexCast v701
  ![v702.toNat]

def k0_chk142 (v679 : IVec S16 32) (v719 : IVec S16 32) : Prop :=
  (∀ a x, ((![v679, v719] : Fin 2 → IVec S16 32) a x).toNat < S16x6272.size a)
theorem k0_idx126_inb : ∀ (v679 : IVec S16 32) (v719 : IVec S16 32) (k0_hw142 : k0_chk142 v679 v719), ∀ a x, ((![v679, v719] : Fin 2 → IVec S16 32) a x).toNat < S16x6272.size a := fun v679 v719 k0_hw142 => k0_hw142
def k0_off143 (v649 : BitVec 32) (k0_t48 : Fin (k0_t48_loop v649).trips) : Fin 1 → Nat :=
  let c0_i32_409 : BitVec 32 := 0#32
  let c63_i32_401 : BitVec 32 := 63#32
  let v654 : BitVec 32 := Scalar.addi v649 c63_i32_401
  let c0_i32_403 : BitVec 32 := 0#32
  let v656 : BitVec 1 := Scalar.cmpi .sgt v654 c0_i32_403
  let v657 : BitVec 32 := Scalar.extui v656
  let c0_i32_404 : BitVec 32 := 0#32
  let v658 : BitVec 1 := Scalar.cmpi .slt v654 c0_i32_404
  let v659 : BitVec 32 := Scalar.extui v658
  let v660 : BitVec 32 := Scalar.subi v657 v659
  let c64_i32_402 : BitVec 32 := 64#32
  let c0_i32_405 : BitVec 32 := 0#32
  let v661 : BitVec 1 := Scalar.cmpi .sgt c64_i32_402 c0_i32_405
  let v662 : BitVec 32 := Scalar.extui v661
  let c0_i32_406 : BitVec 32 := 0#32
  let v663 : BitVec 1 := Scalar.cmpi .slt c64_i32_402 c0_i32_406
  let v664 : BitVec 32 := Scalar.extui v663
  let v665 : BitVec 32 := Scalar.subi v662 v664
  let v666 : BitVec 1 := Scalar.cmpi .ne v660 v665
  let v667 : BitVec 32 := Scalar.remsi v654 c64_i32_402
  let c0_i32_407 : BitVec 32 := 0#32
  let v668 : BitVec 1 := Scalar.cmpi .ne v667 c0_i32_407
  let v669 : BitVec 1 := Scalar.andi v666 v668
  let v655 : BitVec 32 := Scalar.divsi v654 c64_i32_402
  let c1_i32_408 : BitVec 32 := 1#32
  let v670 : BitVec 32 := Scalar.subi v655 c1_i32_408
  let v671 : BitVec 32 := Scalar.select v669 v670 v655
  let v672 : BitVec 32 := Scalar.subi v671 c0_i32_409
  let c1_i32_411 : BitVec 32 := 1#32
  let v674 : BitVec 32 := Scalar.divsi v672 c1_i32_411
  let v675 : BitVec 32 := Scalar.muli v674 c1_i32_411
  let v676 : BitVec 32 := Scalar.addi c0_i32_409 v675
  let c1_i32_413 : BitVec 32 := 1#32
  let arg10 : BitVec 32 := Scf.iv v676 c1_i32_413 k0_t48
  let c64_i32_428 : BitVec 32 := 64#32
  let v720 : BitVec 32 := Scalar.muli arg10 c64_i32_428
  let c32_i32 : BitVec 32 := 32#32
  let v721 : BitVec 32 := Scalar.addi v720 c32_i32
  let v722 : Index := Scalar.indexCast v721
  ![v722.toNat]

def k0_chk143 (v679 : IVec S16 32) (v739 : IVec S16 32) : Prop :=
  (∀ a x, ((![v679, v739] : Fin 2 → IVec S16 32) a x).toNat < S16x6272.size a)
theorem k0_idx127_inb : ∀ (v679 : IVec S16 32) (v739 : IVec S16 32) (k0_hw143 : k0_chk143 v679 v739), ∀ a x, ((![v679, v739] : Fin 2 → IVec S16 32) a x).toNat < S16x6272.size a := fun v679 v739 k0_hw143 => k0_hw143
def k0_off144 (v649 : BitVec 32) (k0_t48 : Fin (k0_t48_loop v649).trips) : Fin 1 → Nat :=
  let c0_i32_409 : BitVec 32 := 0#32
  let c63_i32_401 : BitVec 32 := 63#32
  let v654 : BitVec 32 := Scalar.addi v649 c63_i32_401
  let c0_i32_403 : BitVec 32 := 0#32
  let v656 : BitVec 1 := Scalar.cmpi .sgt v654 c0_i32_403
  let v657 : BitVec 32 := Scalar.extui v656
  let c0_i32_404 : BitVec 32 := 0#32
  let v658 : BitVec 1 := Scalar.cmpi .slt v654 c0_i32_404
  let v659 : BitVec 32 := Scalar.extui v658
  let v660 : BitVec 32 := Scalar.subi v657 v659
  let c64_i32_402 : BitVec 32 := 64#32
  let c0_i32_405 : BitVec 32 := 0#32
  let v661 : BitVec 1 := Scalar.cmpi .sgt c64_i32_402 c0_i32_405
  let v662 : BitVec 32 := Scalar.extui v661
  let c0_i32_406 : BitVec 32 := 0#32
  let v663 : BitVec 1 := Scalar.cmpi .slt c64_i32_402 c0_i32_406
  let v664 : BitVec 32 := Scalar.extui v663
  let v665 : BitVec 32 := Scalar.subi v662 v664
  let v666 : BitVec 1 := Scalar.cmpi .ne v660 v665
  let v667 : BitVec 32 := Scalar.remsi v654 c64_i32_402
  let c0_i32_407 : BitVec 32 := 0#32
  let v668 : BitVec 1 := Scalar.cmpi .ne v667 c0_i32_407
  let v669 : BitVec 1 := Scalar.andi v666 v668
  let v655 : BitVec 32 := Scalar.divsi v654 c64_i32_402
  let c1_i32_408 : BitVec 32 := 1#32
  let v670 : BitVec 32 := Scalar.subi v655 c1_i32_408
  let v671 : BitVec 32 := Scalar.select v669 v670 v655
  let v672 : BitVec 32 := Scalar.subi v671 c0_i32_409
  let c1_i32_411 : BitVec 32 := 1#32
  let v674 : BitVec 32 := Scalar.divsi v672 c1_i32_411
  let v675 : BitVec 32 := Scalar.muli v674 c1_i32_411
  let v676 : BitVec 32 := Scalar.addi c0_i32_409 v675
  let c1_i32_413 : BitVec 32 := 1#32
  let arg10 : BitVec 32 := Scf.iv v676 c1_i32_413 k0_t48
  let c64_i32_434 : BitVec 32 := 64#32
  let v740 : BitVec 32 := Scalar.muli arg10 c64_i32_434
  let c48_i32 : BitVec 32 := 48#32
  let v741 : BitVec 32 := Scalar.addi v740 c48_i32
  let v742 : Index := Scalar.indexCast v741
  ![v742.toNat]

def k0_chk136 (v649 : BitVec 32) : Prop :=
  ((k0_t47_loop v649).OK) ∧
  (∀ k0_t47 : Fin (k0_t47_loop v649).trips, ∀ a, (k0_off137 v649 k0_t47) a + S16.size a ≤ S4096.size a) ∧
  (∀ k0_t47 : Fin (k0_t47_loop v649).trips, ∀ a, (k0_off138 v649 k0_t47) a + S16.size a ≤ S4096.size a) ∧
  (∀ k0_t47 : Fin (k0_t47_loop v649).trips, ∀ a, (k0_off139 v649 k0_t47) a + S16.size a ≤ S4096.size a) ∧
  (∀ k0_t47 : Fin (k0_t47_loop v649).trips, ∀ a, (k0_off140 v649 k0_t47) a + S16.size a ≤ S4096.size a) ∧
  ((k0_t48_loop v649).OK) ∧
  (∀ k0_t48 : Fin (k0_t48_loop v649).trips, ∀ a, (k0_off141 v649 k0_t48) a + S16.size a ≤ S4096.size a) ∧
  (∀ k0_t48 : Fin (k0_t48_loop v649).trips, ∀ a, (k0_off142 v649 k0_t48) a + S16.size a ≤ S4096.size a) ∧
  (∀ k0_t48 : Fin (k0_t48_loop v649).trips, ∀ a, (k0_off143 v649 k0_t48) a + S16.size a ≤ S4096.size a) ∧
  (∀ k0_t48 : Fin (k0_t48_loop v649).trips, ∀ a, (k0_off144 v649 k0_t48) a + S16.size a ≤ S4096.size a)
theorem k0_t47_ok : ∀ (v649 : BitVec 32) (k0_hw136 : k0_chk136 v649), (k0_t47_loop v649).OK := fun v649 k0_hw136 => k0_hw136.1
theorem k0_off137_inb : ∀ (v649 : BitVec 32) (k0_hw136 : k0_chk136 v649) (k0_t47 : Fin (k0_t47_loop v649).trips), ∀ a, (k0_off137 v649 k0_t47) a + S16.size a ≤ S4096.size a := fun v649 k0_hw136 k0_t47 => k0_hw136.2.1 k0_t47
theorem k0_off138_inb : ∀ (v649 : BitVec 32) (k0_hw136 : k0_chk136 v649) (k0_t47 : Fin (k0_t47_loop v649).trips), ∀ a, (k0_off138 v649 k0_t47) a + S16.size a ≤ S4096.size a := fun v649 k0_hw136 k0_t47 => k0_hw136.2.2.1 k0_t47
theorem k0_off139_inb : ∀ (v649 : BitVec 32) (k0_hw136 : k0_chk136 v649) (k0_t47 : Fin (k0_t47_loop v649).trips), ∀ a, (k0_off139 v649 k0_t47) a + S16.size a ≤ S4096.size a := fun v649 k0_hw136 k0_t47 => k0_hw136.2.2.2.1 k0_t47
theorem k0_off140_inb : ∀ (v649 : BitVec 32) (k0_hw136 : k0_chk136 v649) (k0_t47 : Fin (k0_t47_loop v649).trips), ∀ a, (k0_off140 v649 k0_t47) a + S16.size a ≤ S4096.size a := fun v649 k0_hw136 k0_t47 => k0_hw136.2.2.2.2.1 k0_t47
theorem k0_t48_ok : ∀ (v649 : BitVec 32) (k0_hw136 : k0_chk136 v649), (k0_t48_loop v649).OK := fun v649 k0_hw136 => k0_hw136.2.2.2.2.2.1
theorem k0_off141_inb : ∀ (v649 : BitVec 32) (k0_hw136 : k0_chk136 v649) (k0_t48 : Fin (k0_t48_loop v649).trips), ∀ a, (k0_off141 v649 k0_t48) a + S16.size a ≤ S4096.size a := fun v649 k0_hw136 k0_t48 => k0_hw136.2.2.2.2.2.2.1 k0_t48
theorem k0_off142_inb : ∀ (v649 : BitVec 32) (k0_hw136 : k0_chk136 v649) (k0_t48 : Fin (k0_t48_loop v649).trips), ∀ a, (k0_off142 v649 k0_t48) a + S16.size a ≤ S4096.size a := fun v649 k0_hw136 k0_t48 => k0_hw136.2.2.2.2.2.2.2.1 k0_t48
theorem k0_off143_inb : ∀ (v649 : BitVec 32) (k0_hw136 : k0_chk136 v649) (k0_t48 : Fin (k0_t48_loop v649).trips), ∀ a, (k0_off143 v649 k0_t48) a + S16.size a ≤ S4096.size a := fun v649 k0_hw136 k0_t48 => k0_hw136.2.2.2.2.2.2.2.2.1 k0_t48
theorem k0_off144_inb : ∀ (v649 : BitVec 32) (k0_hw136 : k0_chk136 v649) (k0_t48 : Fin (k0_t48_loop v649).trips), ∀ a, (k0_off144 v649 k0_t48) a + S16.size a ≤ S4096.size a := fun v649 k0_hw136 k0_t48 => k0_hw136.2.2.2.2.2.2.2.2.2 k0_t48

def k0_chk144 (v679 : IVec S16 32) (v759 : IVec S16 32) : Prop :=
  (∀ a x, ((![v679, v759] : Fin 2 → IVec S16 32) a x).toNat < S16x6272.size a)
theorem k0_idx128_inb : ∀ (v679 : IVec S16 32) (v759 : IVec S16 32) (k0_hw144 : k0_chk144 v679 v759), ∀ a x, ((![v679, v759] : Fin 2 → IVec S16 32) a x).toNat < S16x6272.size a := fun v679 v759 k0_hw144 => k0_hw144
def k0_off145 (i : grid0.Coords) : Fin 2 → Nat :=
  let c0_i32_414_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6272_i32 : BitVec 32 := 6272#32
  let v2 : BitVec 32 := Scalar.muli v1 c6272_i32
  ![0, v2.toNat]
abbrev grid1 : Pipeline.Grid := ⟨1, ![98], ![false]⟩

def k1_cond2 (i : grid1.Coords) : BitVec 1 :=
  let arg0 : BitVec 32 := BitVec.ofNat 32 (i 0).val
  let c97_i32 : BitVec 32 := 97#32
  let v12 : BitVec 1 := Scalar.cmpi .eq arg0 c97_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S16x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1000x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096 : Shape := ⟨2, ![16, 4096]⟩
abbrev S16 : Shape := ⟨1, ![16]⟩
abbrev S200019x1000 : Shape := ⟨2, ![200019, 1000]⟩
abbrev S1000 : Shape := ⟨1, ![1000]⟩
abbrev S1000x1 : Shape := ⟨2, ![1000, 1]⟩
abbrev S1 : Shape := ⟨1, ![1]⟩
abbrev S_ : Shape := ⟨0, ![]⟩
abbrev S16x4096x1 : Shape := ⟨3, ![16, 4096, 1]⟩
abbrev S1x1x1 : Shape := ⟨3, ![1, 1, 1]⟩
abbrev S16x4096x1000 : Shape := ⟨3, ![16, 4096, 1000]⟩
abbrev S4096 : Shape := ⟨1, ![4096]⟩
abbrev S1x4096 : Shape := ⟨2, ![1, 4096]⟩
abbrev S16x1 : Shape := ⟨2, ![16, 1]⟩
abbrev S16x1000 : Shape := ⟨2, ![16, 1000]⟩
abbrev S1x1000 : Shape := ⟨2, ![1, 1000]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S16x4096, .i32⟩
  | .hbm, ⟨1, _⟩ => ⟨S16, .i32⟩
  | .hbm, ⟨2, _⟩ => ⟨S200019x1000, .f32⟩
  | .hbm, ⟨3, _⟩ => ⟨S1000, .f32⟩
  | .hbm, ⟨4, _⟩ => ⟨S1000, .f32⟩
  | .hbm, ⟨5, _⟩ => ⟨S1000x1, .f32⟩
  | .hbm, ⟨6, _⟩ => ⟨S1, .f32⟩
  | .hbm, ⟨7, _⟩ => ⟨S_, .i32⟩
  | .hbm, ⟨8, _⟩ => ⟨S16x4096, .i32⟩
  | .hbm, ⟨9, _⟩ => ⟨S16x4096, .i1⟩
  | .hbm, ⟨10, _⟩ => ⟨S_, .i32⟩
  | .hbm, ⟨11, _⟩ => ⟨S16x4096, .i32⟩
  | .hbm, ⟨12, _⟩ => ⟨S16x4096, .i32⟩
  | .hbm, ⟨13, _⟩ => ⟨S16x4096, .i32⟩
  | .hbm, ⟨14, _⟩ => ⟨S16x4096x1, .i32⟩
  | .hbm, ⟨15, _⟩ => ⟨S1, .i32⟩
  | .hbm, ⟨16, _⟩ => ⟨S_, .i32⟩
  | .hbm, ⟨17, _⟩ => ⟨S16x4096x1, .i32⟩
  | .hbm, ⟨18, _⟩ => ⟨S16x4096x1, .i1⟩
  | .hbm, ⟨19, _⟩ => ⟨S1x1x1, .i32⟩
  | .hbm, ⟨20, _⟩ => ⟨S16x4096x1, .i32⟩
  | .hbm, ⟨21, _⟩ => ⟨S16x4096x1, .i1⟩
  | .hbm, ⟨22, _⟩ => ⟨S16x4096x1, .i1⟩
  | .hbm, ⟨23, _⟩ => ⟨S_, .i1⟩
  | .hbm, ⟨24, _⟩ => ⟨S16x4096, .i1⟩
  | .hbm, ⟨25, _⟩ => ⟨S16x4096x1000, .f32⟩
  | .hbm, ⟨26, _⟩ => ⟨S16x4096x1000, .i1⟩
  | .hbm, ⟨27, _⟩ => ⟨S_, .f32⟩
  | .hbm, ⟨28, _⟩ => ⟨S16x4096x1000, .f32⟩
  | .hbm, ⟨29, _⟩ => ⟨S16x4096x1000, .f32⟩
  | .hbm, ⟨30, _⟩ => ⟨S4096, .i32⟩
  | .hbm, ⟨31, _⟩ => ⟨S1x4096, .i32⟩
  | .hbm, ⟨32, _⟩ => ⟨S16x1, .i32⟩
  | .hbm, ⟨33, _⟩ => ⟨S16x4096, .i32⟩
  | .hbm, ⟨34, _⟩ => ⟨S16x4096, .i32⟩
  | .hbm, ⟨35, _⟩ => ⟨S16x4096, .i1⟩
  | .hbm, ⟨36, _⟩ => ⟨S16x4096, .f32⟩
  | .hbm, ⟨37, _⟩ => ⟨S16x4096x1, .f32⟩
  | .hbm, ⟨38, _⟩ => ⟨S16x4096x1000, .f32⟩
  | .hbm, ⟨39, _⟩ => ⟨S16x4096x1000, .f32⟩
  | .hbm, ⟨40, _⟩ => ⟨S_, .f32⟩
  | .hbm, ⟨41, _⟩ => ⟨S16x1000, .f32⟩
  | .hbm, ⟨42, _⟩ => ⟨S16x1, .i32⟩
  | .hbm, ⟨43, _⟩ => ⟨S16x1, .f32⟩
  | .hbm, ⟨44, _⟩ => ⟨S16x1000, .f32⟩
  | .hbm, ⟨45, _⟩ => ⟨S16x1000, .f32⟩
  | .hbm, ⟨46, _⟩ => ⟨S_, .f32⟩
  | .hbm, ⟨47, _⟩ => ⟨S16, .f32⟩
  | .hbm, ⟨48, _⟩ => ⟨S16x1, .f32⟩
  | .hbm, ⟨49, _⟩ => ⟨S_, .f32⟩
  | .hbm, ⟨50, _⟩ => ⟨S16x1, .f32⟩
  | .hbm, ⟨51, _⟩ => ⟨S16x1, .f32⟩
  | .hbm, ⟨52, _⟩ => ⟨S16x1000, .f32⟩
  | .hbm, ⟨53, _⟩ => ⟨S16x1000, .f32⟩
  | .hbm, ⟨54, _⟩ => ⟨S16x1000, .f32⟩
  | .hbm, ⟨55, _⟩ => ⟨S_, .f32⟩
  | .hbm, ⟨56, _⟩ => ⟨S16, .f32⟩
  | .hbm, ⟨57, _⟩ => ⟨S16x1, .f32⟩
  | .hbm, ⟨58, _⟩ => ⟨S_, .f32⟩
  | .hbm, ⟨59, _⟩ => ⟨S16x1, .f32⟩
  | .hbm, ⟨60, _⟩ => ⟨S16x1, .f32⟩
  | .hbm, ⟨61, _⟩ => ⟨S16x1000, .f32⟩
  | .hbm, ⟨62, _⟩ => ⟨S16x1000, .f32⟩
  | .hbm, ⟨63, _⟩ => ⟨S_, .f32⟩
  | .hbm, ⟨64, _⟩ => ⟨S16x1, .f32⟩
  | .hbm, ⟨65, _⟩ => ⟨S16x1, .f32⟩
  | .hbm, ⟨66, _⟩ => ⟨S16x1, .f32⟩
  | .hbm, ⟨67, _⟩ => ⟨S16x1000, .f32⟩
  | .hbm, ⟨68, _⟩ => ⟨S16x1000, .f32⟩
  | .hbm, ⟨69, _⟩ => ⟨S1x1000, .f32⟩
  | .hbm, ⟨70, _⟩ => ⟨S16x1000, .f32⟩
  | .hbm, ⟨71, _⟩ => ⟨S16x1000, .f32⟩
  | .hbm, ⟨72, _⟩ => ⟨S1x1000, .f32⟩
  | .hbm, ⟨73, _⟩ => ⟨S16x1000, .f32⟩
  | .hbm, ⟨74, _⟩ => ⟨S16x1000, .f32⟩
  | .hbm, ⟨75, _⟩ => ⟨S16x1, .f32⟩
  | .hbm, ⟨76, _⟩ => ⟨S1x1, .f32⟩
  | .hbm, ⟨77, _⟩ => ⟨S16x1, .f32⟩
  | .hbm, ⟨78, _⟩ => ⟨S16x1, .f32⟩
  | .hbm, ⟨79, _⟩ => ⟨S16x1, .f32⟩
  | .hbm, ⟨80, _⟩ => ⟨S16x1, .f32⟩
  | .hbm, ⟨81, _⟩ => ⟨S_, .f32⟩
  | .hbm, ⟨82, _⟩ => ⟨S16x1, .f32⟩
  | .hbm, ⟨83, _⟩ => ⟨S16x1, .f32⟩
  | .hbm, ⟨84, _⟩ => ⟨S_, .f32⟩
  | .hbm, ⟨85, _⟩ => ⟨S16x1, .f32⟩
  | .hbm, ⟨86, _⟩ => ⟨S16x1, .f32⟩
  | .hbm, ⟨87, _⟩ => ⟨S16, .f32⟩
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_0 : Ref sig .tc := ⟨.hbm, 46, rfl⟩
abbrev main_v16 : Ref sig .tc := ⟨.hbm, 47, rfl⟩
abbrev main_v17 : Ref sig .tc := ⟨.hbm, 48, rfl⟩
abbrev main_cst_1 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_2 : Ref sig .tc := ⟨.hbm, 55, rfl⟩
abbrev main_v23 : Ref sig .tc := ⟨.hbm, 56, rfl⟩
abbrev main_v24 : Ref sig .tc := ⟨.hbm, 57, rfl⟩
abbrev main_cst_3 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_4 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_5 : Ref sig .tc := ⟨.hbm, 81, rfl⟩
abbrev main_v46 : Ref sig .tc := ⟨.hbm, 82, rfl⟩
abbrev main_v47 : Ref sig .tc := ⟨.hbm, 83, rfl⟩
abbrev main_cst_6 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩

abbrev nD : Nat := 1
abbrev τ : Topo := Topo.v7x

variable {F : FTy → Type} [FloatOps F]
-- ==== Proof.Ranges.lean ====
/- What the precondition says of the tokens and of the sequence lengths. -/
module

public import proofs.«01_k».proof.Pre_in_range
public import proofs.«01_k».proof.Proof.Gen.Pre_in_range
public import Idealize.ShloMosaic.Lib.ReduceAll
public import Idealize.ShloMosaic.Lib.Pointwise.Index

@[expose] public section

noncomputable section

namespace Cert.Ranges

open Idealize.ShloMosaic Cert.Pre_in_range Cert.Pre_in_range.Gen

variable {F : FTy → Type} [FloatOps F]

/-- Every token names an entry of the table, and every length is between 1 and 4096. -/
theorem of_pre (x : IVec S16x4096 32) (n : IVec S16 32) (a2 : FVec F S200019x1000 .f32) (a3 a4 : FVec F S1000 .f32) (a5 : FVec F S1000x1 .f32) (a6 : FVec F S1 .f32)
    (h : (Cert.Pre_in_range.fn (F := F) x n a2 a3 a4 a5 a6) = (fun _ => 1#1)) :
    (∀ i, 0 ≤ (x i).toInt ∧ (x i).toInt < 200019) ∧ ∀ b, 1 ≤ (n b).toInt ∧ (n b).toInt ≤ 4096 := by
  have e := congrFun h (Shape.Idx.first h_S_)
  dsimp only [Cert.Pre_in_range.fn] at e
  obtain ⟨e1, e2⟩ := IntOp.andi_eq_one.1 e
  refine ⟨fun i => ?_, fun b => ?_⟩
  · obtain ⟨a, b⟩ := IntOp.andi_eq_one.1 (Host.reduce_andi_all _ _ _ _ _ e1 i)
    exact ⟨IntOp.cmpi_sge.1 a, IntOp.cmpi_slt.1 b⟩
  · obtain ⟨a, c⟩ := IntOp.andi_eq_one.1 (Host.reduce_andi_all _ _ _ _ _ e2 b)
    exact ⟨IntOp.cmpi_sge.1 a, IntOp.cmpi_sle.1 c⟩

end Cert.Ranges
end
-- ==== Proof.Ideal.Tile.lean ====
/- The SparseCore kernel's body as one program over a symbolic batch row. The printed body is cut into parts and
   names one loop, one offset and one check per row; here the same steps are written once for a row `b`, and
   `body_eq` says that the printed body is that program. -/
module

public import proofs.«01_k».proof.Proof.Gen.KernelIdeal
public import proofs.«01_k».proof.Proof.Gen.KernelIdeal.Skeleton

@[expose] public section

noncomputable section

namespace Cert.KernelIdeal.Tile

open Idealize.ShloMosaic Idealize.SL.Sem Cert.KernelIdeal.Gen

variable {F : FTy → Type} [FloatOps F]

/-- A program of the tile at mesh coordinates `i`. -/
abbrev TProg (F : FTy → Type) [FloatOps F] (i : grid0.Coords) : Type → Type _ :=
  Prog (TpuEff nD τ sig (Elt F) Λ₀ (.scVector ((i 0).castLE hcore0) ((i 1).castLE hsub0)))

/-- The lane numbers 0 … 15. -/
abbrev lanes : IVec S16 32 := iota .scVector S16 32 [0] iota_S16_d0_w32_scVector

/-- The first vocabulary entry of the tile at `i`. -/
def firstOf (i : grid0.Coords) : BitVec 32 :=
  Scalar.muli (Scalar.addi (Scalar.muli (BitVec.ofNat 32 (i 1).val) 2#32) (BitVec.ofNat 32 (i 0).val)) 6272#32

/-- The sequence length of row `b`: lane `b` of the lengths, taken out by a masked sum. -/
def lenOf (b : ℕ) (lens : Vec F S16 .i32) : BitVec 32 :=
  extractAt (s := S16) ![15] (scan .sum (select (cmpi .eq lanes (broadcast S16 (BitVec.ofNat 32 b))) lens (broadcast S16 0#32) : IVec S16 32)) inpos_S16_p15

/-- The lanes of a group of sixteen tokens that start at position `base` which count: the token lies in the tile's
    range of the vocabulary and its position in the sequence. -/
def laneMask (v2 nb base : BitVec 32) (xv : Vec F S16 .i32) : IVec S16 1 :=
  andi (andi (cmpi .sge (subi xv (broadcast S16 v2)) (broadcast S16 0#32)) (cmpi .slt (subi xv (broadcast S16 v2)) (broadcast S16 6272#32)))
    (cmpi .slt (addi (broadcast S16 base) lanes) (broadcast S16 nb))

/-- The column each lane adds to: its token's place in the tile's range where the lane counts, else column 0. -/
def laneCol (v2 nb base : BitVec 32) (xv : Vec F S16 .i32) : IVec S16 32 :=
  select (laneMask (F := F) v2 nb base xv) (subi xv (broadcast S16 v2)) (broadcast S16 0#32)

/-- The offset of sixteen zeroes of row `b`. -/
def zoff (b : ℕ) (t : Fin k0_t1_loop.trips) (c : BitVec 32) : Fin 2 → ℕ := ![b, k0_off1 t c 1]

theorem zoff_inb {b : ℕ} (hb : b < 16) (t : Fin k0_t1_loop.trips) (r : Fin 8) :
    ∀ a, zoff b t (BitVec.ofNat 32 (16 * r.val)) a + S1x16.size a ≤ S16x6272.size a := by
  intro a
  match a with
  | 0 => exact hb
  | 1 => exact k0_off1_inb t r 1

theorem row_inb {b : ℕ} (hb : b < 16) : ∀ a, (![b, 0] : Fin 2 → ℕ) a + S1x4096.size a ≤ S16x4096.size a := by
  intro a
  match a with
  | 0 => exact hb
  | 1 => exact Nat.le_refl _

section
variable (i : grid0.Coords)

/-- Sixteen zeroes into the tile's counts. -/
def zeroAt (tile : Memref sig .scVector .vmem S16x6272 .f32) (off : Fin 2 → ℕ) (h : ∀ a, off a + S1x16.size a ≤ S16x6272.size a) : TProg F i PUnit.{1} := do
  let _ : Vec F S1x16 .f32 ← Prog.lift (.load tile (Rect.unit (s := S16x6272) off S1x16.size h).toLoadRect (View.loadsAt_vmem h_S1x16))
  Prog.lift (.store tile (Rect.unit (s := S16x6272) off S1x16.size h) (shapeCast S1x16 (k0_pay385 (F := F)) shapeCasts_S16_S1x16) Finset.univ (View.stores_vmem_bits_univ h_S1x16 rfl) (.inl rfl))

/-- One trip of the loop that clears row `b`. -/
def zeroTrip (tile : Memref sig .scVector .vmem S16x6272 .f32) (b : ℕ) (hb : b < 16) (t : Fin k0_t1_loop.trips) (_ : BitVec 32) : TProg F i (BitVec 32) := do
  zeroAt i tile (zoff b t 0#32) (zoff_inb hb t 0)
  zeroAt i tile (zoff b t 16#32) (zoff_inb hb t 1)
  zeroAt i tile (zoff b t 32#32) (zoff_inb hb t 2)
  zeroAt i tile (zoff b t 48#32) (zoff_inb hb t 3)
  zeroAt i tile (zoff b t 64#32) (zoff_inb hb t 4)
  zeroAt i tile (zoff b t 80#32) (zoff_inb hb t 5)
  zeroAt i tile (zoff b t 96#32) (zoff_inb hb t 6)
  zeroAt i tile (zoff b t 112#32) (zoff_inb hb t 7)
  pure 0#32

/-- The rows from `b` on cleared, then `k`. -/
def zeroRows {α : Type} (tile : Memref sig .scVector .vmem S16x6272 .f32) (k : TProg F i α) : (r b : ℕ) → b + r = 16 → TProg F i α
  | 0, _, _ => k
  | r + 1, b, h =>
    Scf.Loop.for k0_t1_loop k0_t1_ok 0#32 (zeroTrip i tile b (by omega)) >>= fun _ => zeroRows tile k r (b + 1) (by omega)

/-- Sixteen tokens of the staged row `buf`, at offset `off`, counted into row `b` of the tile's counts. -/
def count (buf : Memref sig .scVector .vmem S4096 .i32) (tile : Memref sig .scVector .vmem S16x6272 .f32) (b : ℕ) (v2 nb base : BitVec 32)
    (off : Fin 1 → ℕ) (h : ∀ a, off a + S16.size a ≤ S4096.size a) : TProg F i PUnit.{1} := do
  let xv : Vec F S16 .i32 ← Prog.lift (.load buf (Rect.unit (s := S4096) off S16.size h).toLoadRect (View.loadsAt_vmem h_S16))
  have hw : k0_chk2 (broadcast S16 (BitVec.ofNat 32 b)) (laneCol (F := F) v2 nb base xv) :=
    (← Prog.lift (TpuEff.assume (k0_chk2 (broadcast S16 (BitVec.ofNat 32 b)) (laneCol (F := F) v2 nb base xv)) (k0_chk2.dec _ _))).down
  SparseCore.vectorStoreIdx tile ![broadcast S16 (BitVec.ofNat 32 b), laneCol (F := F) v2 nb base xv] (k0_pay386 (F := F))
    (laneMask (F := F) v2 nb base xv) true (k0_idx1_inb _ _ hw) (View.stores_vmem_bits_univ h_S16x6272 rfl)

/-- One trip of the loop over the tokens of row `b`: sixty-four of them. -/
def rowTrip (buf : Memref sig .scVector .vmem S4096 .i32) (tile : Memref sig .scVector .vmem S16x6272 .f32) (b : ℕ) (nb : BitVec 32) (hw : k0_chk1 nb)
    (t : Fin (k0_t17_loop nb).trips) (_ : BitVec 32) : TProg F i (BitVec 32) := do
  count i buf tile b (firstOf i) nb (Scalar.addi (Scalar.muli (Scf.iv 0#32 1#32 t) 64#32) 0#32) (k0_off17 nb t) (k0_off17_inb nb hw t)
  count i buf tile b (firstOf i) nb (Scalar.addi (Scalar.muli (Scf.iv 0#32 1#32 t) 64#32) 16#32) (k0_off18 nb t) (k0_off18_inb nb hw t)
  count i buf tile b (firstOf i) nb (Scalar.addi (Scalar.muli (Scf.iv 0#32 1#32 t) 64#32) 32#32) (k0_off19 nb t) (k0_off19_inb nb hw t)
  count i buf tile b (firstOf i) nb (Scalar.addi (Scalar.muli (Scf.iv 0#32 1#32 t) 64#32) 48#32) (k0_off20 nb t) (k0_off20_inb nb hw t)
  pure 0#32

/-- One trip of the printed loop's remainder, which runs no trip. -/
def restTrip (buf : Memref sig .scVector .vmem S4096 .i32) (tile : Memref sig .scVector .vmem S16x6272 .f32) (b : ℕ) (nb : BitVec 32) (hw : k0_chk1 nb)
    (t : Fin (k0_t18_loop nb).trips) (_ : BitVec 32) : TProg F i (BitVec 32) := do
  count i buf tile b (firstOf i) nb (Scalar.addi (Scalar.muli (Scf.iv (k0_t18_loop nb).lb 1#32 t) 64#32) 0#32) (k0_off21 nb t) (k0_off21_inb nb hw t)
  count i buf tile b (firstOf i) nb (Scalar.addi (Scalar.muli (Scf.iv (k0_t18_loop nb).lb 1#32 t) 64#32) 16#32) (k0_off22 nb t) (k0_off22_inb nb hw t)
  count i buf tile b (firstOf i) nb (Scalar.addi (Scalar.muli (Scf.iv (k0_t18_loop nb).lb 1#32 t) 64#32) 32#32) (k0_off23 nb t) (k0_off23_inb nb hw t)
  count i buf tile b (firstOf i) nb (Scalar.addi (Scalar.muli (Scf.iv (k0_t18_loop nb).lb 1#32 t) 64#32) 48#32) (k0_off24 nb t) (k0_off24_inb nb hw t)
  pure 0#32

/-- Row `b` of the tokens. -/
abbrev rowOf (X : Memref sig .scVector .hbm S16x4096 .i32) (b : ℕ) (hb : b < 16) : Memref sig .scVector .hbm S4096 .i32 :=
  (X.slice (Rect.unit (s := S16x4096) ![b, 0] S1x4096.size (row_inb hb)) (fun _ => rfl)).squeeze S4096 squeezes_S1x4096_S4096

/-- The copy of row `b` into `buf` put on its way. -/
def issue (X : Memref sig .scVector .hbm S16x4096 .i32) (sem : DmaSems sig S_) (b : ℕ) (hb : b < 16)
    (buf : Memref sig .scVector .vmem S4096 .i32) (hbuf : buf.IsWhole) : TProg F i PUnit.{1} :=
  Prog.lift (.enqueueDma (rowOf X b hb) (.here buf) (.dma sem.sem) ((View.wordExact_bits rfl).reshape _ _) hbuf.wordExact ⟨Or.inl rfl, trivial⟩)

/-- The copy of the row after `b` put on its way, when there is one. -/
def issueNext (X : Memref sig .scVector .hbm S16x4096 .i32) (sem : DmaSems sig S_) (buf : Memref sig .scVector .vmem S4096 .i32) (hbuf : buf.IsWhole) :
    (r b : ℕ) → b + (r + 1) = 16 → TProg F i PUnit.{1}
  | 0, _, _ => pure ⟨⟩
  | _ + 1, b, h => issue i X sem (b + 1) (by omega) buf hbuf

/-- The rows from `b` on, row `b` on its way into `cur`, then `k`. -/
def countRows {α : Type} (X : Memref sig .scVector .hbm S16x4096 .i32) (sem : DmaSems sig S_) (tile : Memref sig .scVector .vmem S16x6272 .f32)
    (lens : Vec F S16 .i32) (k : TProg F i α) :
    (r b : ℕ) → b + r = 16 → (cur : Memref sig .scVector .vmem S4096 .i32) → cur.IsWhole → (next : Memref sig .scVector .vmem S4096 .i32) → next.IsWhole → TProg F i α
  | 0, _, _, _, _, _, _ => k
  | r + 1, b, h, cur, hcur, next, hnext => do
    have hw : k0_chk1 (lenOf b lens) := (← Prog.lift (TpuEff.assume (k0_chk1 (lenOf b lens)) (k0_chk1.dec (lenOf b lens)))).down
    Prog.lift (.waitDma2 sem.sem (rowOf X b (by omega)) cur ((View.wordExact_bits rfl).reshape _ _) hcur.wordExact)
    issueNext i X sem next hnext r b h
    Scf.Loop.for (k0_t17_loop (lenOf b lens)) (k0_t17_ok (lenOf b lens) hw) 0#32 (rowTrip i cur tile b (lenOf b lens) hw) >>= fun w =>
      Scf.Loop.for (k0_t18_loop (lenOf b lens)) (k0_t18_ok (lenOf b lens) hw) w (restTrip i cur tile b (lenOf b lens) hw) >>= fun _ =>
        countRows X sem tile lens k r (b + 1) (by omega) next hnext cur hcur

/-- The tile's counts copied to its columns of the result. -/
def copyOut (C : Memref sig .scVector .hbm S16x200704 .f32) (tile : Memref sig .scVector .vmem S16x6272 .f32) (htile : tile.IsWhole) (r1 : DmaSems sig S_) : TProg F i PUnit.{1} := do
  Prog.lift (.enqueueDma tile (.here (C.slice (Rect.unit (s := S16x200704) (k0_off145 i) S16x6272.size (k0_off145_inb i)) (fun _ => rfl))) (.dma r1.sem)
    htile.wordExact (View.wordExact_bits rfl) ⟨Or.inl rfl, trivial⟩)
  Prog.lift (.waitDma2 r1.sem tile (C.slice (Rect.unit (s := S16x200704) (k0_off145 i) S16x6272.size (k0_off145_inb i)) (fun _ => rfl)) htile.wordExact (View.wordExact_bits rfl))
  pure ⟨⟩

/-- The whole body. -/
def body (X : Memref sig .scVector .hbm S16x4096 .i32) (N : Memref sig .scVector .hbm S16 .i32) (hN : N.IsWhole) (C : Memref sig .scVector .hbm S16x200704 .f32)
    (nbuf : Memref sig .scVector .vmem S16 .i32) (hnbuf : nbuf.IsWhole) (xa : Memref sig .scVector .vmem S4096 .i32) (hxa : xa.IsWhole)
    (xb : Memref sig .scVector .vmem S4096 .i32) (hxb : xb.IsWhole) (tile : Memref sig .scVector .vmem S16x6272 .f32) (htile : tile.IsWhole)
    (sem r0 r1 : DmaSems sig S_) : TProg F i PUnit.{1} :=
  zeroRows i tile (do
    Prog.lift (.enqueueDma N (.here nbuf) (.dma r0.sem) hN.wordExact hnbuf.wordExact ⟨Or.inl rfl, trivial⟩)
    Prog.lift (.waitDma2 r0.sem N nbuf hN.wordExact hnbuf.wordExact)
    let lens : Vec F S16 .i32 ← Prog.lift (.load nbuf (Rect.unit (s := S16) ![0] S16.size inb_S16_S16_0).toLoadRect (View.loadsAt_vmem h_S16))
    issue i X sem 0 (by omega) xa hxa
    countRows i X sem tile lens (copyOut i C tile htile r1) 16 0 rfl xa hxa xb hxb) 16 0 rfl

end

set_option maxRecDepth 65536 in
set_option maxHeartbeats 1600000 in
/-- The printed body is `body`. -/
theorem body_eq (i : grid0.Coords) (X : Memref sig .scVector .hbm S16x4096 .i32) (hX : X.IsWhole) (N : Memref sig .scVector .hbm S16 .i32) (hN : N.IsWhole)
    (C : Memref sig .scVector .hbm S16x200704 .f32) (hC : C.IsWhole)
    (nbuf : Memref sig .scVector .vmem S16 .i32) (hnbuf : nbuf.IsWhole) (xa : Memref sig .scVector .vmem S4096 .i32) (hxa : xa.IsWhole)
    (xb : Memref sig .scVector .vmem S4096 .i32) (hxb : xb.IsWhole) (tile : Memref sig .scVector .vmem S16x6272 .f32) (htile : tile.IsWhole)
    (sem r0 r1 : DmaSems sig S_) :
    cc0__sc_hist_kernel (F := F) i X hX N hN C hC nbuf hnbuf xa hxa xb hxb tile htile sem r0 r1
      = body i X N hN C nbuf hnbuf xa hxa xb hxb tile htile sem r0 r1 := by
  rw [cc0__sc_hist_kernel_eq_skeleton]
  simp only [cc0__sc_hist_kernel_skel, k0_part81_eq_skeleton, k0_part81_skel, k0_part82_eq_skeleton, k0_part82_skel, k0_part83_eq_skeleton, k0_part83_skel,
    k0_part84_eq_skeleton, k0_part84_skel, k0_part85_eq_skeleton, k0_part85_skel, k0_part86_eq_skeleton, k0_part86_skel, k0_part87_eq_skeleton, k0_part87_skel,
    k0_part88_eq_skeleton, k0_part88_skel, k0_part89_eq_skeleton, k0_part89_skel, k0_part90_eq_skeleton, k0_part90_skel, k0_part91_eq_skeleton, k0_part91_skel,
    k0_part92_eq_skeleton, k0_part92_skel, k0_part93_eq_skeleton, k0_part93_skel, k0_part94_eq_skeleton, k0_part94_skel, k0_part95_eq_skeleton, k0_part95_skel,
    k0_part96_eq_skeleton, k0_part96_skel, k0_part97_eq_skeleton, k0_part97_skel, k0_part98_eq_skeleton, k0_part98_skel, k0_part99_eq_skeleton, k0_part99_skel,
    bind_assoc, pure_bind]
  rfl

end Cert.KernelIdeal.Tile
end
-- ==== Proof.Ideal.Nums.lean ====
/- The words of the SparseCore kernel's body: how many trips a row's loop makes, where its groups of tokens start,
   and that the checks the body makes hold. -/
module

public import proofs.«01_k».proof.Proof.Ideal.Tile
public import Idealize.ShloMosaic.Lib.LoopRemainder

@[expose] public section

noncomputable section

namespace Cert.KernelIdeal.Tile

open Idealize.ShloMosaic Idealize.SL.Sem Cert.KernelIdeal.Gen

/-- A sequence length as the kernel gets it: between 1 and 4096. -/
def LenOK (nb : BitVec 32) : Prop := 1 ≤ nb.toInt ∧ nb.toInt ≤ 4096

theorem LenOK.isInt {nb : BitVec 32} (_h : LenOK nb) : Affine.IsInt nb nb.toInt := Affine.word nb

/-- The upper bound of the loop over the groups of sixty-four tokens. -/
theorem ub17 {nb : BitVec 32} (h : LenOK nb) : (k0_t17_loop nb).ub.toInt = (nb.toInt + 63) / 64 := by
  obtain ⟨h1, h2⟩ := h
  have hn : Affine.IsInt nb nb.toInt := Affine.word nb
  have i0 : Affine.IsInt 0#32 0 := Affine.ofNat 0 ⟨rfl, by decide⟩
  have i1 : Affine.IsInt 1#32 1 := Affine.ofNat 1 ⟨rfl, by decide⟩
  have i63 : Affine.IsInt 63#32 63 := Affine.ofNat 63 ⟨rfl, by decide⟩
  have i64 : Affine.IsInt 64#32 64 := Affine.ofNat 64 ⟨rfl, by decide⟩
  have h58 := Affine.addi hn i63 (e := nb.toInt + 63) ⟨rfl, by omega, by omega⟩
  have h64 := Affine.subi (Affine.extui_holds (Affine.sgt_holds h58 i0 (by omega)) rfl) (Affine.extui_fails (Affine.slt_fails h58 i0 (by omega)) rfl)
    (e := 1) ⟨rfl, by decide, by decide⟩
  have h69 := Affine.subi (Affine.extui_holds (Affine.sgt_holds i64 i0 (by decide)) rfl) (Affine.extui_fails (Affine.slt_fails i64 i0 (by decide)) rfl)
    (e := 1) ⟨rfl, by decide, by decide⟩
  have h59 := Affine.divsi h58 i64 (e := (nb.toInt + 63) / 64) ⟨rfl, by omega, by decide⟩
  have h74 := Affine.subi h59 i1 (e := (nb.toInt + 63) / 64 - 1) ⟨rfl, by omega, by omega⟩
  have h71 := Affine.remsi h58 i64 (e := (nb.toInt + 63) % 64) ⟨rfl, by omega, by decide⟩
  have h75 := Affine.select_fails (Affine.andi_fails_left (Affine.ne_fails h64 h69 rfl) (Affine.cmpi_term .ne h71 i0)) h74 h59 rfl
  have h76 := Affine.subi h75 i0 (e := (nb.toInt + 63) / 64) ⟨by omega, by omega, by omega⟩
  have h78 := Affine.divsi_one h76 i1 (e := (nb.toInt + 63) / 64) ⟨rfl, rfl⟩
  have h79 := Affine.muli h78 i1 (e := (nb.toInt + 63) / 64) ⟨by omega, by omega, by omega⟩
  have h80 := Affine.addi i0 h79 (e := (nb.toInt + 63) / 64) ⟨by omega, by omega, by omega⟩
  unfold Affine.IsInt at h80
  exact h80

/-- The number of groups of sixty-four tokens that row's loop runs over. -/
theorem trips17 {nb : BitVec 32} (h : LenOK nb) : (k0_t17_loop nb).trips = (nb.toInt.toNat + 63) / 64 := by
  have hu := ub17 h
  obtain ⟨h1, h2⟩ := h
  show ((( k0_t17_loop nb).ub.toInt - (0#32 : BitVec 32).toInt + (1#32 : BitVec 32).toInt - 1) / (1#32 : BitVec 32).toInt).toNat = _
  rw [hu, show (0#32 : BitVec 32).toInt = 0 by decide, show (1#32 : BitVec 32).toInt = 1 by decide]
  omega

theorem trips17_le {nb : BitVec 32} (h : LenOK nb) : (k0_t17_loop nb).trips ≤ 64 := by
  rw [trips17 h]; obtain ⟨h1, h2⟩ := h; omega

theorem trips18 (nb : BitVec 32) : (k0_t18_loop nb).trips = 0 := Scf.rem_trips _ _

/-- Where group `u` of trip `t` starts. -/
theorem at_word (t u : ℕ) (ht : t < 64) (hu : u < 64) :
    (Scalar.addi (Scalar.muli (Scf.iv 0#32 1#32 t) 64#32) (BitVec.ofNat 32 u)) = BitVec.ofNat 32 (64 * t + u) := by
  apply BitVec.eq_of_toNat_eq
  simp only [Scalar.addi, Scalar.muli, IntOp.addi, IntOp.muli, Scf.iv, BitVec.toNat_add, BitVec.toNat_mul, BitVec.toNat_ofNat]
  omega

theorem off_word (t u : ℕ) (ht : t < 64) (hu : u < 64) :
    (Scalar.indexCast (Scalar.addi (Scalar.muli (Scf.iv 0#32 1#32 t) 64#32) (BitVec.ofNat 32 u))).toNat = 64 * t + u := by
  rw [at_word t u ht hu]
  show (BitVec.ofNat 32 (64 * t + u)).toNat = _
  rw [BitVec.toNat_ofNat]; omega

section
variable {nb : BitVec 32} (h : LenOK nb) (t : Fin (k0_t17_loop nb).trips)
include h

theorem lt64 : t.val < 64 := lt_of_lt_of_le t.isLt (trips17_le h)

theorem off17 : k0_off17 nb t = ![64 * t.val + 0] := congrArg (fun n => ![n]) (off_word t 0 (lt64 h t) (by decide))
theorem off18 : k0_off18 nb t = ![64 * t.val + 16] := congrArg (fun n => ![n]) (off_word t 16 (lt64 h t) (by decide))
theorem off19 : k0_off19 nb t = ![64 * t.val + 32] := congrArg (fun n => ![n]) (off_word t 32 (lt64 h t) (by decide))
theorem off20 : k0_off20 nb t = ![64 * t.val + 48] := congrArg (fun n => ![n]) (off_word t 48 (lt64 h t) (by decide))

end

theorem no_trip18 (nb : BitVec 32) (t : Fin (k0_t18_loop nb).trips) : False := Nat.not_lt_zero t.val (lt_of_lt_of_eq t.isLt (trips18 nb))

/-- The check on a row's length. -/
theorem chk1_of {nb : BitVec 32} (h : LenOK nb) : k0_chk1 nb := by
  have inb : ∀ (t : Fin (k0_t17_loop nb).trips) (u : ℕ), u + 16 ≤ 64 → ∀ a, (![64 * t.val + u] : Fin 1 → ℕ) a + S16.size a ≤ S4096.size a := by
    intro t u hu a
    have := lt64 h t
    obtain rfl : a = 0 := Subsingleton.elim _ _
    show 64 * t.val + u + 16 ≤ 4096
    omega
  refine ⟨?_, fun t => by rw [off17 h]; exact inb t 0 (by decide), fun t => by rw [off18 h]; exact inb t 16 (by decide),
    fun t => by rw [off19 h]; exact inb t 32 (by decide), fun t => by rw [off20 h]; exact inb t 48 (by decide), Scf.rem_ok _ _,
    fun t => (no_trip18 nb t).elim, fun t => (no_trip18 nb t).elim, fun t => (no_trip18 nb t).elim, fun t => (no_trip18 nb t).elim⟩
  refine ⟨show 0 < (1#32 : BitVec 32).toInt by decide, ?_⟩
  have := trips17_le h
  show (0#32 : BitVec 32).toInt + ((k0_t17_loop nb).trips : ℤ) * (1#32 : BitVec 32).toInt < 2 ^ (32 - 1)
  rw [show (0#32 : BitVec 32).toInt = 0 by decide, show (1#32 : BitVec 32).toInt = 1 by decide]
  omega

/-- The first vocabulary entry of a tile, as a number. -/
theorem firstOf_toNat (i : grid0.Coords) : (firstOf i).toNat = 6272 * (2 * (i 1).val + (i 0).val) := by
  have h0 : (i 0).val < 2 := (i 0).isLt
  have h1 : (i 1).val < 16 := (i 1).isLt
  simp only [firstOf, Scalar.addi, Scalar.muli, IntOp.addi, IntOp.muli, BitVec.toNat_add, BitVec.toNat_mul, BitVec.toNat_ofNat]
  omega

/-- What the mask of a group says of one lane. -/
theorem laneMask_iff {F : FTy → Type} [FloatOps F] (v2 nb base : BitVec 32) (xv : Vec F S16 .i32) (k : S16.Idx) :
    laneMask (F := F) v2 nb base xv k = 1#1 ↔ (0 ≤ (xv k - v2).toInt ∧ (xv k - v2).toInt < 6272) ∧ (base + BitVec.ofNat 32 (k 0).val).toInt < nb.toInt := by
  have hl : lanes k = BitVec.ofNat 32 (k 0).val := by simp [lanes, iota]
  have hand : ∀ a b : BitVec 1, a &&& b = 1#1 ↔ a = 1#1 ∧ b = 1#1 := by decide
  have hge : ∀ x y : BitVec 32, IntOp.cmpi .sge x y = 1#1 ↔ y.toInt ≤ x.toInt := fun x y =>
    ⟨fun e => by simpa [IntOp.cmpi, BitVec.sle, WordArith.ofBool_eq_one_iff] using e, fun e => by simpa [IntOp.cmpi, BitVec.sle, WordArith.ofBool_eq_one_iff] using e⟩
  have hlt : ∀ x y : BitVec 32, IntOp.cmpi .slt x y = 1#1 ↔ x.toInt < y.toInt := fun x y =>
    ⟨fun e => by simpa [IntOp.cmpi, BitVec.slt, WordArith.ofBool_eq_one_iff] using e, fun e => by simpa [IntOp.cmpi, BitVec.slt, WordArith.ofBool_eq_one_iff] using e⟩
  show (IntOp.cmpi .sge (xv k - v2) 0#32 &&& IntOp.cmpi .slt (xv k - v2) 6272#32) &&& IntOp.cmpi .slt (base + lanes k) nb = 1#1 ↔ _
  rw [hand, hand, hge, hlt, hlt, hl]
  rfl

/-- The columns a group adds to lie in the tile. -/
theorem chk2_of {F : FTy → Type} [FloatOps F] {b : ℕ} (hb : b < 16) (v2 nb base : BitVec 32) (xv : Vec F S16 .i32) :
    k0_chk2 (broadcast S16 (BitVec.ofNat 32 b)) (laneCol (F := F) v2 nb base xv) := by
  intro a k
  match a with
  | 0 =>
    show (BitVec.ofNat 32 b).toNat < 16
    rw [BitVec.toNat_ofNat]; omega
  | 1 =>
    show (Scalar.select (laneMask (F := F) v2 nb base xv k) (xv k - v2) 0#32).toNat < 6272
    by_cases hm : laneMask (F := F) v2 nb base xv k = 1#1
    · have h := (laneMask_iff v2 nb base xv k).mp hm
      have hs : Scalar.select (laneMask (F := F) v2 nb base xv k) (xv k - v2) 0#32 = xv k - v2 := by simp [Scalar.select, hm]
      rw [hs]
      have := h.1
      rw [BitVec.toInt_eq_toNat_cond] at this
      split at this <;> omega
    · have hs : Scalar.select (laneMask (F := F) v2 nb base xv k) (xv k - v2) 0#32 = 0#32 := by simp [Scalar.select, hm]
      rw [hs]; decide

end Cert.KernelIdeal.Tile
end
-- ==== Proof.Ideal.Base.lean ====
/- The program as the launch theorem sees it: its SparseCore configuration, its labels, and the resource algebra the
   proof runs over. -/
module

public import proofs.«01_k».proof.Defs
public import Idealize.ShloMosaic.Lib.SparseCore.Quiescent
public import Idealize.ShloMosaic.Lib.SparseCore.Ops
public import Idealize.ShloMosaic.Lib.SparseCore.Scatter
public import Idealize.ShloMosaic.Lib.StableHlo.Run
public import Idealize.ShloMosaic.Lib.Pipeline.Kit
public import Idealize.ShloMosaic.Lib.WritesUnit
public import Idealize.ShloMosaic.Lib.Tactic
public import proofs.«01_k».proof.Proof.Ideal.Nums

@[expose] public section

noncomputable section

namespace Cert.KernelIdeal.Run

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipeline's rounds beside the transfers' counters. -/
abbrev UT : Type := UR sig nD τ × Counters
abbrev UU : Type := UH × UT

local notation "𝕄" => MT nD τ sig (HIx 1) (Elt F) ℕ UU ℕ

/-- Where the handshakes' rounds sit. -/
abbrev EH : Emb UH (MT nD τ sig (HIx 1) (Elt F) ℕ UU ℕ) := embL

/-- Where the pipeline's rounds sit. -/
def EP : Emb (UR sig nD τ) (MT nD τ sig (HIx 1) (Elt F) ℕ UU ℕ) := (Emb.inl : Emb _ UT).trans embR

instance EP_landsIn : (EP (F := F)).LandsIn (upEmb : UEmb _ (MT nD τ sig (HIx 1) (Elt F) ℕ UU ℕ)) := by
  unfold EP; infer_instance

/-- The tile at mesh coordinates `i`, as a thread of device `d`. -/
abbrev thr (d : Dev nD) (i : grid0.Coords) : Thread nD τ := V d ((i 0).castLE hcore0) ((i 1).castLE hsub0)

/-- The transfers' counters. -/
abbrev EC : UEmb Counters (MT nD τ sig (HIx 1) (Elt F) ℕ UU ℕ) := countersEmb

variable [FloatOps F]

/-- What must hold for the tile's program `p` to run and leave `Q`. -/
abbrev wpT (d : Dev nD) (i : grid0.Coords) {α : Type} (p : TProg F i α) (Q : α → sProp 𝕄) : sProp 𝕄 :=
  wp frame (wpE (defs₀ (F := F)) 𝒱₀ (thr d i) none) Set.univ p Q

/-- A buffer of the tile, whole, at contents that read `f`. -/
def Held (d : Dev nD) (i : grid0.Coords) {sp : Space} {s : Shape} {e : EltTy} (b : Memref sig .scVector sp s e) (f : s.Idx → Elt F e) : sProp 𝕄 :=
  iprop(∃ g, ⌜b.view.read (Elt F) g = f⌝ ∗ b.view.loc (thr d i) ↦[b.view.set]{fullShare} g)

/-- Such a buffer, whatever it holds. -/
def HeldAny (d : Dev nD) (i : grid0.Coords) {sp : Space} {s : Shape} {e : EltTy} (b : Memref sig .scVector sp s e) : sProp 𝕄 :=
  iprop(∃ g, b.view.loc (thr d i) ↦[b.view.set]{fullShare} g)

/-- A step run on its own, in front of the rest. -/
theorem wpT_bind (d : Dev nD) (i : grid0.Coords) {α β : Type} {p : TProg F i α} {k : α → TProg F i β} {P : sProp 𝕄} {P' : α → sProp 𝕄} {Q : β → sProp 𝕄}
    (h : P ⊢ wpT d i p P') : P ⊢ iprop((∀ a, P' a -∗ wpT d i (k a) Q) -∗ wpT d i (p >>= k) Q) := by
  unfold wpT
  rw [wp_bind]
  iintro HP HK
  iapply (wp_wand_r frame (wpE (defs₀ (F := F)) 𝒱₀ (thr d i) none) Set.univ (Q := P'))
  isplitl [HP]
  · iapply h; iexact HP
  · iexact HK

end Cert.KernelIdeal.Run
end
-- ==== Proof.Ideal.Clear.lean ====
/- The tile's counts cleared: sixteen entries at a time, row after row. -/
module

public import proofs.«01_k».proof.Proof.Ideal.Base

@[expose] public section

noncomputable section

namespace Cert.KernelIdeal.Run

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The zero the tile is cleared with. -/
def zeroF : F .f32 := Scalar.ofBits .f32 0x00000000#32

/-- The rows before `b`, and row `b` up to column `w`, are zero. -/
def Zeroed (b w : ℕ) (f : S16x6272.Idx → Elt F .f32) : Prop :=
  ∀ y : S16x6272.Idx, ((y 0).val < b ∨ ((y 0).val = b ∧ (y 1).val < w)) → f y = zeroF (F := F)

/-- The tile's counts, cleared that far. -/
def Cleared (d : Dev nD) (i : grid0.Coords) (tile : Memref sig .scVector .vmem S16x6272 .f32) (b w : ℕ) : sProp 𝕄 :=
  iprop(∃ g, ⌜Zeroed b w (tile.view.read (Elt F) g)⌝ ∗ tile.view.loc (thr d i) ↦[tile.view.set]{fullShare} g)

variable (d : Dev nD) (i : grid0.Coords) (tile : Memref sig .scVector .vmem S16x6272 .f32)

theorem zeroAt_run (b w : ℕ) (off : Fin 2 → ℕ) (h : ∀ a, off a + S1x16.size a ≤ S16x6272.size a) (ho : off = ![b, w]) :
    Cleared (F := F) d i tile b w ⊢ wpT d i (zeroAt i tile off h) fun _ => Cleared d i tile b (w + 16) := by
  unfold zeroAt Cleared wpT
  simp only [Prog.lift, Prog.bind_op, Prog.bind_ret, Prog.pure_eq_ret]
  iintro ⟨%g, %hg, H⟩
  iapply (wp_load_rect (defs := defs₀ (F := F)) 𝒱₀ (thr d i) none Set.univ (m := tile) (r := Rect.unit (s := S16x6272) off S1x16.size h)
    (q := fullShare) (f := g) (S := tile.view.set) (View.set_slice_subset _ _)) $$ H
  iintro H
  iapply (wp_store_writes₀ (defs := defs₀ (F := F)) 𝒱₀ (thr d i) none Set.univ (m := tile) (r := Rect.unit (s := S16x6272) off S1x16.size h)
    (f := g) (S := tile.view.set) (View.set_slice_subset _ _)) $$ H
  iintro H
  rw [wp_ret]
  imodintro
  iexists _
  isplitr
  rotate_left
  · iexact H
  · ipureintro
    intro y hy
    rw [View.read_writes_cons_unit tile.view g h _ [] y ho]
    split
    · rfl
    · rename_i hn
      refine hg y ?_
      rcases hy with hy | ⟨hy0, hy1⟩
      · exact .inl hy
      · refine .inr ⟨hy0, ?_⟩
        by_contra hlt
        refine hn fun a => ?_
        match a with
        | 0 => exact ⟨hy0.ge, by show (y 0).val < b + 1; omega⟩
        | 1 => exact ⟨by show w ≤ (y 1).val; omega, by show (y 1).val < w + 16; omega⟩

theorem zoff_eq (b : ℕ) (t : Fin k0_t1_loop.trips) (r : Fin 8) : zoff b t (BitVec.ofNat 32 (16 * r.val)) = ![b, 128 * t.val + 16 * r.val] := by
  unfold zoff
  rw [k0_off1_eq t r]
  rfl

/-- A trip clears 128 columns. -/
theorem zeroTrip_run (b : ℕ) (hb : b < 16) (t : Fin k0_t1_loop.trips) (acc : BitVec 32) :
    Cleared (F := F) d i tile b (128 * t.val) ⊢ wpT d i (zeroTrip i tile b hb t acc) fun _ => Cleared d i tile b (128 * (t.val + 1)) := by
  unfold zeroTrip
  iintro H
  iapply (wpT_bind d i (zeroAt_run d i tile b (128 * t.val) _ _ (zoff_eq b t 0))) $$ H
  iintro %_ H
  iapply (wpT_bind d i (zeroAt_run d i tile b (128 * t.val + 16) _ _ (zoff_eq b t 1))) $$ H
  iintro %_ H
  iapply (wpT_bind d i (zeroAt_run d i tile b (128 * t.val + 16 + 16) _ _ (zoff_eq b t 2))) $$ H
  iintro %_ H
  iapply (wpT_bind d i (zeroAt_run d i tile b (128 * t.val + 16 + 16 + 16) _ _ (zoff_eq b t 3))) $$ H
  iintro %_ H
  iapply (wpT_bind d i (zeroAt_run d i tile b (128 * t.val + 16 + 16 + 16 + 16) _ _ (zoff_eq b t 4))) $$ H
  iintro %_ H
  iapply (wpT_bind d i (zeroAt_run d i tile b (128 * t.val + 16 + 16 + 16 + 16 + 16) _ _ (zoff_eq b t 5))) $$ H
  iintro %_ H
  iapply (wpT_bind d i (zeroAt_run d i tile b (128 * t.val + 16 + 16 + 16 + 16 + 16 + 16) _ _ (zoff_eq b t 6))) $$ H
  iintro %_ H
  iapply (wpT_bind d i (zeroAt_run d i tile b (128 * t.val + 16 + 16 + 16 + 16 + 16 + 16 + 16) _ _ (zoff_eq b t 7))) $$ H
  iintro %_ H
  unfold wpT
  rw [Prog.pure_eq_ret, wp_ret]
  imodintro
  iexact H

/-- A tile cleared through one row is cleared up to the next. -/
theorem Cleared.next (b : ℕ) : Cleared (F := F) d i tile b 6272 ⊢ Cleared d i tile (b + 1) 0 := by
  unfold Cleared
  iintro ⟨%g, %hg, H⟩
  iexists g
  isplitr
  · ipureintro
    intro y hy
    have h1 : (y 1).val < 6272 := (y 1).isLt
    exact hg y (by omega)
  · iexact H

/-- The rows from `b` on cleared, in front of the rest. -/
theorem zeroRows_run {α : Type} {k : TProg F i α} {R : sProp 𝕄} {Q : α → sProp 𝕄}
    (hk : iprop(Cleared d i tile 16 0 ∗ R) ⊢ wpT d i k Q) :
    ∀ (r b : ℕ) (h : b + r = 16), iprop(Cleared d i tile b 0 ∗ R) ⊢ wpT d i (zeroRows i tile k r b h) Q
  | 0, b, h => by
    obtain rfl : b = 16 := h
    exact hk
  | r + 1, b, h => by
    unfold zeroRows
    iintro ⟨H, HR⟩
    iapply (Scf.wp_for_bind frame (wpE (defs₀ (F := F)) 𝒱₀ (thr d i) none) Set.univ _ _ _ _ _ _ (fun t _ => Cleared d i tile b (128 * t))
      (fun t acc => zeroTrip_run d i tile b _ t acc)) $$ H
    iintro %_ H
    iapply (zeroRows_run hk r (b + 1) _)
    isplitl [H]
    · iapply (Cleared.next d i tile b)
      iexact H
    · iexact HR

end Cert.KernelIdeal.Run
end
-- ==== Proof.Ideal.Count.lean ====
/- The tokens of the sixteen rows counted: a row is staged while the row before it is counted, sixteen tokens at a
   time; the values are carried as functions of the arguments' contents. -/
module

public import proofs.«01_k».proof.Proof.Ideal.Clear

@[expose] public section

noncomputable section

namespace Cert.KernelIdeal.Run

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The values -/

/-- Sixteen tokens of a row, from position `n`. -/
def tokens (x : S4096.Idx → BitVec 32) (n : ℕ) : Vec F S16 .i32 :=
  fun k => if h : n + (k 0).val < 4096 then x (fun a => ⟨n + (k 0).val, by obtain rfl : a = 0 := Subsingleton.elim _ _; exact h⟩) else 0#32

/-- The counts after the sixteen tokens at position `n` of row `b`. -/
def countAt (b : Fin 16) (v2 nb : BitVec 32) (x : S4096.Idx → BitVec 32) (n : ℕ) (f : Vec F S16x6272 .f32) : Vec F S16x6272 .f32 :=
  storeIdx f ![broadcast S16 (BitVec.ofNat 32 b.val), laneCol (F := F) v2 nb (BitVec.ofNat 32 n) (tokens (F := F) x n)] (k0_pay386 (F := F))
    (laneMask (F := F) v2 nb (BitVec.ofNat 32 n) (tokens (F := F) x n)) true (chk2_of b.isLt _ _ _ _)

/-- The counts after the first `g` groups of sixteen tokens of row `b`. -/
def rowAt (b : Fin 16) (v2 nb : BitVec 32) (x : S4096.Idx → BitVec 32) (f : Vec F S16x6272 .f32) : ℕ → Vec F S16x6272 .f32
  | 0 => f
  | g + 1 => countAt b v2 nb x (16 * g) (rowAt b v2 nb x f g)

/-- The counts after the rows before `b`: of the tile whose first vocabulary entry is `v2`, for the sequences `x` of lengths `nb`. -/
def rowsAt (v2 : BitVec 32) (nb : ℕ → BitVec 32) (x : Fin 16 → S4096.Idx → BitVec 32) : ℕ → Vec F S16x6272 .f32
  | 0 => fun _ => zeroF
  | b + 1 => if h : b < 16 then rowAt ⟨b, h⟩ v2 (nb b) (x ⟨b, h⟩) (rowsAt v2 nb x b) (4 * (((nb b).toInt.toNat + 63) / 64)) else rowsAt v2 nb x b

/-! ## A group of sixteen tokens -/

variable (d : Dev nD) (i : grid0.Coords)

theorem count_run (buf : Memref sig .scVector .vmem S4096 .i32) (tile : Memref sig .scVector .vmem S16x6272 .f32) (b : Fin 16) (v2 nb base : BitVec 32)
    (x : S4096.Idx → BitVec 32) (f : Vec F S16x6272 .f32) (n : ℕ) (off : Fin 1 → ℕ) (h : ∀ a, off a + S16.size a ≤ S4096.size a)
    (ho : off = ![n]) (hbase : base = BitVec.ofNat 32 n) :
    iprop(Held (F := F) d i buf x ∗ Held d i tile f) ⊢ wpT d i (Tile.count i buf tile b.val v2 nb base off h)
      fun _ => iprop(Held (F := F) d i buf x ∗ Held d i tile (countAt b v2 nb x n f)) := by
  subst ho hbase
  unfold Tile.count Held wpT
  simp only [Prog.lift, Prog.bind_op, Prog.bind_ret]
  iintro ⟨⟨%g, %hg, Hb⟩, ⟨%gt, %hgt, Ht⟩⟩
  iapply (wp_load_rect (defs := defs₀ (F := F)) 𝒱₀ (thr d i) none Set.univ (m := buf) (r := Rect.unit (s := S4096) ![n] S16.size h)
    (q := fullShare) (f := g) (S := buf.view.set) (View.set_slice_subset _ _)) $$ Hb
  iintro Hb
  have hx : (buf.access (Rect.unit (s := S4096) ![n] S16.size h)).read (Elt F) g = tokens (F := F) x n := by
    funext k
    have hk : n + (k 0).val < 4096 := by
      have h0 : n + 16 ≤ 4096 := h 0
      have h1 : (k 0).val < 16 := (k 0).isLt
      omega
    unfold tokens
    rw [dif_pos hk]
    show buf.view.read (Elt F) g _ = _
    rw [hg]
    congr 1
    funext a
    obtain rfl : a = 0 := Subsingleton.elim _ _
    apply Fin.ext
    show n + 1 * (k 0).val = n + (k 0).val
    omega
  rw [hx]
  rw [wp_assume_of 𝒱₀ (thr d i) none Set.univ (chk2_of b.isLt v2 nb (BitVec.ofNat 32 n) (tokens (F := F) x n))]
  have hset : (tile.access (.whole S16x6272)).set = tile.view.set := (View.set_slice _ _).trans (by rw [Rect.set_whole]; rfl)
  have hread : ∀ G, (tile.access (.whole S16x6272)).read (Elt F) G = tile.view.read (Elt F) G := fun G => funext fun y => by
    show tile.view.read (Elt F) G ((Rect.whole S16x6272).emb y) = _
    rw [Rect.emb_whole_apply]
  rw [← bind_pure (SparseCore.vectorStoreIdx _ _ _ _ _ _ _)]
  iapply (SparseCore.wp_vectorStoreIdx (defs := defs₀ (F := F)) 𝒱₀ (thr d i) none Set.univ (f := gt)) $$ [Ht]
  · rw [hset]; iexact Ht
  iintro Ht
  rw [Prog.pure_eq_ret, wp_ret]
  imodintro
  isplitl [Hb]
  · iexists g
    isplitr
    · ipureintro; exact hg
    · iexact Hb
  · iexists _
    isplitr
    rotate_left
    · rw [hset]; iexact Ht
    · ipureintro
      rw [← hread, View.read_write_univ, hread, hgt]
      rfl

end Cert.KernelIdeal.Run
end
-- ==== Proof.Ideal.Rows.lean ====
/- The rows counted one after another, each while the next is on its way, and the counts copied out. -/
module

public import proofs.«01_k».proof.Proof.Ideal.Count

@[expose] public section

noncomputable section

namespace Cert.KernelIdeal.Run

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)

/-- A check that holds is passed. -/
theorem wpT_assume {P : Prop} {dec : Decidable P} {β : Type} {k : PLift P → TProg F i β} {Q : β → sProp 𝕄} (h : P) :
    wpT d i (Prog.lift (TpuEff.assume P dec) >>= k) Q = wpT d i (k ⟨h⟩) Q :=
  wp_assume_of 𝒱₀ (thr d i) none Set.univ h

/-! ## The tokens of one row -/

/-- The group numbered `g` of row `b` counted. -/
theorem count_row (buf : Memref sig .scVector .vmem S4096 .i32) (tile : Memref sig .scVector .vmem S16x6272 .f32) (b : Fin 16) (v2 nb base : BitVec 32)
    (x : S4096.Idx → BitVec 32) (f : Vec F S16x6272 .f32) (g : ℕ) (off : Fin 1 → ℕ) (h : ∀ a, off a + S16.size a ≤ S4096.size a)
    (ho : off = ![16 * g]) (hbase : base = BitVec.ofNat 32 (16 * g)) :
    iprop(Held (F := F) d i buf x ∗ Held d i tile (rowAt b v2 nb x f g)) ⊢ wpT d i (Tile.count i buf tile b.val v2 nb base off h)
      fun _ => iprop(Held (F := F) d i buf x ∗ Held d i tile (rowAt b v2 nb x f (g + 1))) :=
  count_run d i buf tile b v2 nb base x _ (16 * g) off h ho hbase

/-- A trip counts sixty-four tokens. -/
theorem rowTrip_run (buf : Memref sig .scVector .vmem S4096 .i32) (tile : Memref sig .scVector .vmem S16x6272 .f32) (b : Fin 16) (nb : BitVec 32)
    (hnb : LenOK nb) (hw : k0_chk1 nb) (x : S4096.Idx → BitVec 32) (f : Vec F S16x6272 .f32) (t : Fin (k0_t17_loop nb).trips) (acc : BitVec 32) :
    iprop(Held (F := F) d i buf x ∗ Held d i tile (rowAt b (firstOf i) nb x f (4 * t.val)))
      ⊢ wpT d i (rowTrip i buf tile b.val nb hw t acc) fun _ =>
        iprop(Held (F := F) d i buf x ∗ Held d i tile (rowAt b (firstOf i) nb x f (4 * (t.val + 1)))) := by
  have ht := lt64 hnb t
  unfold rowTrip
  iintro H
  iapply (wpT_bind d i (count_row d i buf tile b (firstOf i) nb _ x f (4 * t.val) _ _
    ((off17 hnb t).trans (congrArg (fun n => ![n]) (by omega))) ((at_word t 0 ht (by decide)).trans (congrArg _ (by omega))))) $$ H
  iintro %_ H
  iapply (wpT_bind d i (count_row d i buf tile b (firstOf i) nb _ x f (4 * t.val + 1) _ _
    ((off18 hnb t).trans (congrArg (fun n => ![n]) (by omega))) ((at_word t 16 ht (by decide)).trans (congrArg _ (by omega))))) $$ H
  iintro %_ H
  iapply (wpT_bind d i (count_row d i buf tile b (firstOf i) nb _ x f (4 * t.val + 2) _ _
    ((off19 hnb t).trans (congrArg (fun n => ![n]) (by omega))) ((at_word t 32 ht (by decide)).trans (congrArg _ (by omega))))) $$ H
  iintro %_ H
  iapply (wpT_bind d i (count_row d i buf tile b (firstOf i) nb _ x f (4 * t.val + 3) _ _
    ((off20 hnb t).trans (congrArg (fun n => ![n]) (by omega))) ((at_word t 48 ht (by decide)).trans (congrArg _ (by omega))))) $$ H
  iintro %_ H
  unfold wpT
  rw [Prog.pure_eq_ret, wp_ret]
  imodintro
  iexact H

/-! ## A row on its way -/

section
variable (X : Memref sig .scVector .hbm S16x4096 .i32) (sem : DmaSems sig S_) (q : PosShare TreeShare) (fX : Buf (Elt F) (X.view.loc (thr d i)))

/-- The tokens, at a share of them. -/
def Toks : sProp 𝕄 := X.view.loc (thr d i) ↦[X.view.set]{q} fX

/-- The tokens of row `b`. -/
def rowVal (b : Fin 16) : S4096.Idx → BitVec 32 := (rowOf X b.val b.isLt).view.read (Elt F) fX

/-- The transfers' semaphore at rest. -/
def Rest (s : DmaSems sig S_) : sProp 𝕄 := semVal ((thr d i, SemLoc.dma s.sem) : GSem nD τ sig) 0

/-- Row `b` on its way into `buf`: the row and the tokens back, at the wait. -/
def Fly (b : Fin 16) (buf : Memref sig .scVector .vmem S4096 .i32) : sProp 𝕄 :=
  Transfers.Flight (EC (F := F)) (thr d i) (.dma sem.sem) none buf.view.dmaCredit iprop(Held d i buf (rowVal d i X fX b) ∗ Toks d i X q fX)

/-- What a wait leaves of the thread's obligations. -/
def Owes (O : CellTallies nD τ sig (HIx 1)) (W : Waits sig (HIx 1)) : sProp 𝕄 :=
  iprop(∃ W', ⌜∀ p ∈ W', p ∈ W ∨ p.2 = none⌝ ∗ owes (thr d i) O W')

theorem issue_run (b : Fin 16) (buf : Memref sig .scVector .vmem S4096 .i32) (hbuf : buf.IsWhole) :
    iprop(HeldAny (F := F) d i buf ∗ Toks d i X q fX ∗ Rest d i sem) ⊢ wpT d i (issue i X sem b.val b.isLt buf hbuf) fun _ => Fly d i X sem q fX b buf := by
  unfold issue wpT HeldAny Toks Rest
  simp only [Prog.lift]
  have hsub : (rowOf X b.val b.isLt).view.set ⊆ X.view.set := by
    show ((X.view.slice _).reshape _ _).set ⊆ _
    rw [View.set_reshape]
    exact View.set_slice_subset _ _
  iintro ⟨⟨%g, Hb⟩, HX, Hs⟩
  ihave HX := (pointsTo_split_subset hsub).1 $$ HX
  icases HX with ⟨Hrow, Hoff⟩
  iapply (Transfers.wp_dmaLocal (defs := defs₀ (F := F)) EC 𝒱₀ (thr d i) none (src := rowOf X b.val b.isLt) (dst := buf) (via := .same) (fs := fX) (fd := g) (q := q)
    (Sd := buf.view.set) none buf.view.dmaCredit (View.amount_dma _ _) (View.dmaCredit_pos _ (by decide)) subset_rfl) $$ [Hrow Hb Hs]
  · isplitl [Hrow]; · iexact Hrow
    isplitl [Hb]; · iexact Hb
    iexact Hs
  iintro HF
  rw [wp_ret]
  imodintro
  unfold Fly
  ihave HF := (Transfers.Flight_frame (EC := EC)) $$ [Hoff HF]
  · isplitl [Hoff]
    · iexact Hoff
    · iexact HF
  iapply (Transfers.Flight_mono EC ?_) $$ HF
  unfold Held Toks
  iintro ⟨Hoff, Hb, Hrow⟩
  isplitl [Hb]
  · iexists _
    isplitr
    rotate_left
    · iexact Hb
    · ipureintro
      rw [View.read_write_univ]
      rfl
  · iapply (pointsTo_split_subset hsub).2
    isplitl [Hrow]
    · iexact Hrow
    · iexact Hoff

/-- What is on its way when the rows from `b` on are still to be counted: row `b` into `cur`, or nothing after the last. -/
def Ahead (r b : ℕ) (h : b + r = 16) (cur : Memref sig .scVector .vmem S4096 .i32) : sProp 𝕄 :=
  match r, h with
  | 0, _ => iprop(HeldAny d i cur ∗ Toks d i X q fX ∗ Rest d i sem)
  | _ + 1, h => Fly d i X sem q fX ⟨b, by omega⟩ cur

theorem Ahead_succ (r b : ℕ) (h : b + (r + 1) = 16) (cur : Memref sig .scVector .vmem S4096 .i32) :
    Ahead (F := F) d i X sem q fX (r + 1) b h cur = Fly d i X sem q fX ⟨b, by omega⟩ cur := rfl

theorem issueNext_run (r b : ℕ) (h : b + (r + 1) = 16) (buf : Memref sig .scVector .vmem S4096 .i32) (hbuf : buf.IsWhole) :
    iprop(HeldAny (F := F) d i buf ∗ Toks d i X q fX ∗ Rest d i sem)
      ⊢ wpT d i (issueNext i X sem buf hbuf r b h) fun _ => Ahead d i X sem q fX r (b + 1) (by omega) buf := by
  match r with
  | 0 =>
    show _ ⊢ wp _ _ _ (.ret PUnit.unit) _
    rw [wp_ret]
    unfold Ahead
    iintro H
    imodintro
    iexact H
  | r + 1 => exact issue_run d i X sem q fX ⟨b + 1, by omega⟩ buf hbuf

/-- The wait for a row. -/
theorem wait_run (b : Fin 16) (buf : Memref sig .scVector .vmem S4096 .i32) (hbuf : buf.IsWhole) (O : CellTallies nD τ sig (HIx 1)) (W : Waits sig (HIx 1))
    (hO : ∀ g, O g none = 0) :
    iprop(levAts (K (F := F)).L (K (F := F)).lev ∗ Fly (F := F) d i X sem q fX b buf ∗ Owes d i O W)
      ⊢ wpT d i (Prog.lift (.waitDma2 sem.sem (rowOf X b.val b.isLt) buf ((View.wordExact_bits rfl).reshape _ _) hbuf.wordExact))
        fun _ => iprop(Held d i buf (rowVal d i X fX b) ∗ Toks d i X q fX ∗ Rest d i sem ∗ Owes d i O W) := by
  unfold wpT Fly Owes Rest
  simp only [Prog.lift]
  iintro ⟨#Hlv, HF, %W', %hW, HO⟩
  iapply (Transfers.wp_waitLocalO (defs := defs₀ (F := F)) EC 𝒱₀ (thr d i) none none rfl) $$ [HF HO]
  · isplitl [HF]; · iexact HF
    isplitl [HO]; · iexact HO
    iapply ((K (F := F)).mayWait_none (SemLoc.dma sem.sem) hO)
    iexact Hlv
  iintro ⟨⟨Hb, HX⟩, Hs, HO⟩
  rw [wp_ret]
  imodintro
  isplitl [Hb]; · iexact Hb
  isplitl [HX]; · iexact HX
  isplitl [Hs]; · iexact Hs
  iexists _
  isplitr
  rotate_left
  · iexact HO
  · ipureintro
    intro p hp
    rcases Finset.mem_insert.mp hp with rfl | hp
    · exact .inr rfl
    · exact hW p hp

theorem Held.any {sp : Space} {s : Shape} {e : EltTy} (b : Memref sig .scVector sp s e) (f : s.Idx → Elt F e) : Held (F := F) d i b f ⊢ HeldAny d i b := by
  unfold Held HeldAny
  iintro ⟨%g, -, H⟩
  iexists g
  iexact H

/-- The rows from `b` on counted, in front of the rest. -/
theorem countRows_run (tile : Memref sig .scVector .vmem S16x6272 .f32) (lens : Vec F S16 .i32) (hlens : ∀ b, b < 16 → LenOK (lenOf b lens))
    (O : CellTallies nD τ sig (HIx 1)) (W : Waits sig (HIx 1)) (hO : ∀ g, O g none = 0)
    {α : Type} {k : TProg F i α} {R : sProp 𝕄} {Q : α → sProp 𝕄} (xa xb : Memref sig .scVector .vmem S4096 .i32)
    (hk : iprop(HeldAny d i xa ∗ HeldAny d i xb ∗ Toks d i X q fX ∗ Rest d i sem
        ∗ Held d i tile (rowsAt (firstOf i) (fun b => lenOf b lens) (rowVal d i X fX) 16) ∗ Owes d i O W ∗ R) ⊢ wpT d i k Q) :
    ∀ (r b : ℕ) (h : b + r = 16) (cur : Memref sig .scVector .vmem S4096 .i32) (hcur : cur.IsWhole) (next : Memref sig .scVector .vmem S4096 .i32)
      (hnext : next.IsWhole) (_ : (cur = xa ∧ next = xb) ∨ (cur = xb ∧ next = xa)),
      iprop(levAts (K (F := F)).L (K (F := F)).lev ∗ Ahead d i X sem q fX r b h cur ∗ HeldAny d i next
          ∗ Held d i tile (rowsAt (firstOf i) (fun b => lenOf b lens) (rowVal d i X fX) b) ∗ Owes d i O W ∗ R)
        ⊢ wpT d i (countRows i X sem tile lens k r b h cur hcur next hnext) Q
  | 0, b, h, cur, hcur, next, hnext, hx => by
    obtain rfl : b = 16 := h
    unfold Ahead countRows
    refine BIBase.Entails.trans ?_ hk
    iintro ⟨-, ⟨Hc, HX, Hs⟩, Hn, Ht, HO, HR⟩
    rcases hx with ⟨rfl, rfl⟩ | ⟨rfl, rfl⟩
    · isplitl [Hc]; · iexact Hc
      isplitl [Hn]; · iexact Hn
      isplitl [HX]; · iexact HX
      isplitl [Hs]; · iexact Hs
      isplitl [Ht]; · iexact Ht
      isplitl [HO]; · iexact HO
      iexact HR
    · isplitl [Hn]; · iexact Hn
      isplitl [Hc]; · iexact Hc
      isplitl [HX]; · iexact HX
      isplitl [Hs]; · iexact Hs
      isplitl [Ht]; · iexact Ht
      isplitl [HO]; · iexact HO
      iexact HR
  | r + 1, b, h, cur, hcur, next, hnext, hx => by
    have hb : b < 16 := by omega
    have hnb := hlens b hb
    have hrow : rowsAt (F := F) (firstOf i) (fun b => lenOf b lens) (rowVal d i X fX) (b + 1)
        = rowAt ⟨b, hb⟩ (firstOf i) (lenOf b lens) (rowVal d i X fX ⟨b, hb⟩) (rowsAt (firstOf i) (fun b => lenOf b lens) (rowVal d i X fX) b)
          (4 * (k0_t17_loop (lenOf b lens)).trips) := by
      rw [trips17 hnb]; exact dif_pos hb
    have hwait := wait_run d i X sem q fX ⟨b, hb⟩ cur hcur O W hO
    unfold countRows
    rw [Ahead_succ]
    iintro ⟨#Hlv, HA, Hn, Ht, HO, HR⟩
    rw [wpT_assume d i (chk1_of hnb)]
    iapply (wpT_bind d i hwait) $$ [HA HO]
    · isplitr; · iexact Hlv
      isplitl [HA]; · iexact HA
      iexact HO
    iintro %_ ⟨Hc, HX, Hs, HO⟩
    iapply (wpT_bind d i (issueNext_run d i X sem q fX r b h next hnext)) $$ [Hn HX Hs]
    · isplitl [Hn]; · iexact Hn
      isplitl [HX]; · iexact HX
      iexact Hs
    iintro %_ HA
    iapply (Scf.wp_for_bind frame (wpE (defs₀ (F := F)) 𝒱₀ (thr d i) none) Set.univ _ _ _ _ _ _
      (fun t _ => iprop(Held (F := F) d i cur (rowVal d i X fX ⟨b, hb⟩) ∗ Held d i tile (rowAt ⟨b, hb⟩ (firstOf i) (lenOf b lens) (rowVal d i X fX ⟨b, hb⟩)
        (rowsAt (firstOf i) (fun b => lenOf b lens) (rowVal d i X fX) b) (4 * t))))
      (fun t acc => rowTrip_run d i cur tile ⟨b, hb⟩ (lenOf b lens) hnb (chk1_of hnb) (rowVal d i X fX ⟨b, hb⟩) _ t acc)) $$ [Hc Ht]
    · isplitl [Hc]; · iexact Hc
      iexact Ht
    iintro %w ⟨Hc, Ht⟩
    iapply (Scf.wp_for_bind frame (wpE (defs₀ (F := F)) 𝒱₀ (thr d i) none) Set.univ _ _ _ _ _ _
      (fun _ _ => Held (F := F) d i tile (rowsAt (firstOf i) (fun b => lenOf b lens) (rowVal d i X fX) (b + 1)))
      (fun t _ => (no_trip18 _ t).elim)) $$ [Ht]
    · rw [hrow]; iexact Ht
    iintro %_ Ht
    iapply (countRows_run tile lens hlens O W hO xa xb hk r (b + 1) _ next hnext cur hcur (by tauto))
    isplitr; · iexact Hlv
    isplitl [HA]; · iexact HA
    isplitl [Hc]; · iapply (Held.any d i cur _); iexact Hc
    isplitl [Ht]; · iexact Ht
    isplitl [HO]; · iexact HO
    iexact HR

/-! ## The copy out, and the lengths' copy in -/

/-- The tile's columns of the result. -/
abbrev colsOf (C : Memref sig .scVector .hbm S16x200704 .f32) : Memref sig .scVector .hbm S16x6272 .f32 :=
  C.slice (Rect.unit (s := S16x200704) (k0_off145 i) S16x6272.size (k0_off145_inb i)) (fun _ => rfl)

theorem copyOut_run (C : Memref sig .scVector .hbm S16x200704 .f32) (tile : Memref sig .scVector .vmem S16x6272 .f32) (htile : tile.IsWhole) (r1 : DmaSems sig S_)
    (f : S16x6272.Idx → Elt F .f32) (O : CellTallies nD τ sig (HIx 1)) (W : Waits sig (HIx 1)) (hO : ∀ g, O g none = 0) :
    iprop(levAts (K (F := F)).L (K (F := F)).lev ∗ Held d i tile f ∗ HeldAny d i (colsOf i C) ∗ Rest d i r1 ∗ Owes d i O W)
      ⊢ wpT d i (copyOut i C tile htile r1) fun _ => iprop(HeldAny d i tile ∗ Held d i (colsOf i C) f ∗ Rest d i r1 ∗ Owes d i O W) := by
  unfold copyOut wpT HeldAny Held Rest Owes
  simp only [Prog.lift, Prog.bind_op, Prog.bind_ret, Prog.pure_eq_ret]
  iintro ⟨#Hlv, ⟨%g, %hg, Ht⟩, ⟨%c, Hc⟩, Hs, ⟨%W', %hW, HO⟩⟩
  iapply (Transfers.wp_dmaLocal (defs := defs₀ (F := F)) EC 𝒱₀ (thr d i) none (src := tile) (dst := colsOf i C) (via := .same) (fs := g) (fd := c) (q := fullShare)
    (Sd := (colsOf i C).view.set) none (colsOf i C).view.dmaCredit (View.amount_dma _ _) (View.dmaCredit_pos _ h_S16x6272) subset_rfl) $$ [Ht Hc Hs]
  · isplitl [Ht]; · iexact Ht
    isplitl [Hc]; · iexact Hc
    iexact Hs
  iintro HF
  iapply (Transfers.wp_waitLocalO (defs := defs₀ (F := F)) EC 𝒱₀ (thr d i) none none rfl) $$ [HF HO]
  · isplitl [HF]; · iexact HF
    isplitl [HO]; · iexact HO
    iapply ((K (F := F)).mayWait_none (SemLoc.dma r1.sem) hO)
    iexact Hlv
  iintro ⟨⟨Hc, Ht⟩, Hs, HO⟩
  rw [wp_ret]
  imodintro
  isplitl [Ht]; · iexists g; iexact Ht
  isplitl [Hc]
  · iexists _
    isplitr
    rotate_left
    · iexact Hc
    · ipureintro
      rw [View.read_write_univ]
      exact hg
  isplitl [Hs]; · iexact Hs
  iexists _
  isplitr
  rotate_left
  · iexact HO
  · ipureintro
    intro p hp
    rcases Finset.mem_insert.mp hp with rfl | hp
    · exact .inr rfl
    · exact hW p hp

/-- The whole body: the tile's columns of the result hold the counts of its range of the vocabulary. -/
theorem body_run (N : Memref sig .scVector .hbm S16 .i32) (hN : N.IsWhole) (C : Memref sig .scVector .hbm S16x200704 .f32)
    (nbuf : Memref sig .scVector .vmem S16 .i32) (hnbuf : nbuf.IsWhole) (xa : Memref sig .scVector .vmem S4096 .i32) (hxa : xa.IsWhole)
    (xb : Memref sig .scVector .vmem S4096 .i32) (hxb : xb.IsWhole) (tile : Memref sig .scVector .vmem S16x6272 .f32) (htile : tile.IsWhole)
    (r0 r1 : DmaSems sig S_) (qN : PosShare TreeShare) (fN : Buf (Elt F) (N.view.loc (thr d i)))
    (hlens : ∀ b, b < 16 → LenOK (lenOf (F := F) b (N.view.read (Elt F) fN)))
    (O : CellTallies nD τ sig (HIx 1)) (W : Waits sig (HIx 1)) (hO : ∀ g, O g none = 0) :
    iprop(levAts (K (F := F)).L (K (F := F)).lev ∗ Toks d i X q fX ∗ (N.view.loc (thr d i) ↦[N.view.set]{qN} fN) ∗ HeldAny d i (colsOf i C)
        ∗ (HeldAny d i nbuf ∗ HeldAny d i xa ∗ HeldAny d i xb ∗ HeldAny d i tile) ∗ (Rest d i sem ∗ Rest d i r0 ∗ Rest d i r1) ∗ owes (thr d i) O W)
      ⊢ wpT d i (body i X N hN C nbuf hnbuf xa hxa xb hxb tile htile sem r0 r1) fun _ =>
        iprop(Toks d i X q fX ∗ (N.view.loc (thr d i) ↦[N.view.set]{qN} fN)
          ∗ Held d i (colsOf i C) (rowsAt (firstOf i) (fun b => lenOf b (N.view.read (Elt F) fN)) (rowVal d i X fX) 16)
          ∗ (HeldAny d i nbuf ∗ HeldAny d i xa ∗ HeldAny d i xb ∗ HeldAny d i tile) ∗ (Rest d i sem ∗ Rest d i r0 ∗ Rest d i r1) ∗ Owes d i O W) := by
  unfold body
  have hany : HeldAny (F := F) d i nbuf ⊢ iprop(∃ g, nbuf.view.loc (thr d i) ↦[nbuf.view.set]{fullShare} g) := by
    unfold HeldAny
    exact .rfl
  -- the tile is cleared
  have hclr : HeldAny (F := F) d i tile ⊢ Cleared d i tile 0 0 := by
    unfold HeldAny Cleared
    iintro ⟨%g, H⟩
    iexists g
    isplitr
    · ipureintro; intro y hy; omega
    · iexact H
  have hcleared : Cleared (F := F) d i tile 16 0 ⊢ Held d i tile (fun _ => zeroF (F := F)) := by
    unfold Held Cleared
    iintro ⟨%g, %hg, H⟩
    iexists g
    isplitr
    · ipureintro; funext y; exact hg y (.inl (y 0).isLt)
    · iexact H
  iintro ⟨#Hlv, HX, HN, HC, ⟨Hnb, Hxa, Hxb, Ht⟩, ⟨Hs, Hr0, Hr1⟩, HO⟩
  iapply (zeroRows_run d i tile (R := iprop(levAts (K (F := F)).L (K (F := F)).lev ∗ Toks d i X q fX ∗ (N.view.loc (thr d i) ↦[N.view.set]{qN} fN) ∗ HeldAny d i (colsOf i C)
        ∗ (HeldAny d i nbuf ∗ HeldAny d i xa ∗ HeldAny d i xb) ∗ (Rest d i sem ∗ Rest d i r0 ∗ Rest d i r1) ∗ owes (thr d i) O W)) ?_ 16 0 rfl)
  rotate_left
  · isplitl [Ht]
    · iapply hclr; iexact Ht
    · isplitr; · iexact Hlv
      isplitl [HX]; · iexact HX
      isplitl [HN]; · iexact HN
      isplitl [HC]; · iexact HC
      isplitl [Hnb Hxa Hxb]
      · isplitl [Hnb]; · iexact Hnb
        isplitl [Hxa]; · iexact Hxa
        iexact Hxb
      isplitl [Hs Hr0 Hr1]
      · isplitl [Hs]; · iexact Hs
        isplitl [Hr0]; · iexact Hr0
        iexact Hr1
      iexact HO
  -- the lengths come in
  unfold wpT
  simp only [Prog.lift, Prog.bind_op, Prog.bind_ret]
  iintro ⟨Ht, #Hlv, HX, HN, HC, ⟨Hnb, Hxa, Hxb⟩, ⟨Hs, Hr0, Hr1⟩, HO⟩
  ihave Hnb := hany $$ Hnb
  icases Hnb with ⟨%gn, Hnb⟩
  iapply (Transfers.wp_dmaLocal (defs := defs₀ (F := F)) EC 𝒱₀ (thr d i) none (src := N) (dst := nbuf) (via := .same) (fs := fN) (fd := gn) (q := qN)
    (Sd := nbuf.view.set) none nbuf.view.dmaCredit (View.amount_dma _ _) (View.dmaCredit_pos _ h_S16) subset_rfl) $$ [HN Hnb Hr0]
  · isplitl [HN]; · iexact HN
    isplitl [Hnb]; · iexact Hnb
    unfold Rest; iexact Hr0
  iintro HF
  iapply (Transfers.wp_waitLocalO (defs := defs₀ (F := F)) EC 𝒱₀ (thr d i) none none rfl) $$ [HF HO]
  · isplitl [HF]; · iexact HF
    isplitl [HO]; · iexact HO
    iapply ((K (F := F)).mayWait_none (SemLoc.dma r0.sem) hO)
    iexact Hlv
  iintro ⟨⟨Hnb, HN⟩, Hr0, HO⟩
  iapply (wp_load_rect (defs := defs₀ (F := F)) 𝒱₀ (thr d i) none Set.univ (m := nbuf) (r := Rect.unit (s := S16) ![0] S16.size inb_S16_S16_0)
    (q := fullShare) (S := nbuf.view.set) (View.set_slice_subset _ _)) $$ Hnb
  iintro Hnb
  have hlen : (nbuf.access (Rect.unit (s := S16) ![0] S16.size inb_S16_S16_0)).read (Elt F)
      (nbuf.view.write (Elt F) gn ((ReadAs.same : ReadAs (Elt F) S16 .i32 S16 .i32).apply (N.view.read (Elt F) fN)) Finset.univ) = N.view.read (Elt F) fN := by
    funext k
    show nbuf.view.read (Elt F) _ _ = _
    rw [View.read_write_univ]
    show N.view.read (Elt F) fN _ = _
    congr 1
    funext a
    obtain rfl : a = 0 := Subsingleton.elim _ _
    apply Fin.ext
    show 0 + 1 * (k 0).val = (k 0).val
    omega
  rw [hlen]
  -- the first row is put on its way
  iapply (wpT_bind d i (issue_run d i X sem q fX ⟨0, by omega⟩ xa hxa)) $$ [Hxa HX Hs]
  · isplitl [Hxa]; · iexact Hxa
    isplitl [HX]; · iexact HX
    iexact Hs
  iintro %_ HF
  -- the rows are counted, then the counts copied out
  have hcopy := copyOut_run d i C tile htile r1 (rowsAt (F := F) (firstOf i) (fun b => lenOf (F := F) b (N.view.read (Elt F) fN)) (rowVal d i X fX) 16) O W hO
  iapply (countRows_run d i X sem q fX tile (N.view.read (Elt F) fN) hlens O W hO xa xb
    (R := iprop(levAts (K (F := F)).L (K (F := F)).lev ∗ (N.view.loc (thr d i) ↦[N.view.set]{qN} fN) ∗ HeldAny d i (colsOf i C)
        ∗ HeldAny d i nbuf ∗ Rest d i r0 ∗ Rest d i r1)) ?_ 16 0 rfl xa hxa xb hxb (.inl ⟨rfl, rfl⟩))
  rotate_left
  · isplitr; · iexact Hlv
    isplitl [HF]; · rw [Ahead_succ]; iexact HF
    isplitl [Hxb]; · iexact Hxb
    isplitl [Ht]; · iapply hcleared; iexact Ht
    isplitl [HO]
    · unfold Owes
      iexists _
      isplitr
      rotate_left
      · iexact HO
      · ipureintro
        intro p hp
        rcases Finset.mem_insert.mp hp with rfl | hp
        · exact .inr rfl
        · exact .inl hp
    isplitr; · iexact Hlv
    isplitl [HN]; · iexact HN
    isplitl [HC]; · iexact HC
    isplitl [Hnb]; · unfold HeldAny; iexists _; iexact Hnb
    isplitl [Hr0]; · unfold Rest; iexact Hr0
    iexact Hr1
  iintro ⟨Hxa, Hxb, HX, Hs, Ht, HO, #Hlv, HN, HC, Hnb, Hr0, Hr1⟩
  ihave H := hcopy $$ [Ht HC Hr1 HO]
  · isplitr; · iexact Hlv
    isplitl [Ht]; · iexact Ht
    isplitl [HC]; · iexact HC
    isplitl [Hr1]; · iexact Hr1
    iexact HO
  iapply (wp_wand frame (wpE (defs₀ (F := F)) 𝒱₀ (thr d i) none) Set.univ) $$ H
  iintro %_ ⟨Ht, HC, Hr1, HO⟩
  isplitl [HX]; · iexact HX
  isplitl [HN]; · iexact HN
  isplitl [HC]; · iexact HC
  isplitl [Hnb Hxa Hxb Ht]
  · isplitl [Hnb]; · iexact Hnb
    isplitl [Hxa]; · iexact Hxa
    isplitl [Hxb]; · iexact Hxb
    iexact Ht
  isplitl [Hs Hr0 Hr1]
  · isplitl [Hs]; · iexact Hs
    isplitl [Hr0]; · iexact Hr0
    iexact Hr1
  iexact HO

end

end Cert.KernelIdeal.Run
end
-- ==== Proof.Ideal.Split.lean ====
/- What the call on the SparseCores takes and gives back: a share of the tokens and of the lengths for every tile, and the
   counts' columns in thirty-two blocks; what the counts hold afterwards, as one function of the tokens and the lengths. -/
module

public import proofs.«01_k».proof.Proof.Ideal.Rows
public import Idealize.ShloMosaic.Lib.ValueLayout
public import Idealize.ShloMosaic.Lib.Pointwise.Index

@[expose] public section

noncomputable section

namespace Cert.KernelIdeal.Run

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The tile at core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The arrays the kernel is called with, as a tile addresses them. -/
abbrev xV : Memref sig .scVector .hbm S16x4096 .i32 := Memref.whole main_arg0_scv
abbrev nV : Memref sig .scVector .hbm S16 .i32 := Memref.whole main_arg1_scv
abbrev cV : Memref sig .scVector .hbm S16x200704 .f32 := Memref.whole main_v0_scv

abbrev xLoc (d : Dev nD) : Loc nD τ sig := (SparseCore.T d).loc main_arg0
abbrev nLoc (d : Dev nD) : Loc nD τ sig := (SparseCore.T d).loc main_arg1
abbrev cLoc (d : Dev nD) : Loc nD τ sig := (SparseCore.T d).loc main_v0

/-- The columns of the tile at `i`. -/
def colSet (i : grid0.Coords) : Finset S16x200704.Idx := (Rect.unit (s := S16x200704) (k0_off145 i) S16x6272.size (k0_off145_inb i)).set

theorem mem_colSet (i : grid0.Coords) (j : S16x200704.Idx) : j ∈ colSet i ↔ (j 1).val / 6272 = 2 * (i 1).val + (i 0).val := by
  unfold colSet
  rw [Rect.mem_set_unit, k0_off145_eq]
  have h0 : (j 0).val < 16 := (j 0).isLt
  have h1 : (j 1).val < 200704 := (j 1).isLt
  constructor
  · intro h
    have := h 1
    simp at this
    omega
  · intro h a
    match a with
    | 0 => simpa using h0
    | 1 => simp; omega

/-- The tile whose columns hold `v`. -/
def tileOf (v : ℕ) : grid0.Coords := coordsV ⟨v / 6272 % 2, Nat.mod_lt _ (by decide)⟩ ⟨v / 6272 / 2 % 16, Nat.mod_lt _ (by decide)⟩

theorem coords_eq (i : grid0.Coords) : coordsV (i 0) (i 1) = i := by
  funext a
  match a with
  | 0 => rfl
  | 1 => rfl

theorem tileOf_eq {v : ℕ} (i : grid0.Coords) (h : v / 6272 = 2 * (i 1).val + (i 0).val) : tileOf v = i := by
  have h0 : (i 0).val < 2 := (i 0).isLt
  have h1 : (i 1).val < 16 := (i 1).isLt
  rw [← coords_eq i]
  unfold tileOf
  congr 1 <;> apply Fin.ext
  · show v / 6272 % 2 = (i 0).val
    omega
  · show v / 6272 / 2 % 16 = (i 1).val
    omega

theorem cols_disjoint : ∀ p ∈ (Finset.univ : Finset (Fin 2 × Fin 16)), ∀ p' ∈ (Finset.univ : Finset (Fin 2 × Fin 16)), p ≠ p' →
    Disjoint (colSet (coordsV p.1 p.2)) (colSet (coordsV p'.1 p'.2)) := by
  intro p _ p' _ hp
  refine Finset.disjoint_left.mpr fun j h h' => hp ?_
  rw [mem_colSet] at h h'
  have e : coordsV p.1 p.2 = coordsV p'.1 p'.2 := (tileOf_eq _ h).symm.trans (tileOf_eq _ h')
  exact Prod.ext (congrFun e 0) (congrFun e 1)

theorem cols_cover : (Finset.univ : Finset (Fin 2 × Fin 16)).biUnion (fun p => colSet (coordsV p.1 p.2)) = Finset.univ := by
  refine Finset.eq_univ_of_forall fun j => Finset.mem_biUnion.mpr ⟨(tileOf (j 1).val 0, tileOf (j 1).val 1), Finset.mem_univ _, ?_⟩
  rw [mem_colSet]
  have h1 : (j 1).val < 200704 := (j 1).isLt
  show (j 1).val / 6272 = 2 * ((j 1).val / 6272 / 2 % 16) + (j 1).val / 6272 % 2
  omega

variable (m : (ℓ : Loc nD τ sig) → Buf (Elt F) ℓ)

/-- The counts' array, block by block. -/
theorem cPts_cols (d : Dev nD) (f : Buf (Elt F) (cLoc d)) :
    (cLoc d ↦{fullShare} f : sProp 𝕄)
      = bigSep Finset.univ fun c : Fin 2 => bigSep Finset.univ fun s : Fin 16 => cLoc d ↦[colSet (coordsV c s)]{fullShare} f := by
  have h := pointsTo_biUnion (Ix := HIx 1) (Name := ℕ) (U := UU) (Lvl := ℕ) (ℓ := cLoc d) (q := fullShare) (f := f) (Finset.univ : Finset (Fin 2 × Fin 16))
    (fun p => colSet (coordsV p.1 p.2)) cols_disjoint
  rw [cols_cover, bigSep_univ_prod] at h
  exact h

/-- The shares of the tokens and the lengths: one for each core, dealt on to its tiles. -/
abbrev qCore (c : Fin 2) : PosShare TreeShare := Transfers.shareTok fullShare 2 c
abbrev qTile (c : Fin 2) (s : Fin 16) : PosShare TreeShare := Transfers.shareTok (qCore c) 16 s

/-- The tokens of row `b` of the array `x`. -/
def tokRow (x : IVec S16x4096 32) (b : Fin 16) : S4096.Idx → BitVec 32 := fun l => x (ix2 b (l 0))

theorem rowVal_eq (d : Dev nD) (i : grid0.Coords) (f : Buf (Elt F) (xLoc d)) (b : Fin 16) : rowVal (F := F) d i xV f b = tokRow f b := by
  funext l
  unfold rowVal tokRow rowOf
  rw [Memref.read_squeeze_slice _ _ _ _ (show S1x4096.ShapeCasts S4096 by decide)]
  refine (shapeCast_dropUnit_apply _ _ _ l).trans ?_
  rw [View.readAt_apply]
  refine (congrFun (View.read_whole (Val := Elt F) main_arg0_scv f) _).trans ?_
  refine congrArg f (funext fun a => Fin.ext ?_)
  match a with
  | 0 => simp [LoadRect.idx_apply]; rfl
  | 1 => simp [LoadRect.idx_apply]; rfl

/-- What the counts hold after the call. -/
def cnt [FloatOps F] (x : IVec S16x4096 32) (n : IVec S16 32) : Vec F S16x200704 .f32 := fun j =>
  rowsAt (F := F) (firstOf (tileOf (j 1).val)) (fun b => lenOf (F := F) b n) (tokRow x) 16 (ix2 (j 0) ⟨(j 1).val % 6272, Nat.mod_lt _ (by decide)⟩)

end Cert.KernelIdeal.Run
end
-- ==== Proof.Ideal.Tiles.lean ====
/- What the launch asks of the tiles: each tile's task from its shares to its block of the counts, and the call's arrays dealt
   to the tiles and gathered again. -/
module

public import proofs.«01_k».proof.Proof.Ideal.Split

@[expose] public section

noncomputable section

namespace Cert.KernelIdeal.Run

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

/-- The counts of device `d`'s tokens. -/
def cntD (d : Dev nD) : Buf (Elt F) (cLoc d) := cnt (F := F) (m (xLoc d)) (m (nLoc d))

/-- What a tile has of the arrays, its block of the counts at `f`. -/
def part (d : Dev nD) (c : Fin 2) (s : Fin 16) (f : Buf (Elt F) (cLoc d)) : sProp 𝕄 :=
  iprop((xLoc d ↦{qTile c s} m (xLoc d)) ∗ (nLoc d ↦{qTile c s} m (nLoc d)) ∗ cLoc d ↦[colSet (coordsV c s)]{fullShare} f)

/-- What a core has of the arrays. -/
def share (d : Dev nD) (c : Fin 2) (f : Buf (Elt F) (cLoc d)) : sProp 𝕄 :=
  iprop((xLoc d ↦{qCore c} m (xLoc d)) ∗ (nLoc d ↦{qCore c} m (nLoc d)) ∗ bigSep Finset.univ fun s : Fin 16 => cLoc d ↦[colSet (coordsV c s)]{fullShare} f)

instance part_storable (d : Dev nD) (c : Fin 2) (s : Fin 16) (f : Buf (Elt F) (cLoc d)) : BI.Storable (upEmb : UEmb _ 𝕄) (part m d c s f) := by
  unfold part; infer_instance
instance share_storable (d : Dev nD) (c : Fin 2) (f : Buf (Elt F) (cLoc d)) : BI.Storable (upEmb : UEmb _ 𝕄) (share m d c f) := by
  unfold share; infer_instance

/-- What the handshakes of the call carry. -/
def P : (K (F := F)).Pay (nD := nD) (Val := Elt F) (Name := ℕ) (U := UU) where
  st := fun q d c => match q with | 0 => share m d c (m (cLoc d))
  dn := fun q d c => match q with | 0 => share m d c (cntD m d)
  go := fun q d c s => match q with | 0 => part m d c s (m (cLoc d))
  td := fun q d c s => match q with | 0 => part m d c s (cntD m d)
  x := fun _ _ => iprop(emp)

instance P_storable : (P (F := F) m).IsStorable where
  st q d c := match q with | 0 => share_storable m d c _
  dn q d c := match q with | 0 => share_storable m d c _
  go q d c s := match q with | 0 => part_storable m d c s _
  td q d c s := match q with | 0 => part_storable m d c s _

/-- The call's arrays dealt to a core's tiles and gathered again. -/
theorem vecSplit : (K (F := F)).VecSplit' (P m) 0 := by
  intro d c
  show share m d c (m (cLoc d)) ⊢ |={Set.univ}=> iprop((bigSep Finset.univ fun s : Fin 16 => part m d c s (m (cLoc d)))
    ∗ ((bigSep Finset.univ fun s : Fin 16 => part m d c s (cntD m d)) -∗ share m d c (cntD m d)))
  unfold part share qTile
  rw [bigSep_sep', bigSep_sep', bigSep_sep', bigSep_sep']
  iintro ⟨HX, HN, HC⟩
  ihave HX := (Transfers.pointsTo_toks_split (qCore c) 16) $$ HX
  ihave HN := (Transfers.pointsTo_toks_split (qCore c) 16) $$ HN
  icases HX with ⟨HX0, HX⟩
  icases HN with ⟨HN0, HN⟩
  imodintro
  isplitl [HX HN HC]
  · isplitl [HX]; · iexact HX
    isplitl [HN]; · iexact HN
    iexact HC
  iintro ⟨HX, HN, HC⟩
  isplitl [HX0 HX]
  · iapply (Transfers.pointsTo_toks_join (qCore c) 16)
    isplitl [HX0]; · iexact HX0
    iexact HX
  isplitl [HN0 HN]
  · iapply (Transfers.pointsTo_toks_join (qCore c) 16)
    isplitl [HN0]; · iexact HN0
    iexact HN
  iexact HC

section Body

variable (d : Dev nD) (i : grid0.Coords)

abbrev semCell (s : DmaSems sig S_) : GSem nD τ sig := (thr d i, SemLoc.dma s.sem)

omit [FloatOps F] in
theorem ownSems0_V :
    (ownSems0 (thr d i) : sProp 𝕄) = iprop(semVal (semCell d i cc0_scratch4) 0 ∗ semVal (semCell d i cc0_scoped0) 0 ∗ semVal (semCell d i cc0_scoped1) 0
      ∗ bigSep ((((ownCells (thr d i)).erase (semCell d i cc0_scratch4)).erase (semCell d i cc0_scoped0)).erase (semCell d i cc0_scoped1)) fun g => semVal g 0) := by
  unfold SparseCore.Cfg.ownSems0
  have h (s : DmaSems sig S_) (hs : (SemLoc.dma s.sem : SemLoc sig).isScoped .scVector = true) : semCell d i s ∈ ownCells (thr d i) :=
    (mem_ownCells (g := semCell d i s)).mpr ⟨rfl, hs⟩
  have ne (s s' : DmaSems sig S_) (hs : (SemLoc.dma s.sem : SemLoc sig) ≠ SemLoc.dma s'.sem) : semCell d i s ≠ semCell d i s' := fun e => hs (Prod.mk.inj e).2
  rw [SparseCore.bigSep_erase' (h cc0_scratch4 (by decide)),
    SparseCore.bigSep_erase' (Finset.mem_erase.mpr ⟨ne _ cc0_scratch4 (by decide), h cc0_scoped0 (by decide)⟩),
    SparseCore.bigSep_erase' (Finset.mem_erase.mpr ⟨ne _ cc0_scoped0 (by decide), Finset.mem_erase.mpr ⟨ne _ cc0_scratch4 (by decide), h cc0_scoped1 (by decide)⟩⟩)]

/-- The tile's processor. -/
abbrev procOf : Proc τ := .scVector ((i 0).castLE hcore0) ((i 1).castLE hsub0)

/-- A buffer of the tile, as a place of the device. -/
abbrev bufRef (b : Ref sig .scVector) : DevRef τ sig := (procOf i).devRef b

omit [FloatOps F] in
theorem ownBufs_V :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ bigSep (((((ownRefs (τ := τ) (procOf i)).erase (bufRef i cc0_scratch0)).erase (bufRef i cc0_scratch1)).erase (bufRef i cc0_scratch2)).erase
              (bufRef i cc0_scratch3)) fun b => iprop(∃ f, ((d, b) : Loc nD τ sig) ↦{fullShare} f)) := by
  unfold SparseCore.Cfg.ownBufs
  have h (b : Ref sig .scVector) (hb : (bufRef i b).owner = .proc (procOf i)) : bufRef i b ∈ ownRefs (τ := τ) (procOf i) :=
    SparseCore.Cfg.mem_ownRefs_of_owner (p := (procOf i)) (b := bufRef i b) hb
  have ne (b b' : Ref sig .scVector) (hb : b ≠ b') : bufRef i b ≠ bufRef i b' := fun e => hb (Proc.devRef_injective _ e)
  refine (SparseCore.bigSep_erase' (h cc0_scratch0 rfl)).trans ?_
  rw [SparseCore.bigSep_erase' (Finset.mem_erase.mpr ⟨ne _ cc0_scratch0 (by decide), h cc0_scratch1 rfl⟩),
    SparseCore.bigSep_erase' (Finset.mem_erase.mpr ⟨ne _ cc0_scratch1 (by decide), Finset.mem_erase.mpr ⟨ne _ cc0_scratch0 (by decide), h cc0_scratch2 rfl⟩⟩),
    SparseCore.bigSep_erase' (Finset.mem_erase.mpr ⟨ne _ cc0_scratch2 (by decide), Finset.mem_erase.mpr ⟨ne _ cc0_scratch1 (by decide),
      Finset.mem_erase.mpr ⟨ne _ cc0_scratch0 (by decide), h cc0_scratch3 rfl⟩⟩⟩)]

omit [FloatOps F] in
theorem set_cols : (colsOf i cV).view.set = colSet i := View.set_slice_whole _ _

/-- A whole scratch of the tile. -/
theorem heldAny_whole {sp : Space} (b : Ref sig .scVector) (hb : b.space = sp) :
    HeldAny (F := F) d i (Memref.whole b) = iprop(∃ f, (thr d i).loc b ↦{fullShare} f) := by
  unfold HeldAny
  simp only [Memref.view_whole, View.set_whole]

/-- The lengths are such that the tile's loops end. -/
def LensOK : Prop := ∀ (d : Dev nD) (b : ℕ), b < 16 → LenOK (lenOf (F := F) b (m (nLoc d)))

theorem cols_final (g : Buf (Elt F) (cLoc d))
    (hg : (colsOf i cV).view.read (Elt F) g = rowsAt (F := F) (firstOf i) (fun b => lenOf (F := F) b (nV.view.read (Elt F) (m (nLoc d)))) (rowVal (F := F) d i xV (m (xLoc d))) 16) :
    ∀ j ∈ colSet i, g j = cntD m d j := by
  intro j hj
  have hv := (mem_colSet i j).1 hj
  have h0 : (j 0).val < 16 := (j 0).isLt
  have h1 : (j 1).val < 200704 := (j 1).isLt
  have e := congrFun hg (ix2 (j 0) ⟨(j 1).val % 6272, Nat.mod_lt _ (by decide)⟩)
  have ej : (colsOf i cV).view.emb (ix2 (j 0) ⟨(j 1).val % 6272, Nat.mod_lt _ (by decide)⟩) = j := by
    funext a
    apply Fin.ext
    have ha := congrFun (k0_off145_eq i)
    match a with
    | 0 =>
      show k0_off145 i 0 + 1 * (j 0).val = (j 0).val
      rw [ha 0]
      simp
    | 1 =>
      show k0_off145 i 1 + 1 * ((j 1).val % 6272) = (j 1).val
      rw [ha 1]
      simp
      omega
  rw [View.read_apply, ej] at e
  unfold cntD cnt
  rw [tileOf_eq i hv]
  have hx : rowVal (F := F) d i xV (m (xLoc d)) = tokRow (m (xLoc d)) := funext fun b => rowVal_eq d i (m (xLoc d)) b
  rw [hx] at e
  exact e

/-- The task of the tile at `i`. -/
theorem tile_body (hF : (K (F := F)).Facts) (hlens : LensOK m) (O : CellTallies nD τ sig (HIx 1)) (W : Waits sig (HIx 1)) (hO : ∀ g, O g none = 0) :
    iprop(levAts (K (F := F)).L (K (F := F)).lev ∗ emp ∗ part m d (i 0) (i 1) (m (cLoc d))
        ∗ scopedBufs (thr d i) ∗ scopedSems0 (thr d i) ∗ owes (thr d i) O W)
      ⊢ wp frame (wpE (defs₀ (F := F)) 𝒱₀ (thr d i) none) Set.univ
          (cc0__sc_hist_kernel i xV (Memref.isWhole_whole _) nV (Memref.isWhole_whole _) cV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scoped0 cc0_scoped1)
          fun _ => iprop(part m d (i 0) (i 1) (cntD m d) ∗ scopedBufs (thr d i) ∗ scopedSems0 (thr d i)
            ∗ ∃ W', ⌜∀ p ∈ W', p ∈ W ∨ p.2 = none⌝ ∗ owes (thr d i) O W') := by
  rw [(K (F := F)).scopedBufs_V hF d ((i 0).castLE hcore0) ((i 1).castLE hsub0),
    SparseCore.Cfg.scopedSems0_V (Val := Elt F) d ((i 0).castLE hcore0) ((i 1).castLE hsub0), ownSems0_V, ownBufs_V, body_eq]
  have hb := body_run (F := F) d i xV cc0_scratch4 (qTile (i 0) (i 1)) (m (xLoc d)) nV (Memref.isWhole_whole _) cV
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scoped0 cc0_scoped1 (qTile (i 0) (i 1)) (m (nLoc d)) (hlens d) O W hO
  unfold part
  have hX : Toks d i xV (qTile (i 0) (i 1)) (m (xLoc d)) = (xLoc d ↦{qTile (i 0) (i 1)} m (xLoc d) : sProp 𝕄) := by
    unfold Toks
    simp only [Memref.view_whole, View.set_whole]
  have hN : (nV.view.loc (thr d i) ↦[nV.view.set]{qTile (i 0) (i 1)} m (nLoc d) : sProp 𝕄) = (nLoc d ↦{qTile (i 0) (i 1)} m (nLoc d)) := by
    simp only [Memref.view_whole, View.set_whole]
  have hC (f : Buf (Elt F) (cLoc d)) : ((colsOf i cV).view.loc (thr d i) ↦[(colsOf i cV).view.set]{fullShare} f : sProp 𝕄) = (cLoc d ↦[colSet i]{fullShare} f) := by
    rw [set_cols]
  rw [hX, hN, heldAny_whole d i cc0_scratch0 rfl, heldAny_whole d i cc0_scratch1 rfl, heldAny_whole d i cc0_scratch2 rfl, heldAny_whole d i cc0_scratch3 rfl] at hb
  unfold Rest Owes at hb
  have hc : coordsV (i 0) (i 1) = i := coords_eq i
  rw [hc]
  iintro ⟨#Hlv, -, ⟨HX, HN, HC⟩, ⟨B0, B1, B2, B3, Brest⟩, ⟨S0, S1, S2, Srest⟩, HO⟩
  iapply (wp_wand_r frame (wpE (defs₀ (F := F)) 𝒱₀ (thr d i) none) Set.univ)
  isplitr [Brest Srest]
  · iapply hb
    isplitr; · iexact Hlv
    isplitl [HX]; · iexact HX
    isplitl [HN]; · iexact HN
    isplitl [HC]
    · unfold HeldAny
      iexists _
      rw [hC]
      iexact HC
    isplitl [B0 B1 B2 B3]
    · isplitl [B0]; · iexact B0
      isplitl [B1]; · iexact B1
      isplitl [B2]; · iexact B2
      iexact B3
    isplitl [S0 S1 S2]
    · isplitl [S0]; · iexact S0
      isplitl [S1]; · iexact S1
      iexact S2
    iexact HO
  iintro %_ ⟨HX, HN, HC, ⟨B0, B1, B2, B3⟩, ⟨S0, S1, S2⟩, HO⟩
  isplitl [HX HN HC]
  · isplitl [HX]; · iexact HX
    isplitl [HN]; · iexact HN
    unfold Held
    icases HC with ⟨%g, %hg, HC⟩
    iapply (Entails.of_eq ((hC g).trans (pointsTo_congr (cols_final m d i g hg))))
    iexact HC
  isplitl [B0 B1 B2 B3 Brest]
  · isplitl [B0]; · iexact B0
    isplitl [B1]; · iexact B1
    isplitl [B2]; · iexact B2
    isplitl [B3]; · iexact B3
    iexact Brest
  isplitl [S0 S1 S2 Srest]
  · isplitl [S0]; · iexact S0
    isplitl [S1]; · iexact S1
    isplitl [S2]; · iexact S2
    iexact Srest
  iexact HO

end Body

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__sc_hist_kernel (coordsV c s) xV (Memref.isWhole_whole _) nV (Memref.isWhole_whole _) cV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scoped0 cc0_scoped1) ⟨⟩ c s := rfl

set_option maxRecDepth 1024 in
/-- The launch's obligation for the call's tiles. -/
theorem tileObl (hF : (K (F := F)).Facts) (hlens : LensOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body m d (coordsV ⟨_, hc.1⟩ ⟨_, hc.2⟩) hF hlens O W hO).trans (wp_mono frame _ _ fun _ => obl_post)

end Cert.KernelIdeal.Run
end
-- ==== Proof.Ideal.TcBody.lean ====
/- The TensorCore's kernel at one grid point: what it leaves in its scratch and in the result's staging buffer, from
   what its other buffers hold. -/
module

public import proofs.«01_k».proof.Proof.Ideal.Base
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Accesses to a whole buffer -/

/-- A program of the TensorCore's kernel. -/
abbrev CProg (F : FTy → Type) (α : Type) : Type 1 := Prog (TpuEff nD τ sig (Elt F) Λ₀ .tc) α

/-- What must hold for it to run and leave `Q`. -/
abbrev wpC (c : Dev nD) {α : Type} (p : CProg F α) (Q : α → sProp 𝕄) : sProp 𝕄 :=
  wp frame (wpE (defs₀ (F := F)) 𝒱₀ (c : Thread nD τ) none) Set.univ p Q

/-- A load of a whole buffer reads what it holds. -/
theorem load_whole (c : Dev nD) {sp : CoreSpace} {s : Shape} {e : EltTy} (m : Memref sig .tc sp s e) (X : s.Idx → Elt F e)
    {off : Fin s.rank → ℕ} (hz : off = fun _ => 0) (inb : ∀ a, off a + s.size a ≤ s.size a) {hl : m.view.LoadsAt (Rect.unit (s := s) off s.size inb).toLoadRect}
    {α : Type} {k : (s.Idx → Elt F e) → CProg F α} {Q : α → sProp 𝕄} :
    owns (c : Thread nD τ) m fullShare X
      ⊢ iprop((owns (c : Thread nD τ) m fullShare X -∗ wpC c (k X) Q)
          -∗ wpC c (.op (.load m (Rect.unit (s := s) off s.size inb).toLoadRect hl) k) Q) := by
  subst hz
  unfold owns wpC
  iintro ⟨%f, %hf, H⟩ HK
  iapply (wp_load_rect (defs := defs₀ (F := F)) 𝒱₀ (c : Thread nD τ) none Set.univ (m := m) (r := Rect.unit (s := s) (fun _ => 0) s.size inb)
    (q := fullShare) (f := f) (S := m.view.set) (View.set_slice_subset _ _)) $$ H
  iintro H
  have e : (m.access (Rect.unit (s := s) (fun _ => 0) s.size inb)).read (Elt F) f = X := by
    rw [← hf]
    funext x
    have he : (Rect.unit (s := s) (fun _ => 0) s.size inb).emb x = x := Rect.emb_whole_apply _ x
    show m.view.read (Elt F) f ((Rect.unit (s := s) (fun _ => 0) s.size inb).emb x) = _
    rw [he]
  rw [e]
  iapply HK
  iexists f
  isplitr
  · ipureintro; exact hf
  · iexact H

/-- A store to a whole buffer leaves what is stored. -/
theorem store_whole (c : Dev nD) {sp : CoreSpace} {s : Shape} {e : EltTy} (m : Memref sig .tc sp s e) (X w : s.Idx → Elt F e)
    {off : Fin s.rank → ℕ} (hz : off = fun _ => 0) (inb : ∀ a, off a + s.size a ≤ s.size a)
    {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {α : Type} {k : PUnit → CProg F α} {Q : α → sProp 𝕄} :
    owns (c : Thread nD τ) m fullShare X
      ⊢ iprop((owns (c : Thread nD τ) m fullShare w -∗ wpC c (k ⟨⟩) Q)
          -∗ wpC c (.op (.store m (Rect.unit (s := s) off s.size inb) w Finset.univ hx hm) k) Q) := by
  subst hz
  unfold owns wpC
  iintro ⟨%f, %hf, H⟩ HK
  iapply (wp_store (defs := defs₀ (F := F)) 𝒱₀ (c : Thread nD τ) none Set.univ (m := m) (r := Rect.unit (s := s) (fun _ => 0) s.size inb)
    (f := f) (S := m.view.set) (by rw [View.setOn_univ]; exact View.set_slice_subset _ _)) $$ H
  iintro H
  iapply HK
  iexists _
  isplitr
  rotate_left
  · iexact H
  · ipureintro
    funext x
    have he : (Rect.unit (s := s) (fun _ => 0) s.size inb).emb x = x := Rect.emb_whole_apply _ x
    have h := View.read_slice_write_emb (v := m.view) (Val := Elt F) (Rect.unit (s := s) (fun _ => 0) s.size inb) f w (M := Finset.univ) (x := x) (Finset.mem_univ _)
    rw [he] at h
    exact h

/-! ## The kernel's conditions -/

theorem first_iff (n : Fin 98) : Scalar.cmpi .ne (Scalar.extui (Scalar.cmpi .eq (BitVec.ofNat 32 n.val) 0#32) : BitVec 32) 0#32 = 1#1 ↔ n.val = 0 := by
  revert n; decide

theorem last_iff (i : grid1.Coords) : k1_cond2 i = 1#1 ↔ (i 0).val = 97 := by
  have h : ∀ n : Fin 98, Scalar.cmpi .ne (Scalar.extui (Scalar.cmpi .eq (BitVec.ofNat 32 n.val) 97#32) : BitVec 32) 0#32 = 1#1 ↔ n.val = 97 := by decide
  exact h (i 0)

/-- The accumulator after point `n`, from what it held before and the point's two blocks. -/
def accNext (n : ℕ) (X9 : S16x1000.Idx → Elt F .f32) (X1 : S16x2048.Idx → Elt F .f32) (X2 : S1000x2048.Idx → Elt F .f32) : S16x1000.Idx → Elt F .f32 :=
  k1_pay2 (if n = 0 then k1_pay1 else X9) X1 X2

theorem z2 : (![0, 0] : Fin 2 → ℕ) = fun _ => 0 := funext fun a => by fin_cases a <;> rfl
theorem z1 : (![0] : Fin 1 → ℕ) = fun _ => 0 := funext fun a => by fin_cases a; rfl

/-- The accumulator cleared at the first point, in front of the rest. -/
theorem clear_run (c : Dev nD) (n : Fin 98) (M9 : Memref sig .tc .vmem S16x1000 .f32) (X9 : S16x1000.Idx → Elt F .f32)
    {hl hx hm} {rest : CProg F PUnit} {Q : PUnit → sProp 𝕄} :
    owns (c : Thread nD τ) M9 fullShare X9
      ⊢ iprop((owns (c : Thread nD τ) M9 fullShare (if n.val = 0 then k1_pay1 else X9) -∗ wpC c rest Q)
          -∗ wpC c (if Scalar.cmpi .ne (Scalar.extui (Scalar.cmpi .eq (BitVec.ofNat 32 n.val) 0#32) : BitVec 32) 0#32 = 1#1 then
              Prog.op (.load M9 (Rect.unit (s := S16x1000) ![0, 0] S16x1000.size inb_S16x1000_S16x1000_0_0).toLoadRect hl) fun _ =>
              Prog.op (.store M9 (Rect.unit (s := S16x1000) ![0, 0] S16x1000.size inb_S16x1000_S16x1000_0_0) (k1_pay1 (F := F)) Finset.univ hx hm) fun _ => rest
            else rest) Q) := by
  have hc := first_iff n
  iintro H9 HK
  by_cases hn : n.val = 0
  · rw [if_pos (hc.mpr hn), if_pos hn]
    iapply (load_whole c M9 X9 z2 _) $$ H9
    iintro H9
    iapply (store_whole c M9 X9 k1_pay1 z2 _) $$ H9
    iintro H9
    iapply HK; iexact H9
  · rw [if_neg (fun h => hn (hc.mp h)), if_neg hn]
    iapply HK; iexact H9

/-- The kernel at a grid point. -/
theorem tc_body (c : Dev nD) (i : grid1.Coords)
    (M1 : Memref sig .tc .vmem S16x2048 .f32) (h1 : M1.IsWhole) (M2 : Memref sig .tc .vmem S1000x2048 .f32) (h2 : M2.IsWhole)
    (M3 : Memref sig .tc .vmem S16 .i32) (h3 : M3.IsWhole) (M4 : Memref sig .tc .vmem S1000 .f32) (h4 : M4.IsWhole)
    (M5 : Memref sig .tc .vmem S1000 .f32) (h5 : M5.IsWhole) (M6 : Memref sig .tc .vmem S1000x1 .f32) (h6 : M6.IsWhole)
    (M7 : Memref sig .tc .vmem S1 .f32) (h7 : M7.IsWhole) (M8 : Memref sig .tc .vmem S16 .f32) (h8 : M8.IsWhole)
    (M9 : Memref sig .tc .vmem S16x1000 .f32) (h9 : M9.IsWhole)
    (X1 : S16x2048.Idx → Elt F .f32) (X2 : S1000x2048.Idx → Elt F .f32) (X3 : S16.Idx → Elt F .i32) (X4 X5 : S1000.Idx → Elt F .f32)
    (X6 : S1000x1.Idx → Elt F .f32) (X7 : S1.Idx → Elt F .f32) (X8 : S16.Idx → Elt F .f32) (X9 : S16x1000.Idx → Elt F .f32) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7 ∗ owns (c : Thread nD τ) M8 fullShare X8 ∗ owns (c : Thread nD τ) M9 fullShare X9)
      ⊢ wpC c (cc1__tc_matmul_kernel i M1 h1 M2 h2 M3 h3 M4 h4 M5 h5 M6 h6 M7 h7 M8 h8 M9 h9) fun _ =>
        iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7
        ∗ (∃ X, ⌜(i 0).val = 97 → X = k1_pay3 (accNext (i 0).val X9 X1 X2) X3 X4 X5 X6 X7⌝ ∗ owns (c : Thread nD τ) M8 fullShare X)
        ∗ owns (c : Thread nD τ) M9 fullShare (accNext (i 0).val X9 X1 X2)) := by
  rw [cc1__tc_matmul_kernel_eq_skeleton]
  unfold cc1__tc_matmul_kernel_skel
  simp only [Prog.lift, Prog.bind_op, Prog.bind_ret, Prog.pure_eq_ret]
  iintro ⟨H1, H2, H3, H4, H5, H6, H7, H8, H9⟩
  iapply (clear_run c (i 0) M9 X9) $$ H9
  iintro H9
  iapply (load_whole c M9 _ z2 _) $$ H9
  iintro H9
  iapply (load_whole c M1 _ z2 _) $$ H1
  iintro H1
  iapply (load_whole c M2 _ z2 _) $$ H2
  iintro H2
  iapply (load_whole c M9 _ z2 _) $$ H9
  iintro H9
  iapply (store_whole c M9 _ (accNext (i 0).val X9 X1 X2) z2 _) $$ H9
  iintro H9
  by_cases hn : (i 0).val = 97
  · rw [dif_pos ((last_iff i).mpr hn)]
    iapply (load_whole c M9 _ z2 _) $$ H9
    iintro H9
    iapply (load_whole c M3 _ z1 _) $$ H3
    iintro H3
    iapply (load_whole c M4 _ z1 _) $$ H4
    iintro H4
    iapply (load_whole c M5 _ z1 _) $$ H5
    iintro H5
    iapply (load_whole c M6 _ z2 _) $$ H6
    iintro H6
    iapply (load_whole c M7 _ z1 _) $$ H7
    iintro H7
    iapply (load_whole c M8 _ z1 _) $$ H8
    iintro H8
    iapply (store_whole c M8 _ (k1_pay3 (accNext (i 0).val X9 X1 X2) X3 X4 X5 X6 X7) z1 _) $$ H8
    iintro H8
    unfold wpC
    rw [wp_ret]; imodintro
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _
      isplitr
      rotate_left
      · iexact H8
      · ipureintro; exact fun _ => rfl
    iexact H9
  · rw [dif_neg (fun h => hn ((last_iff i).mp h))]
    unfold wpC
    rw [wp_ret]; imodintro
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists X8
      isplitr
      · ipureintro; exact fun h => absurd h hn
      · iexact H8
    iexact H9

end Cert.KernelIdeal.Run
end
-- ==== Proof.Ideal.Region.lean ====
/- The TensorCore's pipeline over its 98 blocks: what its scratch may hold after each of them, what it leaves in the
   result, and its run from the arrays held whole. -/
module

public import proofs.«01_k».proof.Proof.Ideal.TcBody
public import Idealize.ShloMosaic.Lib.Pipeline.ArrRel
public import Idealize.ShloMosaic.Lib.Pipeline.Regions

@[expose] public section

noncomputable section

namespace Cert.KernelIdeal.Run

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig (HIx 1) (Elt F) ℕ UU ℕ

/-- What each of the TensorCore's buffers holds. -/
abbrev Vals (F : FTy → Type) : Type := (c : Dev nD) → (b : Ref sig .tc) → Buf (Elt F) ((c : Thread nD τ).loc b)

variable (V : Vals F)

/-- Window `w`'s block at point `t`, fetched over a buffer that held `d`. -/
def inBlk (c : Dev nD) (w : Fin 8) (t : Fin cfg1.N) (d : (cfg1.win w).block.Idx → Elt F (cfg1.win w).elt) : (cfg1.win w).block.Idx → Elt F (cfg1.win w).elt :=
  (cfg1.win w).fill (cfg1.grid.coords t) d (((cfg1.win w).blk t).view.read (Elt F) (V c (Pipeline.arrRef spec1 w)))

/-- What the scratch may hold after the first `n` points. -/
def AccAt (c : Dev nD) : ℕ → (S16x1000.Idx → Elt F .f32) → Prop
  | 0, _ => True
  | n + 1, X => ∃ (h : n < cfg1.N) (acc : S16x1000.Idx → Elt F .f32) (d0 : (cfg1.win 0).block.Idx → Elt F (cfg1.win 0).elt)
      (d1 : (cfg1.win 1).block.Idx → Elt F (cfg1.win 1).elt), AccAt c n acc ∧ X = accNext n acc (inBlk V c 0 ⟨n, h⟩ d0) (inBlk V c 1 ⟨n, h⟩ d1)

/-- What the result may hold at the end. -/
def OutIs (c : Dev nD) (X : S16.Idx → Elt F .f32) : Prop :=
  ∃ (t : Fin cfg1.N) (acc : S16x1000.Idx → Elt F .f32) (d2 : (cfg1.win 2).block.Idx → Elt F (cfg1.win 2).elt)
    (d3 : (cfg1.win 3).block.Idx → Elt F (cfg1.win 3).elt) (d4 : (cfg1.win 4).block.Idx → Elt F (cfg1.win 4).elt)
    (d5 : (cfg1.win 5).block.Idx → Elt F (cfg1.win 5).elt) (d6 : (cfg1.win 6).block.Idx → Elt F (cfg1.win 6).elt),
    AccAt V c 98 acc ∧ X = k1_pay3 acc (inBlk V c 2 t d2) (inBlk V c 3 t d3) (inBlk V c 4 t d4) (inBlk V c 5 t d5) (inBlk V c 6 t d6)

/-- The scratch between the points. -/
def PhiAt (c : Dev nD) (n : ℕ) : sProp 𝕄 :=
  iprop(∃ acc, ⌜AccAt V c n acc⌝ ∗ owns (c : Thread nD τ) (Memref.whole cc1_scratch0) fullShare acc)

/-- The pipeline's proof data: the inputs' buffers stay as found, the result's is determined at the last point, and
    between the points the scratch holds what the points before may leave. -/
def rd (c : Dev nD) : RDat τ (Elt F) (HIx 1) ℕ UU ℕ cfg1 c where
  A w := V c (Pipeline.arrRef spec1 w)
  after w t := match w with
    | ⟨7, _⟩ => fun _ X => t.val = 97 → OutIs V c X
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
  Φ t := PhiAt V c t.val
  q _ := fullShare
  owed _ := 0
  recorded _ := {p | (Run.K (F := F)).lev ((c : Thread nD τ), p.1) p.2 ≤ 8}

theorem coord1 (t : Fin cfg1.N) : ((cfg1.grid.coords t) 0).val = t.val := by
  revert t; decide

/-- An input's buffer holds, when the body runs, a fetched block. -/
theorem found (c : Dev nD) (w : Fin 8) (h0 : (cfg1.win w).isOut = false)
    (hclip : ∀ t t' : Fin cfg1.N, (cfg1.win w).index t = (cfg1.win w).index t' → (cfg1.win w).clip (cfg1.grid.coords t) = (cfg1.win w).clip (cfg1.grid.coords t'))
    (hkeep : ∀ t Y X, (rd V c).after w t Y X → X = Y) (t : Fin cfg1.N) (Y : (cfg1.win w).block.Idx → Elt F (cfg1.win w).elt)
    (hY : (rd V c).Finds w t Y) : ∃ d, Y = inBlk V c w t d :=
  (rd V c).finds_in_eq_fetched w h0 hclip hkeep t Y hY

/-- The body at every point. -/
theorem body_obl (c : Dev nD) : (rd V c).BodyObligation (defs₀ (F := F)) 𝒱₀ none Set.univ := fun t Y hY => by
  obtain ⟨d0, e0⟩ := ((rd V c).finds_of_fetch (fetch1_0 t) (Y 0)).mp (hY 0)
  obtain ⟨d1, e1⟩ := ((rd V c).finds_of_fetch (fetch1_1 t) (Y 1)).mp (hY 1)
  obtain ⟨d2, e2⟩ := found V c 2 rfl (fun _ _ _ => rfl) (fun _ _ _ h => h) t (Y 2) (hY 2)
  obtain ⟨d3, e3⟩ := found V c 3 rfl (fun _ _ _ => rfl) (fun _ _ _ h => h) t (Y 3) (hY 3)
  obtain ⟨d4, e4⟩ := found V c 4 rfl (fun _ _ _ => rfl) (fun _ _ _ h => h) t (Y 4) (hY 4)
  obtain ⟨d5, e5⟩ := found V c 5 rfl (fun _ _ _ => rfl) (fun _ _ _ h => h) t (Y 5) (hY 5)
  obtain ⟨d6, e6⟩ := found V c 6 rfl (fun _ _ _ => rfl) (fun _ _ _ h => h) t (Y 6) (hY 6)
  rw [bigSep_W1, bigSep_W1]
  rw [show (rd V c).owesAt none t.succ = (rd V c).owesAt none t.castSucc from rfl]
  rw [show (rd V c).Φ t.castSucc = PhiAt V c t.val from rfl, show (rd V c).Φ t.succ = PhiAt V c (t.val + 1) from rfl]
  unfold PhiAt
  iintro ⟨⟨%acc, %hacc, HS⟩, HO, H0, H1, H2, H3, H4, H5, H6, H7⟩
  have hb := tc_body (F := F) c (cfg1.grid.coords t) (st1_0 t) (hstage1_0 _) (st1_1 t) (hstage1_1 _) (st1_2 t) (hstage1_2 _) (st1_3 t) (hstage1_3 _)
    (st1_4 t) (hstage1_4 _) (st1_5 t) (hstage1_5 _) (st1_6 t) (hstage1_6 _) (st1_7 t) (hstage1_7 _) (Memref.whole cc1_scratch0) (Memref.isWhole_whole _)
    (Y 0) (Y 1) (Y 2) (Y 3) (Y 4) (Y 5) (Y 6) (Y 7) acc
  iapply (wp_wand_r frame (wpE (defs₀ (F := F)) 𝒱₀ (c : Thread nD τ) none) Set.univ)
  isplitl [HS H0 H1 H2 H3 H4 H5 H6 H7]
  · iapply hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iintro %_ ⟨H0, H1, H2, H3, H4, H5, H6, ⟨%X, %hX, H7⟩, HS⟩
  have hnext : AccAt V c (t.val + 1) (accNext ((cfg1.grid.coords t) 0).val acc (Y 0) (Y 1)) :=
    ⟨t.isLt, acc, d0, d1, hacc, by rw [coord1, e0, e1]; rfl⟩
  isplitl [HS]
  · iexists _; isplitr; · ipureintro; exact hnext
    iexact HS
  isplitl [HO]; · iexact HO
  isplitl [H0]; · iexists _; isplitr; · ipureintro; exact (rfl : Y 0 = Y 0)
                  iexact H0
  isplitl [H1]; · iexists _; isplitr; · ipureintro; exact (rfl : Y 1 = Y 1)
                  iexact H1
  isplitl [H2]; · iexists _; isplitr; · ipureintro; exact (rfl : Y 2 = Y 2)
                  iexact H2
  isplitl [H3]; · iexists _; isplitr; · ipureintro; exact (rfl : Y 3 = Y 3)
                  iexact H3
  isplitl [H4]; · iexists _; isplitr; · ipureintro; exact (rfl : Y 4 = Y 4)
                  iexact H4
  isplitl [H5]; · iexists _; isplitr; · ipureintro; exact (rfl : Y 5 = Y 5)
                  iexact H5
  isplitl [H6]; · iexists _; isplitr; · ipureintro; exact (rfl : Y 6 = Y 6)
                  iexact H6
  iexists X
  isplitr
  · ipureintro
    intro ht
    refine ⟨t, accNext ((cfg1.grid.coords t) 0).val acc (Y 0) (Y 1), d2, d3, d4, d5, d6, ?_, (hX ((coord1 t).trans ht)).trans ?_⟩
    · have := hnext; rw [ht] at this; exact this
    · rw [← e2, ← e3, ← e4, ← e5, ← e6]
  · iexact H7

/-! ## The pipeline's run over the thread's state -/

/-- The proof data of every pipeline: there is one. -/
def rdats : (p : Fin 1) → (c : Dev nD) → RDat τ (Elt F) (HIx 1) ℕ UU ℕ (Pipeline.pin (pcfgs (F := F)) (fun p => (cfgs p).toPCfg_adm) p) c
  | ⟨0, _⟩ => rd V

/-- The recorded waits stay at the handshakes' level. -/
def Owed0 (c : Dev nD) : sProp 𝕄 :=
  iprop(∃ W, ⌜(Run.K (F := F)).WBelow (c : Thread nD τ) W 8⌝ ∗ owes (c : Thread nD τ) (0 : CellTallies nD τ sig (HIx 1)) W)

/-- What the arrays hold after the pipeline's run. -/
def Left (c : Dev nD) : sProp 𝕄 :=
  iprop((∃ o, ⌜OutIs V c o⌝ ∗ (c : Thread nD τ).loc main_v2 ↦{fullShare} o)
    ∗ ((c : Thread nD τ).loc main_arg0 ↦{fullShare} V c main_arg0) ∗ ((c : Thread nD τ).loc main_arg1 ↦{fullShare} V c main_arg1)
    ∗ ((c : Thread nD τ).loc main_arg2 ↦{fullShare} V c main_arg2) ∗ ((c : Thread nD τ).loc main_arg3 ↦{fullShare} V c main_arg3)
    ∗ ((c : Thread nD τ).loc main_arg4 ↦{fullShare} V c main_arg4) ∗ ((c : Thread nD τ).loc main_arg5 ↦{fullShare} V c main_arg5)
    ∗ ((c : Thread nD τ).loc main_arg6 ↦{fullShare} V c main_arg6))

theorem whole_out : (cfg1.win 7).WholeAt (⟨97, by rw [show cfg1.N = 98 from N_1]; omega⟩ : Fin cfg1.N) := by
  decide +kernel

/-- The result's array at the end is what the last point left. -/
theorem out_left (c : Dev nD) {G : Buf (Elt F) ((c : Thread nD τ).loc main_v2)} (hG : (rd V c).ArrAt 7 cfg1.N G) : OutIs V c G := by
  obtain ⟨X, ⟨Y, -, hX⟩, hj⟩ := RDat.ArrAt.emb_eq_of_wholeAt (rd := rd V c) hG whole_out
  have e : G = X := funext fun j => hj j
  rw [e]
  exact hX rfl

/-- An input's array at the end is as it was. -/
theorem arr_in (c : Dev nD) (w : Fin 8) (h : (cfg1.win w).isOut = false) :
    (iprop(∃ G, ⌜(rd V c).ArrAt w cfg1.N G⌝ ∗ (cfg1.win w).arr.view.loc (c : Thread nD τ) ↦[(cfg1.win w).arr.view.set]{(rd V c).share w} G) : sProp 𝕄)
      ⊢ (cfg1.win w).arr.view.loc (c : Thread nD τ) ↦{fullShare} V c (Pipeline.arrRef spec1 w) := by
  rw [show (cfg1.win w).arr.view.set = Finset.univ from (arr_whole1 w).set_eq_univ, (rd V c).share_full fun _ => rfl]
  iintro ⟨%G, %hG, H⟩
  have e : G = V c (Pipeline.arrRef spec1 w) := (congrFun ((rd V c).ArrAt_in w h _) G).mp hG
  rw [e]
  iexact H

/-- The result's array at the end is what the last point left. -/
theorem arr_out (c : Dev nD) :
    (iprop(∃ G, ⌜(rd V c).ArrAt 7 cfg1.N G⌝ ∗ (cfg1.win 7).arr.view.loc (c : Thread nD τ) ↦[(cfg1.win 7).arr.view.set]{(rd V c).share 7} G) : sProp 𝕄)
      ⊢ iprop(∃ o, ⌜OutIs V c o⌝ ∗ (c : Thread nD τ).loc main_v2 ↦{fullShare} o) := by
  rw [show (cfg1.win 7).arr.view.set = Finset.univ from (arr_whole1 7).set_eq_univ, (rd V c).share_full fun _ => rfl]
  iintro ⟨%G, %hG, H⟩
  iexists G
  isplitr; · ipureintro; exact out_left V c hG
  iexact H

/-- The arrays, taken together. -/
theorem arrays_left (c : Dev nD) :
    (iprop((rd V c).arraysAt cfg1.N ∗ Pipeline.unscopedRest (Ix := HIx 1) (Name := ℕ) (U := UU) (Lvl := ℕ) spec1 c (V c)) : sProp 𝕄) ⊢ Left V c := by
  unfold RDat.arraysAt Left
  rw [show (bigSep Finset.univ : (Fin cfg1.W → sProp 𝕄) → sProp 𝕄) = bigSep (Finset.univ : Finset (Fin 8)) from rfl, bigSep_W1, unscopedRest1_eq]
  iintro ⟨⟨-, -, H2, H3, H4, H5, H6, H7⟩, ⟨HA, HB⟩⟩
  isplitl [H7]; · iapply (arr_out V c); iexact H7
  isplitl [HA]; · iexact HA
  isplitl [H2]; · iapply (arr_in V c 2 rfl); iexact H2
  isplitl [HB]; · iexact HB
  isplitl [H3]; · iapply (arr_in V c 3 rfl); iexact H3
  isplitl [H4]; · iapply (arr_in V c 4 rfl); iexact H4
  isplitl [H5]; · iapply (arr_in V c 5 rfl); iexact H5
  iapply (arr_in V c 6 rfl); iexact H6

/-- Nothing more is owed at the end. -/
theorem owed_back (c : Dev nD) : (rd V c).owesAt none (Fin.last _) ⊢ Owed0 (F := F) c := by
  unfold RDat.owesAt Pipeline.owesWithin Owed0
  iintro ⟨%W, %hW, HO⟩; iexists W; isplitr
  · ipureintro
    intro p hp
    rcases hW hp with h | ⟨w, s, rfl⟩
    · exact h
    · exact Nat.zero_le 8
  iexact HO

set_option backward.isDefEq.respectTransparency.types false in
/-- The pipeline as a segment of the TensorCore's program. -/
def reg : Pipeline.RDat.RegionSeg (pcfgs (F := F)) (fun p => (cfgs p).toPCfg_adm) (rdats V) none defs₀ 𝒱₀ (Run.K (F := F)).L (Run.K (F := F)).lev 0 where
  win := launch1.win.to₀
  block_pos := launch1.block_pos
  stage_whole := launch1.stage_whole
  K := PEmpty
  osem k := k.elim
  ho := Pipeline.OwnSemFacts.none _
  hbody c := body_obl V c
  hwaits := Pipeline.RDat.hwaits_of_owed_zero _ _ _ _ (Run.K (F := F)).L (Run.K (F := F)).lev 0 fun _ _ => rfl
  pre c := iprop(unscopedBufs c (V c) ∗ Owed0 c)
  post c := iprop(Left V c ∗ Owed0 c)
  X _ := BI.emp
  Y _ := BI.emp
  Z c := Pipeline.unscopedRest (Ix := HIx 1) (Name := ℕ) (U := UU) (Lvl := ℕ) spec1 c (V c)
  hentry c := by
    rw [Pipeline.ownSems0_none]
    have hsplit := RDat.arrays_of_unscopedBufs (p := 0) (pcfgs (F := F)) (fun p => (cfgs p).toPCfg_adm) (rdats V) launch1.win launch1.arr_whole c
      ((rdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin Owed0
      icases HO with ⟨%W, %hW, HO⟩; iexists W; isplitr; · ipureintro; exact fun p hp => Or.inl (show (Run.K (F := F)).lev ((c : Thread nD τ), p.1) p.2 ≤ 8 from hW p hp)
      iexact HO
    isplitr; · iempintro
    iexact Hrest
  hin c := by
    rw [scopedRest1_eq]
    show _ ⊢ PhiAt V c 0
    unfold PhiAt
    iintro ⟨-, -, ⟨%f, Hr⟩⟩
    iexists f
    isplitr; · ipureintro; exact trivial
    rw [owns_whole_eq]
    iexists f
    isplitr; · ipureintro; rfl
    iexact Hr
  hout c := by
    rw [Pipeline.ownSems0_none, scopedRest1_eq]
    show PhiAt V c 98 ⊢ _
    unfold PhiAt
    simp only [owns_whole_eq]
    iintro ⟨%acc, -, ⟨%f, -, Hr⟩⟩
    isplitr; · iempintro
    isplitr; · iempintro
    iexists f
    iexact Hr
  hexit c := by
    iintro ⟨Ha, HO, -, Hr⟩
    imodintro
    isplitl [Ha Hr]
    · iapply (arrays_left V c)
      isplitl [Ha]; · iexact Ha
      iexact Hr
    · iapply (owed_back V c); iexact HO

end Cert.KernelIdeal.Run
end
-- ==== Proof.Ideal.Main.lean ====
/- The whole program: the SparseCore call, the transposition and the TensorCore's pipeline, run from the launch to the
   end, and what the memory then holds. -/
module

public import proofs.«01_k».proof.Proof.Ideal.Tiles
public import proofs.«01_k».proof.Proof.Ideal.Region

@[expose] public section

noncomputable section

namespace Cert.KernelIdeal.Run

open Cert.KernelIdeal Cert.KernelIdeal.Gen Cert.KernelIdeal.Tile

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

variable [FloatOps F] (m : (ℓ : Loc nD τ sig) → Buf (Elt F) ℓ) (ρ : Dev nD → PrngReg)

/-! ## What the protocols start from -/

/-- The pipelines at their one table. -/
abbrev pins : (p : Fin 1) → Pipeline.Cfg sig Λ₀ := Pipeline.pin (pcfgs (F := F)) fun p => (cfgs p).toPCfg_adm

def u₀ : UU := (initOf (K (F := F)).hsCells (K (F := F)).hsToks,
  (initOf (Pipeline.cells (nD := nD) (τ := τ) (pins (F := F)) cellOf_inj) (Pipeline.launchToks (nD := nD) (τ := τ) (pins (F := F)) cellOf_inj), 1))

/-- What the pipeline's cells on device `d` start from. -/
def Ghost (d : Dev nD) : sProp 𝕄 :=
  iprop(Pipeline.cellsGhost (pins (F := F)) (EP (F := F)) 0 d ∗ Pipeline.toksInit (pins (F := F)) (EP (F := F)) 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Ghost (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb _ _ _) $$ HR
  icases H with ⟨HP, -⟩
  imod (Pipeline.fund_ghost (pins (F := F)) (EP (F := F)) cellOf_inj) $$ [HP] with ⟨Hg, Ht⟩
  · unfold EP; iexact HP
  imodintro
  isplitl [HH]; · iexact HH
  isplitl [Hg Ht]
  · unfold Ghost
    rw [bigSep_sep']
    simp only [bigSep_univ_of_subsingleton (0 : Fin 1)]
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays -/

abbrev rx : DevRef τ sig := Proc.devRef .tc (main_arg0 : Ref sig .tc)
abbrev rn : DevRef τ sig := Proc.devRef .tc (main_arg1 : Ref sig .tc)
abbrev rt : DevRef τ sig := Proc.devRef .tc (main_arg2 : Ref sig .tc)
abbrev r3 : DevRef τ sig := Proc.devRef .tc (main_arg3 : Ref sig .tc)
abbrev r4 : DevRef τ sig := Proc.devRef .tc (main_arg4 : Ref sig .tc)
abbrev r5 : DevRef τ sig := Proc.devRef .tc (main_arg5 : Ref sig .tc)
abbrev r6 : DevRef τ sig := Proc.devRef .tc (main_arg6 : Ref sig .tc)
abbrev rc : DevRef τ sig := Proc.devRef .tc (main_v0 : Ref sig .tc)
abbrev rtt : DevRef τ sig := Proc.devRef .tc (main_v1 : Ref sig .tc)
abbrev ro : DevRef τ sig := Proc.devRef .tc (main_v2 : Ref sig .tc)

/-- The TensorCore's arrays outside its kernel's own storage. -/
abbrev arrs : Finset (DevRef τ sig) := {rx, rn, rc, rt, r3, r4, r5, r6, rtt, ro}

theorem held_arrs (d : Dev nD) (W : Valuation τ sig (Elt F)) :
    (held (T d) arrs W : sProp 𝕄) = iprop((xLoc d ↦{fullShare} W rx) ∗ (nLoc d ↦{fullShare} W rn) ∗ (cLoc d ↦{fullShare} W rc)
      ∗ held (T d) {rt, r3, r4, r5, r6, rtt, ro} W) := by
  unfold held arrs
  rw [SparseCore.bigSep_insert' (by decide), SparseCore.bigSep_insert' (by decide), SparseCore.bigSep_insert' (by decide)]

theorem unscoped_held (d : Dev nD) (W : Valuation τ sig (Elt F)) :
    (unscopedBufs d (fun b => W (Proc.devRef .tc b)) : sProp 𝕄) = held (T d) arrs W := by
  have e : arrs = (StableHlo.tcRefs τ sig).filter fun b => ¬ b.isScoped := by decide
  rw [e]
  unfold unscopedBufs held StableHlo.tcRefs
  rw [Finset.filter_map, bigSep_map]
  rfl

abbrev opT : HloOp τ sig (Elt F) := StableHlo.unary main_arg2 main_v1
  ((transpose S1000x200019 [1, 0] · transposes_S200019x1000_S1000x200019_1_0) : (⟨S200019x1000, .f32⟩ : BufTy).Contents (Elt F) → (⟨S1000x200019, .f32⟩ : BufTy).Contents (Elt F))

/-- At the launch; after the call; after the transposition. -/
def V0 (d : Dev nD) : Valuation τ sig (Elt F) := fun b => m (d, b)
def V1 (d : Dev nD) : Valuation τ sig (Elt F) := Function.update (V0 m d) rc (cntD m d)
def V2 (d : Dev nD) : Valuation τ sig (Elt F) := (opT (F := F)).result (V1 m d)

theorem unscoped_V0 (d : Dev nD) : (unscopedBufs d (fun b => m ((SparseCore.T d).loc b)) : sProp 𝕄) = held (T d) arrs (V0 m d) :=
  unscoped_held d (V0 m d)

theorem V1_x (d : Dev nD) : V1 m d rx = m (xLoc d) := Function.update_of_ne (show rx ≠ rc by decide) _ _
theorem V1_n (d : Dev nD) : V1 m d rn = m (nLoc d) := Function.update_of_ne (show rn ≠ rc by decide) _ _
theorem V1_c (d : Dev nD) : V1 m d rc = cntD m d := Function.update_self _ _ _
theorem V1_rest (d : Dev nD) : (held (T d) {rt, r3, r4, r5, r6, rtt, ro} (V1 m d) : sProp 𝕄) = held (T d) {rt, r3, r4, r5, r6, rtt, ro} (V0 m d) := by
  unfold held
  refine bigSep_congr fun b hb => ?_
  have e : V1 m d b = V0 m d b := Function.update_of_ne (fun h => absurd (h ▸ hb) (by decide)) _ _
  rw [e]

/-- What the pipeline starts from. -/
def Vend : Vals F := fun c b => V2 m c (Proc.devRef .tc b)

theorem hT : (opT (F := F)).bufs ⊆ arrs := show ({rt, rtt} : Finset (DevRef τ sig)) ⊆ arrs by decide

/-- The transposition and the call leave an array but their results as launched. -/
theorem V2_of_ne (d : Dev nD) {b : DevRef τ sig} (h1 : b ∉ ({rtt} : Finset (DevRef τ sig))) (h0 : b ≠ rc) : V2 m d b = m (d, b) :=
  ((opT (F := F)).result_of_not_mem (V1 m d) h1).trans (Function.update_of_ne h0 _ _)

theorem Vend_counts (d : Dev nD) : Vend m d main_v0 = cntD m d :=
  ((opT (F := F)).result_of_not_mem (V1 m d) (b := rc) (show rc ∉ ({rtt} : Finset (DevRef τ sig)) by decide)).trans (Function.update_self _ _ _)

theorem back (d : Dev nD) : (held (T d) arrs ((opT (F := F)).result (V1 m d)) : sProp 𝕄) ⊢ unscopedBufs d (Vend m d) :=
  Entails.of_eq (unscoped_held d (V2 m d)).symm

/-! ## The call's arrays, dealt to the cores and gathered -/

theorem deal (d : Dev nD) (f : Buf (Elt F) (cLoc d)) :
    iprop((xLoc d ↦{fullShare} m (xLoc d)) ∗ (nLoc d ↦{fullShare} m (nLoc d)) ∗ (cLoc d ↦{fullShare} f))
      ⊢ (iprop((bigSep Finset.univ fun c : Fin 2 => share m d c f)
          ∗ (xLoc d ↦{Transfers.shareDrop fullShare 2} m (xLoc d)) ∗ (nLoc d ↦{Transfers.shareDrop fullShare 2} m (nLoc d))) : sProp 𝕄) := by
  unfold share qCore
  rw [bigSep_sep', bigSep_sep', cPts_cols]
  iintro ⟨HX, HN, HC⟩
  ihave HX := (Transfers.pointsTo_toks_split fullShare 2) $$ HX
  icases HX with ⟨HXd, HX⟩
  ihave HN := (Transfers.pointsTo_toks_split fullShare 2) $$ HN
  icases HN with ⟨HNd, HN⟩
  isplitl [HX HN HC]
  · isplitl [HX]; · iexact HX
    isplitl [HN]; · iexact HN
    iexact HC
  isplitl [HXd] <;> iassumption

theorem gather (d : Dev nD) (f : Buf (Elt F) (cLoc d)) :
    (iprop((bigSep Finset.univ fun c : Fin 2 => share m d c f)
          ∗ (xLoc d ↦{Transfers.shareDrop fullShare 2} m (xLoc d)) ∗ (nLoc d ↦{Transfers.shareDrop fullShare 2} m (nLoc d))) : sProp 𝕄)
      ⊢ iprop((xLoc d ↦{fullShare} m (xLoc d)) ∗ (nLoc d ↦{fullShare} m (nLoc d)) ∗ (cLoc d ↦{fullShare} f)) := by
  unfold share qCore
  rw [bigSep_sep', bigSep_sep', cPts_cols]
  iintro ⟨⟨HX, HN, HC⟩, HXd, HNd⟩
  isplitl [HX HXd]
  · iapply (Transfers.pointsTo_toks_join fullShare 2)
    isplitl [HXd] <;> iassumption
  isplitl [HN HNd]
  · iapply (Transfers.pointsTo_toks_join fullShare 2)
    isplitl [HNd] <;> iassumption
  iexact HC

/-! ## @main on the TensorCore -/

/-- What is left for the claim. -/
abbrev FIN (d : Dev nD) : sProp 𝕄 := Left (Vend m) d

theorem st0_eq (d : Dev nD) : (bigSep Finset.univ fun c : Fin ((K (F := F)).nCore 0) => (P m).st 0 d c) = bigSep Finset.univ fun c : Fin 2 => share m d c (m (cLoc d)) := rfl
theorem dn0_eq (d : Dev nD) : (bigSep Finset.univ fun c : Fin ((K (F := F)).nCore 0) => (P m).dn 0 d c) = bigSep Finset.univ fun c : Fin 2 => share m d c (cntD m d) := rfl

/-- After the one call the TensorCore owes nothing; what it is owed stands. -/
theorem tcSt_done (d : Dev nD) :
    (K (F := F)).tcSt EH d ((0 : Fin 1).val + 1) ⊢ (iprop(Owed0 (F := F) d ∗ (Owed0 (F := F) d -∗ (K (F := F)).tcSt EH d 1)) : sProp 𝕄) := by
  show (K (F := F)).tcSt EH d 1 ⊢ _
  unfold SparseCore.Cfg.tcSt Owed0
  rw [(K (F := F)).Otc_end d (le_refl 1)]
  iintro ⟨HO, Hr⟩
  isplitl [HO]; · iexact HO
  iintro HO
  isplitl [HO]; · iexact HO
  iexact Hr

/-- The pipeline's entry. -/
abbrev entryProg : Prog (TpuEff nD τ sig (Elt F) (ΛP (F := F)) .tc) PUnit := .op (.customCall (Pipeline.entry 0) ()) .ret

theorem lift_entry (d : Dev nD) (Q : PUnit → sProp 𝕄) :
    wp frame (wpE (D (F := F)) 𝒱 (d : Thread nD τ) none) Set.univ (entryProg (F := F)) Q
      ⊢ wp frame (wpE ((K (F := F)).defs (D (F := F))) 𝒱 (SparseCore.T d) none) Set.univ (Prog.lift (.customCall (SparseCore.inner (Pipeline.entry 0)) ())) Q := by
  have h := (K (F := F)).wp_liftProg (D (F := F)) 𝒱 (d : Thread nD τ) Set.univ none (entryProg (F := F)) Q
  exact h

set_option backward.isDefEq.respectTransparency.types false in
theorem region_entry [∀ e, Nonempty (Elt F e)] (d : Dev nD) (Q : PUnit → sProp 𝕄) :
    iprop((boundary (d : Thread nD τ) ∗ (Left (Vend m) d ∗ Owed0 (F := F) d) -∗ wp frame (wpE (D (F := F)) 𝒱 (d : Thread nD τ) none) Set.univ (.ret ⟨⟩) Q)
        ∗ boundary (d : Thread nD τ) ∗ (unscopedBufs d (Vend m d) ∗ Owed0 (F := F) d) ∗ levAts (K (F := F)).L (K (F := F)).lev
        ∗ Pipeline.cellsGhost (pins (F := F)) (EP (F := F)) 0 d ∗ Pipeline.toksInit (pins (F := F)) (EP (F := F)) 0 d)
      ⊢ wp frame (wpE (D (F := F)) 𝒱 (d : Thread nD τ) none) Set.univ (entryProg (F := F)) Q :=
  Pipeline.RDat.RegionSeg.wp (pcfgs (F := F)) (fun p => (cfgs p).toPCfg_adm) (rdats (Vend m)) none cellOf_inj (EP (F := F))
    defs₀ 𝒱₀ (K (F := F)).L (K (F := F)).lev (reg (Vend m)) d none (fun u hu => nomatch hu) .ret Q

/-- The pipeline's entry, run from what the call and the transposition left. -/
theorem region_run [∀ e, Nonempty (Elt F e)] (d : Dev nD) (Q : PUnit → sProp 𝕄) :
    iprop((boundary (T d) ∗ (Left (Vend m) d ∗ Owed0 (F := F) d) -∗ Q ⟨⟩)
        ∗ boundary (T d) ∗ (unscopedBufs d (Vend m d) ∗ Owed0 (F := F) d) ∗ levAts (K (F := F)).L (K (F := F)).lev ∗ Ghost (F := F) d)
      ⊢ wp frame (wpE ((K (F := F)).defs (D (F := F))) 𝒱 (T d) none) Set.univ
          (Prog.lift (.customCall (SparseCore.inner (Pipeline.entry 0)) ())) Q := by
  iintro ⟨HQ, Hb, Hpre, Hlev, Hg⟩
  iapply (lift_entry d Q)
  iapply (region_entry m d Q)
  unfold Ghost
  isplitl [HQ]
  · iintro ⟨Hb, Hpost⟩
    rw [wp_ret]
    imodintro
    iapply HQ
    isplitl [Hb]; · iexact Hb
    iexact Hpost
  isplitl [Hb]; · iexact Hb
  isplitl [Hpre]; · iexact Hpre
  isplitl [Hlev]; · iexact Hlev
  iexact Hg

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_V0, held_arrs]
  simp only [main, wp_bind, wp_pure]
  iintro ⟨#Hctx, Hst, ⟨Hb, ⟨HX, HN, HC, Hrest⟩, Hts, -⟩, Hg⟩
  ihave Hd := (deal m d (m (cLoc d))) $$ [HX HN HC]
  · isplitl [HX]; · iexact HX
    isplitl [HN]; · iexact HN
    iexact HC
  icases Hd with ⟨Hd, Hdrop⟩
  iapply ((K (F := F)).wp_run (D (F := F)) 𝒱 (EH := EH) (P := P m) κ d 0) $$ [Hst Hd Hdrop Hrest Hb Hts Hg]
  isplitr; · iexact Hctx
  isplitl [Hst]; · iexact Hst
  isplitl [Hd]; · rw [st0_eq]; iexact Hd
  iintro ⟨Hst, Hdn⟩
  ihave Hdn' := (Entails.of_eq (dn0_eq m d)) $$ Hdn
  ihave Hall := (gather m d (cntD m d)) $$ [Hdn' Hdrop]
  · isplitl [Hdn']; · iexact Hdn'
    iexact Hdrop
  icases Hall with ⟨HX, HN, HC⟩
  iapply (wp_hlo_within 𝒱 (SparseCore.T d) none Set.univ (op := opT) (S := arrs) hT (V := V1 m d)) $$ [Hb HX HN HC Hrest]
  · isplitl [Hb]; · iexact Hb
    rw [held_arrs, V1_x, V1_n, V1_c, V1_rest]
    isplitl [HX]; · iexact HX
    isplitl [HN]; · iexact HN
    isplitl [HC]; · iexact HC
    iexact Hrest
  iintro ⟨Hb, Hheld⟩
  ihave Hlev := (SparseCore.Cfg.ctx_levAts κ) $$ Hctx
  ihave Hu := (back m d) $$ Hheld
  ihave Hst := (tcSt_done d) $$ Hst
  icases Hst with ⟨Howed, Hst⟩
  rw [wp_ret]; imodintro
  iapply (region_run m d)
  isplitl [Hst Hts]
  · iintro ⟨Hb, HL, Howed⟩
    ihave Hst := Hst $$ Howed
    imodintro
    isplitl [Hst]; · iexact Hst
    isplitl [HL]; · iexact HL
    isplitl [Hb] <;> iassumption
  isplitl [Hb]; · iexact Hb
  isplitl [Hu Howed]
  · isplitl [Hu]; · iexact Hu
    iexact Howed
  isplitl [Hlev]; · iexact Hlev
  iexact Hg

/-! ## The end -/

/-- What the memory holds at the end. -/
def fq (d : Dev nD) (s' : MemSt nD τ sig (Elt F)) : Prop :=
  OutIs (Vend m) d (s'.mem ((d : Thread nD τ).loc main_v2)) ∧ s'.mem ((d : Thread nD τ).loc main_arg0) = m ((d : Thread nD τ).loc main_arg0)
    ∧ s'.mem ((d : Thread nD τ).loc main_arg1) = m ((d : Thread nD τ).loc main_arg1) ∧ s'.mem ((d : Thread nD τ).loc main_arg2) = m ((d : Thread nD τ).loc main_arg2)
    ∧ s'.mem ((d : Thread nD τ).loc main_arg3) = m ((d : Thread nD τ).loc main_arg3) ∧ s'.mem ((d : Thread nD τ).loc main_arg4) = m ((d : Thread nD τ).loc main_arg4)
    ∧ s'.mem ((d : Thread nD τ).loc main_arg5) = m ((d : Thread nD τ).loc main_arg5) ∧ s'.mem ((d : Thread nD τ).loc main_arg6) = m ((d : Thread nD τ).loc main_arg6)

/-- An array held whole is what the memory holds. -/
theorem mem_agree (s' : Phys nD τ sig (Elt F)) (ℓ : Loc nD τ sig) (f : Buf (Elt F) ℓ) :
    (iprop((ℓ ↦{fullShare} f) ∗ SI s') : sProp 𝕄) ⊢ iprop(⌜s'.mem.mem ℓ = f⌝ ∗ SI s') := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'.mem⌝ : sProp 𝕄) := by
  unfold FIN Left
  iintro ⟨⟨⟨%o, %ho, H⟩, H0, H1, H2, H3, H4, H5, H6⟩, HSI⟩
  ihave HS := (mem_agree s' _ _) $$ [H HSI]
  · isplitl [H] <;> iassumption
  icases HS with ⟨%e, HSI⟩
  ihave HS := (mem_agree s' _ _) $$ [H0 HSI]
  · isplitl [H0] <;> iassumption
  icases HS with ⟨%e0, HSI⟩
  ihave HS := (mem_agree s' _ _) $$ [H1 HSI]
  · isplitl [H1] <;> iassumption
  icases HS with ⟨%e1, HSI⟩
  ihave HS := (mem_agree s' _ _) $$ [H2 HSI]
  · isplitl [H2] <;> iassumption
  icases HS with ⟨%e2, HSI⟩
  ihave HS := (mem_agree s' _ _) $$ [H3 HSI]
  · isplitl [H3] <;> iassumption
  icases HS with ⟨%e3, HSI⟩
  ihave HS := (mem_agree s' _ _) $$ [H4 HSI]
  · isplitl [H4] <;> iassumption
  icases HS with ⟨%e4, HSI⟩
  ihave HS := (mem_agree s' _ _) $$ [H5 HSI]
  · isplitl [H5] <;> iassumption
  icases HS with ⟨%e5, HSI⟩
  ihave HS := (mem_agree s' _ _) $$ [H6 HSI]
  · isplitl [H6] <;> iassumption
  icases HS with ⟨%e6, -⟩
  ipureintro
  refine ⟨by rw [e]; exact ho, e0.trans ?_, e1.trans ?_, e2.trans ?_, e3.trans ?_, e4.trans ?_, e5.trans ?_, e6.trans ?_⟩ <;>
    exact V2_of_ne m d (by decide) (by decide)

theorem run_main [∀ e, Nonempty (Elt F e)] (hlens : LensOK m) :
    θ_run (defs (F := F)) (threads (F := F)) ⟨m, fun _ => 0, ρ⟩ (fun r => (∀ d : Dev nD, fq m d r.2) ∧ r.2.sem = fun _ => 0) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts hlens)
    (fun q _ => match q with | 0 => SparseCore.Cfg.VecSplit.of_plain (vecSplit m))
    m ρ main (fun d => Ghost (F := F) d) (FIN m) (u₀ (F := F)) (sep_elim_left.trans (hu₀ m)) (hmain m ρ) (fun d s' => fq m d s'.mem) (hfin m)
    (fun r => (∀ d : Dev nD, fq m d r.2) ∧ r.2.sem = fun _ => 0) (fun _ h hz => ⟨h, hz⟩)

end Cert.KernelIdeal.Run
end
-- ==== Proof.Ideal.Lens.lean ====
/- A row's length, as the kernel takes it out of the lengths, is that row's. -/
module

public import proofs.«01_k».proof.Proof.Ideal.Tiles
public import proofs.«01_k».proof.Proof.Ranges

@[expose] public section

noncomputable section

namespace Cert.KernelIdeal.Run

open Cert.KernelIdeal Cert.KernelIdeal.Gen Cert.KernelIdeal.Tile
open Idealize.ShloMosaic

variable {F : FTy → Type} [FloatOps F]

/-- The sum of sixteen words. -/
theorem scan_last (v : IVec S16 32) : extractAt (s := S16) ![15] (scan .sum v) inpos_S16_p15
    = v (ix1 0) + v (ix1 1) + v (ix1 2) + v (ix1 3) + v (ix1 4) + v (ix1 5) + v (ix1 6) + v (ix1 7)
      + v (ix1 8) + v (ix1 9) + v (ix1 10) + v (ix1 11) + v (ix1 12) + v (ix1 13) + v (ix1 14) + v (ix1 15) := by
  have h : ((List.finRange 16).filter fun k => decide (0 < k.val ∧ k.val ≤ (15 : Fin 16).val)) = [1, 2, 3, 4, 5, 6, 7, 8, 9, 10, 11, 12, 13, 14, 15] := by decide
  have h2 : extractAt (s := S16) ![15] (scan .sum v) inpos_S16_p15
      = List.foldl (fun r (k : Fin 16) => ScanKind.sum.step r (v (Shape.ofLane (d := ![16]) k))) (v (Shape.ofLane (d := ![16]) (0 : Fin 16)))
          ((List.finRange 16).filter fun k => decide (0 < k.val ∧ k.val ≤ (15 : Fin 16).val)) := by
    unfold extractAt scan
    rfl
  rw [h2, h]
  simp only [List.foldl]
  have e (k : Fin 16) : (Shape.ofLane (d := ![16]) k : S16.Idx) = ix1 k := by
    funext a
    have : a = 0 := Subsingleton.elim _ _
    subst this
    rfl
  simp only [e]
  rfl

theorem lenOf_eq (b : Fin 16) (lens : Vec F S16 .i32) : lenOf (F := F) b.val lens = lens (ix1 b) := by
  unfold lenOf
  rw [scan_last]
  have e (k : Fin 16) : (select (cmpi .eq lanes (broadcast S16 (BitVec.ofNat 32 b.val))) lens (broadcast S16 0#32) : IVec S16 32) (ix1 k)
      = if k = b then (lens (ix1 k) : BitVec 32) else 0#32 := by
    have el : lanes (ix1 k) = BitVec.ofNat 32 k.val := by
      show BitVec.ofNat 32 (0 * _ + k.val) = _
      rw [Nat.zero_mul, Nat.zero_add]
    show (if IntOp.cmpi .eq (lanes (ix1 k)) (BitVec.ofNat 32 b.val) = 1#1 then (lens (ix1 k) : BitVec 32) else 0#32) = _
    rw [el]
    show (if IntOp.cmpi .eq (BitVec.ofNat 32 k.val) (BitVec.ofNat 32 b.val) = 1#1 then (lens (ix1 k) : BitVec 32) else 0#32) = _
    have : (IntOp.cmpi .eq (BitVec.ofNat 32 k.val) (BitVec.ofNat 32 b.val) = 1#1) ↔ k = b := by revert k b; decide
    simp only [this]
  simp only [e]
  fin_cases b <;> simp

/-- Lengths in range are such that the tile's loops end. -/
theorem lensOK_of (m : (ℓ : Loc nD τ sig) → Buf (Elt F) ℓ)
    (h : ∀ (d : Dev nD) (b : S16.Idx), 1 ≤ ((m (nLoc d) : IVec S16 32) b).toInt ∧ ((m (nLoc d) : IVec S16 32) b).toInt ≤ 4096) : LensOK m := by
  intro d b hb
  rw [show lenOf (F := F) b (m (nLoc d)) = (m (nLoc d) : Vec F S16 .i32) (ix1 ⟨b, hb⟩) from lenOf_eq ⟨b, hb⟩ _]
  exact h d _

end Cert.KernelIdeal.Run
end
-- ==== Proof.Value.Counts.lean ====
/- The counts over the extended reals: entry `v` of row `b` is the number of positions of sequence `b` that hold the token `v`. -/
module

public import proofs.«01_k».proof.Proof.Ideal.Lens
public import Idealize.ShloMosaic.Lib.IdealHost
public import Idealize.ShloMosaic.PureOps.Ideal.Laws

@[expose] public section

noncomputable section

namespace Cert.KernelIdeal.Math

open Cert.KernelIdeal Cert.KernelIdeal.Gen Cert.KernelIdeal.Tile Cert.KernelIdeal.Run
open Idealize.ShloMosaic
open scoped BigOperators

/-- What an adding scatter leaves at an index: what was there and the values of the lanes that name it. -/
theorem storeIdx_add {s : Shape} {d : Fin 1 → ℕ} (f : Vec Ideal s .f32) (idxs : Fin s.rank → IVec ⟨1, d⟩ 32) (v : Vec Ideal ⟨1, d⟩ .f32)
    (mask : IVec ⟨1, d⟩ 1) (h : ∀ a x, (idxs a x).toNat < s.size a) (j : s.Idx) :
    storeIdx f idxs v mask true h j
      = (f j + ∑ k : Fin (d 0), if mask (Shape.ofLane k) = 1 ∧ ∀ a, (j a).val = (idxs a (Shape.ofLane k)).toNat then (v (Shape.ofLane k) : EReal) else 0 : EReal) := by
  rw [Fin.sum_univ_def]
  unfold storeIdx
  generalize List.finRange (d 0) = ls
  induction ls generalizing f with
  | nil => simp
  | cons k ls ih =>
    rw [List.foldl_cons, ih, List.map_cons, List.sum_cons, ← add_assoc]
    congr 1
    by_cases hm : mask (Shape.ofLane k) = 1
    · refine (congrFun (if_pos hm) j).trans ?_
      by_cases hj : ∀ a, (j a).val = (idxs a (Shape.ofLane k)).toNat
      · have e : idxAt idxs h (Shape.ofLane k) = j := funext fun a => Fin.ext (hj a).symm
        have hc : mask (Shape.ofLane k) = 1 ∧ ∀ a, (j a).val = (idxs a (Shape.ofLane k)).toNat := ⟨hm, hj⟩
        rw [if_pos hc]
        refine (if_pos hj).trans ?_
        show (f (idxAt idxs h (Shape.ofLane k)) + v (Shape.ofLane k) : EReal) = _
        rw [e]
      · have hc : ¬ (mask (Shape.ofLane k) = 1 ∧ ∀ a, (j a).val = (idxs a (Shape.ofLane k)).toNat) := fun c => hj c.2
        rw [if_neg hc, add_zero]
        exact if_neg hj
    · have hc : ¬ (mask (Shape.ofLane k) = 1 ∧ ∀ a, (j a).val = (idxs a (Shape.ofLane k)).toNat) := fun c => hm c.1
      rw [if_neg hc, add_zero]
      exact congrFun (if_neg hm) j

/-- One for a position that the sequence reaches and that holds the token `v`, else zero. -/
def hit (x : S4096.Idx → BitVec 32) (nb : BitVec 32) (v l : ℕ) : EReal :=
  if h : l < 4096 then (if (x (ix1 ⟨l, h⟩)).toNat = v ∧ (l : ℤ) < nb.toInt then 1 else 0) else 0

theorem countAt_apply (b b' : Fin 16) (v2 nb : BitVec 32) (x : S4096.Idx → BitVec 32) (n : ℕ) (f : Vec Ideal S16x6272 .f32) (col : Fin 6272)
    (hn : n + 16 ≤ 4096) (hx : ∀ l, (x l).toNat < 200019) (hv : v2.toNat < 200704) :
    countAt b v2 nb x n f (ix2 b' col) = (f (ix2 b' col) + if b' = b then ∑ k : Fin 16, hit x nb (v2.toNat + col.val) (n + k.val) else 0 : EReal) := by
  unfold countAt
  refine (storeIdx_add (d := ![16]) _ _ _ _ _ _).trans ?_
  congr 1
  have key (k : Fin 16) : (laneMask (F := Ideal) v2 nb (BitVec.ofNat 32 n) (tokens (F := Ideal) x n) (Shape.ofLane (d := ![16]) k) = 1
      ∧ ∀ a, ((ix2 b' col : S16x6272.Idx) a).val
        = ((![broadcast S16 (BitVec.ofNat 32 b.val), laneCol (F := Ideal) v2 nb (BitVec.ofNat 32 n) (tokens (F := Ideal) x n)] : Fin 2 → IVec S16 32) a (Shape.ofLane (d := ![16]) k)).toNat)
      ↔ b' = b ∧ (x (ix1 ⟨n + k.val, by omega⟩)).toNat = v2.toNat + col.val ∧ ((n + k.val : ℕ) : ℤ) < nb.toInt := by
    have hlt : n + k.val < 4096 := by omega
    have et : tokens (F := Ideal) x n (Shape.ofLane (d := ![16]) k) = x (ix1 ⟨n + k.val, hlt⟩) := by
      unfold tokens
      rw [dif_pos (show n + ((Shape.ofLane (d := ![16]) k : S16.Idx) 0).val < 4096 from hlt)]
      congr 1
      funext a
      obtain rfl : a = 0 := Subsingleton.elim _ _
      rfl
    rw [Fin.forall_fin_two]
    have e0 : ((ix2 b' col : S16x6272.Idx) 0).val = b'.val := rfl
    have e1 : ((ix2 b' col : S16x6272.Idx) 1).val = col.val := rfl
    have e2 : ((broadcast S16 (BitVec.ofNat 32 b.val) : IVec S16 32) (Shape.ofLane (d := ![16]) k)).toNat = b.val := by
      show (BitVec.ofNat 32 b.val).toNat = b.val
      rw [BitVec.toNat_ofNat]; omega
    have hk : (BitVec.ofNat 32 n + BitVec.ofNat 32 k.val : BitVec 32).toInt = ((n + k.val : ℕ) : ℤ) := by
      rw [← BitVec.ofNat_add, WordArith.toInt_ofNat_small _ (by omega)]
    have hm := laneMask_iff (F := Ideal) v2 nb (BitVec.ofNat 32 n) (tokens (F := Ideal) x n) (Shape.ofLane (d := ![16]) k)
    rw [show ((Shape.ofLane (d := ![16]) k : S16.Idx) 0).val = k.val from rfl, hk, et] at hm
    have hxl := hx (ix1 ⟨n + k.val, hlt⟩)
    have hsub : (x (ix1 ⟨n + k.val, hlt⟩) - v2).toInt = ((x (ix1 ⟨n + k.val, hlt⟩)).toNat : ℤ) - v2.toNat := by
      rw [WordArith.toInt_sub_of_bounds] <;> (rw [BitVec.toInt_eq_toNat_of_lt (by omega), BitVec.toInt_eq_toNat_of_lt (by omega)]) <;> omega
    rw [hsub] at hm
    rw [e0, e1]
    constructor
    · rintro ⟨h1, h2, h3⟩
      have hm' := hm.1 h1
      have h2' : b'.val = b.val := h2.trans e2
      have h3' : col.val = (Scalar.select (laneMask (F := Ideal) v2 nb (BitVec.ofNat 32 n) (tokens (F := Ideal) x n) (Shape.ofLane (d := ![16]) k))
        (tokens (F := Ideal) x n (Shape.ofLane (d := ![16]) k) - v2) 0#32).toNat := h3
      rw [et, h1] at h3'
      have h4 : col.val = (x (ix1 ⟨n + k.val, hlt⟩) - v2).toNat := h3'
      rw [BitVec.toNat_sub_of_le (by rw [BitVec.le_def]; omega)] at h4
      exact ⟨Fin.ext h2', by omega, hm'.2⟩
    · rintro ⟨h1, h2, h3⟩
      have hc := col.isLt
      have h4 := hm.2 ⟨⟨by omega, by omega⟩, h3⟩
      refine ⟨h4, (congrArg Fin.val h1).trans e2.symm, ?_⟩
      show col.val = (Scalar.select (laneMask (F := Ideal) v2 nb (BitVec.ofNat 32 n) (tokens (F := Ideal) x n) (Shape.ofLane (d := ![16]) k))
        (tokens (F := Ideal) x n (Shape.ofLane (d := ![16]) k) - v2) 0#32).toNat
      rw [et, h4]
      show col.val = (x (ix1 ⟨n + k.val, hlt⟩) - v2).toNat
      rw [BitVec.toNat_sub_of_le (by rw [BitVec.le_def]; omega)]
      omega
  have one (k : S16.Idx) : (k0_pay386 (F := Ideal) k : EReal) = 1 := Ideal.ofBits_one_f32
  have lane (k : Fin 16) : (if laneMask (F := Ideal) v2 nb (BitVec.ofNat 32 n) (tokens (F := Ideal) x n) (Shape.ofLane (d := ![16]) k) = 1
      ∧ ∀ a, ((ix2 b' col : S16x6272.Idx) a).val
        = ((![broadcast S16 (BitVec.ofNat 32 b.val), laneCol (F := Ideal) v2 nb (BitVec.ofNat 32 n) (tokens (F := Ideal) x n)] : Fin 2 → IVec S16 32) a (Shape.ofLane (d := ![16]) k)).toNat
      then (k0_pay386 (F := Ideal) (Shape.ofLane (d := ![16]) k) : EReal) else 0)
      = if b' = b then hit x nb (v2.toNat + col.val) (n + k.val) else 0 := by
    unfold hit
    rw [dif_pos (show n + k.val < 4096 by omega), one]
    by_cases hb : b' = b
    · rw [if_pos hb]
      exact if_congr ((key k).trans (by simp [hb])) rfl rfl
    · rw [if_neg hb, if_neg fun c => hb ((key k).1 c).1]
  refine (Finset.sum_congr rfl fun k _ => lane k).trans ?_
  by_cases hb : b' = b
  · simp only [if_pos hb]; rfl
  · simp only [if_neg hb]
    exact Finset.sum_const_zero

theorem rowAt_apply (b b' : Fin 16) (v2 nb : BitVec 32) (x : S4096.Idx → BitVec 32) (f : Vec Ideal S16x6272 .f32) (col : Fin 6272)
    (hx : ∀ l, (x l).toNat < 200019) (hv : v2.toNat < 200704) (g : ℕ) (hg : g ≤ 256) :
    rowAt b v2 nb x f g (ix2 b' col) = (f (ix2 b' col) + if b' = b then ∑ l ∈ Finset.range (16 * g), hit x nb (v2.toNat + col.val) l else 0 : EReal) := by
  induction g with
  | zero => simp [rowAt]
  | succ g ih =>
    show countAt b v2 nb x (16 * g) (rowAt b v2 nb x f g) (ix2 b' col) = _
    rw [countAt_apply _ _ _ _ _ _ _ _ (by omega) hx hv, ih (by omega), add_assoc, show 16 * (g + 1) = 16 * g + 16 from rfl, Finset.sum_range_add,
      Finset.sum_range (n := 16)]
    by_cases hb : b' = b
    · simp only [if_pos hb]
    · simp only [if_neg hb, add_zero]

/-- The positions that a row's loop passes over hold all that count. -/
theorem sum_hit (x : S4096.Idx → BitVec 32) (nb : BitVec 32) (v M : ℕ) (h1 : nb.toInt ≤ M) (h2 : M ≤ 4096) :
    ∑ l ∈ Finset.range M, hit x nb v l = ∑ l ∈ Finset.range 4096, hit x nb v l := by
  refine Finset.sum_subset (Finset.range_subset_range.2 h2) fun l _ hl => ?_
  rw [Finset.mem_range, not_lt] at hl
  unfold hit
  split
  · rw [if_neg fun c => by have := c.2; omega]
  · rfl

theorem rowsAt_apply (v2 : BitVec 32) (nb : ℕ → BitVec 32) (x : Fin 16 → S4096.Idx → BitVec 32) (b' : Fin 16) (col : Fin 6272)
    (hnb : ∀ b, b < 16 → LenOK (nb b)) (hx : ∀ b l, (x b l).toNat < 200019) (hv : v2.toNat < 200704) (B : ℕ) (hB : B ≤ 16) :
    rowsAt (F := Ideal) v2 nb x B (ix2 b' col)
      = (if b'.val < B then ∑ l ∈ Finset.range 4096, hit (x b') (nb b'.val) (v2.toNat + col.val) l else 0 : EReal) := by
  induction B with
  | zero => exact Ideal.ofBits_zero_f32
  | succ B ih =>
    have hb : B < 16 := by omega
    obtain ⟨h1, h2⟩ := hnb B hb
    rw [rowsAt, dif_pos hb, rowAt_apply _ _ _ _ _ _ _ (hx _) hv _ (by omega), sum_hit (x ⟨B, hb⟩) (nb B) _ _ (by omega) (by omega), ih (by omega)]
    by_cases e : b' = ⟨B, hb⟩
    · subst e
      rw [if_neg (lt_irrefl _), if_pos rfl, if_pos (Nat.lt_succ_self _), zero_add]
    · have e' : b'.val ≠ B := fun c => e (Fin.ext c)
      rw [if_neg e, add_zero]
      by_cases c : b'.val < B
      · rw [if_pos c, if_pos (by omega)]
      · rw [if_neg c, if_neg (by omega)]

/-- The counts the kernel's first half leaves. -/
theorem cnt_apply (x : IVec S16x4096 32) (n : IVec S16 32) (hx : ∀ i, 0 ≤ (x i).toInt ∧ (x i).toInt < 200019) (hn : ∀ b, 1 ≤ (n b).toInt ∧ (n b).toInt ≤ 4096)
    (b : Fin 16) (v : Fin 200704) :
    cnt (F := Ideal) x n (ix2 b v) = (∑ l : Fin 4096, if (x (ix2 b l)).toNat = v.val ∧ (l.val : ℤ) < (n (ix1 b)).toInt then 1 else 0 : EReal) := by
  have hv := v.isLt
  have e : (firstOf (tileOf v.val)).toNat = 6272 * (v.val / 6272) := by
    rw [firstOf_toNat]
    show 6272 * (2 * (v.val / 6272 / 2 % 16) + v.val / 6272 % 2) = _
    omega
  have hx' (i) : (x i).toNat < 200019 := by
    have h := hx i
    rw [BitVec.toInt_eq_toNat_cond] at h
    split at h <;> omega
  show rowsAt (F := Ideal) (firstOf (tileOf v.val)) (fun b => lenOf (F := Ideal) b n) (tokRow x) 16 (ix2 b ⟨v.val % 6272, _⟩) = _
  refine (rowsAt_apply _ _ _ _ _ (fun b hb => ?_) (fun b l => hx' _) (by rw [e]; omega) 16 le_rfl).trans ?_
  · show LenOK (lenOf (F := Ideal) (⟨b, hb⟩ : Fin 16).val n)
    rw [lenOf_eq]
    exact hn _
  rw [if_pos b.isLt, lenOf_eq, e, Finset.sum_range]
  refine Finset.sum_congr rfl fun l _ => ?_
  unfold hit
  rw [dif_pos l.isLt]
  show (if (x (ix2 b l)).toNat = 6272 * (v.val / 6272) + v.val % 6272 ∧ (l.val : ℤ) < (n (ix1 b)).toInt then (1 : EReal) else 0) = _
  rw [Nat.div_add_mod]

end Cert.KernelIdeal.Math
end
-- ==== Proof.Value.Blocks.lean ====
/- The scratch after the last block: each row of the counts times the whole table. -/
module

public import proofs.«01_k».proof.Proof.Value.Counts
public import proofs.«01_k».proof.Proof.Ideal.Main
public import Idealize.ShloMosaic.Lib.Pointwise.Contract

@[expose] public section

noncomputable section

namespace Cert.KernelIdeal.Math

open Cert.KernelIdeal Cert.KernelIdeal.Gen Cert.KernelIdeal.Run
open Idealize.ShloMosaic
open scoped BigOperators

variable (V : Vals Ideal) (c : Dev nD)

/-- The counts, the transposed table and their blocks, as extended reals. -/
abbrev cArr : S16x200704.Idx → EReal := V c main_v0
abbrev tArr : S1000x200019.Idx → EReal := V c main_v1
abbrev cBlk (t : Fin cfg1.N) (d : (cfg1.win 0).block.Idx → Elt Ideal (cfg1.win 0).elt) : S16x2048.Idx → EReal := inBlk V c 0 t d
abbrev tBlk (t : Fin cfg1.N) (d : (cfg1.win 1).block.Idx → Elt Ideal (cfg1.win 1).elt) : S1000x2048.Idx → EReal := inBlk V c 1 t d

/-- The counts' block at point `t`. -/
theorem blk0_apply (t : Fin cfg1.N) (d) (b : Fin 16) (k : Fin 2048) (hk : 2048 * t.val + k.val < 200704) :
    cBlk V c t d (ix2 b k) = cArr V c (ix2 b ⟨2048 * t.val + k.val, hk⟩) := by
  have hm : (cfg1.win 0).moved (cfg1.grid.coords t) (ix2 b k : S16x2048.Idx) = true :=
    ((cfg1.win 0).moved_iff _ _).mpr fun a => ((ix2 b k : S16x2048.Idx) a).isLt
  unfold cBlk inBlk Pipeline.Window.fill
  rw [dif_pos hm]
  show V c main_v0 _ = V c main_v0 _
  congr 1
  have hc := coord1 t
  have ht : t.val < 98 := t.isLt
  funext a
  apply Fin.ext
  fin_cases a
  · show 0 * 16 + 1 * b.val = b.val
    omega
  · show (BitVec.ofNat 32 ((cfg1.grid.coords t) 0).val).toNat * 2048 + 1 * k.val = 2048 * t.val + k.val
    rw [hc, BitVec.toNat_ofNat]
    omega

/-- The table's block at point `t`, where it lies inside the table. -/
theorem blk1_apply (t : Fin cfg1.N) (d) (p : Fin 1000) (k : Fin 2048) (hk : 2048 * t.val + k.val < 200019) :
    tBlk V c t d (ix2 p k) = tArr V c (ix2 p ⟨2048 * t.val + k.val, hk⟩) := by
  have hc := coord1 t
  have ht : t.val < 98 := t.isLt
  have hix : cc1_transform_1 (cfg1.grid.coords t) 1 = t.val := by
    show (BitVec.ofNat 32 ((cfg1.grid.coords t) 0).val).toNat = t.val
    rw [hc, BitVec.toNat_ofNat]
    omega
  have hm : (cfg1.win 1).moved (cfg1.grid.coords t) (ix2 p k : S1000x2048.Idx) = true := by
    refine ((cfg1.win 1).moved_iff _ _).mpr fun a => ?_
    fin_cases a
    · exact p.isLt
    · show k.val < (Pipeline.Clip.of (cc1_transform_1 (cfg1.grid.coords t) 1) 2048 200019).extent 2048
      rw [hix]
      unfold Pipeline.Clip.of
      split
      · exact k.isLt
      · show k.val < 200019 - t.val * 2048
        omega
  unfold tBlk inBlk Pipeline.Window.fill
  rw [dif_pos hm]
  show V c main_v1 _ = V c main_v1 _
  congr 1
  funext a
  apply Fin.ext
  fin_cases a
  · show 0 * 1000 + 1 * p.val = p.val
    omega
  · show cc1_transform_1 (cfg1.grid.coords t) 1 * 2048 + 1 * k.val = 2048 * t.val + k.val
    rw [hix]
    omega

theorem zero_off (n k : ℕ) : 0 * n + 1 * k = k := by omega

/-- A window whose block is whole at every point, and is read in place, holds what it reads. -/
theorem whole_eq (w : Fin 8) (t : Fin cfg1.N) (d) (A : (cfg1.win w).block.Idx → Elt Ideal (cfg1.win w).elt)
    (hw : ∀ (j : (cfg1.win w).block.Idx) a, (j a).val < (cfg1.win w).xsize (cfg1.grid.coords t) a)
    (hA : ∀ k, ((cfg1.win w).blk t).view.read (Elt Ideal) (V c (Pipeline.arrRef spec1 w)) k = A ((cfg1.win w).xinj (cfg1.grid.coords t) k)) :
    inBlk V c w t d = A := by
  funext j
  unfold inBlk Pipeline.Window.fill
  rw [dif_pos (((cfg1.win w).moved_iff _ j).mpr (hw j))]
  exact hA _

/-- The five arrays that come whole: the lengths, the two rows of the normalisation, the head's column and its constant. -/
theorem blk2_eq (t : Fin cfg1.N) (d) : (inBlk V c 2 t d : S16.Idx → BitVec 32) = V c main_arg1 :=
  whole_eq V c 2 t d _ (fun j a => (j a).isLt) fun _ => congrArg (V c main_arg1) (funext fun a => Fin.ext (by fin_cases a; exact zero_off 16 _))
theorem blk3_eq (t : Fin cfg1.N) (d) : (inBlk V c 3 t d : S1000.Idx → EReal) = V c main_arg3 :=
  whole_eq V c 3 t d _ (fun j a => (j a).isLt) fun _ => congrArg (V c main_arg3) (funext fun a => Fin.ext (by fin_cases a; exact zero_off 1000 _))
theorem blk4_eq (t : Fin cfg1.N) (d) : (inBlk V c 4 t d : S1000.Idx → EReal) = V c main_arg4 :=
  whole_eq V c 4 t d _ (fun j a => (j a).isLt) fun _ => congrArg (V c main_arg4) (funext fun a => Fin.ext (by fin_cases a; exact zero_off 1000 _))
theorem blk5_eq (t : Fin cfg1.N) (d) : (inBlk V c 5 t d : S1000x1.Idx → EReal) = V c main_arg5 :=
  whole_eq V c 5 t d _ (fun j a => (j a).isLt) fun _ => congrArg (V c main_arg5) (funext fun a => Fin.ext (by fin_cases a <;> [exact zero_off 1000 _; exact zero_off 1 _]))
theorem blk6_eq (t : Fin cfg1.N) (d) : (inBlk V c 6 t d : S1.Idx → EReal) = V c main_arg6 :=
  whole_eq V c 6 t d _ (fun j a => (j a).isLt) fun _ => congrArg (V c main_arg6) (funext fun a => Fin.ext (by fin_cases a; exact zero_off 1 _))

/-- One point's addition to the scratch. -/
theorem pay2_apply (acc : Vec Ideal S16x1000 .f32) (C : Vec Ideal S16x2048 .f32) (T : Vec Ideal S1000x2048 .f32) (b : Fin 16) (p : Fin 1000) :
    k1_pay2 acc C T (ix2 b p) = (acc (ix2 b p) + ∑ k : Fin 2048, (C (ix2 b k) * T (ix2 p k) : EReal) : EReal) := by
  have e : k1_pay2 acc C T = addf (F := Ideal) acc (FloatOps.matmul (φ₁ := .f32) (φ₂ := .f32) dot_S16x2048_S1000x2048_S16x1000_1_1_0_0_n_n none C T (constant S16x1000 .f32 0x00000000#32)) := by
    unfold k1_pay2
    simp only [shapeCast_self]
  rw [e]
  refine congrArg (fun e : EReal => (acc (ix2 b p) : EReal) + e) ((Ideal.matmul_constant_zero_apply (φ₁ := .f32) (φ₂ := .f32) _ _ C T (ix2 b p)).trans ?_)
  rw [dot_S16x2048_S1000x2048_S16x1000_1_1_0_0_n_n.sum_contr₁ (a := 1) rfl (K := 2048) rfl]
  refine Finset.sum_congr rfl fun k _ => ?_
  congr 1
  · congr 1
    funext a
    fin_cases a <;> rfl
  · congr 1
    funext a
    fin_cases a <;> rfl

/-- The product of the counts of token `v` with its entry in the table, zero past the table's end. -/
def term (C : S16x200704.Idx → EReal) (T : S1000x200019.Idx → EReal) (b : Fin 16) (p : Fin 1000) (v : ℕ) : EReal :=
  if h : v < 200019 then C (ix2 b ⟨v, by omega⟩) * T (ix2 p ⟨v, h⟩) else 0

/-- One point's products, if no token past the table's end is counted. -/
theorem point_sum (hz : ∀ (b : Fin 16) (v : Fin 200704), 200019 ≤ v.val → cArr V c (ix2 b v) = 0)
    (t : Fin cfg1.N) (d0 d1) (b : Fin 16) (p : Fin 1000) :
    ∑ k : Fin 2048, cBlk V c t d0 (ix2 b k) * tBlk V c t d1 (ix2 p k)
      = ∑ k ∈ Finset.range 2048, term (cArr V c) (tArr V c) b p (2048 * t.val + k) := by
  have ht : t.val < 98 := t.isLt
  rw [Finset.sum_range]
  refine Finset.sum_congr rfl fun k _ => ?_
  have hk := k.isLt
  have h0 := blk0_apply V c t d0 b k (by omega)
  unfold term
  by_cases h : 2048 * t.val + k.val < 200019
  · rw [dif_pos h]
    exact congrArg₂ (· * · : EReal → EReal → EReal) h0 (blk1_apply V c t d1 p k h)
  · rw [dif_neg h]
    have h0' : cBlk V c t d0 (ix2 b k) = 0 := h0.trans (hz b ⟨_, by omega⟩ (by show 200019 ≤ 2048 * t.val + k.val; omega))
    rw [h0', zero_mul]

/-- The scratch after the first `n + 1` points, if no token past the table's end is counted. -/
theorem acc_apply (hz : ∀ (b : Fin 16) (v : Fin 200704), 200019 ≤ v.val → cArr V c (ix2 b v) = 0)
    (n : ℕ) (hn : n < 98) (acc : S16x1000.Idx → EReal) (h : AccAt V c (n + 1) acc) (b : Fin 16) (p : Fin 1000) :
    acc (ix2 b p) = ∑ v ∈ Finset.range (2048 * (n + 1)), term (cArr V c) (tArr V c) b p v := by
  induction n generalizing acc with
  | zero =>
    obtain ⟨_, acc', d0, d1, _, rfl⟩ := h
    refine (pay2_apply _ _ _ b p).trans ?_
    rw [show (2048 * (0 + 1)) = 2048 from rfl]
    have e : (k1_pay1 (F := Ideal) (ix2 b p) : EReal) = 0 := Ideal.ofBits_zero_f32
    refine (congrArg₂ (· + · : EReal → EReal → EReal) e (point_sum V c hz ⟨0, _⟩ d0 d1 b p)).trans ?_
    rw [zero_add]
    exact Finset.sum_congr rfl fun k _ => congrArg _ (Nat.zero_add k)
  | succ n ih =>
    obtain ⟨_, acc', d0, d1, h', rfl⟩ := h
    refine (pay2_apply _ _ _ b p).trans ?_
    rw [show 2048 * (n + 1 + 1) = 2048 * (n + 1) + 2048 from rfl, Finset.sum_range_add]
    exact congrArg₂ (· + · : EReal → EReal → EReal) (ih (by omega) acc' h') (point_sum V c hz ⟨n + 1, _⟩ d0 d1 b p)

end Cert.KernelIdeal.Math
end
-- ==== Proof.Value.Pool.lean ====
/- What the scratch holds after the last block: the sum of the table's rows of the tokens that each sequence reaches. -/
module

public import proofs.«01_k».proof.Proof.Value.Blocks

@[expose] public section

noncomputable section

namespace Cert.KernelIdeal.Math

open Cert.KernelIdeal Cert.KernelIdeal.Gen Cert.KernelIdeal.Run
open Idealize.ShloMosaic
open Idealize.ShloMosaic.TcCoe
open scoped BigOperators

/-- The row of the table for a token, held to the table. -/
def tok (w : BitVec 32) : Fin 200019 := ⟨min w.toNat 200018, by omega⟩

/-- The sum of the rows of the tokens that sequence `b` reaches, at entry `p`. -/
def pooled (x : S16x4096.Idx → BitVec 32) (n : S16.Idx → BitVec 32) (T : S200019x1000.Idx → EReal) (b : Fin 16) (p : Fin 1000) : EReal :=
  ∑ l : Fin 4096, if (l.val : ℤ) < (n (ix1 b)).toInt then T (ix2 (tok (x (ix2 b l))) p) else 0

/-- A count times a value is the value summed once for each thing counted. -/
theorem count_mul {ι : Type} (s : Finset ι) (P : ι → Prop) [DecidablePred P] (t : EReal) :
    (∑ l ∈ s, if P l then (1 : EReal) else 0) * t = ∑ l ∈ s, if P l then t else 0 := by
  classical
  have pos (s : Finset ι) : 0 ≤ ∑ l ∈ s, if P l then (1 : EReal) else 0 :=
    Finset.sum_nonneg fun l _ => by split <;> simp
  induction s using Finset.induction with
  | empty => simp
  | insert l s hl ih =>
    rw [Finset.sum_insert hl, Finset.sum_insert hl, EReal.right_distrib_of_nonneg (by split <;> simp) (pos s), ih]
    congr 1
    split <;> simp

/-- The counts times the table is the sum of the counted tokens' rows. -/
theorem sum_term (x : S16x4096.Idx → BitVec 32) (n : S16.Idx → BitVec 32) (C : S16x200704.Idx → EReal) (T : S1000x200019.Idx → EReal)
    (T' : S200019x1000.Idx → EReal) (hT : ∀ v p, T (ix2 p v) = T' (ix2 v p)) (hx : ∀ i, (x i).toNat < 200019)
    (hC : ∀ (b : Fin 16) (v : Fin 200704), C (ix2 b v) = ∑ l : Fin 4096, if (x (ix2 b l)).toNat = v.val ∧ (l.val : ℤ) < (n (ix1 b)).toInt then 1 else 0)
    (b : Fin 16) (p : Fin 1000) : ∑ v ∈ Finset.range 200704, term C T b p v = pooled x n T' b p := by
  have h1 : ∑ v ∈ Finset.range 200704, term C T b p v = ∑ v ∈ Finset.range 200019, term C T b p v := by
    refine (Finset.sum_subset (Finset.range_subset_range.2 (by omega)) fun v _ hv => ?_).symm
    rw [Finset.mem_range] at hv
    exact dif_neg hv
  rw [h1, Finset.sum_range]
  have h2 (v : Fin 200019) : term C T b p v.val
      = ∑ l : Fin 4096, if (x (ix2 b l)).toNat = v.val ∧ (l.val : ℤ) < (n (ix1 b)).toInt then T' (ix2 v p) else 0 := by
    unfold term
    rw [dif_pos v.isLt, hC, count_mul, hT]
  rw [Finset.sum_congr rfl fun v _ => h2 v, Finset.sum_comm]
  refine Finset.sum_congr rfl fun l _ => ?_
  have e : (tok (x (ix2 b l))).val = (x (ix2 b l)).toNat := by
    have := hx (ix2 b l)
    show min _ _ = _
    omega
  rw [Finset.sum_eq_single (tok (x (ix2 b l)))]
  · by_cases h : (l.val : ℤ) < (n (ix1 b)).toInt
    · rw [if_pos ⟨e.symm, h⟩, if_pos h]
    · rw [if_neg fun c => h c.2, if_neg h]
  · intro v _ hv
    exact if_neg fun c => hv (Fin.ext (c.1.symm.trans e.symm))
  · exact fun h => absurd (Finset.mem_univ _) h

variable (m : (ℓ : Loc nD τ sig) → Buf (Elt Ideal) ℓ) (d : Dev nD)

/-- The arguments, as arrays of words and of extended reals. -/
abbrev xArr : S16x4096.Idx → BitVec 32 := m (xLoc d)
abbrev nArr : S16.Idx → BitVec 32 := m (nLoc d)
abbrev tabArr : S200019x1000.Idx → EReal := m ((d : Thread nD τ).loc main_arg2)

/-- The transposed table. -/
theorem tArr_apply (v : Fin 200019) (p : Fin 1000) : tArr (Vend m) d (ix2 p v) = tabArr m d (ix2 v p) := by
  have e : Vend m d main_v1 = transpose S1000x200019 [1, 0] (tabArr m d) transposes_S200019x1000_S1000x200019_1_0 := by
    show (opT (F := Ideal)).result (V1 m d) rtt = _
    exact StableHlo.unary_result main_arg2 main_v1 _ _ _ (V1 m d)
  refine (congrFun e _).trans (transpose_apply _ _ _ _ _ fun b => ?_)
  fin_cases b <;> rfl

/-- The scratch after the last point. -/
theorem acc_pooled (hx : ∀ i, 0 ≤ (xArr m d i).toInt ∧ (xArr m d i).toInt < 200019) (hn : ∀ b, 1 ≤ (nArr m d b).toInt ∧ (nArr m d b).toInt ≤ 4096)
    (acc : S16x1000.Idx → EReal) (h : AccAt (Vend m) d 98 acc) (b : Fin 16) (p : Fin 1000) :
    acc (ix2 b p) = pooled (xArr m d) (nArr m d) (tabArr m d) b p := by
  have hx' (i) : (xArr m d i).toNat < 200019 := by
    have h := hx i
    rw [BitVec.toInt_eq_toNat_cond] at h
    split at h <;> omega
  have hC (b : Fin 16) (v : Fin 200704) : cArr (Vend m) d (ix2 b v)
      = ∑ l : Fin 4096, if (xArr m d (ix2 b l)).toNat = v.val ∧ (l.val : ℤ) < (nArr m d (ix1 b)).toInt then 1 else 0 :=
    (congrFun (Vend_counts m d) _).trans (cnt_apply _ _ hx hn b v)
  refine (acc_apply (Vend m) d (fun b v hv => ?_) 97 (by omega) acc h b p).trans
    (sum_term _ _ _ _ _ (fun v p => tArr_apply m d v p) hx' hC b p)
  rw [hC]
  exact Finset.sum_eq_zero fun l _ => if_neg fun c => by have := hx' (ix2 b l); omega

end Cert.KernelIdeal.Math
end
-- ==== Proof.Value.Head.lean ====
/- The kernel's end at an index: the mean of the rows, normalised, through the linear head and the logistic function. -/
module

public import proofs.«01_k».proof.Proof.Value.Pool
public import Idealize.ShloMosaic.Lib.Pointwise.Tactic
public import Idealize.ShloMosaic.Lib.Pointwise.Reduce
public import Idealize.ShloMosaic.Lib.Pointwise.Contract
public import Idealize.ShloMosaic.Lib.Pointwise.Reshape

@[expose] public section

noncomputable section

namespace Cert.Head

open Idealize.ShloMosaic
open scoped BigOperators

/-- The words 1000 and 1e-5 of the programs, as extended reals. -/
def thousand : EReal := Ideal.ofBits .f32 0x447A0000#32
def eps : EReal := Ideal.ofBits .f32 0x3727C5AC#32

/-- A row's mean and variance. -/
def mean (y : Fin 1000 → EReal) : EReal := Ideal.div (∑ p, y p) thousand
def var (y : Fin 1000 → EReal) : EReal := Ideal.div (∑ p, (y p - mean y) * (y p - mean y)) thousand

/-- The row normalised by the root's reciprocal, through the head. -/
def head (y g β w : Fin 1000 → EReal) (c : EReal) : EReal :=
  Ideal.logistic ((∑ p, ((y p - mean y) * Ideal.rsqrt (var y + eps) * g p + β p) * w p) + c)

/-- The row divided by the root, through the head. -/
def headDiv (y g β w : Fin 1000 → EReal) (c : EReal) : EReal :=
  Ideal.div 1 (1 + Ideal.exp (-((∑ p, (Ideal.div (y p - mean y) (Ideal.sqrt (var y + eps)) * g p + β p) * w p) + c)))

end Cert.Head

namespace Cert.KernelIdeal.Math

open Cert.KernelIdeal Cert.KernelIdeal.Gen Cert.KernelIdeal.Run
open Idealize.ShloMosaic
open scoped BigOperators

/-- The sums divided by the sequence's length. -/
def avg (s : Fin 1000 → EReal) (w : BitVec 32) : Fin 1000 → EReal := fun p => Ideal.div (s p) (FloatOps.sitofp (F := Ideal) .f32 w : EReal)

theorem pay3_apply (s : Vec Ideal S16x1000 .f32) (n : Vec Ideal S16 .i32) (g β : Vec Ideal S1000 .f32) (w : Vec Ideal S1000x1 .f32) (c : Vec Ideal S1 .f32) (b : Fin 16) :
    k1_pay3 s n g β w c (ix1 b)
      = Cert.Head.head (avg (fun p => s (ix2 b p)) (n (ix1 b))) (fun p => g (ix1 p)) (fun p => β (ix1 p)) (fun p => w (ix2 p 0)) (c (ix1 0)) := by
  unfold k1_pay3
  pointwise
  rfl

end Cert.KernelIdeal.Math
end
-- ==== Proof.Value.RefHead.lean ====
/- The reference's result at an index, from its sum of the masked rows. -/
module

public import proofs.«01_k».proof.Proof.Value.Head
public import proofs.«01_k».proof.Proof.Gen.ReferenceIdeal
public import proofs.«01_k».proof.Proof.Gen.ReferenceIdeal.Run

@[expose] public section

noncomputable section

namespace Cert.ReferenceIdeal.Math

open Cert.ReferenceIdeal Cert.ReferenceIdeal.Gen
open Idealize.ShloMosaic
open Idealize.ShloMosaic.TcCoe
open scoped BigOperators

/-- The tokens as the gather's row numbers: a negative one counted from the table's end. -/
def rowNo (x : IVec S16x4096 32) : IVec S16x4096x1 32 :=
  broadcastInDim S16x4096x1 ![0, 1] bcast_S16x4096_S16x4096x1_0_1
    (select (cmpi .slt x (broadcastInDim S16x4096 ![] bcast_S_S16x4096 (constantI S_ 32 0#32)))
      (addi x (broadcastInDim S16x4096 ![] bcast_S_S16x4096 (constantI S_ 32 200019#32))) x)

/-- The gathered rows, a row outside the table replaced by one value. -/
def rows (x : IVec S16x4096 32) (T : FVec Ideal S200019x1000 .f32) : FVec Ideal S16x4096x1000 .f32 :=
  select (broadcastInDim S16x4096x1000 ![0, 1] bcast_S16x4096_S16x4096x1000_0_1
      (Host.reduce IntOp.andi (andi (cmpi .sge (rowNo x) (broadcastInDim S16x4096x1 ![] bcast_S_S16x4096x1 (constantI S_ 32 0#32)))
        (cmpi .sle (rowNo x) (broadcastInDim S16x4096x1 ![0, 1, 2] bcast_S1x1x1_S16x4096x1_0_1_2 (broadcastInDim S1x1x1 ![2] bcast_S1_S1x1x1_2 (constantI S1 32 200018#32)))))
        (constantI S_ 1 1#1) reducesTo_S16x4096x1_S16x4096_d2 h_S_))
    (Host.gather gather_S200019x1000_S16x4096x1_S16x4096x1000_2_0_n_n_0_2_11000 T (rowNo x))
    (broadcastInDim S16x4096x1000 ![] bcast_S_S16x4096x1000 (constant S_ .f32 0x7FC00000#32))

/-- One where the sequence reaches the position, else zero. -/
def maskOf (n : IVec S16 32) : FVec Ideal S16x4096x1000 .f32 :=
  broadcastInDim S16x4096x1000 ![0, 1, 2] bcast_S16x4096x1_S16x4096x1000_0_1_2
    (broadcastInDim S16x4096x1 ![0, 1] bcast_S16x4096_S16x4096x1_0_1
      (uitofp .f32 (cmpi .slt (broadcastInDim S16x4096 ![0, 1] bcast_S1x4096_S16x4096_0_1 (broadcastInDim S1x4096 ![1] bcast_S4096_S1x4096_1 (iotaInDim S4096 32 0)))
        (broadcastInDim S16x4096 ![0, 1] bcast_S16x1_S16x4096_0_1 (broadcastInDim S16x1 ![0] bcast_S16_S16x1_0 n)))))

/-- The sum of the masked rows over the positions. -/
def total (x : IVec S16x4096 32) (n : IVec S16 32) (T : FVec Ideal S200019x1000 .f32) : FVec Ideal S16x1000 .f32 :=
  Host.reduceAdd (mulf (rows x T) (maskOf n)) (constant S_ .f32 0x00000000#32) reducesTo_S16x4096x1000_S16x1000_d1 h_S_

/-- The sums over the lengths; less their mean. -/
def avgRow (s : FVec Ideal S16x1000 .f32) (n : IVec S16 32) : FVec Ideal S16x1000 .f32 :=
  Host.divf s (broadcastInDim S16x1000 ![0, 1] bcast_S16x1_S16x1000_0_1 (sitofp .f32 (broadcastInDim S16x1 ![0] bcast_S16_S16x1_0 n)))
def meanOf (X : FVec Ideal S16x1000 .f32) : FVec Ideal S16x1 .f32 :=
  Host.divf (broadcastInDim S16x1 ![0] bcast_S16_S16x1_0 (Host.reduceAdd X (constant S_ .f32 0x00000000#32) reducesTo_S16x1000_S16_d1 h_S_))
    (broadcastInDim S16x1 ![] bcast_S_S16x1 (constant S_ .f32 0x447A0000#32))
def centred (X : FVec Ideal S16x1000 .f32) : FVec Ideal S16x1000 .f32 :=
  subf X (broadcastInDim S16x1000 ![0, 1] bcast_S16x1_S16x1000_0_1 (meanOf X))

/-- The reference's end. -/
def ending (X : FVec Ideal S16x1000 .f32) (g β : FVec Ideal S1000 .f32) (w : FVec Ideal S1000x1 .f32) (c : FVec Ideal S1 .f32) : FVec Ideal S16 .f32 :=
  shapeCast S16 (Host.divf (broadcastInDim S16x1 ![] bcast_S_S16x1 (constant S_ .f32 0x3F800000#32))
    (addf (broadcastInDim S16x1 ![] bcast_S_S16x1 (constant S_ .f32 0x3F800000#32)) (Host.exp (Host.negf (addf
      (Host.dotGeneral dot_S16x1000_S1000x1_S16x1_1_0_0_1_n_n none
        (addf (mulf (Host.divf (centred X) (broadcastInDim S16x1000 ![0, 1] bcast_S16x1_S16x1000_0_1
            (Host.sqrt (addf (meanOf (mulf (centred X) (centred X))) (broadcastInDim S16x1 ![] bcast_S_S16x1 (constant S_ .f32 0x3727C5AC#32))))))
          (broadcastInDim S16x1000 ![0, 1] bcast_S1x1000_S16x1000_0_1 (broadcastInDim S1x1000 ![1] bcast_S1000_S1x1000_1 g)))
          (broadcastInDim S16x1000 ![0, 1] bcast_S1x1000_S16x1000_0_1 (broadcastInDim S1x1000 ![1] bcast_S1000_S1x1000_1 β))) w)
      (broadcastInDim S16x1 ![0, 1] bcast_S1x1_S16x1_0_1 (broadcastInDim S1x1 ![1] bcast_S1_S1x1_1 c))))))) shapeCasts_S16x1_S16

theorem result_eq (m : (ℓ : Loc nD τ sig) → Buf (Elt Ideal) ℓ) (c : Dev nD) :
    Value.res_main_v50 m c = ending (avgRow (total (m ((c : Thread nD τ).loc main_arg0)) (m ((c : Thread nD τ).loc main_arg1)) (m ((c : Thread nD τ).loc main_arg2)))
        (m ((c : Thread nD τ).loc main_arg1))) (m ((c : Thread nD τ).loc main_arg3)) (m ((c : Thread nD τ).loc main_arg4)) (m ((c : Thread nD τ).loc main_arg5))
      (m ((c : Thread nD τ).loc main_arg6)) := by
  unfold Value.res_main_v50 ending avgRow total rows maskOf centred meanOf rowNo
  rfl

theorem avgRow_apply (s : FVec Ideal S16x1000 .f32) (n : IVec S16 32) (b : Fin 16) (p : Fin 1000) :
    avgRow s n (ix2 b p) = Cert.KernelIdeal.Math.avg (fun p => s (ix2 b p)) (n (ix1 b)) p := by
  unfold avgRow
  pointwise
  rfl

theorem ending_apply (X : FVec Ideal S16x1000 .f32) (g β : FVec Ideal S1000 .f32) (w : FVec Ideal S1000x1 .f32) (c : FVec Ideal S1 .f32) (b : Fin 16) :
    ending X g β w c (ix1 b) = Cert.Head.headDiv (fun p => X (ix2 b p)) (fun p => g (ix1 p)) (fun p => β (ix1 p)) (fun p => w (ix2 p 0)) (c (ix1 0)) := by
  unfold ending centred meanOf
  pointwise
  rfl

theorem total_apply (x : IVec S16x4096 32) (n : IVec S16 32) (T : FVec Ideal S200019x1000 .f32) (b : Fin 16) (p : Fin 1000) :
    total x n T (ix2 b p) = (∑ l : Fin 4096, (rows x T (ix3 b l p) * maskOf n (ix3 b l p) : EReal) : EReal) := by
  unfold total
  pointwise

theorem maskOf_apply (n : IVec S16 32) (b : Fin 16) (l : Fin 4096) (p : Fin 1000) :
    maskOf n (ix3 b l p) = (if (l.val : ℤ) < (n (ix1 b)).toInt then 1 else 0 : EReal) := by
  unfold maskOf
  pointwise
  have e := IntOp.cmpi_slt (x := BitVec.ofNat 32 l.val) (y := n (ix1 b))
  rw [WordArith.toInt_ofNat_small _ (by omega)] at e
  show (((IntOp.cmpi .slt (BitVec.ofNat 32 l.val) (n (ix1 b))).toNat : ℝ) : EReal) = _
  by_cases h : (l.val : ℤ) < (n (ix1 b)).toInt
  · rw [if_pos h, e.2 h]
    simp
  · rw [if_neg h, ValueIdx.eq_zero_of_ne_one fun c => h (e.1 c)]
    simp

/-- A token that is no negative number is its own row number. -/
theorem wrap_eq (w : BitVec 32) (h : 0 ≤ w.toInt) : Scalar.select (IntOp.cmpi .slt w 0#32) (IntOp.addi w 200019#32) w = w := by
  have e : IntOp.cmpi .slt w 0#32 = 0#1 := ValueIdx.eq_zero_of_ne_one fun c => by
    have := IntOp.cmpi_slt.1 c
    rw [show (0#32 : BitVec 32).toInt = 0 from rfl] at this
    omega
  rw [e]
  rfl

theorem rowNo_apply (x : IVec S16x4096 32) (hx : ∀ i, 0 ≤ (x i).toInt) (b : Fin 16) (l : Fin 4096) : rowNo x (ix3 b l 0) = x (ix2 b l) := by
  unfold rowNo
  pointwise
  exact wrap_eq _ (hx _)

/-- The row of the table of a number read signed, held to the table. -/
def rowAt (w : BitVec 32) : Fin 200019 := ⟨min w.toInt.toNat 200018, by omega⟩

theorem gather_apply (T : FVec Ideal S200019x1000 .f32) (r : IVec S16x4096x1 32) (b : Fin 16) (l : Fin 4096) (p : Fin 1000) :
    Host.gather gather_S200019x1000_S16x4096x1_S16x4096x1000_2_0_n_n_0_2_11000 T r (ix3 b l p) = T (ix2 (rowAt (r (ix3 b l 0))) p) := by
  unfold Host.gather
  congr 1
  funext a
  refine Fin.ext ?_
  show gather_S200019x1000_S16x4096x1_S16x4096x1000_2_0_n_n_0_2_11000.start (ix3 b l p) r a
    + gather_S200019x1000_S16x4096x1_S16x4096x1000_2_0_n_n_0_2_11000.batchCoord (ix3 b l p) a
    + gather_S200019x1000_S16x4096x1_S16x4096x1000_2_0_n_n_0_2_11000.offCoord (ix3 b l p) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S200019x1000_S16x4096x1_S16x4096x1000_2_0_n_n_0_2_11000.startIndexMap from List.mem_singleton.mpr rfl)]
    have hsi : gather_S200019x1000_S16x4096x1_S16x4096x1000_2_0_n_n_0_2_11000.siIdx (ix3 b l p)
        ⟨List.idxOf (0 : Fin 2) gather_S200019x1000_S16x4096x1_S16x4096x1000_2_0_n_n_0_2_11000.startIndexMap,
          List.idxOf_lt_length_iff.2 (List.mem_singleton.mpr rfl)⟩ = (ix3 b l 0 : S16x4096x1.Idx) := by
      funext c
      refine Fin.ext ?_
      match c with
      | ⟨0, _⟩ => rfl
      | ⟨1, _⟩ => rfl
      | ⟨2, _⟩ => rfl
    rw [hsi]
    rfl
  · have e : gather_S200019x1000_S16x4096x1_S16x4096x1000_2_0_n_n_0_2_11000.start (ix3 b l p) r (1 : Fin 2) = 0 := by
      unfold GatherDims.start
      exact dif_neg (show ¬ (1 : Fin 2) ∈ gather_S200019x1000_S16x4096x1_S16x4096x1000_2_0_n_n_0_2_11000.startIndexMap by decide)
    rw [e, Nat.zero_add]
    rfl

theorem rows_apply (x : IVec S16x4096 32) (T : FVec Ideal S200019x1000 .f32) (hx : ∀ i, 0 ≤ (x i).toInt ∧ (x i).toInt < 200019) (b : Fin 16) (l : Fin 4096) (p : Fin 1000) :
    rows x T (ix3 b l p) = T (ix2 (Cert.KernelIdeal.Math.tok (x (ix2 b l))) p) := by
  obtain ⟨h0, h1⟩ := hx (ix2 b l)
  have e0 := rowNo_apply x (fun i => (hx i).1) b l
  have et : rowAt (x (ix2 b l)) = Cert.KernelIdeal.Math.tok (x (ix2 b l)) := Fin.ext (by
    show min (x (ix2 b l)).toInt.toNat 200018 = min (x (ix2 b l)).toNat 200018
    rw [BitVec.toInt_eq_toNat_cond] at h0 h1 ⊢
    split at h0 <;> omega)
  have eg := (gather_apply T (rowNo x) b l p).trans (by rw [e0, et])
  unfold rows
  generalize Host.gather gather_S200019x1000_S16x4096x1_S16x4096x1000_2_0_n_n_0_2_11000 T (rowNo x) = G at eg ⊢
  have h2 : IntOp.andi (IntOp.cmpi .sge (x (ix2 b l)) 0#32) (IntOp.cmpi .sle (x (ix2 b l)) 200018#32) = 1#1 :=
    IntOp.andi_eq_one.2 ⟨IntOp.cmpi_sge.2 h0, IntOp.cmpi_sle.2 (by rw [show (200018#32 : BitVec 32).toInt = 200018 from rfl]; omega)⟩
  pointwise
  have e1 (k : Fin 1) : IntOp.andi (IntOp.cmpi .sge (rowNo x (ix3 b l k)) 0#32) (IntOp.cmpi .sle (rowNo x (ix3 b l k)) 200018#32) = 1#1 := by
    rw [show k = 0 from Subsingleton.elim _ _, e0]
    exact h2
  simp only [e1]
  exact eg

/-- The reference's sum is the sum of the rows of the tokens that the sequence reaches. -/
theorem total_eq (x : IVec S16x4096 32) (n : IVec S16 32) (T : FVec Ideal S200019x1000 .f32)
    (hx : ∀ i, 0 ≤ (x i).toInt ∧ (x i).toInt < 200019) (b : Fin 16) (p : Fin 1000) :
    total x n T (ix2 b p) = Cert.KernelIdeal.Math.pooled x n T b p := by
  rw [total_apply]
  refine Finset.sum_congr rfl fun l _ => ?_
  rw [rows_apply x T hx, maskOf_apply]
  split <;> simp

end Cert.ReferenceIdeal.Math
end
-- ==== Proof.Value.Final.lean ====
/- The kernel's result is the reference's, whatever the arguments in range. -/
module

public import proofs.«01_k».proof.Proof.Value.RefHead

@[expose] public section

noncomputable section

namespace Cert.Head

open Idealize.ShloMosaic
open scoped BigOperators

theorem thousand_eq : thousand = ((1000 : ℝ) : EReal) := by
  simp [thousand, Ideal.ofBits, Ideal.ieee, -EReal.coe_mul]
  norm_num

theorem eps_pos : 0 < eps := by
  simp [eps, Ideal.ofBits, Ideal.ieee, -EReal.coe_mul]
  try norm_num

/-- A square is not negative, at the infinities either. -/
theorem sq_nonneg (a : EReal) : 0 ≤ a * a := by
  rcases le_total 0 a with h | h
  · exact mul_nonneg h h
  · have := mul_nonneg (EReal.neg_nonneg.2 h) (EReal.neg_nonneg.2 h)
    rwa [neg_mul_neg] at this

theorem var_nonneg (y : Fin 1000 → EReal) : 0 ≤ var y := by
  have hs : 0 ≤ ∑ p, (y p - mean y) * (y p - mean y) := Finset.sum_nonneg fun p _ => sq_nonneg _
  unfold var Ideal.div
  rw [thousand_eq, if_neg (by norm_num), ← EReal.coe_inv]
  exact mul_nonneg hs (by exact_mod_cast (by norm_num : (0 : ℝ) ≤ 1000⁻¹))

/-- Dividing by the root of a positive value is multiplying by the root's reciprocal. -/
theorem div_sqrt (a r : EReal) (h : 0 < r) : Ideal.div a (Ideal.sqrt r) = a * Ideal.rsqrt r := by
  induction r with
  | bot => exact absurd h (by simp)
  | top =>
    show Ideal.div a ⊤ = a * 0
    rw [Ideal.div, if_neg (by simp), EReal.inv_top]
  | coe r =>
    have hr : 0 < r := by exact_mod_cast h
    have hq : Real.sqrt r ≠ 0 := (Real.sqrt_pos.2 hr).ne'
    show Ideal.div a (if r < 0 then (⊥ : EReal) else (Real.sqrt r : EReal)) = a * (if r < 0 then (⊥ : EReal) else if r = 0 then (⊤ : EReal) else (((Real.sqrt r)⁻¹ : ℝ) : EReal))
    rw [if_neg hr.not_gt, if_neg hr.not_gt, if_neg hr.ne', Ideal.div, if_neg (by exact_mod_cast hq), EReal.coe_inv]

/-- The two heads are one. -/
theorem headDiv_eq (y g β w : Fin 1000 → EReal) (c : EReal) : headDiv y g β w c = head y g β w c := by
  have h : 0 < var y + eps := lt_of_lt_of_le eps_pos (le_add_of_nonneg_left (var_nonneg y))
  unfold headDiv head Ideal.logistic
  simp only [div_sqrt _ _ h]

end Cert.Head

namespace Cert.KernelIdeal.Math

open Cert.KernelIdeal Cert.KernelIdeal.Gen Cert.KernelIdeal.Run
open Idealize.ShloMosaic
open Idealize.ShloMosaic.TcCoe

/-- What the kernel leaves is the head of the means of the rows that the sequences reach. -/
theorem out_apply (m : (ℓ : Loc nD τ sig) → Buf (Elt Ideal) ℓ) (d : Dev nD)
    (hx : ∀ i, 0 ≤ (xArr m d i).toInt ∧ (xArr m d i).toInt < 200019) (hn : ∀ b, 1 ≤ (nArr m d b).toInt ∧ (nArr m d b).toInt ≤ 4096)
    (g β : FVec Ideal S1000 .f32) (w : FVec Ideal S1000x1 .f32) (c : FVec Ideal S1 .f32)
    (eg : m ((d : Thread nD τ).loc main_arg3) = g) (eβ : m ((d : Thread nD τ).loc main_arg4) = β)
    (ew : m ((d : Thread nD τ).loc main_arg5) = w) (ec : m ((d : Thread nD τ).loc main_arg6) = c)
    (X : S16.Idx → EReal) (h : OutIs (Vend m) d X) (b : Fin 16) :
    X (ix1 b) = Cert.Head.head (avg (pooled (xArr m d) (nArr m d) (tabArr m d) b) (nArr m d (ix1 b)))
      (fun p => g (ix1 p)) (fun p => β (ix1 p)) (fun p => w (ix2 p 0)) (c (ix1 0)) := by
  obtain ⟨t, acc, d2, d3, d4, d5, d6, hacc, rfl⟩ := h
  have e2 : (inBlk (Vend m) d 2 t d2 : Vec Ideal S16 .i32) = nArr m d := (blk2_eq (Vend m) d t d2).trans (V2_of_ne m d (by decide) (by decide))
  have e3 : (inBlk (Vend m) d 3 t d3 : Vec Ideal S1000 .f32) = g := (blk3_eq (Vend m) d t d3).trans ((V2_of_ne m d (by decide) (by decide)).trans eg)
  have e4 : (inBlk (Vend m) d 4 t d4 : Vec Ideal S1000 .f32) = β := (blk4_eq (Vend m) d t d4).trans ((V2_of_ne m d (by decide) (by decide)).trans eβ)
  have e5 : (inBlk (Vend m) d 5 t d5 : Vec Ideal S1000x1 .f32) = w := (blk5_eq (Vend m) d t d5).trans ((V2_of_ne m d (by decide) (by decide)).trans ew)
  have e6 : (inBlk (Vend m) d 6 t d6 : Vec Ideal S1 .f32) = c := (blk6_eq (Vend m) d t d6).trans ((V2_of_ne m d (by decide) (by decide)).trans ec)
  refine (pay3_apply acc _ _ _ _ _ b).trans ?_
  rw [e2, e3, e4, e5, e6]
  simp only [acc_pooled m d hx hn acc hacc]

end Cert.KernelIdeal.Math

namespace Cert.ReferenceIdeal.Math

open Cert.ReferenceIdeal Cert.ReferenceIdeal.Gen
open Idealize.ShloMosaic
open Idealize.ShloMosaic.TcCoe

/-- What the reference leaves is the same. -/
theorem result_apply (m : (ℓ : Loc nD τ sig) → Buf (Elt Ideal) ℓ) (c : Dev nD)
    (x : IVec S16x4096 32) (n : IVec S16 32) (T : FVec Ideal S200019x1000 .f32) (g β : FVec Ideal S1000 .f32) (w : FVec Ideal S1000x1 .f32)
    (k : FVec Ideal S1 .f32) (hx : ∀ i, 0 ≤ (x i).toInt ∧ (x i).toInt < 200019)
    (e0 : m ((c : Thread nD τ).loc main_arg0) = x) (e1 : m ((c : Thread nD τ).loc main_arg1) = n) (e2 : m ((c : Thread nD τ).loc main_arg2) = T)
    (e3 : m ((c : Thread nD τ).loc main_arg3) = g) (e4 : m ((c : Thread nD τ).loc main_arg4) = β) (e5 : m ((c : Thread nD τ).loc main_arg5) = w)
    (e6 : m ((c : Thread nD τ).loc main_arg6) = k) (b : Fin 16) :
    Value.res_main_v50 m c (ix1 b) = Cert.Head.head (Cert.KernelIdeal.Math.avg (Cert.KernelIdeal.Math.pooled x n T b) (n (ix1 b)))
      (fun p => g (ix1 p)) (fun p => β (ix1 p)) (fun p => w (ix2 p 0)) (k (ix1 0)) := by
  subst e0 e1 e2 e3 e4 e5 e6
  refine (congrFun (result_eq m c) (ix1 b)).trans ?_
  rw [ending_apply, Cert.Head.headDiv_eq]
  simp only [avgRow_apply, total_eq _ _ _ hx]

end Cert.ReferenceIdeal.Math

end
-- ==== Proof.lean ====
module

public import proofs.«01_k».proof.Defs
public import proofs.«01_k».proof.Proof.Main
public import proofs.«01_k».proof.Proof.Lens
public import proofs.«01_k».proof.Proof.Ideal.Main
public import proofs.«01_k».proof.Proof.Ideal.Lens
public import proofs.«01_k».proof.Proof.Value.Final
public import proofs.«01_k».proof.Proof.Gen.ReferenceIdeal
public import proofs.«01_k».proof.Proof.Gen.ReferenceIdeal.Run
public import proofs.«01_k».proof.Proof.Gen.Pre_in_range

@[expose] public section

noncomputable section

namespace Cert.Proof

open Idealize.ShloMosaic Idealize.SL.Sem

/-- The kernel at the machine's floats ends, with its arguments as they were and every counter at zero. -/
theorem frame_p : Cert.quiescent_Kernel := fun m g h =>
  (θ_run Cert.Kernel.defs _ _).mono (fun _ e => ⟨fun c => (e.1 c).2, e.2⟩)
    (Cert.Kernel.Run.run_main (F := Bits) m g (Cert.Kernel.Run.lensOK_of m fun d => (Cert.Ranges.of_pre _ _ _ _ _ _ _ (h d)).2))

/-- The kernel at the extended reals. -/
theorem frame_pi : Cert.quiescent_KernelIdeal := fun m g h =>
  (θ_run Cert.KernelIdeal.defs _ _).mono (fun _ e => ⟨fun c => (e.1 c).2, e.2⟩)
    (Cert.KernelIdeal.Run.run_main (F := Ideal) m g (Cert.KernelIdeal.Run.lensOK_of m fun d => (Cert.Ranges.of_pre _ _ _ _ _ _ _ (h d)).2))

/-- The reference, which declares no semaphore, at the extended reals. -/
theorem frame_ri : Cert.quiescent_ReferenceIdeal := fun m g _ =>
  (θ_run Cert.ReferenceIdeal.defs _ _).mono (fun r e => ⟨fun c => (e c).2, sem_eq_zero_of_no_sems (by decide) r.2⟩)
    (Cert.ReferenceIdeal.Value.run (F := Ideal) m g)

/-- The two programs' results at one device, from equal arguments in range, are one array. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.Pre_KernelIdeal m)
    (c : Dev Cert.KernelIdeal.nD)
    (e0 : m' ((c.tc : Thread Cert.ReferenceIdeal.nD Cert.ReferenceIdeal.τ).loc Cert.ReferenceIdeal.main_arg0) = Cert.KernelIdeal.Math.xArr m c)
    (e1 : m' ((c.tc : Thread Cert.ReferenceIdeal.nD Cert.ReferenceIdeal.τ).loc Cert.ReferenceIdeal.main_arg1) = Cert.KernelIdeal.Math.nArr m c)
    (e2 : m' ((c.tc : Thread Cert.ReferenceIdeal.nD Cert.ReferenceIdeal.τ).loc Cert.ReferenceIdeal.main_arg2) = Cert.KernelIdeal.Math.tabArr m c)
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (X : Cert.KernelIdeal.S16.Idx → EReal) (hX : Cert.KernelIdeal.Run.OutIs (Cert.KernelIdeal.Run.Vend m) c X) :
    X = Cert.ReferenceIdeal.Value.res_main_v50 m' c := by
  have hr := Cert.Ranges.of_pre _ _ _ _ _ _ _ (h c)
  funext i
  rw [show i = ix1 (i 0) from eq_ix1 i]
  exact (Cert.KernelIdeal.Math.out_apply m c hr.1 hr.2 _ _ _ _ rfl rfl rfl rfl X hX (i 0)).trans
    (Cert.ReferenceIdeal.Math.result_apply m' c _ _ _ _ _ _ _ hr.1 e0 e1 e2 e3 e4 e5 e6 (i 0)).symm

/-- The kernel computes what the reference computes. -/
theorem algebraic : Cert.algebraic_KernelIdeal_ReferenceIdeal := fun m g m' g' h ha =>
  ⟨fun c => Cert.ReferenceIdeal.Value.res_main_v50 m' c,
    (θ_run Cert.KernelIdeal.defs _ _).mono
      (fun _ e c => ⟨results m m' h c (ha c).1 (ha c).2.1 (ha c).2.2.1 (ha c).2.2.2.1 (ha c).2.2.2.2.1 (ha c).2.2.2.2.2.1 (ha c).2.2.2.2.2.2 _ (e.1 c).1,
        (e.1 c).2⟩)
      (Cert.KernelIdeal.Run.run_main (F := Ideal) m g (Cert.KernelIdeal.Run.lensOK_of m fun d => (Cert.Ranges.of_pre _ _ _ _ _ _ _ (h d)).2)),
    Cert.ReferenceIdeal.Value.run (F := Ideal) m' g'⟩

theorem claim : Cert.Claim :=
  ⟨Cert.Kernel.Gen.facts, Cert.KernelIdeal.Gen.facts, Cert.ReferenceIdeal.Gen.facts, Cert.Pre_in_range.Gen.facts,
    frame_p, frame_pi, frame_ri, trivial, algebraic⟩

end Cert.Proof

end
